-- ==== Defs.lean ====
def Pre_Kernel [hPre_routing : Cert.Pre_routing.Facts] (m : (ℓ : Loc Cert.Kernel.nD Cert.Kernel.τ Cert.Kernel.sig) → Buf (Elt Bits) ℓ) : Prop :=
  ∀ c : Dev Cert.Kernel.nD,
    (Cert.Pre_routing.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_routing : Cert.Pre_routing.Facts] (m : (ℓ : Loc Cert.KernelIdeal.nD Cert.KernelIdeal.τ Cert.KernelIdeal.sig) → Buf (Elt Ideal) ℓ) : Prop :=
  ∀ c : Dev Cert.KernelIdeal.nD,
    (Cert.Pre_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_routing : Cert.Pre_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_routing : Cert.Pre_routing.Facts] (m : (ℓ : Loc Cert.Reference.nD Cert.Reference.τ Cert.Reference.sig) → Buf (Elt Bits) ℓ) : Prop :=
  ∀ c : Dev Cert.Reference.nD,
    (Cert.Pre_routing.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] [hPre_routing : Cert.Pre_routing.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_routing : Cert.Pre_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_routing : Cert.Pre_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_routing : Cert.Pre_routing.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routing : Cert.Pre_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_routing : Cert.Pre_routing.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v23) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v66_0)) (v1 : (c : Dev Cert.Kernel6Ideal.nD) → Buf (Elt Ideal) ((c.tc : Thread Cert.Kernel6Ideal.nD Cert.Kernel6Ideal.τ).loc Cert.Kernel6Ideal.main_v66_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v66_0) = v0 c
          ∧ r.2.mem ((c.tc : Thread Cert.Kernel6Ideal.nD Cert.Kernel6Ideal.τ).loc Cert.Kernel6Ideal.main_v66_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v66_0)) (v1 : (c : Dev Cert.Kernel7Ideal.nD) → Buf (Elt Ideal) ((c.tc : Thread Cert.Kernel7Ideal.nD Cert.Kernel7Ideal.τ).loc Cert.Kernel7Ideal.main_v66_1)) (v2 : (c : Dev Cert.Kernel7Ideal.nD) → Buf (Elt Ideal) ((c.tc : Thread Cert.Kernel7Ideal.nD Cert.Kernel7Ideal.τ).loc Cert.Kernel7Ideal.main_v66_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v66_0) = v0 c
          ∧ r.2.mem ((c.tc : Thread Cert.Kernel7Ideal.nD Cert.Kernel7Ideal.τ).loc Cert.Kernel7Ideal.main_v66_1) = v1 c
          ∧ r.2.mem ((c.tc : Thread Cert.Kernel7Ideal.nD Cert.Kernel7Ideal.τ).loc Cert.Kernel7Ideal.main_v66_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v52) = v1 c
          ∧ r.2.mem ((c.tc : Thread Cert.Reference7Ideal.nD Cert.Reference7Ideal.τ).loc Cert.Reference7Ideal.main_v53) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v66)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v66) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v51) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v66)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v66) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v51) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v12) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v63_0)) (v1 : (c : Dev Cert.Kernel12Ideal.nD) → Buf (Elt Ideal) ((c.tc : Thread Cert.Kernel12Ideal.nD Cert.Kernel12Ideal.τ).loc Cert.Kernel12Ideal.main_v63_1)) (v2 : (c : Dev Cert.Kernel12Ideal.nD) → Buf (Elt Ideal) ((c.tc : Thread Cert.Kernel12Ideal.nD Cert.Kernel12Ideal.τ).loc Cert.Kernel12Ideal.main_v63_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v63_0) = v0 c
          ∧ r.2.mem ((c.tc : Thread Cert.Kernel12Ideal.nD Cert.Kernel12Ideal.τ).loc Cert.Kernel12Ideal.main_v63_1) = v1 c
          ∧ r.2.mem ((c.tc : Thread Cert.Kernel12Ideal.nD Cert.Kernel12Ideal.τ).loc Cert.Kernel12Ideal.main_v63_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v52) = v0 c
          ∧ r.2.mem ((c.tc : Thread Cert.Reference12Ideal.nD Cert.Reference12Ideal.τ).loc Cert.Reference12Ideal.main_v53) = v1 c
          ∧ r.2.mem ((c.tc : Thread Cert.Reference12Ideal.nD Cert.Reference12Ideal.τ).loc Cert.Reference12Ideal.main_v54) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v63_0)) (v1 : (c : Dev Cert.Kernel13Ideal.nD) → Buf (Elt Ideal) ((c.tc : Thread Cert.Kernel13Ideal.nD Cert.Kernel13Ideal.τ).loc Cert.Kernel13Ideal.main_v63_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v63_0) = v0 c
          ∧ r.2.mem ((c.tc : Thread Cert.Kernel13Ideal.nD Cert.Kernel13Ideal.τ).loc Cert.Kernel13Ideal.main_v63_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v51) = v0 c
          ∧ r.2.mem ((c.tc : Thread Cert.Reference13Ideal.nD Cert.Reference13Ideal.τ).loc Cert.Reference13Ideal.main_v52) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_routing : Cert.Pre_routing.Facts),
    quiescent_Kernel (hKernel := hKernel) (hPre_routing := hPre_routing)
    ∧ quiescent_KernelIdeal (hKernelIdeal := hKernelIdeal) (hPre_routing := hPre_routing)
    ∧ quiescent_ReferenceIdeal (hReferenceIdeal := hReferenceIdeal) (hPre_routing := hPre_routing)
    ∧ quiescent_Reference (hReference := hReference) (hPre_routing := hPre_routing)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal) (hPre_routing := hPre_routing)
    ∧ bitexact_Kernel_Reference (hKernel := hKernel) (hReference := hReference) (hPre_routing := hPre_routing)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_routing.lean ====
abbrev S8192 : Shape := ⟨1, ![8192]⟩
abbrev S8x128 : Shape := ⟨2, ![8, 128]⟩
abbrev S9216x4096 : Shape := ⟨2, ![9216, 4096]⟩
abbrev S4x1 : Shape := ⟨2, ![4, 1]⟩
abbrev S4 : Shape := ⟨1, ![4]⟩
abbrev S1 : Shape := ⟨1, ![1]⟩
abbrev S_ : Shape := ⟨0, ![]⟩
abbrev S8192x1 : Shape := ⟨2, ![8192, 1]⟩
abbrev S1x4 : Shape := ⟨2, ![1, 4]⟩
abbrev S8192x4 : Shape := ⟨2, ![8192, 4]⟩

class Facts : Prop where
  slices_S8x128_S4x1_0_0 : S8x128.Slices ![0, 0] S4x1
  shapeCasts_S4x1_S4 : S4x1.ShapeCasts S4
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S4_S1x4_1 : S4.BroadcastsInDim S1x4 (![1] : Fin 1 → Fin S1x4.rank)
  bcast_S_S1x4 : S_.BroadcastsInDim S1x4 (![] : Fin 0 → Fin S1x4.rank)
  bcast_S8192x1_S8192x4_0_1 : S8192x1.BroadcastsInDim S8192x4 (![0, 1] : Fin 2 → Fin S8192x4.rank)
  bcast_S1x4_S8192x4_0_1 : S1x4.BroadcastsInDim S8192x4 (![0, 1] : Fin 2 → Fin S8192x4.rank)
  bcast_S_S8192x4 : S_.BroadcastsInDim S8192x4 (![] : Fin 0 → Fin S8192x4.rank)

variable [Facts]

def fn_part2 {F : FTy → Type} [FloatOps F] (main_arg1 : IVec S8192 32) (main_v1 : IVec S4 32) (main_v38 : IVec S8192x4 1) (main_v40 : IVec S1x4 32) (main_v41 : IVec S8192x4 32) : IVec S8192x4 1 :=
  let main_v42 : IVec S8192x4 32 := broadcastInDim S8192x4 ![0, 1] bcast_S1x4_S8192x4_0_1 main_v40
  let main_v43 : IVec S8192x4 1 := cmpi .ne main_v41 main_v42
  let main_v44 : IVec S8192x1 32 := broadcastInDim S8192x1 ![0] bcast_S8192_S8192x1_0 main_arg1
  let main_v45 : IVec S1x4 32 := broadcastInDim S1x4 ![1] bcast_S4_S1x4_1 main_v1
  let main_v46 : IVec S8192x4 32 := broadcastInDim S8192x4 ![0, 1] bcast_S8192x1_S8192x4_0_1 main_v44
  let main_v47 : IVec S8192x4 32 := broadcastInDim S8192x4 ![0, 1] bcast_S1x4_S8192x4_0_1 main_v45
  let main_v48 : IVec S8192x4 1 := cmpi .slt main_v46 main_v47
  let main_v49 : IVec S8192x4 1 := ori main_v43 main_v48
  let main_v50 : IVec S8192x4 1 := andi main_v38 main_v49
  main_v50

def fn_part1 {F : FTy → Type} [FloatOps F] (main_arg0 : IVec S8192 32) (main_arg1 : IVec S8192 32) (main_v1 : IVec S4 32) (main_v2 : IVec S4 32) (main_v13 : IVec S_ 32) (main_v20 : IVec S8192x1 1) (main_v21 : IVec S8192x1 32) : IVec S8192x4 1 :=
  let main_c_1 : IVec S_ 32 := constantI S_ 32 0#32
  let main_v22 : IVec S8192x1 32 := broadcastInDim S8192x1 ![] bcast_S_S8192x1 main_c_1
  let main_v23 : IVec S8192x1 1 := cmpi .sge main_v21 main_v22
  let main_v24 : IVec S8192x1 1 := andi main_v20 main_v23
  let main_v25 : IVec S1x4 32 := broadcastInDim S1x4 ![1] bcast_S4_S1x4_1 main_v1
  let main_c_2 : IVec S_ 32 := constantI S_ 32 0#32
  let main_v26 : IVec S1x4 32 := broadcastInDim S1x4 ![] bcast_S_S1x4 main_c_2
  let main_v27 : IVec S1x4 1 := cmpi .sge main_v25 main_v26
  let main_v28 : IVec S8192x4 1 := broadcastInDim S8192x4 ![0, 1] bcast_S8192x1_S8192x4_0_1 main_v24
  let main_v29 : IVec S8192x4 1 := broadcastInDim S8192x4 ![0, 1] bcast_S1x4_S8192x4_0_1 main_v27
  let main_v30 : IVec S8192x4 1 := andi main_v28 main_v29
  let main_v31 : IVec S1x4 32 := broadcastInDim S1x4 ![1] bcast_S4_S1x4_1 main_v1
  let main_c_3 : IVec S_ 32 := constantI S_ 32 8192#32
  let main_v32 : IVec S1x4 32 := broadcastInDim S1x4 ![] bcast_S_S1x4 main_c_3
  let main_v33 : IVec S1x4 1 := cmpi .sle main_v31 main_v32
  let main_v34 : IVec S8192x4 1 := broadcastInDim S8192x4 ![0, 1] bcast_S1x4_S8192x4_0_1 main_v33
  let main_v35 : IVec S8192x4 1 := andi main_v30 main_v34
  let main_c_4 : IVec S_ 32 := constantI S_ 32 8192#32
  let main_v36 : IVec S_ 1 := cmpi .sle main_v13 main_c_4
  let main_v37 : IVec S8192x4 1 := broadcastInDim S8192x4 ![] bcast_S_S8192x4 main_v36
  let main_v38 : IVec S8192x4 1 := andi main_v35 main_v37
  let main_v39 : IVec S8192x1 32 := broadcastInDim S8192x1 ![0] bcast_S8192_S8192x1_0 main_arg0
  let main_v40 : IVec S1x4 32 := broadcastInDim S1x4 ![1] bcast_S4_S1x4_1 main_v2
  let main_v41 : IVec S8192x4 32 := broadcastInDim S8192x4 ![0, 1] bcast_S8192x1_S8192x4_0_1 main_v39
  fn_part2 (F := F) main_arg1 main_v1 main_v38 main_v40 main_v41

def fn {F : FTy → Type} [FloatOps F] (main_arg0 : IVec S8192 32) (main_arg1 : IVec S8192 32) (main_arg2 : IVec S8x128 32) (main_arg3 : FVec F S9216x4096 .f32) : IVec S8192x4 1 :=
  let main_v0 : IVec S4x1 32 := (extractStridedSlice S4x1 ![0, 0] · slices_S8x128_S4x1_0_0) main_arg2
  let main_v1 : IVec S4 32 := shapeCast S4 main_v0 shapeCasts_S4x1_S4
  let main_v2 : IVec S4 32 := iotaInDim S4 32 0
  let main_v3 : IVec S1 32 := (extractStridedSlice S1 ![0] · slices_S4_S1_0) main_v1
  let main_v4 : IVec S_ 32 := shapeCast S_ main_v3 shapeCasts_S1_S_
  let main_v5 : IVec S1 32 := (extractStridedSlice S1 ![1] · slices_S4_S1_1) main_v1
  let main_v6 : IVec S_ 32 := shapeCast S_ main_v5 shapeCasts_S1_S_
  let main_v7 : IVec S_ 32 := addi main_v4 main_v6
  let main_v8 : IVec S1 32 := (extractStridedSlice S1 ![2] · slices_S4_S1_2) main_v1
  let main_v9 : IVec S_ 32 := shapeCast S_ main_v8 shapeCasts_S1_S_
  let main_v10 : IVec S_ 32 := addi main_v7 main_v9
  let main_v11 : IVec S1 32 := (extractStridedSlice S1 ![3] · slices_S4_S1_3) main_v1
  let main_v12 : IVec S_ 32 := shapeCast S_ main_v11 shapeCasts_S1_S_
  let main_v13 : IVec S_ 32 := addi main_v10 main_v12
  let main_v14 : IVec S8192x1 32 := broadcastInDim S8192x1 ![0] bcast_S8192_S8192x1_0 main_arg0
  let main_c : IVec S_ 32 := constantI S_ 32 0#32
  let main_v15 : IVec S8192x1 32 := broadcastInDim S8192x1 ![] bcast_S_S8192x1 main_c
  let main_v16 : IVec S8192x1 1 := cmpi .sge main_v14 main_v15
  let main_v17 : IVec S8192x1 32 := broadcastInDim S8192x1 ![0] bcast_S8192_S8192x1_0 main_arg0
  let main_c_0 : IVec S_ 32 := constantI S_ 32 4#32
  let main_v18 : IVec S8192x1 32 := broadcastInDim S8192x1 ![] bcast_S_S8192x1 main_c_0
  let main_v19 : IVec S8192x1 1 := cmpi .slt main_v17 main_v18
  let main_v20 : IVec S8192x1 1 := andi main_v16 main_v19
  let main_v21 : IVec S8192x1 32 := broadcastInDim S8192x1 ![0] bcast_S8192_S8192x1_0 main_arg1
  fn_part1 (F := F) main_arg0 main_arg1 main_v1 main_v2 main_v13 main_v20 main_v21
-- ==== Kernel.lean ====
abbrev S8192 : Shape := ⟨1, ![8192]⟩
abbrev S8x128 : Shape := ⟨2, ![8, 128]⟩
abbrev S9216x4096 : Shape := ⟨2, ![9216, 4096]⟩
abbrev S8192x4096 : Shape := ⟨2, ![8192, 4096]⟩
abbrev S8x4096 : Shape := ⟨2, ![8, 4096]⟩
abbrev S4 : Shape := ⟨1, ![4]⟩
abbrev S_ : Shape := ⟨0, ![]⟩
abbrev S1x1 : Shape := ⟨2, ![1, 1]⟩
abbrev S1 : Shape := ⟨1, ![1]⟩
abbrev S1x4096 : Shape := ⟨2, ![1, 4096]⟩

abbrev nBuf : Space → Nat
  | .hbm => 2
  | .vmem => 1
  | .smem => 4
  | _ => 0

abbrev bufTy : (tb : Table) → Fin (tcTables nBuf tb) → BufTy
  | .hbm, ⟨0, _⟩ => ⟨S9216x4096, .f32⟩
  | .hbm, ⟨1, _⟩ => ⟨S8192x4096, .f32⟩
  | .local _ .vmem, ⟨0, _⟩ => ⟨S8x4096, .f32⟩
  | .local _ .smem, ⟨0, _⟩ => ⟨S8192, .i32⟩
  | .local _ .smem, ⟨1, _⟩ => ⟨S8192, .i32⟩
  | .local _ .smem, ⟨2, _⟩ => ⟨S8x128, .i32⟩
  | .local _ .smem, ⟨3, _⟩ => ⟨S4, .i32⟩
  | _, _ => ⟨S9216x4096, .f32⟩

abbrev bufScoped : (cs : CoreSpace) → Fin (nBuf (.core cs)) → Bool
  | .vmem, ⟨0, _⟩ => true
  | .smem, ⟨3, _⟩ => true
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg3 : Ref sig .tc := ⟨.hbm, 0, rfl⟩
abbrev main_v0 : Ref sig .tc := ⟨.hbm, 1, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_scratch0 : Ref sig .tc := ⟨.vmem, 0, rfl⟩
abbrev cc0_scratch1 : Ref sig .tc := ⟨.smem, 3, rfl⟩

abbrev nD : Nat := 1
abbrev τ : Topo := Topo.v7x

variable {F : FTy → Type} [FloatOps F]

abbrev grid0 : Pipeline.Grid := ⟨1, ![1], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

@[reducible] def k0_t1_loop : Scf.Loop 32 :=
  let c0_i32_35 : BitVec 32 := 0#32
  let c8192_i32 : BitVec 32 := 8192#32
  let v70 : BitVec 32 := Scalar.addi c0_i32_35 c8192_i32
  let c1_i32_36 : BitVec 32 := 1#32
  ⟨c0_i32_35, v70, c1_i32_36⟩
def k0_off1 (k0_t1 : Fin k0_t1_loop.trips) : Fin 1 → Nat :=
  let c0_i32_35 : BitVec 32 := 0#32
  let c1_i32_36 : BitVec 32 := 1#32
  let arg9 : BitVec 32 := Scf.iv c0_i32_35 c1_i32_36 k0_t1
  let v72 : Index := Scalar.indexCast arg9
  ![v72.toNat]
def k0_off2 (v73 : BitVec 32) : Fin 1 → Nat :=
  let v74 : Index := Scalar.indexCast v73
  ![v74.toNat]

def k0_chk1 (v73 : BitVec 32) : Prop :=
  (∀ a, (k0_off2 v73) a + S1.size a ≤ S4.size a)
theorem k0_off2_inb : ∀ (v73 : BitVec 32) (k0_hw1 : k0_chk1 v73), ∀ a, (k0_off2 v73) a + S1.size a ≤ S4.size a := fun v73 k0_hw1 => k0_hw1

def k0_off3 (k0_t1 : Fin k0_t1_loop.trips) : Fin 1 → Nat :=
  let c0_i32_35 : BitVec 32 := 0#32
  let c1_i32_36 : BitVec 32 := 1#32
  let arg9 : BitVec 32 := Scf.iv c0_i32_35 c1_i32_36 k0_t1
  let v76 : Index := Scalar.indexCast arg9
  ![v76.toNat]
def k0_off4 (k0_t1 : Fin k0_t1_loop.trips) : Fin 2 → Nat :=
  let c0_i32_35 : BitVec 32 := 0#32
  let c1_i32_36 : BitVec 32 := 1#32
  let arg9 : BitVec 32 := Scf.iv c0_i32_35 c1_i32_36 k0_t1
  let c0_i32_42 : BitVec 32 := 0#32
  ![arg9.toNat, 0]
def k0_off5 (v75 : BitVec 32) (v77 : BitVec 32) : Fin 2 → Nat :=
  let v78 : BitVec 32 := Scalar.addi v75 v77
  let c0_i32_43 : BitVec 32 := 0#32
  ![v78.toNat, 0]

def k0_chk2 (v75 : BitVec 32) (v77 : BitVec 32) : Prop :=
  (∀ a, (k0_off5 v75 v77) a + S1x4096.size a ≤ S9216x4096.size a)
theorem k0_off5_inb : ∀ (v75 : BitVec 32) (v77 : BitVec 32) (k0_hw2 : k0_chk2 v75 v77), ∀ a, (k0_off5 v75 v77) a + S1x4096.size a ≤ S9216x4096.size a := fun v75 v77 k0_hw2 => k0_hw2

@[reducible] def k0_t2_loop : Scf.Loop 32 :=
  let c0_i32_38 : BitVec 32 := 0#32
  let c64_i32 : BitVec 32 := 64#32
  let v71 : BitVec 32 := Scalar.addi c0_i32_38 c64_i32
  let c1_i32_39 : BitVec 32 := 1#32
  ⟨c0_i32_38, v71, c1_i32_39⟩
-- ==== Reference.lean ====
abbrev S8192 : Shape := ⟨1, ![8192]⟩
abbrev S8x128 : Shape := ⟨2, ![8, 128]⟩
abbrev S9216x4096 : Shape := ⟨2, ![9216, 4096]⟩
abbrev S4x1 : Shape := ⟨2, ![4, 1]⟩
abbrev S4 : Shape := ⟨1, ![4]⟩
abbrev S_ : Shape := ⟨0, ![]⟩
abbrev S8192x1 : Shape := ⟨2, ![8192, 1]⟩
abbrev S8192x4096 : Shape := ⟨2, ![8192, 4096]⟩

abbrev nBuf : Space → Nat
  | .hbm => 53
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8x128, .i32⟩
  | .hbm, ⟨3, _⟩ => ⟨S9216x4096, .f32⟩
  | .hbm, ⟨4, _⟩ => ⟨S4x1, .i32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S_, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i1⟩
  | .hbm, ⟨17, _⟩ => ⟨S4, .i32⟩
  | .hbm, ⟨18, _⟩ => ⟨S4, .i32⟩
  | .hbm, ⟨19, _⟩ => ⟨S_, .i32⟩
  | .hbm, ⟨20, _⟩ => ⟨S4, .i32⟩
  | .hbm, ⟨21, _⟩ => ⟨S4, .i1⟩
  | .hbm, ⟨22, _⟩ => ⟨S4, .i1⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S4, .i32⟩
  | .hbm, ⟨27, _⟩ => ⟨S_, .i32⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S8192x1, .i32⟩
  | .hbm, ⟨52, _⟩ => ⟨S8192x4096, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_call1_call0_c : Ref sig .tc := ⟨.hbm, 27, rfl⟩
abbrev main_call1_call0_v0 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩

abbrev nD : Nat := 1
abbrev τ : Topo := Topo.v7x

variable {F : FTy → Type} [FloatOps F]
-- ==== Kernel2.lean ====
abbrev S8x128 : Shape := ⟨2, ![8, 128]⟩
abbrev S9216x4096 : Shape := ⟨2, ![9216, 4096]⟩
abbrev S9216x128 : Shape := ⟨2, ![9216, 128]⟩
abbrev S4x16x4096x1024 : Shape := ⟨4, ![4, 16, 4096, 1024]⟩
abbrev S4x16x1024x4096 : Shape := ⟨4, ![4, 16, 1024, 4096]⟩
abbrev S4x1x4096 : Shape := ⟨3, ![4, 1, 4096]⟩
abbrev S256x4096 : Shape := ⟨2, ![256, 4096]⟩
abbrev S1x1 : Shape := ⟨2, ![1, 1]⟩
abbrev S256x128 : Shape := ⟨2, ![256, 128]⟩
abbrev S1x1x4096x512 : Shape := ⟨4, ![1, 1, 4096, 512]⟩
abbrev S1x1x512x4096 : Shape := ⟨4, ![1, 1, 512, 4096]⟩
abbrev S1x1x4096 : Shape := ⟨3, ![1, 1, 4096]⟩
abbrev S4096x512 : Shape := ⟨2, ![4096, 512]⟩
abbrev S256x512 : Shape := ⟨2, ![256, 512]⟩
abbrev S256 : Shape := ⟨1, ![256]⟩
abbrev S256x1 : Shape := ⟨2, ![256, 1]⟩
abbrev S512x4096 : Shape := ⟨2, ![512, 4096]⟩
abbrev S1x4096 : Shape := ⟨2, ![1, 4096]⟩

abbrev nBuf : Space → Nat
  | .hbm => 8
  | .vmem => 16
  | .smem => 1
  | _ => 0

abbrev bufTy : (tb : Table) → Fin (tcTables nBuf tb) → BufTy
  | .hbm, ⟨0, _⟩ => ⟨S9216x4096, .f32⟩
  | .hbm, ⟨1, _⟩ => ⟨S9216x128, .f32⟩
  | .hbm, ⟨2, _⟩ => ⟨S4x16x4096x1024, .bf16⟩
  | .hbm, ⟨3, _⟩ => ⟨S4x16x4096x1024, .bf16⟩
  | .hbm, ⟨4, _⟩ => ⟨S4x16x1024x4096, .bf16⟩
  | .hbm, ⟨5, _⟩ => ⟨S4x1x4096, .f32⟩
  | .hbm, ⟨6, _⟩ => ⟨S4x1x4096, .f32⟩
  | .hbm, ⟨7, _⟩ => ⟨S9216x4096, .f32⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S1x1x4096x512, .bf16⟩
  | .local _ .vmem, ⟨5, _⟩ => ⟨S1x1x4096x512, .bf16⟩
  | .local _ .vmem, ⟨6, _⟩ => ⟨S1x1x4096x512, .bf16⟩
  | .local _ .vmem, ⟨7, _⟩ => ⟨S1x1x4096x512, .bf16⟩
  | .local _ .vmem, ⟨8, _⟩ => ⟨S1x1x512x4096, .bf16⟩
  | .local _ .vmem, ⟨9, _⟩ => ⟨S1x1x512x4096, .bf16⟩
  | .local _ .vmem, ⟨10, _⟩ => ⟨S1x1x4096, .f32⟩
  | .local _ .vmem, ⟨11, _⟩ => ⟨S1x1x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .f32⟩
  | .local _ .smem, ⟨0, _⟩ => ⟨S8x128, .i32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![36, 4, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) (v0 : BitVec 32) (v21 : BitVec 32) (v42 : BitVec 32) (v63 : BitVec 32) : BitVec 1 :=
  let arg0 : BitVec 32 := BitVec.ofNat 32 (i 0).val
  let c0_i32_7 : BitVec 32 := 0#32
  let c256_i32 : BitVec 32 := 256#32
  let v1 : BitVec 32 := Scalar.addi v0 c256_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let v20 : BitVec 32 := Scalar.addi c0_i32_7 v19
  let c256_i32_9 : BitVec 32 := 256#32
  let v22 : BitVec 32 := Scalar.addi v21 c256_i32_9
  let c1_i32_10 : BitVec 32 := 1#32
  let v23 : BitVec 32 := Scalar.subi v22 c1_i32_10
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c256_i32_11 : BitVec 32 := 256#32
  let c0_i32_14 : BitVec 32 := 0#32
  let v30 : BitVec 1 := Scalar.cmpi .sgt c256_i32_11 c0_i32_14
  let v31 : BitVec 32 := Scalar.extui v30
  let c0_i32_15 : BitVec 32 := 0#32
  let v32 : BitVec 1 := Scalar.cmpi .slt c256_i32_11 c0_i32_15
  let v33 : BitVec 32 := Scalar.extui v32
  let v34 : BitVec 32 := Scalar.subi v31 v33
  let v35 : BitVec 1 := Scalar.cmpi .ne v29 v34
  let v36 : BitVec 32 := Scalar.remsi v23 c256_i32_11
  let c0_i32_16 : BitVec 32 := 0#32
  let v37 : BitVec 1 := Scalar.cmpi .ne v36 c0_i32_16
  let v38 : BitVec 1 := Scalar.andi v35 v37
  let v24 : BitVec 32 := Scalar.divsi v23 c256_i32_11
  let c1_i32_17 : BitVec 32 := 1#32
  let v39 : BitVec 32 := Scalar.subi v24 c1_i32_17
  let v40 : BitVec 32 := Scalar.select v38 v39 v24
  let v41 : BitVec 32 := Scalar.addi v20 v40
  let c256_i32_19 : BitVec 32 := 256#32
  let v43 : BitVec 32 := Scalar.addi v42 c256_i32_19
  let c1_i32_20 : BitVec 32 := 1#32
  let v44 : BitVec 32 := Scalar.subi v43 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c256_i32_21 : BitVec 32 := 256#32
  let c0_i32_24 : BitVec 32 := 0#32
  let v51 : BitVec 1 := Scalar.cmpi .sgt c256_i32_21 c0_i32_24
  let v52 : BitVec 32 := Scalar.extui v51
  let c0_i32_25 : BitVec 32 := 0#32
  let v53 : BitVec 1 := Scalar.cmpi .slt c256_i32_21 c0_i32_25
  let v54 : BitVec 32 := Scalar.extui v53
  let v55 : BitVec 32 := Scalar.subi v52 v54
  let v56 : BitVec 1 := Scalar.cmpi .ne v50 v55
  let v57 : BitVec 32 := Scalar.remsi v44 c256_i32_21
  let c0_i32_26 : BitVec 32 := 0#32
  let v58 : BitVec 1 := Scalar.cmpi .ne v57 c0_i32_26
  let v59 : BitVec 1 := Scalar.andi v56 v58
  let v45 : BitVec 32 := Scalar.divsi v44 c256_i32_21
  let c1_i32_27 : BitVec 32 := 1#32
  let v60 : BitVec 32 := Scalar.subi v45 c1_i32_27
  let v61 : BitVec 32 := Scalar.select v59 v60 v45
  let v62 : BitVec 32 := Scalar.addi v41 v61
  let c256_i32_29 : BitVec 32 := 256#32
  let v64 : BitVec 32 := Scalar.addi v63 c256_i32_29
  let c1_i32_30 : BitVec 32 := 1#32
  let v65 : BitVec 32 := Scalar.subi v64 c1_i32_30
  let c0_i32_32 : BitVec 32 := 0#32
  let v67 : BitVec 1 := Scalar.cmpi .sgt v65 c0_i32_32
  let v68 : BitVec 32 := Scalar.extui v67
  let c0_i32_33 : BitVec 32 := 0#32
  let v69 : BitVec 1 := Scalar.cmpi .slt v65 c0_i32_33
  let v70 : BitVec 32 := Scalar.extui v69
  let v71 : BitVec 32 := Scalar.subi v68 v70
  let c256_i32_31 : BitVec 32 := 256#32
  let c0_i32_34 : BitVec 32 := 0#32
  let v72 : BitVec 1 := Scalar.cmpi .sgt c256_i32_31 c0_i32_34
  let v73 : BitVec 32 := Scalar.extui v72
  let c0_i32_35 : BitVec 32 := 0#32
  let v74 : BitVec 1 := Scalar.cmpi .slt c256_i32_31 c0_i32_35
  let v75 : BitVec 32 := Scalar.extui v74
  let v76 : BitVec 32 := Scalar.subi v73 v75
  let v77 : BitVec 1 := Scalar.cmpi .ne v71 v76
  let v78 : BitVec 32 := Scalar.remsi v65 c256_i32_31
  let c0_i32_36 : BitVec 32 := 0#32
  let v79 : BitVec 1 := Scalar.cmpi .ne v78 c0_i32_36
  let v80 : BitVec 1 := Scalar.andi v77 v79
  let v66 : BitVec 32 := Scalar.divsi v65 c256_i32_31
  let c1_i32_37 : BitVec 32 := 1#32
  let v81 : BitVec 32 := Scalar.subi v66 c1_i32_37
  let v82 : BitVec 32 := Scalar.select v80 v81 v66
  let v83 : BitVec 32 := Scalar.addi v62 v82
  let v93 : BitVec 1 := Scalar.cmpi .slt arg0 v83
  let arg1 : BitVec 32 := BitVec.ofNat 32 (i 1).val
  let c3_i32_40 : BitVec 32 := 3#32
  let v97 : BitVec 1 := Scalar.cmpi .eq arg1 c3_i32_40
  let arg2 : BitVec 32 := BitVec.ofNat 32 (i 2).val
  let c1_i32_41 : BitVec 32 := 1#32
  let v98 : BitVec 1 := Scalar.cmpi .eq arg2 c1_i32_41
  let v99 : BitVec 1 := Scalar.andi v97 v98
  let v105 : BitVec 1 := Scalar.andi v93 v99
  let v106 : BitVec 32 := Scalar.extui v105
  let c0_i32_44 : BitVec 32 := 0#32
  let v107 : BitVec 1 := Scalar.cmpi .ne v106 c0_i32_44
  v107

def k0_cond4 (i : grid0.Coords) (v0 : BitVec 32) (v21 : BitVec 32) (v42 : BitVec 32) (v63 : BitVec 32) : BitVec 1 :=
  let arg0 : BitVec 32 := BitVec.ofNat 32 (i 0).val
  let c0_i32_7 : BitVec 32 := 0#32
  let c256_i32 : BitVec 32 := 256#32
  let v1 : BitVec 32 := Scalar.addi v0 c256_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let v20 : BitVec 32 := Scalar.addi c0_i32_7 v19
  let c256_i32_9 : BitVec 32 := 256#32
  let v22 : BitVec 32 := Scalar.addi v21 c256_i32_9
  let c1_i32_10 : BitVec 32 := 1#32
  let v23 : BitVec 32 := Scalar.subi v22 c1_i32_10
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c256_i32_11 : BitVec 32 := 256#32
  let c0_i32_14 : BitVec 32 := 0#32
  let v30 : BitVec 1 := Scalar.cmpi .sgt c256_i32_11 c0_i32_14
  let v31 : BitVec 32 := Scalar.extui v30
  let c0_i32_15 : BitVec 32 := 0#32
  let v32 : BitVec 1 := Scalar.cmpi .slt c256_i32_11 c0_i32_15
  let v33 : BitVec 32 := Scalar.extui v32
  let v34 : BitVec 32 := Scalar.subi v31 v33
  let v35 : BitVec 1 := Scalar.cmpi .ne v29 v34
  let v36 : BitVec 32 := Scalar.remsi v23 c256_i32_11
  let c0_i32_16 : BitVec 32 := 0#32
  let v37 : BitVec 1 := Scalar.cmpi .ne v36 c0_i32_16
  let v38 : BitVec 1 := Scalar.andi v35 v37
  let v24 : BitVec 32 := Scalar.divsi v23 c256_i32_11
  let c1_i32_17 : BitVec 32 := 1#32
  let v39 : BitVec 32 := Scalar.subi v24 c1_i32_17
  let v40 : BitVec 32 := Scalar.select v38 v39 v24
  let v41 : BitVec 32 := Scalar.addi v20 v40
  let c256_i32_19 : BitVec 32 := 256#32
  let v43 : BitVec 32 := Scalar.addi v42 c256_i32_19
  let c1_i32_20 : BitVec 32 := 1#32
  let v44 : BitVec 32 := Scalar.subi v43 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c256_i32_21 : BitVec 32 := 256#32
  let c0_i32_24 : BitVec 32 := 0#32
  let v51 : BitVec 1 := Scalar.cmpi .sgt c256_i32_21 c0_i32_24
  let v52 : BitVec 32 := Scalar.extui v51
  let c0_i32_25 : BitVec 32 := 0#32
  let v53 : BitVec 1 := Scalar.cmpi .slt c256_i32_21 c0_i32_25
  let v54 : BitVec 32 := Scalar.extui v53
  let v55 : BitVec 32 := Scalar.subi v52 v54
  let v56 : BitVec 1 := Scalar.cmpi .ne v50 v55
  let v57 : BitVec 32 := Scalar.remsi v44 c256_i32_21
  let c0_i32_26 : BitVec 32 := 0#32
  let v58 : BitVec 1 := Scalar.cmpi .ne v57 c0_i32_26
  let v59 : BitVec 1 := Scalar.andi v56 v58
  let v45 : BitVec 32 := Scalar.divsi v44 c256_i32_21
  let c1_i32_27 : BitVec 32 := 1#32
  let v60 : BitVec 32 := Scalar.subi v45 c1_i32_27
  let v61 : BitVec 32 := Scalar.select v59 v60 v45
  let v62 : BitVec 32 := Scalar.addi v41 v61
  let c256_i32_29 : BitVec 32 := 256#32
  let v64 : BitVec 32 := Scalar.addi v63 c256_i32_29
  let c1_i32_30 : BitVec 32 := 1#32
  let v65 : BitVec 32 := Scalar.subi v64 c1_i32_30
  let c0_i32_32 : BitVec 32 := 0#32
  let v67 : BitVec 1 := Scalar.cmpi .sgt v65 c0_i32_32
  let v68 : BitVec 32 := Scalar.extui v67
  let c0_i32_33 : BitVec 32 := 0#32
  let v69 : BitVec 1 := Scalar.cmpi .slt v65 c0_i32_33
  let v70 : BitVec 32 := Scalar.extui v69
  let v71 : BitVec 32 := Scalar.subi v68 v70
  let c256_i32_31 : BitVec 32 := 256#32
  let c0_i32_34 : BitVec 32 := 0#32
  let v72 : BitVec 1 := Scalar.cmpi .sgt c256_i32_31 c0_i32_34
  let v73 : BitVec 32 := Scalar.extui v72
  let c0_i32_35 : BitVec 32 := 0#32
  let v74 : BitVec 1 := Scalar.cmpi .slt c256_i32_31 c0_i32_35
  let v75 : BitVec 32 := Scalar.extui v74
  let v76 : BitVec 32 := Scalar.subi v73 v75
  let v77 : BitVec 1 := Scalar.cmpi .ne v71 v76
  let v78 : BitVec 32 := Scalar.remsi v65 c256_i32_31
  let c0_i32_36 : BitVec 32 := 0#32
  let v79 : BitVec 1 := Scalar.cmpi .ne v78 c0_i32_36
  let v80 : BitVec 1 := Scalar.andi v77 v79
  let v66 : BitVec 32 := Scalar.divsi v65 c256_i32_31
  let c1_i32_37 : BitVec 32 := 1#32
  let v81 : BitVec 32 := Scalar.subi v66 c1_i32_37
  let v82 : BitVec 32 := Scalar.select v80 v81 v66
  let v83 : BitVec 32 := Scalar.addi v62 v82
  let v93 : BitVec 1 := Scalar.cmpi .slt arg0 v83
  let v_true : BitVec 1 := 1#1
  let v108 : BitVec 1 := Scalar.xori v93 v_true
  let arg1 : BitVec 32 := BitVec.ofNat 32 (i 1).val
  let c3_i32_40 : BitVec 32 := 3#32
  let v97 : BitVec 1 := Scalar.cmpi .eq arg1 c3_i32_40
  let arg2 : BitVec 32 := BitVec.ofNat 32 (i 2).val
  let c1_i32_41 : BitVec 32 := 1#32
  let v98 : BitVec 1 := Scalar.cmpi .eq arg2 c1_i32_41
  let v99 : BitVec 1 := Scalar.andi v97 v98
  let v109 : BitVec 1 := Scalar.andi v108 v99
  let v110 : BitVec 32 := Scalar.extui v109
  let c0_i32_45 : BitVec 32 := 0#32
  let v111 : BitVec 1 := Scalar.cmpi .ne v110 c0_i32_45
  v111

def cc0_transform_0 (inb_S8x128_S1x1_0_0 : ∀ a, (![0, 0] : Fin 2 → Nat) a + S1x1.size a ≤ S8x128.size a) (numel1_S1x1 : S1x1.numel = 1) (inb_S8x128_S1x1_1_0 : ∀ a, (![1, 0] : Fin 2 → Nat) a + S1x1.size a ≤ S8x128.size a) (inb_S8x128_S1x1_2_0 : ∀ a, (![2, 0] : Fin 2 → Nat) a + S1x1.size a ≤ S8x128.size a) (inb_S8x128_S1x1_3_0 : ∀ a, (![3, 0] : Fin 2 → Nat) a + S1x1.size a ≤ S8x128.size a) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let c0_0 : Index := 0#32
  let v0 : BitVec 32 := pf.at 0 (Rect.unit (s := S8x128) ![0, 0] S1x1.size inb_S8x128_S1x1_0_0) numel1_S1x1
  let c256_i32 : BitVec 32 := 256#32
  let v1 : BitVec 32 := Scalar.addi v0 c256_i32
  let c1_i32 : BitVec 32 := 1#32
  let v2 : BitVec 32 := Scalar.subi v1 c1_i32
  let c256_i32_1 : BitVec 32 := 256#32
  let v3 : BitVec 32 := Scalar.divsi v2 c256_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let v20 : BitVec 32 := Scalar.addi c0_i32_7 v19
  let c1 : Index := 1#32
  let c0_8 : Index := 0#32
  let v21 : BitVec 32 := pf.at 0 (Rect.unit (s := S8x128) ![1, 0] S1x1.size inb_S8x128_S1x1_1_0) numel1_S1x1
  let c256_i32_9 : BitVec 32 := 256#32
  let v22 : BitVec 32 := Scalar.addi v21 c256_i32_9
  let c1_i32_10 : BitVec 32 := 1#32
  let v23 : BitVec 32 := Scalar.subi v22 c1_i32_10
  let c256_i32_11 : BitVec 32 := 256#32
  let v24 : BitVec 32 := Scalar.divsi v23 c256_i32_11
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c0_i32_14 : BitVec 32 := 0#32
  let v30 : BitVec 1 := Scalar.cmpi .sgt c256_i32_11 c0_i32_14
  let v31 : BitVec 32 := Scalar.extui v30
  let c0_i32_15 : BitVec 32 := 0#32
  let v32 : BitVec 1 := Scalar.cmpi .slt c256_i32_11 c0_i32_15
  let v33 : BitVec 32 := Scalar.extui v32
  let v34 : BitVec 32 := Scalar.subi v31 v33
  let v35 : BitVec 1 := Scalar.cmpi .ne v29 v34
  let v36 : BitVec 32 := Scalar.remsi v23 c256_i32_11
  let c0_i32_16 : BitVec 32 := 0#32
  let v37 : BitVec 1 := Scalar.cmpi .ne v36 c0_i32_16
  let v38 : BitVec 1 := Scalar.andi v35 v37
  let c1_i32_17 : BitVec 32 := 1#32
  let v39 : BitVec 32 := Scalar.subi v24 c1_i32_17
  let v40 : BitVec 32 := Scalar.select v38 v39 v24
  let v41 : BitVec 32 := Scalar.addi v20 v40
  let c2 : Index := 2#32
  let c0_18 : Index := 0#32
  let v42 : BitVec 32 := pf.at 0 (Rect.unit (s := S8x128) ![2, 0] S1x1.size inb_S8x128_S1x1_2_0) numel1_S1x1
  let c256_i32_19 : BitVec 32 := 256#32
  let v43 : BitVec 32 := Scalar.addi v42 c256_i32_19
  let c1_i32_20 : BitVec 32 := 1#32
  let v44 : BitVec 32 := Scalar.subi v43 c1_i32_20
  let c256_i32_21 : BitVec 32 := 256#32
  let v45 : BitVec 32 := Scalar.divsi v44 c256_i32_21
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c0_i32_24 : BitVec 32 := 0#32
  let v51 : BitVec 1 := Scalar.cmpi .sgt c256_i32_21 c0_i32_24
  let v52 : BitVec 32 := Scalar.extui v51
  let c0_i32_25 : BitVec 32 := 0#32
  let v53 : BitVec 1 := Scalar.cmpi .slt c256_i32_21 c0_i32_25
  let v54 : BitVec 32 := Scalar.extui v53
  let v55 : BitVec 32 := Scalar.subi v52 v54
  let v56 : BitVec 1 := Scalar.cmpi .ne v50 v55
  let v57 : BitVec 32 := Scalar.remsi v44 c256_i32_21
  let c0_i32_26 : BitVec 32 := 0#32
  let v58 : BitVec 1 := Scalar.cmpi .ne v57 c0_i32_26
  let v59 : BitVec 1 := Scalar.andi v56 v58
  let c1_i32_27 : BitVec 32 := 1#32
  let v60 : BitVec 32 := Scalar.subi v45 c1_i32_27
  let v61 : BitVec 32 := Scalar.select v59 v60 v45
  let v62 : BitVec 32 := Scalar.addi v41 v61
  let c3 : Index := 3#32
  let c0_28 : Index := 0#32
  let v63 : BitVec 32 := pf.at 0 (Rect.unit (s := S8x128) ![3, 0] S1x1.size inb_S8x128_S1x1_3_0) numel1_S1x1
  let c256_i32_29 : BitVec 32 := 256#32
  let v64 : BitVec 32 := Scalar.addi v63 c256_i32_29
  let c1_i32_30 : BitVec 32 := 1#32
  let v65 : BitVec 32 := Scalar.subi v64 c1_i32_30
  let c256_i32_31 : BitVec 32 := 256#32
  let v66 : BitVec 32 := Scalar.divsi v65 c256_i32_31
  let c0_i32_32 : BitVec 32 := 0#32
  let v67 : BitVec 1 := Scalar.cmpi .sgt v65 c0_i32_32
  let v68 : BitVec 32 := Scalar.extui v67
  let c0_i32_33 : BitVec 32 := 0#32
  let v69 : BitVec 1 := Scalar.cmpi .slt v65 c0_i32_33
  let v70 : BitVec 32 := Scalar.extui v69
  let v71 : BitVec 32 := Scalar.subi v68 v70
  let c0_i32_34 : BitVec 32 := 0#32
  let v72 : BitVec 1 := Scalar.cmpi .sgt c256_i32_31 c0_i32_34
  let v73 : BitVec 32 := Scalar.extui v72
  let c0_i32_35 : BitVec 32 := 0#32
  let v74 : BitVec 1 := Scalar.cmpi .slt c256_i32_31 c0_i32_35
  let v75 : BitVec 32 := Scalar.extui v74
  let v76 : BitVec 32 := Scalar.subi v73 v75
  let v77 : BitVec 1 := Scalar.cmpi .ne v71 v76
  let v78 : BitVec 32 := Scalar.remsi v65 c256_i32_31
  let c0_i32_36 : BitVec 32 := 0#32
  let v79 : BitVec 1 := Scalar.cmpi .ne v78 c0_i32_36
  let v80 : BitVec 1 := Scalar.andi v77 v79
  let c1_i32_37 : BitVec 32 := 1#32
  let v81 : BitVec 32 := Scalar.subi v66 c1_i32_37
  let v82 : BitVec 32 := Scalar.select v80 v81 v66
  let v83 : BitVec 32 := Scalar.addi v62 v82
  let v84 : BitVec 1 := Scalar.cmpi .sge arg0 v20
  let v85 : BitVec 32 := Scalar.extui v84
  let v86 : BitVec 1 := Scalar.cmpi .sge arg0 v41
  let v87 : BitVec 32 := Scalar.extui v86
  let v88 : BitVec 32 := Scalar.addi v85 v87
  let v89 : BitVec 1 := Scalar.cmpi .sge arg0 v62
  let v90 : BitVec 32 := Scalar.extui v89
  let v91 : BitVec 32 := Scalar.addi v88 v90
  let c3_i32 : BitVec 32 := 3#32
  let v92 : BitVec 32 := Scalar.minsi v91 c3_i32
  let v93 : BitVec 1 := Scalar.cmpi .slt arg0 v83
  let c0_i32_38 : BitVec 32 := 0#32
  let v94 : BitVec 32 := Scalar.select v93 arg0 c0_i32_38
  let c0_i32_39 : BitVec 32 := 0#32
  let c0_i32_40 : BitVec 32 := 0#32
  ![v94.toNat, c0_i32_39.toNat]

def cc0_transform_1 (inb_S8x128_S1x1_0_0 : ∀ a, (![0, 0] : Fin 2 → Nat) a + S1x1.size a ≤ S8x128.size a) (numel1_S1x1 : S1x1.numel = 1) (inb_S8x128_S1x1_1_0 : ∀ a, (![1, 0] : Fin 2 → Nat) a + S1x1.size a ≤ S8x128.size a) (inb_S8x128_S1x1_2_0 : ∀ a, (![2, 0] : Fin 2 → Nat) a + S1x1.size a ≤ S8x128.size a) (inb_S8x128_S1x1_3_0 : ∀ a, (![3, 0] : Fin 2 → Nat) a + S1x1.size a ≤ S8x128.size a) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let c0_0 : Index := 0#32
  let v0 : BitVec 32 := pf.at 0 (Rect.unit (s := S8x128) ![0, 0] S1x1.size inb_S8x128_S1x1_0_0) numel1_S1x1
  let c256_i32 : BitVec 32 := 256#32
  let v1 : BitVec 32 := Scalar.addi v0 c256_i32
  let c1_i32 : BitVec 32 := 1#32
  let v2 : BitVec 32 := Scalar.subi v1 c1_i32
  let c256_i32_1 : BitVec 32 := 256#32
  let v3 : BitVec 32 := Scalar.divsi v2 c256_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let v20 : BitVec 32 := Scalar.addi c0_i32_7 v19
  let c1 : Index := 1#32
  let c0_8 : Index := 0#32
  let v21 : BitVec 32 := pf.at 0 (Rect.unit (s := S8x128) ![1, 0] S1x1.size inb_S8x128_S1x1_1_0) numel1_S1x1
  let c256_i32_9 : BitVec 32 := 256#32
  let v22 : BitVec 32 := Scalar.addi v21 c256_i32_9
  let c1_i32_10 : BitVec 32 := 1#32
  let v23 : BitVec 32 := Scalar.subi v22 c1_i32_10
  let c256_i32_11 : BitVec 32 := 256#32
  let v24 : BitVec 32 := Scalar.divsi v23 c256_i32_11
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c0_i32_14 : BitVec 32 := 0#32
  let v30 : BitVec 1 := Scalar.cmpi .sgt c256_i32_11 c0_i32_14
  let v31 : BitVec 32 := Scalar.extui v30
  let c0_i32_15 : BitVec 32 := 0#32
  let v32 : BitVec 1 := Scalar.cmpi .slt c256_i32_11 c0_i32_15
  let v33 : BitVec 32 := Scalar.extui v32
  let v34 : BitVec 32 := Scalar.subi v31 v33
  let v35 : BitVec 1 := Scalar.cmpi .ne v29 v34
  let v36 : BitVec 32 := Scalar.remsi v23 c256_i32_11
  let c0_i32_16 : BitVec 32 := 0#32
  let v37 : BitVec 1 := Scalar.cmpi .ne v36 c0_i32_16
  let v38 : BitVec 1 := Scalar.andi v35 v37
  let c1_i32_17 : BitVec 32 := 1#32
  let v39 : BitVec 32 := Scalar.subi v24 c1_i32_17
  let v40 : BitVec 32 := Scalar.select v38 v39 v24
  let v41 : BitVec 32 := Scalar.addi v20 v40
  let c2 : Index := 2#32
  let c0_18 : Index := 0#32
  let v42 : BitVec 32 := pf.at 0 (Rect.unit (s := S8x128) ![2, 0] S1x1.size inb_S8x128_S1x1_2_0) numel1_S1x1
  let c256_i32_19 : BitVec 32 := 256#32
  let v43 : BitVec 32 := Scalar.addi v42 c256_i32_19
  let c1_i32_20 : BitVec 32 := 1#32
  let v44 : BitVec 32 := Scalar.subi v43 c1_i32_20
  let c256_i32_21 : BitVec 32 := 256#32
  let v45 : BitVec 32 := Scalar.divsi v44 c256_i32_21
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c0_i32_24 : BitVec 32 := 0#32
  let v51 : BitVec 1 := Scalar.cmpi .sgt c256_i32_21 c0_i32_24
  let v52 : BitVec 32 := Scalar.extui v51
  let c0_i32_25 : BitVec 32 := 0#32
  let v53 : BitVec 1 := Scalar.cmpi .slt c256_i32_21 c0_i32_25
  let v54 : BitVec 32 := Scalar.extui v53
  let v55 : BitVec 32 := Scalar.subi v52 v54
  let v56 : BitVec 1 := Scalar.cmpi .ne v50 v55
  let v57 : BitVec 32 := Scalar.remsi v44 c256_i32_21
  let c0_i32_26 : BitVec 32 := 0#32
  let v58 : BitVec 1 := Scalar.cmpi .ne v57 c0_i32_26
  let v59 : BitVec 1 := Scalar.andi v56 v58
  let c1_i32_27 : BitVec 32 := 1#32
  let v60 : BitVec 32 := Scalar.subi v45 c1_i32_27
  let v61 : BitVec 32 := Scalar.select v59 v60 v45
  let v62 : BitVec 32 := Scalar.addi v41 v61
  let c3 : Index := 3#32
  let c0_28 : Index := 0#32
  let v63 : BitVec 32 := pf.at 0 (Rect.unit (s := S8x128) ![3, 0] S1x1.size inb_S8x128_S1x1_3_0) numel1_S1x1
  let c256_i32_29 : BitVec 32 := 256#32
  let v64 : BitVec 32 := Scalar.addi v63 c256_i32_29
  let c1_i32_30 : BitVec 32 := 1#32
  let v65 : BitVec 32 := Scalar.subi v64 c1_i32_30
  let c256_i32_31 : BitVec 32 := 256#32
  let v66 : BitVec 32 := Scalar.divsi v65 c256_i32_31
  let c0_i32_32 : BitVec 32 := 0#32
  let v67 : BitVec 1 := Scalar.cmpi .sgt v65 c0_i32_32
  let v68 : BitVec 32 := Scalar.extui v67
  let c0_i32_33 : BitVec 32 := 0#32
  let v69 : BitVec 1 := Scalar.cmpi .slt v65 c0_i32_33
  let v70 : BitVec 32 := Scalar.extui v69
  let v71 : BitVec 32 := Scalar.subi v68 v70
  let c0_i32_34 : BitVec 32 := 0#32
  let v72 : BitVec 1 := Scalar.cmpi .sgt c256_i32_31 c0_i32_34
  let v73 : BitVec 32 := Scalar.extui v72
  let c0_i32_35 : BitVec 32 := 0#32
  let v74 : BitVec 1 := Scalar.cmpi .slt c256_i32_31 c0_i32_35
  let v75 : BitVec 32 := Scalar.extui v74
  let v76 : BitVec 32 := Scalar.subi v73 v75
  let v77 : BitVec 1 := Scalar.cmpi .ne v71 v76
  let v78 : BitVec 32 := Scalar.remsi v65 c256_i32_31
  let c0_i32_36 : BitVec 32 := 0#32
  let v79 : BitVec 1 := Scalar.cmpi .ne v78 c0_i32_36
  let v80 : BitVec 1 := Scalar.andi v77 v79
  let c1_i32_37 : BitVec 32 := 1#32
  let v81 : BitVec 32 := Scalar.subi v66 c1_i32_37
  let v82 : BitVec 32 := Scalar.select v80 v81 v66
  let v83 : BitVec 32 := Scalar.addi v62 v82
  let v84 : BitVec 1 := Scalar.cmpi .sge arg0 v20
  let v85 : BitVec 32 := Scalar.extui v84
  let v86 : BitVec 1 := Scalar.cmpi .sge arg0 v41
  let v87 : BitVec 32 := Scalar.extui v86
  let v88 : BitVec 32 := Scalar.addi v85 v87
  let v89 : BitVec 1 := Scalar.cmpi .sge arg0 v62
  let v90 : BitVec 32 := Scalar.extui v89
  let v91 : BitVec 32 := Scalar.addi v88 v90
  let c3_i32 : BitVec 32 := 3#32
  let v92 : BitVec 32 := Scalar.minsi v91 c3_i32
  let v93 : BitVec 1 := Scalar.cmpi .slt arg0 v83
  let c0_i32_38 : BitVec 32 := 0#32
  let v94 : BitVec 32 := Scalar.select v93 arg0 c0_i32_38
  let c0_i32_39 : BitVec 32 := 0#32
  let c0_i32_40 : BitVec 32 := 0#32
  ![v94.toNat, c0_i32_39.toNat]

def cc0_transform_2 (inb_S8x128_S1x1_0_0 : ∀ a, (![0, 0] : Fin 2 → Nat) a + S1x1.size a ≤ S8x128.size a) (numel1_S1x1 : S1x1.numel = 1) (inb_S8x128_S1x1_1_0 : ∀ a, (![1, 0] : Fin 2 → Nat) a + S1x1.size a ≤ S8x128.size a) (inb_S8x128_S1x1_2_0 : ∀ a, (![2, 0] : Fin 2 → Nat) a + S1x1.size a ≤ S8x128.size a) (inb_S8x128_S1x1_3_0 : ∀ a, (![3, 0] : Fin 2 → Nat) a + S1x1.size a ≤ S8x128.size a) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let c0_0 : Index := 0#32
  let v0 : BitVec 32 := pf.at 0 (Rect.unit (s := S8x128) ![0, 0] S1x1.size inb_S8x128_S1x1_0_0) numel1_S1x1
  let c256_i32 : BitVec 32 := 256#32
  let v1 : BitVec 32 := Scalar.addi v0 c256_i32
  let c1_i32 : BitVec 32 := 1#32
  let v2 : BitVec 32 := Scalar.subi v1 c1_i32
  let c256_i32_1 : BitVec 32 := 256#32
  let v3 : BitVec 32 := Scalar.divsi v2 c256_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let v20 : BitVec 32 := Scalar.addi c0_i32_7 v19
  let c1 : Index := 1#32
  let c0_8 : Index := 0#32
  let v21 : BitVec 32 := pf.at 0 (Rect.unit (s := S8x128) ![1, 0] S1x1.size inb_S8x128_S1x1_1_0) numel1_S1x1
  let c256_i32_9 : BitVec 32 := 256#32
  let v22 : BitVec 32 := Scalar.addi v21 c256_i32_9
  let c1_i32_10 : BitVec 32 := 1#32
  let v23 : BitVec 32 := Scalar.subi v22 c1_i32_10
  let c256_i32_11 : BitVec 32 := 256#32
  let v24 : BitVec 32 := Scalar.divsi v23 c256_i32_11
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c0_i32_14 : BitVec 32 := 0#32
  let v30 : BitVec 1 := Scalar.cmpi .sgt c256_i32_11 c0_i32_14
  let v31 : BitVec 32 := Scalar.extui v30
  let c0_i32_15 : BitVec 32 := 0#32
  let v32 : BitVec 1 := Scalar.cmpi .slt c256_i32_11 c0_i32_15
  let v33 : BitVec 32 := Scalar.extui v32
  let v34 : BitVec 32 := Scalar.subi v31 v33
  let v35 : BitVec 1 := Scalar.cmpi .ne v29 v34
  let v36 : BitVec 32 := Scalar.remsi v23 c256_i32_11
  let c0_i32_16 : BitVec 32 := 0#32
  let v37 : BitVec 1 := Scalar.cmpi .ne v36 c0_i32_16
  let v38 : BitVec 1 := Scalar.andi v35 v37
  let c1_i32_17 : BitVec 32 := 1#32
  let v39 : BitVec 32 := Scalar.subi v24 c1_i32_17
  let v40 : BitVec 32 := Scalar.select v38 v39 v24
  let v41 : BitVec 32 := Scalar.addi v20 v40
  let c2 : Index := 2#32
  let c0_18 : Index := 0#32
  let v42 : BitVec 32 := pf.at 0 (Rect.unit (s := S8x128) ![2, 0] S1x1.size inb_S8x128_S1x1_2_0) numel1_S1x1
  let c256_i32_19 : BitVec 32 := 256#32
  let v43 : BitVec 32 := Scalar.addi v42 c256_i32_19
  let c1_i32_20 : BitVec 32 := 1#32
  let v44 : BitVec 32 := Scalar.subi v43 c1_i32_20
  let c256_i32_21 : BitVec 32 := 256#32
  let v45 : BitVec 32 := Scalar.divsi v44 c256_i32_21
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c0_i32_24 : BitVec 32 := 0#32
  let v51 : BitVec 1 := Scalar.cmpi .sgt c256_i32_21 c0_i32_24
  let v52 : BitVec 32 := Scalar.extui v51
  let c0_i32_25 : BitVec 32 := 0#32
  let v53 : BitVec 1 := Scalar.cmpi .slt c256_i32_21 c0_i32_25
  let v54 : BitVec 32 := Scalar.extui v53
  let v55 : BitVec 32 := Scalar.subi v52 v54
  let v56 : BitVec 1 := Scalar.cmpi .ne v50 v55
  let v57 : BitVec 32 := Scalar.remsi v44 c256_i32_21
  let c0_i32_26 : BitVec 32 := 0#32
  let v58 : BitVec 1 := Scalar.cmpi .ne v57 c0_i32_26
  let v59 : BitVec 1 := Scalar.andi v56 v58
  let c1_i32_27 : BitVec 32 := 1#32
  let v60 : BitVec 32 := Scalar.subi v45 c1_i32_27
  let v61 : BitVec 32 := Scalar.select v59 v60 v45
  let v62 : BitVec 32 := Scalar.addi v41 v61
  let c3 : Index := 3#32
  let c0_28 : Index := 0#32
  let v63 : BitVec 32 := pf.at 0 (Rect.unit (s := S8x128) ![3, 0] S1x1.size inb_S8x128_S1x1_3_0) numel1_S1x1
  let c256_i32_29 : BitVec 32 := 256#32
  let v64 : BitVec 32 := Scalar.addi v63 c256_i32_29
  let c1_i32_30 : BitVec 32 := 1#32
  let v65 : BitVec 32 := Scalar.subi v64 c1_i32_30
  let c256_i32_31 : BitVec 32 := 256#32
  let v66 : BitVec 32 := Scalar.divsi v65 c256_i32_31
  let c0_i32_32 : BitVec 32 := 0#32
  let v67 : BitVec 1 := Scalar.cmpi .sgt v65 c0_i32_32
  let v68 : BitVec 32 := Scalar.extui v67
  let c0_i32_33 : BitVec 32 := 0#32
  let v69 : BitVec 1 := Scalar.cmpi .slt v65 c0_i32_33
  let v70 : BitVec 32 := Scalar.extui v69
  let v71 : BitVec 32 := Scalar.subi v68 v70
  let c0_i32_34 : BitVec 32 := 0#32
  let v72 : BitVec 1 := Scalar.cmpi .sgt c256_i32_31 c0_i32_34
  let v73 : BitVec 32 := Scalar.extui v72
  let c0_i32_35 : BitVec 32 := 0#32
  let v74 : BitVec 1 := Scalar.cmpi .slt c256_i32_31 c0_i32_35
  let v75 : BitVec 32 := Scalar.extui v74
  let v76 : BitVec 32 := Scalar.subi v73 v75
  let v77 : BitVec 1 := Scalar.cmpi .ne v71 v76
  let v78 : BitVec 32 := Scalar.remsi v65 c256_i32_31
  let c0_i32_36 : BitVec 32 := 0#32
  let v79 : BitVec 1 := Scalar.cmpi .ne v78 c0_i32_36
  let v80 : BitVec 1 := Scalar.andi v77 v79
  let c1_i32_37 : BitVec 32 := 1#32
  let v81 : BitVec 32 := Scalar.subi v66 c1_i32_37
  let v82 : BitVec 32 := Scalar.select v80 v81 v66
  let v83 : BitVec 32 := Scalar.addi v62 v82
  let v84 : BitVec 1 := Scalar.cmpi .sge arg0 v20
  let v85 : BitVec 32 := Scalar.extui v84
  let v86 : BitVec 1 := Scalar.cmpi .sge arg0 v41
  let v87 : BitVec 32 := Scalar.extui v86
  let v88 : BitVec 32 := Scalar.addi v85 v87
  let v89 : BitVec 1 := Scalar.cmpi .sge arg0 v62
  let v90 : BitVec 32 := Scalar.extui v89
  let v91 : BitVec 32 := Scalar.addi v88 v90
  let c3_i32 : BitVec 32 := 3#32
  let v92 : BitVec 32 := Scalar.minsi v91 c3_i32
  let v93 : BitVec 1 := Scalar.cmpi .slt arg0 v83
  let c1_i32_38 : BitVec 32 := 1#32
  let v94 : BitVec 32 := Scalar.subi v83 c1_i32_38
  let c0_i32_39 : BitVec 32 := 0#32
  let v95 : BitVec 32 := Scalar.maxsi v94 c0_i32_39
  let c0_40 : Index := 0#32
  let c0_41 : Index := 0#32
  let v96 : BitVec 32 := pf.at 0 (Rect.unit (s := S8x128) ![0, 0] S1x1.size inb_S8x128_S1x1_0_0) numel1_S1x1
  let c256_i32_42 : BitVec 32 := 256#32
  let v97 : BitVec 32 := Scalar.addi v96 c256_i32_42
  let c1_i32_43 : BitVec 32 := 1#32
  let v98 : BitVec 32 := Scalar.subi v97 c1_i32_43
  let c256_i32_44 : BitVec 32 := 256#32
  let v99 : BitVec 32 := Scalar.divsi v98 c256_i32_44
  let c0_i32_45 : BitVec 32 := 0#32
  let v100 : BitVec 1 := Scalar.cmpi .sgt v98 c0_i32_45
  let v101 : BitVec 32 := Scalar.extui v100
  let c0_i32_46 : BitVec 32 := 0#32
  let v102 : BitVec 1 := Scalar.cmpi .slt v98 c0_i32_46
  let v103 : BitVec 32 := Scalar.extui v102
  let v104 : BitVec 32 := Scalar.subi v101 v103
  let c0_i32_47 : BitVec 32 := 0#32
  let v105 : BitVec 1 := Scalar.cmpi .sgt c256_i32_44 c0_i32_47
  let v106 : BitVec 32 := Scalar.extui v105
  let c0_i32_48 : BitVec 32 := 0#32
  let v107 : BitVec 1 := Scalar.cmpi .slt c256_i32_44 c0_i32_48
  let v108 : BitVec 32 := Scalar.extui v107
  let v109 : BitVec 32 := Scalar.subi v106 v108
  let v110 : BitVec 1 := Scalar.cmpi .ne v104 v109
  let v111 : BitVec 32 := Scalar.remsi v98 c256_i32_44
  let c0_i32_49 : BitVec 32 := 0#32
  let v112 : BitVec 1 := Scalar.cmpi .ne v111 c0_i32_49
  let v113 : BitVec 1 := Scalar.andi v110 v112
  let c1_i32_50 : BitVec 32 := 1#32
  let v114 : BitVec 32 := Scalar.subi v99 c1_i32_50
  let v115 : BitVec 32 := Scalar.select v113 v114 v99
  let c0_i32_51 : BitVec 32 := 0#32
  let v116 : BitVec 32 := Scalar.addi c0_i32_51 v115
  let c1_52 : Index := 1#32
  let c0_53 : Index := 0#32
  let v117 : BitVec 32 := pf.at 0 (Rect.unit (s := S8x128) ![1, 0] S1x1.size inb_S8x128_S1x1_1_0) numel1_S1x1
  let c256_i32_54 : BitVec 32 := 256#32
  let v118 : BitVec 32 := Scalar.addi v117 c256_i32_54
  let c1_i32_55 : BitVec 32 := 1#32
  let v119 : BitVec 32 := Scalar.subi v118 c1_i32_55
  let c256_i32_56 : BitVec 32 := 256#32
  let v120 : BitVec 32 := Scalar.divsi v119 c256_i32_56
  let c0_i32_57 : BitVec 32 := 0#32
  let v121 : BitVec 1 := Scalar.cmpi .sgt v119 c0_i32_57
  let v122 : BitVec 32 := Scalar.extui v121
  let c0_i32_58 : BitVec 32 := 0#32
  let v123 : BitVec 1 := Scalar.cmpi .slt v119 c0_i32_58
  let v124 : BitVec 32 := Scalar.extui v123
  let v125 : BitVec 32 := Scalar.subi v122 v124
  let c0_i32_59 : BitVec 32 := 0#32
  let v126 : BitVec 1 := Scalar.cmpi .sgt c256_i32_56 c0_i32_59
  let v127 : BitVec 32 := Scalar.extui v126
  let c0_i32_60 : BitVec 32 := 0#32
  let v128 : BitVec 1 := Scalar.cmpi .slt c256_i32_56 c0_i32_60
  let v129 : BitVec 32 := Scalar.extui v128
  let v130 : BitVec 32 := Scalar.subi v127 v129
  let v131 : BitVec 1 := Scalar.cmpi .ne v125 v130
  let v132 : BitVec 32 := Scalar.remsi v119 c256_i32_56
  let c0_i32_61 : BitVec 32 := 0#32
  let v133 : BitVec 1 := Scalar.cmpi .ne v132 c0_i32_61
  let v134 : BitVec 1 := Scalar.andi v131 v133
  let c1_i32_62 : BitVec 32 := 1#32
  let v135 : BitVec 32 := Scalar.subi v120 c1_i32_62
  let v136 : BitVec 32 := Scalar.select v134 v135 v120
  let v137 : BitVec 32 := Scalar.addi v116 v136
  let c2_63 : Index := 2#32
  let c0_64 : Index := 0#32
  let v138 : BitVec 32 := pf.at 0 (Rect.unit (s := S8x128) ![2, 0] S1x1.size inb_S8x128_S1x1_2_0) numel1_S1x1
  let c256_i32_65 : BitVec 32 := 256#32
  let v139 : BitVec 32 := Scalar.addi v138 c256_i32_65
  let c1_i32_66 : BitVec 32 := 1#32
  let v140 : BitVec 32 := Scalar.subi v139 c1_i32_66
  let c256_i32_67 : BitVec 32 := 256#32
  let v141 : BitVec 32 := Scalar.divsi v140 c256_i32_67
  let c0_i32_68 : BitVec 32 := 0#32
  let v142 : BitVec 1 := Scalar.cmpi .sgt v140 c0_i32_68
  let v143 : BitVec 32 := Scalar.extui v142
  let c0_i32_69 : BitVec 32 := 0#32
  let v144 : BitVec 1 := Scalar.cmpi .slt v140 c0_i32_69
  let v145 : BitVec 32 := Scalar.extui v144
  let v146 : BitVec 32 := Scalar.subi v143 v145
  let c0_i32_70 : BitVec 32 := 0#32
  let v147 : BitVec 1 := Scalar.cmpi .sgt c256_i32_67 c0_i32_70
  let v148 : BitVec 32 := Scalar.extui v147
  let c0_i32_71 : BitVec 32 := 0#32
  let v149 : BitVec 1 := Scalar.cmpi .slt c256_i32_67 c0_i32_71
  let v150 : BitVec 32 := Scalar.extui v149
  let v151 : BitVec 32 := Scalar.subi v148 v150
  let v152 : BitVec 1 := Scalar.cmpi .ne v146 v151
  let v153 : BitVec 32 := Scalar.remsi v140 c256_i32_67
  let c0_i32_72 : BitVec 32 := 0#32
  let v154 : BitVec 1 := Scalar.cmpi .ne v153 c0_i32_72
  let v155 : BitVec 1 := Scalar.andi v152 v154
  let c1_i32_73 : BitVec 32 := 1#32
  let v156 : BitVec 32 := Scalar.subi v141 c1_i32_73
  let v157 : BitVec 32 := Scalar.select v155 v156 v141
  let v158 : BitVec 32 := Scalar.addi v137 v157
  let c3_74 : Index := 3#32
  let c0_75 : Index := 0#32
  let v159 : BitVec 32 := pf.at 0 (Rect.unit (s := S8x128) ![3, 0] S1x1.size inb_S8x128_S1x1_3_0) numel1_S1x1
  let c256_i32_76 : BitVec 32 := 256#32
  let v160 : BitVec 32 := Scalar.addi v159 c256_i32_76
  let c1_i32_77 : BitVec 32 := 1#32
  let v161 : BitVec 32 := Scalar.subi v160 c1_i32_77
  let c256_i32_78 : BitVec 32 := 256#32
  let v162 : BitVec 32 := Scalar.divsi v161 c256_i32_78
  let c0_i32_79 : BitVec 32 := 0#32
  let v163 : BitVec 1 := Scalar.cmpi .sgt v161 c0_i32_79
  let v164 : BitVec 32 := Scalar.extui v163
  let c0_i32_80 : BitVec 32 := 0#32
  let v165 : BitVec 1 := Scalar.cmpi .slt v161 c0_i32_80
  let v166 : BitVec 32 := Scalar.extui v165
  let v167 : BitVec 32 := Scalar.subi v164 v166
  let c0_i32_81 : BitVec 32 := 0#32
  let v168 : BitVec 1 := Scalar.cmpi .sgt c256_i32_78 c0_i32_81
  let v169 : BitVec 32 := Scalar.extui v168
  let c0_i32_82 : BitVec 32 := 0#32
  let v170 : BitVec 1 := Scalar.cmpi .slt c256_i32_78 c0_i32_82
  let v171 : BitVec 32 := Scalar.extui v170
  let v172 : BitVec 32 := Scalar.subi v169 v171
  let v173 : BitVec 1 := Scalar.cmpi .ne v167 v172
  let v174 : BitVec 32 := Scalar.remsi v161 c256_i32_78
  let c0_i32_83 : BitVec 32 := 0#32
  let v175 : BitVec 1 := Scalar.cmpi .ne v174 c0_i32_83
  let v176 : BitVec 1 := Scalar.andi v173 v175
  let c1_i32_84 : BitVec 32 := 1#32
  let v177 : BitVec 32 := Scalar.subi v162 c1_i32_84
  let v178 : BitVec 32 := Scalar.select v176 v177 v162
  let v179 : BitVec 32 := Scalar.addi v158 v178
  let v180 : BitVec 1 := Scalar.cmpi .sge v95 v116
  let v181 : BitVec 32 := Scalar.extui v180
  let v182 : BitVec 1 := Scalar.cmpi .sge v95 v137
  let v183 : BitVec 32 := Scalar.extui v182
  let v184 : BitVec 32 := Scalar.addi v181 v183
  let v185 : BitVec 1 := Scalar.cmpi .sge v95 v158
  let v186 : BitVec 32 := Scalar.extui v185
  let v187 : BitVec 32 := Scalar.addi v184 v186
  let c3_i32_85 : BitVec 32 := 3#32
  let v188 : BitVec 32 := Scalar.minsi v187 c3_i32_85
  let v189 : BitVec 1 := Scalar.cmpi .slt v95 v179
  let c4_i32 : BitVec 32 := 4#32
  let v190 : BitVec 32 := Scalar.muli v92 c4_i32
  let v191 : BitVec 32 := Scalar.addi v190 arg1
  let c4_i32_86 : BitVec 32 := 4#32
  let v192 : BitVec 32 := Scalar.muli v188 c4_i32_86
  let c4_i32_87 : BitVec 32 := 4#32
  let v193 : BitVec 32 := Scalar.addi v192 c4_i32_87
  let c1_i32_88 : BitVec 32 := 1#32
  let v194 : BitVec 32 := Scalar.subi v193 c1_i32_88
  let v195 : BitVec 32 := Scalar.select v93 v191 v194
  let c1_i32_89 : BitVec 32 := 1#32
  let v196 : BitVec 32 := Scalar.select v93 arg2 c1_i32_89
  let c3_i32_90 : BitVec 32 := 3#32
  let c0_i32_91 : BitVec 32 := 0#32
  let c0_i32_92 : BitVec 32 := 0#32
  ![c3_i32_90.toNat, v195.toNat, c0_i32_91.toNat, v196.toNat]

def cc0_transform_3 (inb_S8x128_S1x1_0_0 : ∀ a, (![0, 0] : Fin 2 → Nat) a + S1x1.size a ≤ S8x128.size a) (numel1_S1x1 : S1x1.numel = 1) (inb_S8x128_S1x1_1_0 : ∀ a, (![1, 0] : Fin 2 → Nat) a + S1x1.size a ≤ S8x128.size a) (inb_S8x128_S1x1_2_0 : ∀ a, (![2, 0] : Fin 2 → Nat) a + S1x1.size a ≤ S8x128.size a) (inb_S8x128_S1x1_3_0 : ∀ a, (![3, 0] : Fin 2 → Nat) a + S1x1.size a ≤ S8x128.size a) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let c0_0 : Index := 0#32
  let v0 : BitVec 32 := pf.at 0 (Rect.unit (s := S8x128) ![0, 0] S1x1.size inb_S8x128_S1x1_0_0) numel1_S1x1
  let c256_i32 : BitVec 32 := 256#32
  let v1 : BitVec 32 := Scalar.addi v0 c256_i32
  let c1_i32 : BitVec 32 := 1#32
  let v2 : BitVec 32 := Scalar.subi v1 c1_i32
  let c256_i32_1 : BitVec 32 := 256#32
  let v3 : BitVec 32 := Scalar.divsi v2 c256_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let v20 : BitVec 32 := Scalar.addi c0_i32_7 v19
  let c1 : Index := 1#32
  let c0_8 : Index := 0#32
  let v21 : BitVec 32 := pf.at 0 (Rect.unit (s := S8x128) ![1, 0] S1x1.size inb_S8x128_S1x1_1_0) numel1_S1x1
  let c256_i32_9 : BitVec 32 := 256#32
  let v22 : BitVec 32 := Scalar.addi v21 c256_i32_9
  let c1_i32_10 : BitVec 32 := 1#32
  let v23 : BitVec 32 := Scalar.subi v22 c1_i32_10
  let c256_i32_11 : BitVec 32 := 256#32
  let v24 : BitVec 32 := Scalar.divsi v23 c256_i32_11
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c0_i32_14 : BitVec 32 := 0#32
  let v30 : BitVec 1 := Scalar.cmpi .sgt c256_i32_11 c0_i32_14
  let v31 : BitVec 32 := Scalar.extui v30
  let c0_i32_15 : BitVec 32 := 0#32
  let v32 : BitVec 1 := Scalar.cmpi .slt c256_i32_11 c0_i32_15
  let v33 : BitVec 32 := Scalar.extui v32
  let v34 : BitVec 32 := Scalar.subi v31 v33
  let v35 : BitVec 1 := Scalar.cmpi .ne v29 v34
  let v36 : BitVec 32 := Scalar.remsi v23 c256_i32_11
  let c0_i32_16 : BitVec 32 := 0#32
  let v37 : BitVec 1 := Scalar.cmpi .ne v36 c0_i32_16
  let v38 : BitVec 1 := Scalar.andi v35 v37
  let c1_i32_17 : BitVec 32 := 1#32
  let v39 : BitVec 32 := Scalar.subi v24 c1_i32_17
  let v40 : BitVec 32 := Scalar.select v38 v39 v24
  let v41 : BitVec 32 := Scalar.addi v20 v40
  let c2 : Index := 2#32
  let c0_18 : Index := 0#32
  let v42 : BitVec 32 := pf.at 0 (Rect.unit (s := S8x128) ![2, 0] S1x1.size inb_S8x128_S1x1_2_0) numel1_S1x1
  let c256_i32_19 : BitVec 32 := 256#32
  let v43 : BitVec 32 := Scalar.addi v42 c256_i32_19
  let c1_i32_20 : BitVec 32 := 1#32
  let v44 : BitVec 32 := Scalar.subi v43 c1_i32_20
  let c256_i32_21 : BitVec 32 := 256#32
  let v45 : BitVec 32 := Scalar.divsi v44 c256_i32_21
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c0_i32_24 : BitVec 32 := 0#32
  let v51 : BitVec 1 := Scalar.cmpi .sgt c256_i32_21 c0_i32_24
  let v52 : BitVec 32 := Scalar.extui v51
  let c0_i32_25 : BitVec 32 := 0#32
  let v53 : BitVec 1 := Scalar.cmpi .slt c256_i32_21 c0_i32_25
  let v54 : BitVec 32 := Scalar.extui v53
  let v55 : BitVec 32 := Scalar.subi v52 v54
  let v56 : BitVec 1 := Scalar.cmpi .ne v50 v55
  let v57 : BitVec 32 := Scalar.remsi v44 c256_i32_21
  let c0_i32_26 : BitVec 32 := 0#32
  let v58 : BitVec 1 := Scalar.cmpi .ne v57 c0_i32_26
  let v59 : BitVec 1 := Scalar.andi v56 v58
  let c1_i32_27 : BitVec 32 := 1#32
  let v60 : BitVec 32 := Scalar.subi v45 c1_i32_27
  let v61 : BitVec 32 := Scalar.select v59 v60 v45
  let v62 : BitVec 32 := Scalar.addi v41 v61
  let c3 : Index := 3#32
  let c0_28 : Index := 0#32
  let v63 : BitVec 32 := pf.at 0 (Rect.unit (s := S8x128) ![3, 0] S1x1.size inb_S8x128_S1x1_3_0) numel1_S1x1
  let c256_i32_29 : BitVec 32 := 256#32
  let v64 : BitVec 32 := Scalar.addi v63 c256_i32_29
  let c1_i32_30 : BitVec 32 := 1#32
  let v65 : BitVec 32 := Scalar.subi v64 c1_i32_30
  let c256_i32_31 : BitVec 32 := 256#32
  let v66 : BitVec 32 := Scalar.divsi v65 c256_i32_31
  let c0_i32_32 : BitVec 32 := 0#32
  let v67 : BitVec 1 := Scalar.cmpi .sgt v65 c0_i32_32
  let v68 : BitVec 32 := Scalar.extui v67
  let c0_i32_33 : BitVec 32 := 0#32
  let v69 : BitVec 1 := Scalar.cmpi .slt v65 c0_i32_33
  let v70 : BitVec 32 := Scalar.extui v69
  let v71 : BitVec 32 := Scalar.subi v68 v70
  let c0_i32_34 : BitVec 32 := 0#32
  let v72 : BitVec 1 := Scalar.cmpi .sgt c256_i32_31 c0_i32_34
  let v73 : BitVec 32 := Scalar.extui v72
  let c0_i32_35 : BitVec 32 := 0#32
  let v74 : BitVec 1 := Scalar.cmpi .slt c256_i32_31 c0_i32_35
  let v75 : BitVec 32 := Scalar.extui v74
  let v76 : BitVec 32 := Scalar.subi v73 v75
  let v77 : BitVec 1 := Scalar.cmpi .ne v71 v76
  let v78 : BitVec 32 := Scalar.remsi v65 c256_i32_31
  let c0_i32_36 : BitVec 32 := 0#32
  let v79 : BitVec 1 := Scalar.cmpi .ne v78 c0_i32_36
  let v80 : BitVec 1 := Scalar.andi v77 v79
  let c1_i32_37 : BitVec 32 := 1#32
  let v81 : BitVec 32 := Scalar.subi v66 c1_i32_37
  let v82 : BitVec 32 := Scalar.select v80 v81 v66
  let v83 : BitVec 32 := Scalar.addi v62 v82
  let v84 : BitVec 1 := Scalar.cmpi .sge arg0 v20
  let v85 : BitVec 32 := Scalar.extui v84
  let v86 : BitVec 1 := Scalar.cmpi .sge arg0 v41
  let v87 : BitVec 32 := Scalar.extui v86
  let v88 : BitVec 32 := Scalar.addi v85 v87
  let v89 : BitVec 1 := Scalar.cmpi .sge arg0 v62
  let v90 : BitVec 32 := Scalar.extui v89
  let v91 : BitVec 32 := Scalar.addi v88 v90
  let c3_i32 : BitVec 32 := 3#32
  let v92 : BitVec 32 := Scalar.minsi v91 c3_i32
  let v93 : BitVec 1 := Scalar.cmpi .slt arg0 v83
  let c1_i32_38 : BitVec 32 := 1#32
  let v94 : BitVec 32 := Scalar.subi v83 c1_i32_38
  let c0_i32_39 : BitVec 32 := 0#32
  let v95 : BitVec 32 := Scalar.maxsi v94 c0_i32_39
  let c0_40 : Index := 0#32
  let c0_41 : Index := 0#32
  let v96 : BitVec 32 := pf.at 0 (Rect.unit (s := S8x128) ![0, 0] S1x1.size inb_S8x128_S1x1_0_0) numel1_S1x1
  let c256_i32_42 : BitVec 32 := 256#32
  let v97 : BitVec 32 := Scalar.addi v96 c256_i32_42
  let c1_i32_43 : BitVec 32 := 1#32
  let v98 : BitVec 32 := Scalar.subi v97 c1_i32_43
  let c256_i32_44 : BitVec 32 := 256#32
  let v99 : BitVec 32 := Scalar.divsi v98 c256_i32_44
  let c0_i32_45 : BitVec 32 := 0#32
  let v100 : BitVec 1 := Scalar.cmpi .sgt v98 c0_i32_45
  let v101 : BitVec 32 := Scalar.extui v100
  let c0_i32_46 : BitVec 32 := 0#32
  let v102 : BitVec 1 := Scalar.cmpi .slt v98 c0_i32_46
  let v103 : BitVec 32 := Scalar.extui v102
  let v104 : BitVec 32 := Scalar.subi v101 v103
  let c0_i32_47 : BitVec 32 := 0#32
  let v105 : BitVec 1 := Scalar.cmpi .sgt c256_i32_44 c0_i32_47
  let v106 : BitVec 32 := Scalar.extui v105
  let c0_i32_48 : BitVec 32 := 0#32
  let v107 : BitVec 1 := Scalar.cmpi .slt c256_i32_44 c0_i32_48
  let v108 : BitVec 32 := Scalar.extui v107
  let v109 : BitVec 32 := Scalar.subi v106 v108
  let v110 : BitVec 1 := Scalar.cmpi .ne v104 v109
  let v111 : BitVec 32 := Scalar.remsi v98 c256_i32_44
  let c0_i32_49 : BitVec 32 := 0#32
  let v112 : BitVec 1 := Scalar.cmpi .ne v111 c0_i32_49
  let v113 : BitVec 1 := Scalar.andi v110 v112
  let c1_i32_50 : BitVec 32 := 1#32
  let v114 : BitVec 32 := Scalar.subi v99 c1_i32_50
  let v115 : BitVec 32 := Scalar.select v113 v114 v99
  let c0_i32_51 : BitVec 32 := 0#32
  let v116 : BitVec 32 := Scalar.addi c0_i32_51 v115
  let c1_52 : Index := 1#32
  let c0_53 : Index := 0#32
  let v117 : BitVec 32 := pf.at 0 (Rect.unit (s := S8x128) ![1, 0] S1x1.size inb_S8x128_S1x1_1_0) numel1_S1x1
  let c256_i32_54 : BitVec 32 := 256#32
  let v118 : BitVec 32 := Scalar.addi v117 c256_i32_54
  let c1_i32_55 : BitVec 32 := 1#32
  let v119 : BitVec 32 := Scalar.subi v118 c1_i32_55
  let c256_i32_56 : BitVec 32 := 256#32
  let v120 : BitVec 32 := Scalar.divsi v119 c256_i32_56
  let c0_i32_57 : BitVec 32 := 0#32
  let v121 : BitVec 1 := Scalar.cmpi .sgt v119 c0_i32_57
  let v122 : BitVec 32 := Scalar.extui v121
  let c0_i32_58 : BitVec 32 := 0#32
  let v123 : BitVec 1 := Scalar.cmpi .slt v119 c0_i32_58
  let v124 : BitVec 32 := Scalar.extui v123
  let v125 : BitVec 32 := Scalar.subi v122 v124
  let c0_i32_59 : BitVec 32 := 0#32
  let v126 : BitVec 1 := Scalar.cmpi .sgt c256_i32_56 c0_i32_59
  let v127 : BitVec 32 := Scalar.extui v126
  let c0_i32_60 : BitVec 32 := 0#32
  let v128 : BitVec 1 := Scalar.cmpi .slt c256_i32_56 c0_i32_60
  let v129 : BitVec 32 := Scalar.extui v128
  let v130 : BitVec 32 := Scalar.subi v127 v129
  let v131 : BitVec 1 := Scalar.cmpi .ne v125 v130
  let v132 : BitVec 32 := Scalar.remsi v119 c256_i32_56
  let c0_i32_61 : BitVec 32 := 0#32
  let v133 : BitVec 1 := Scalar.cmpi .ne v132 c0_i32_61
  let v134 : BitVec 1 := Scalar.andi v131 v133
  let c1_i32_62 : BitVec 32 := 1#32
  let v135 : BitVec 32 := Scalar.subi v120 c1_i32_62
  let v136 : BitVec 32 := Scalar.select v134 v135 v120
  let v137 : BitVec 32 := Scalar.addi v116 v136
  let c2_63 : Index := 2#32
  let c0_64 : Index := 0#32
  let v138 : BitVec 32 := pf.at 0 (Rect.unit (s := S8x128) ![2, 0] S1x1.size inb_S8x128_S1x1_2_0) numel1_S1x1
  let c256_i32_65 : BitVec 32 := 256#32
  let v139 : BitVec 32 := Scalar.addi v138 c256_i32_65
  let c1_i32_66 : BitVec 32 := 1#32
  let v140 : BitVec 32 := Scalar.subi v139 c1_i32_66
  let c256_i32_67 : BitVec 32 := 256#32
  let v141 : BitVec 32 := Scalar.divsi v140 c256_i32_67
  let c0_i32_68 : BitVec 32 := 0#32
  let v142 : BitVec 1 := Scalar.cmpi .sgt v140 c0_i32_68
  let v143 : BitVec 32 := Scalar.extui v142
  let c0_i32_69 : BitVec 32 := 0#32
  let v144 : BitVec 1 := Scalar.cmpi .slt v140 c0_i32_69
  let v145 : BitVec 32 := Scalar.extui v144
  let v146 : BitVec 32 := Scalar.subi v143 v145
  let c0_i32_70 : BitVec 32 := 0#32
  let v147 : BitVec 1 := Scalar.cmpi .sgt c256_i32_67 c0_i32_70
  let v148 : BitVec 32 := Scalar.extui v147
  let c0_i32_71 : BitVec 32 := 0#32
  let v149 : BitVec 1 := Scalar.cmpi .slt c256_i32_67 c0_i32_71
  let v150 : BitVec 32 := Scalar.extui v149
  let v151 : BitVec 32 := Scalar.subi v148 v150
  let v152 : BitVec 1 := Scalar.cmpi .ne v146 v151
  let v153 : BitVec 32 := Scalar.remsi v140 c256_i32_67
  let c0_i32_72 : BitVec 32 := 0#32
  let v154 : BitVec 1 := Scalar.cmpi .ne v153 c0_i32_72
  let v155 : BitVec 1 := Scalar.andi v152 v154
  let c1_i32_73 : BitVec 32 := 1#32
  let v156 : BitVec 32 := Scalar.subi v141 c1_i32_73
  let v157 : BitVec 32 := Scalar.select v155 v156 v141
  let v158 : BitVec 32 := Scalar.addi v137 v157
  let c3_74 : Index := 3#32
  let c0_75 : Index := 0#32
  let v159 : BitVec 32 := pf.at 0 (Rect.unit (s := S8x128) ![3, 0] S1x1.size inb_S8x128_S1x1_3_0) numel1_S1x1
  let c256_i32_76 : BitVec 32 := 256#32
  let v160 : BitVec 32 := Scalar.addi v159 c256_i32_76
  let c1_i32_77 : BitVec 32 := 1#32
  let v161 : BitVec 32 := Scalar.subi v160 c1_i32_77
  let c256_i32_78 : BitVec 32 := 256#32
  let v162 : BitVec 32 := Scalar.divsi v161 c256_i32_78
  let c0_i32_79 : BitVec 32 := 0#32
  let v163 : BitVec 1 := Scalar.cmpi .sgt v161 c0_i32_79
  let v164 : BitVec 32 := Scalar.extui v163
  let c0_i32_80 : BitVec 32 := 0#32
  let v165 : BitVec 1 := Scalar.cmpi .slt v161 c0_i32_80
  let v166 : BitVec 32 := Scalar.extui v165
  let v167 : BitVec 32 := Scalar.subi v164 v166
  let c0_i32_81 : BitVec 32 := 0#32
  let v168 : BitVec 1 := Scalar.cmpi .sgt c256_i32_78 c0_i32_81
  let v169 : BitVec 32 := Scalar.extui v168
  let c0_i32_82 : BitVec 32 := 0#32
  let v170 : BitVec 1 := Scalar.cmpi .slt c256_i32_78 c0_i32_82
  let v171 : BitVec 32 := Scalar.extui v170
  let v172 : BitVec 32 := Scalar.subi v169 v171
  let v173 : BitVec 1 := Scalar.cmpi .ne v167 v172
  let v174 : BitVec 32 := Scalar.remsi v161 c256_i32_78
  let c0_i32_83 : BitVec 32 := 0#32
  let v175 : BitVec 1 := Scalar.cmpi .ne v174 c0_i32_83
  let v176 : BitVec 1 := Scalar.andi v173 v175
  let c1_i32_84 : BitVec 32 := 1#32
  let v177 : BitVec 32 := Scalar.subi v162 c1_i32_84
  let v178 : BitVec 32 := Scalar.select v176 v177 v162
  let v179 : BitVec 32 := Scalar.addi v158 v178
  let v180 : BitVec 1 := Scalar.cmpi .sge v95 v116
  let v181 : BitVec 32 := Scalar.extui v180
  let v182 : BitVec 1 := Scalar.cmpi .sge v95 v137
  let v183 : BitVec 32 := Scalar.extui v182
  let v184 : BitVec 32 := Scalar.addi v181 v183
  let v185 : BitVec 1 := Scalar.cmpi .sge v95 v158
  let v186 : BitVec 32 := Scalar.extui v185
  let v187 : BitVec 32 := Scalar.addi v184 v186
  let c3_i32_85 : BitVec 32 := 3#32
  let v188 : BitVec 32 := Scalar.minsi v187 c3_i32_85
  let v189 : BitVec 1 := Scalar.cmpi .slt v95 v179
  let c4_i32 : BitVec 32 := 4#32
  let v190 : BitVec 32 := Scalar.muli v92 c4_i32
  let v191 : BitVec 32 := Scalar.addi v190 arg1
  let c4_i32_86 : BitVec 32 := 4#32
  let v192 : BitVec 32 := Scalar.muli v188 c4_i32_86
  let c4_i32_87 : BitVec 32 := 4#32
  let v193 : BitVec 32 := Scalar.addi v192 c4_i32_87
  let c1_i32_88 : BitVec 32 := 1#32
  let v194 : BitVec 32 := Scalar.subi v193 c1_i32_88
  let v195 : BitVec 32 := Scalar.select v93 v191 v194
  let c1_i32_89 : BitVec 32 := 1#32
  let v196 : BitVec 32 := Scalar.select v93 arg2 c1_i32_89
  let c3_i32_90 : BitVec 32 := 3#32
  let c0_i32_91 : BitVec 32 := 0#32
  let c0_i32_92 : BitVec 32 := 0#32
  ![c3_i32_90.toNat, v195.toNat, c0_i32_91.toNat, v196.toNat]

def cc0_transform_4 (inb_S8x128_S1x1_0_0 : ∀ a, (![0, 0] : Fin 2 → Nat) a + S1x1.size a ≤ S8x128.size a) (numel1_S1x1 : S1x1.numel = 1) (inb_S8x128_S1x1_1_0 : ∀ a, (![1, 0] : Fin 2 → Nat) a + S1x1.size a ≤ S8x128.size a) (inb_S8x128_S1x1_2_0 : ∀ a, (![2, 0] : Fin 2 → Nat) a + S1x1.size a ≤ S8x128.size a) (inb_S8x128_S1x1_3_0 : ∀ a, (![3, 0] : Fin 2 → Nat) a + S1x1.size a ≤ S8x128.size a) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let c0_0 : Index := 0#32
  let v0 : BitVec 32 := pf.at 0 (Rect.unit (s := S8x128) ![0, 0] S1x1.size inb_S8x128_S1x1_0_0) numel1_S1x1
  let c256_i32 : BitVec 32 := 256#32
  let v1 : BitVec 32 := Scalar.addi v0 c256_i32
  let c1_i32 : BitVec 32 := 1#32
  let v2 : BitVec 32 := Scalar.subi v1 c1_i32
  let c256_i32_1 : BitVec 32 := 256#32
  let v3 : BitVec 32 := Scalar.divsi v2 c256_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let v20 : BitVec 32 := Scalar.addi c0_i32_7 v19
  let c1 : Index := 1#32
  let c0_8 : Index := 0#32
  let v21 : BitVec 32 := pf.at 0 (Rect.unit (s := S8x128) ![1, 0] S1x1.size inb_S8x128_S1x1_1_0) numel1_S1x1
  let c256_i32_9 : BitVec 32 := 256#32
  let v22 : BitVec 32 := Scalar.addi v21 c256_i32_9
  let c1_i32_10 : BitVec 32 := 1#32
  let v23 : BitVec 32 := Scalar.subi v22 c1_i32_10
  let c256_i32_11 : BitVec 32 := 256#32
  let v24 : BitVec 32 := Scalar.divsi v23 c256_i32_11
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c0_i32_14 : BitVec 32 := 0#32
  let v30 : BitVec 1 := Scalar.cmpi .sgt c256_i32_11 c0_i32_14
  let v31 : BitVec 32 := Scalar.extui v30
  let c0_i32_15 : BitVec 32 := 0#32
  let v32 : BitVec 1 := Scalar.cmpi .slt c256_i32_11 c0_i32_15
  let v33 : BitVec 32 := Scalar.extui v32
  let v34 : BitVec 32 := Scalar.subi v31 v33
  let v35 : BitVec 1 := Scalar.cmpi .ne v29 v34
  let v36 : BitVec 32 := Scalar.remsi v23 c256_i32_11
  let c0_i32_16 : BitVec 32 := 0#32
  let v37 : BitVec 1 := Scalar.cmpi .ne v36 c0_i32_16
  let v38 : BitVec 1 := Scalar.andi v35 v37
  let c1_i32_17 : BitVec 32 := 1#32
  let v39 : BitVec 32 := Scalar.subi v24 c1_i32_17
  let v40 : BitVec 32 := Scalar.select v38 v39 v24
  let v41 : BitVec 32 := Scalar.addi v20 v40
  let c2 : Index := 2#32
  let c0_18 : Index := 0#32
  let v42 : BitVec 32 := pf.at 0 (Rect.unit (s := S8x128) ![2, 0] S1x1.size inb_S8x128_S1x1_2_0) numel1_S1x1
  let c256_i32_19 : BitVec 32 := 256#32
  let v43 : BitVec 32 := Scalar.addi v42 c256_i32_19
  let c1_i32_20 : BitVec 32 := 1#32
  let v44 : BitVec 32 := Scalar.subi v43 c1_i32_20
  let c256_i32_21 : BitVec 32 := 256#32
  let v45 : BitVec 32 := Scalar.divsi v44 c256_i32_21
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c0_i32_24 : BitVec 32 := 0#32
  let v51 : BitVec 1 := Scalar.cmpi .sgt c256_i32_21 c0_i32_24
  let v52 : BitVec 32 := Scalar.extui v51
  let c0_i32_25 : BitVec 32 := 0#32
  let v53 : BitVec 1 := Scalar.cmpi .slt c256_i32_21 c0_i32_25
  let v54 : BitVec 32 := Scalar.extui v53
  let v55 : BitVec 32 := Scalar.subi v52 v54
  let v56 : BitVec 1 := Scalar.cmpi .ne v50 v55
  let v57 : BitVec 32 := Scalar.remsi v44 c256_i32_21
  let c0_i32_26 : BitVec 32 := 0#32
  let v58 : BitVec 1 := Scalar.cmpi .ne v57 c0_i32_26
  let v59 : BitVec 1 := Scalar.andi v56 v58
  let c1_i32_27 : BitVec 32 := 1#32
  let v60 : BitVec 32 := Scalar.subi v45 c1_i32_27
  let v61 : BitVec 32 := Scalar.select v59 v60 v45
  let v62 : BitVec 32 := Scalar.addi v41 v61
  let c3 : Index := 3#32
  let c0_28 : Index := 0#32
  let v63 : BitVec 32 := pf.at 0 (Rect.unit (s := S8x128) ![3, 0] S1x1.size inb_S8x128_S1x1_3_0) numel1_S1x1
  let c256_i32_29 : BitVec 32 := 256#32
  let v64 : BitVec 32 := Scalar.addi v63 c256_i32_29
  let c1_i32_30 : BitVec 32 := 1#32
  let v65 : BitVec 32 := Scalar.subi v64 c1_i32_30
  let c256_i32_31 : BitVec 32 := 256#32
  let v66 : BitVec 32 := Scalar.divsi v65 c256_i32_31
  let c0_i32_32 : BitVec 32 := 0#32
  let v67 : BitVec 1 := Scalar.cmpi .sgt v65 c0_i32_32
  let v68 : BitVec 32 := Scalar.extui v67
  let c0_i32_33 : BitVec 32 := 0#32
  let v69 : BitVec 1 := Scalar.cmpi .slt v65 c0_i32_33
  let v70 : BitVec 32 := Scalar.extui v69
  let v71 : BitVec 32 := Scalar.subi v68 v70
  let c0_i32_34 : BitVec 32 := 0#32
  let v72 : BitVec 1 := Scalar.cmpi .sgt c256_i32_31 c0_i32_34
  let v73 : BitVec 32 := Scalar.extui v72
  let c0_i32_35 : BitVec 32 := 0#32
  let v74 : BitVec 1 := Scalar.cmpi .slt c256_i32_31 c0_i32_35
  let v75 : BitVec 32 := Scalar.extui v74
  let v76 : BitVec 32 := Scalar.subi v73 v75
  let v77 : BitVec 1 := Scalar.cmpi .ne v71 v76
  let v78 : BitVec 32 := Scalar.remsi v65 c256_i32_31
  let c0_i32_36 : BitVec 32 := 0#32
  let v79 : BitVec 1 := Scalar.cmpi .ne v78 c0_i32_36
  let v80 : BitVec 1 := Scalar.andi v77 v79
  let c1_i32_37 : BitVec 32 := 1#32
  let v81 : BitVec 32 := Scalar.subi v66 c1_i32_37
  let v82 : BitVec 32 := Scalar.select v80 v81 v66
  let v83 : BitVec 32 := Scalar.addi v62 v82
  let v84 : BitVec 1 := Scalar.cmpi .sge arg0 v20
  let v85 : BitVec 32 := Scalar.extui v84
  let v86 : BitVec 1 := Scalar.cmpi .sge arg0 v41
  let v87 : BitVec 32 := Scalar.extui v86
  let v88 : BitVec 32 := Scalar.addi v85 v87
  let v89 : BitVec 1 := Scalar.cmpi .sge arg0 v62
  let v90 : BitVec 32 := Scalar.extui v89
  let v91 : BitVec 32 := Scalar.addi v88 v90
  let c3_i32 : BitVec 32 := 3#32
  let v92 : BitVec 32 := Scalar.minsi v91 c3_i32
  let v93 : BitVec 1 := Scalar.cmpi .slt arg0 v83
  let c1_i32_38 : BitVec 32 := 1#32
  let v94 : BitVec 32 := Scalar.subi v83 c1_i32_38
  let c0_i32_39 : BitVec 32 := 0#32
  let v95 : BitVec 32 := Scalar.maxsi v94 c0_i32_39
  let c0_40 : Index := 0#32
  let c0_41 : Index := 0#32
  let v96 : BitVec 32 := pf.at 0 (Rect.unit (s := S8x128) ![0, 0] S1x1.size inb_S8x128_S1x1_0_0) numel1_S1x1
  let c256_i32_42 : BitVec 32 := 256#32
  let v97 : BitVec 32 := Scalar.addi v96 c256_i32_42
  let c1_i32_43 : BitVec 32 := 1#32
  let v98 : BitVec 32 := Scalar.subi v97 c1_i32_43
  let c256_i32_44 : BitVec 32 := 256#32
  let v99 : BitVec 32 := Scalar.divsi v98 c256_i32_44
  let c0_i32_45 : BitVec 32 := 0#32
  let v100 : BitVec 1 := Scalar.cmpi .sgt v98 c0_i32_45
  let v101 : BitVec 32 := Scalar.extui v100
  let c0_i32_46 : BitVec 32 := 0#32
  let v102 : BitVec 1 := Scalar.cmpi .slt v98 c0_i32_46
  let v103 : BitVec 32 := Scalar.extui v102
  let v104 : BitVec 32 := Scalar.subi v101 v103
  let c0_i32_47 : BitVec 32 := 0#32
  let v105 : BitVec 1 := Scalar.cmpi .sgt c256_i32_44 c0_i32_47
  let v106 : BitVec 32 := Scalar.extui v105
  let c0_i32_48 : BitVec 32 := 0#32
  let v107 : BitVec 1 := Scalar.cmpi .slt c256_i32_44 c0_i32_48
  let v108 : BitVec 32 := Scalar.extui v107
  let v109 : BitVec 32 := Scalar.subi v106 v108
  let v110 : BitVec 1 := Scalar.cmpi .ne v104 v109
  let v111 : BitVec 32 := Scalar.remsi v98 c256_i32_44
  let c0_i32_49 : BitVec 32 := 0#32
  let v112 : BitVec 1 := Scalar.cmpi .ne v111 c0_i32_49
  let v113 : BitVec 1 := Scalar.andi v110 v112
  let c1_i32_50 : BitVec 32 := 1#32
  let v114 : BitVec 32 := Scalar.subi v99 c1_i32_50
  let v115 : BitVec 32 := Scalar.select v113 v114 v99
  let c0_i32_51 : BitVec 32 := 0#32
  let v116 : BitVec 32 := Scalar.addi c0_i32_51 v115
  let c1_52 : Index := 1#32
  let c0_53 : Index := 0#32
  let v117 : BitVec 32 := pf.at 0 (Rect.unit (s := S8x128) ![1, 0] S1x1.size inb_S8x128_S1x1_1_0) numel1_S1x1
  let c256_i32_54 : BitVec 32 := 256#32
  let v118 : BitVec 32 := Scalar.addi v117 c256_i32_54
  let c1_i32_55 : BitVec 32 := 1#32
  let v119 : BitVec 32 := Scalar.subi v118 c1_i32_55
  let c256_i32_56 : BitVec 32 := 256#32
  let v120 : BitVec 32 := Scalar.divsi v119 c256_i32_56
  let c0_i32_57 : BitVec 32 := 0#32
  let v121 : BitVec 1 := Scalar.cmpi .sgt v119 c0_i32_57
  let v122 : BitVec 32 := Scalar.extui v121
  let c0_i32_58 : BitVec 32 := 0#32
  let v123 : BitVec 1 := Scalar.cmpi .slt v119 c0_i32_58
  let v124 : BitVec 32 := Scalar.extui v123
  let v125 : BitVec 32 := Scalar.subi v122 v124
  let c0_i32_59 : BitVec 32 := 0#32
  let v126 : BitVec 1 := Scalar.cmpi .sgt c256_i32_56 c0_i32_59
  let v127 : BitVec 32 := Scalar.extui v126
  let c0_i32_60 : BitVec 32 := 0#32
  let v128 : BitVec 1 := Scalar.cmpi .slt c256_i32_56 c0_i32_60
  let v129 : BitVec 32 := Scalar.extui v128
  let v130 : BitVec 32 := Scalar.subi v127 v129
  let v131 : BitVec 1 := Scalar.cmpi .ne v125 v130
  let v132 : BitVec 32 := Scalar.remsi v119 c256_i32_56
  let c0_i32_61 : BitVec 32 := 0#32
  let v133 : BitVec 1 := Scalar.cmpi .ne v132 c0_i32_61
  let v134 : BitVec 1 := Scalar.andi v131 v133
  let c1_i32_62 : BitVec 32 := 1#32
  let v135 : BitVec 32 := Scalar.subi v120 c1_i32_62
  let v136 : BitVec 32 := Scalar.select v134 v135 v120
  let v137 : BitVec 32 := Scalar.addi v116 v136
  let c2_63 : Index := 2#32
  let c0_64 : Index := 0#32
  let v138 : BitVec 32 := pf.at 0 (Rect.unit (s := S8x128) ![2, 0] S1x1.size inb_S8x128_S1x1_2_0) numel1_S1x1
  let c256_i32_65 : BitVec 32 := 256#32
  let v139 : BitVec 32 := Scalar.addi v138 c256_i32_65
  let c1_i32_66 : BitVec 32 := 1#32
  let v140 : BitVec 32 := Scalar.subi v139 c1_i32_66
  let c256_i32_67 : BitVec 32 := 256#32
  let v141 : BitVec 32 := Scalar.divsi v140 c256_i32_67
  let c0_i32_68 : BitVec 32 := 0#32
  let v142 : BitVec 1 := Scalar.cmpi .sgt v140 c0_i32_68
  let v143 : BitVec 32 := Scalar.extui v142
  let c0_i32_69 : BitVec 32 := 0#32
  let v144 : BitVec 1 := Scalar.cmpi .slt v140 c0_i32_69
  let v145 : BitVec 32 := Scalar.extui v144
  let v146 : BitVec 32 := Scalar.subi v143 v145
  let c0_i32_70 : BitVec 32 := 0#32
  let v147 : BitVec 1 := Scalar.cmpi .sgt c256_i32_67 c0_i32_70
  let v148 : BitVec 32 := Scalar.extui v147
  let c0_i32_71 : BitVec 32 := 0#32
  let v149 : BitVec 1 := Scalar.cmpi .slt c256_i32_67 c0_i32_71
  let v150 : BitVec 32 := Scalar.extui v149
  let v151 : BitVec 32 := Scalar.subi v148 v150
  let v152 : BitVec 1 := Scalar.cmpi .ne v146 v151
  let v153 : BitVec 32 := Scalar.remsi v140 c256_i32_67
  let c0_i32_72 : BitVec 32 := 0#32
  let v154 : BitVec 1 := Scalar.cmpi .ne v153 c0_i32_72
  let v155 : BitVec 1 := Scalar.andi v152 v154
  let c1_i32_73 : BitVec 32 := 1#32
  let v156 : BitVec 32 := Scalar.subi v141 c1_i32_73
  let v157 : BitVec 32 := Scalar.select v155 v156 v141
  let v158 : BitVec 32 := Scalar.addi v137 v157
  let c3_74 : Index := 3#32
  let c0_75 : Index := 0#32
  let v159 : BitVec 32 := pf.at 0 (Rect.unit (s := S8x128) ![3, 0] S1x1.size inb_S8x128_S1x1_3_0) numel1_S1x1
  let c256_i32_76 : BitVec 32 := 256#32
  let v160 : BitVec 32 := Scalar.addi v159 c256_i32_76
  let c1_i32_77 : BitVec 32 := 1#32
  let v161 : BitVec 32 := Scalar.subi v160 c1_i32_77
  let c256_i32_78 : BitVec 32 := 256#32
  let v162 : BitVec 32 := Scalar.divsi v161 c256_i32_78
  let c0_i32_79 : BitVec 32 := 0#32
  let v163 : BitVec 1 := Scalar.cmpi .sgt v161 c0_i32_79
  let v164 : BitVec 32 := Scalar.extui v163
  let c0_i32_80 : BitVec 32 := 0#32
  let v165 : BitVec 1 := Scalar.cmpi .slt v161 c0_i32_80
  let v166 : BitVec 32 := Scalar.extui v165
  let v167 : BitVec 32 := Scalar.subi v164 v166
  let c0_i32_81 : BitVec 32 := 0#32
  let v168 : BitVec 1 := Scalar.cmpi .sgt c256_i32_78 c0_i32_81
  let v169 : BitVec 32 := Scalar.extui v168
  let c0_i32_82 : BitVec 32 := 0#32
  let v170 : BitVec 1 := Scalar.cmpi .slt c256_i32_78 c0_i32_82
  let v171 : BitVec 32 := Scalar.extui v170
  let v172 : BitVec 32 := Scalar.subi v169 v171
  let v173 : BitVec 1 := Scalar.cmpi .ne v167 v172
  let v174 : BitVec 32 := Scalar.remsi v161 c256_i32_78
  let c0_i32_83 : BitVec 32 := 0#32
  let v175 : BitVec 1 := Scalar.cmpi .ne v174 c0_i32_83
  let v176 : BitVec 1 := Scalar.andi v173 v175
  let c1_i32_84 : BitVec 32 := 1#32
  let v177 : BitVec 32 := Scalar.subi v162 c1_i32_84
  let v178 : BitVec 32 := Scalar.select v176 v177 v162
  let v179 : BitVec 32 := Scalar.addi v158 v178
  let v180 : BitVec 1 := Scalar.cmpi .sge v95 v116
  let v181 : BitVec 32 := Scalar.extui v180
  let v182 : BitVec 1 := Scalar.cmpi .sge v95 v137
  let v183 : BitVec 32 := Scalar.extui v182
  let v184 : BitVec 32 := Scalar.addi v181 v183
  let v185 : BitVec 1 := Scalar.cmpi .sge v95 v158
  let v186 : BitVec 32 := Scalar.extui v185
  let v187 : BitVec 32 := Scalar.addi v184 v186
  let c3_i32_85 : BitVec 32 := 3#32
  let v188 : BitVec 32 := Scalar.minsi v187 c3_i32_85
  let v189 : BitVec 1 := Scalar.cmpi .slt v95 v179
  let c4_i32 : BitVec 32 := 4#32
  let v190 : BitVec 32 := Scalar.muli v92 c4_i32
  let v191 : BitVec 32 := Scalar.addi v190 arg1
  let c4_i32_86 : BitVec 32 := 4#32
  let v192 : BitVec 32 := Scalar.muli v188 c4_i32_86
  let c4_i32_87 : BitVec 32 := 4#32
  let v193 : BitVec 32 := Scalar.addi v192 c4_i32_87
  let c1_i32_88 : BitVec 32 := 1#32
  let v194 : BitVec 32 := Scalar.subi v193 c1_i32_88
  let v195 : BitVec 32 := Scalar.select v93 v191 v194
  let c1_i32_89 : BitVec 32 := 1#32
  let v196 : BitVec 32 := Scalar.select v93 arg2 c1_i32_89
  let c3_i32_90 : BitVec 32 := 3#32
  let c0_i32_91 : BitVec 32 := 0#32
  let c0_i32_92 : BitVec 32 := 0#32
  ![c3_i32_90.toNat, v195.toNat, v196.toNat, c0_i32_91.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference2Ideal.lean ====
abbrev S8x128 : Shape := ⟨2, ![8, 128]⟩
abbrev S9216x4096 : Shape := ⟨2, ![9216, 4096]⟩
abbrev S9216x128 : Shape := ⟨2, ![9216, 128]⟩
abbrev S4x16x4096x1024 : Shape := ⟨4, ![4, 16, 4096, 1024]⟩
abbrev S4x16x1024x4096 : Shape := ⟨4, ![4, 16, 1024, 4096]⟩
abbrev S4x1x4096 : Shape := ⟨3, ![4, 1, 4096]⟩
abbrev S4x1 : Shape := ⟨2, ![4, 1]⟩
abbrev S4 : Shape := ⟨1, ![4]⟩
abbrev S_ : Shape := ⟨0, ![]⟩
abbrev S9216 : Shape := ⟨1, ![9216]⟩
abbrev S9216x1 : Shape := ⟨2, ![9216, 1]⟩
abbrev S3 : Shape := ⟨1, ![3]⟩
abbrev S1x3 : Shape := ⟨2, ![1, 3]⟩
abbrev S9216x3 : Shape := ⟨2, ![9216, 3]⟩
abbrev S16 : Shape := ⟨1, ![16]⟩
abbrev S1x16 : Shape := ⟨2, ![1, 16]⟩
abbrev S9216x16 : Shape := ⟨2, ![9216, 16]⟩
abbrev S1x16x4096x1024 : Shape := ⟨4, ![1, 16, 4096, 1024]⟩
abbrev S16x4096x1024 : Shape := ⟨3, ![16, 4096, 1024]⟩
abbrev S1x16x1024x4096 : Shape := ⟨4, ![1, 16, 1024, 4096]⟩
abbrev S16x1024x4096 : Shape := ⟨3, ![16, 1024, 4096]⟩
abbrev S9216x16x1024 : Shape := ⟨3, ![9216, 16, 1024]⟩
abbrev S9216x16x1 : Shape := ⟨3, ![9216, 16, 1]⟩
abbrev S1x1x4096 : Shape := ⟨3, ![1, 1, 4096]⟩
abbrev S1x4096 : Shape := ⟨2, ![1, 4096]⟩
abbrev S1 : Shape := ⟨1, ![1]⟩

abbrev nBuf : Space → Nat
  | .hbm => 161
  | .vmem => 0
  | .smem => 0
  | _ => 0

abbrev hbmTy0_0 (i : Nat) : BufTy := match i % 128 with
  | 0 => ⟨S8x128, .i32⟩
  | 1 => ⟨S9216x4096, .f32⟩
  | 2 => ⟨S9216x128, .f32⟩
  | 3 => ⟨S4x16x4096x1024, .bf16⟩
  | 4 => ⟨S4x16x4096x1024, .bf16⟩
  | 5 => ⟨S4x16x1024x4096, .bf16⟩
  | 6 => ⟨S4x1x4096, .f32⟩
  | 7 => ⟨S4x1x4096, .f32⟩
  | 8 => ⟨S4x1, .i32⟩
  | 9 => ⟨S4, .i32⟩
  | 10 => ⟨S_, .i32⟩
  | 11 => ⟨S4, .i32⟩
  | 12 => ⟨S4, .i32⟩
  | 13 => ⟨S_, .i32⟩
  | 14 => ⟨S_, .i32⟩
  | 15 => ⟨S4, .i32⟩
  | 16 => ⟨S4, .i32⟩
  | 17 => ⟨S4, .i32⟩
  | 18 => ⟨S_, .i32⟩
  | 19 => ⟨S4, .i32⟩
  | 20 => ⟨S4, .i1⟩
  | 21 => ⟨S4, .i32⟩
  | 22 => ⟨S4, .i32⟩
  | 23 => ⟨S_, .i32⟩
  | 24 => ⟨S4, .i32⟩
  | 25 => ⟨S4, .i1⟩
  | 26 => ⟨S4, .i1⟩
  | 27 => ⟨S_, .i32⟩
  | 28 => ⟨S4, .i32⟩
  | 29 => ⟨S4, .i32⟩
  | 30 => ⟨S4, .i32⟩
  | 31 => ⟨S_, .i32⟩
  | 32 => ⟨S_, .i32⟩
  | 33 => ⟨S4, .i32⟩
  | 34 => ⟨S9216, .i32⟩
  | 35 => ⟨S_, .i32⟩
  | 36 => ⟨S_, .i32⟩
  | 37 => ⟨S9216, .i32⟩
  | 38 => ⟨S9216, .i32⟩
  | 39 => ⟨S9216, .i32⟩
  | 40 => ⟨S_, .i32⟩
  | 41 => ⟨S9216, .i32⟩
  | 42 => ⟨S9216, .i1⟩
  | 43 => ⟨S9216, .i32⟩
  | 44 => ⟨S9216, .i32⟩
  | 45 => ⟨S_, .i32⟩
  | 46 => ⟨S9216, .i32⟩
  | 47 => ⟨S9216, .i1⟩
  | 48 => ⟨S9216, .i1⟩
  | 49 => ⟨S_, .i32⟩
  | 50 => ⟨S9216, .i32⟩
  | 51 => ⟨S9216, .i32⟩
  | 52 => ⟨S9216, .i32⟩
  | 53 => ⟨S9216x1, .i32⟩
  | 54 => ⟨S3, .i32⟩
  | 55 => ⟨S1x3, .i32⟩
  | 56 => ⟨S9216x3, .i32⟩
  | 57 => ⟨S9216x3, .i32⟩
  | 58 => ⟨S9216x3, .i1⟩
  | 59 => ⟨S9216x3, .i32⟩
  | 60 => ⟨S_, .i32⟩
  | 61 => ⟨S9216, .i32⟩
  | 62 => ⟨S16, .i32⟩
  | 63 => ⟨S_, .i32⟩
  | 64 => ⟨S_, .i32⟩
  | 65 => ⟨S16, .i32⟩
  | 66 => ⟨S16, .i32⟩
  | 67 => ⟨S16, .i32⟩
  | 68 => ⟨S_, .i32⟩
  | 69 => ⟨S16, .i32⟩
  | 70 => ⟨S16, .i1⟩
  | 71 => ⟨S16, .i32⟩
  | 72 => ⟨S16, .i32⟩
  | 73 => ⟨S_, .i32⟩
  | 74 => ⟨S16, .i32⟩
  | 75 => ⟨S16, .i1⟩
  | 76 => ⟨S16, .i1⟩
  | 77 => ⟨S_, .i32⟩
  | 78 => ⟨S16, .i32⟩
  | 79 => ⟨S16, .i32⟩
  | 80 => ⟨S16, .i32⟩
  | 81 => ⟨S1x16, .i32⟩
  | 82 => ⟨S9216x1, .i32⟩
  | 83 => ⟨S9216x16, .i32⟩
  | 84 => ⟨S9216x16, .i32⟩
  | 85 => ⟨S9216x16, .i1⟩
  | 86 => ⟨S9216x16, .f32⟩
  | 87 => ⟨S_, .f32⟩
  | 88 => ⟨S_, .f32⟩
  | 89 => ⟨S9216x16, .f32⟩
  | 90 => ⟨S9216x16, .f32⟩
  | 91 => ⟨S1x16x4096x1024, .bf16⟩
  | 92 => ⟨S16x4096x1024, .bf16⟩
  | 93 => ⟨S16x4096x1024, .f32⟩
  | 94 => ⟨S1x16x4096x1024, .bf16⟩
  | 95 => ⟨S16x4096x1024, .bf16⟩
  | 96 => ⟨S16x4096x1024, .f32⟩
  | 97 => ⟨S1x16x1024x4096, .bf16⟩
  | 98 => ⟨S16x1024x4096, .bf16⟩
  | 99 => ⟨S16x1024x4096, .f32⟩
  | 100 => ⟨S9216x16x1024, .f32⟩
  | 101 => ⟨S9216x16x1024, .f32⟩
  | 102 => ⟨S9216x16x1024, .f32⟩
  | 103 => ⟨S_, .f32⟩
  | 104 => ⟨S9216x16x1024, .f32⟩
  | 105 => ⟨S9216x16x1024, .f32⟩
  | 106 => ⟨S_, .f32⟩
  | 107 => ⟨S9216x16x1024, .f32⟩
  | 108 => ⟨S9216x16x1024, .f32⟩
  | 109 => ⟨S9216x16x1024, .f32⟩
  | 110 => ⟨S9216x16x1024, .f32⟩
  | 111 => ⟨S9216x16x1024, .f32⟩
  | 112 => ⟨S9216x16x1, .f32⟩
  | 113 => ⟨S9216x16x1024, .f32⟩
  | 114 => ⟨S9216x16x1024, .f32⟩
  | 115 => ⟨S9216x4096, .f32⟩
  | 116 => ⟨S_, .f32⟩
  | 117 => ⟨S9216x4096, .f32⟩
  | 118 => ⟨S9216x4096, .f32⟩
  | 119 => ⟨S9216x4096, .f32⟩
  | 120 => ⟨S_, .f32⟩
  | 121 => ⟨S9216, .f32⟩
  | 122 => ⟨S9216x1, .f32⟩
  | 123 => ⟨S_, .f32⟩
  | 124 => ⟨S9216x1, .f32⟩
  | 125 => ⟨S9216x1, .f32⟩
  | 126 => ⟨S9216x4096, .f32⟩
  | 127 => ⟨S9216x4096, .f32⟩
  | _ => ⟨S8x128, .i32⟩

abbrev hbmTy0_1 (i : Nat) : BufTy := match i % 128 with
  | 0 => ⟨S9216x4096, .f32⟩
  | 1 => ⟨S_, .f32⟩
  | 2 => ⟨S9216, .f32⟩
  | 3 => ⟨S9216x1, .f32⟩
  | 4 => ⟨S_, .f32⟩
  | 5 => ⟨S9216x1, .f32⟩
  | 6 => ⟨S9216x1, .f32⟩
  | 7 => ⟨S9216x4096, .f32⟩
  | 8 => ⟨S9216x4096, .f32⟩
  | 9 => ⟨S_, .f32⟩
  | 10 => ⟨S9216x1, .f32⟩
  | 11 => ⟨S9216x1, .f32⟩
  | 12 => ⟨S9216x1, .f32⟩
  | 13 => ⟨S9216x4096, .f32⟩
  | 14 => ⟨S9216x4096, .f32⟩
  | 15 => ⟨S1x1x4096, .f32⟩
  | 16 => ⟨S1x4096, .f32⟩
  | 17 => ⟨S9216x4096, .f32⟩
  | 18 => ⟨S9216x4096, .f32⟩
  | 19 => ⟨S1x1x4096, .f32⟩
  | 20 => ⟨S1x4096, .f32⟩
  | 21 => ⟨S9216x4096, .f32⟩
  | 22 => ⟨S9216x4096, .f32⟩
  | 23 => ⟨S1, .i32⟩
  | 24 => ⟨S_, .i32⟩
  | 25 => ⟨S9216, .i32⟩
  | 26 => ⟨S9216, .i1⟩
  | 27 => ⟨S9216x1, .i1⟩
  | 28 => ⟨S_, .f32⟩
  | 29 => ⟨S_, .f32⟩
  | 30 => ⟨S9216x4096, .i1⟩
  | 31 => ⟨S9216x4096, .f32⟩
  | 32 => ⟨S9216x4096, .f32⟩
  | _ => ⟨S8x128, .i32⟩

abbrev hbmTy (i : Nat) : BufTy := match i / 128 with
  | 0 => hbmTy0_0 i
  | 1 => hbmTy0_1 i
  | _ => ⟨S8x128, .i32⟩

abbrev bufTy : (tb : Table) → Fin (tcTables nBuf tb) → BufTy
  | .hbm, ⟨i, _⟩ => hbmTy i
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v4 : Ref sig .tc := ⟨.hbm, 30, rfl⟩
abbrev main_call1_call0_c : Ref sig .tc := ⟨.hbm, 31, rfl⟩
abbrev main_call1_call0_v0 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_c_2 : Ref sig .tc := ⟨.hbm, 60, rfl⟩
abbrev main_v15 : Ref sig .tc := ⟨.hbm, 61, rfl⟩
abbrev main_v16 : Ref sig .tc := ⟨.hbm, 62, rfl⟩
abbrev main_c_3 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_cst : Ref sig .tc := ⟨.hbm, 87, rfl⟩
abbrev main_call4_v0 : Ref sig .tc := ⟨.hbm, 88, rfl⟩
abbrev main_call4_v1 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_call5_v0 : Ref sig .tc := ⟨.hbm, 101, rfl⟩
abbrev main_call5_v1 : Ref sig .tc := ⟨.hbm, 102, rfl⟩
abbrev main_call5_cst : Ref sig .tc := ⟨.hbm, 103, rfl⟩
abbrev main_call5_v2 : Ref sig .tc := ⟨.hbm, 104, rfl⟩
abbrev main_call5_v3 : Ref sig .tc := ⟨.hbm, 105, rfl⟩
abbrev main_call5_cst_0 : Ref sig .tc := ⟨.hbm, 106, rfl⟩
abbrev main_call5_v4 : Ref sig .tc := ⟨.hbm, 107, rfl⟩
abbrev main_call5_v5 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_cst_4 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_cst_5 : Ref sig .tc := ⟨.hbm, 120, rfl⟩
abbrev main_v45 : Ref sig .tc := ⟨.hbm, 121, rfl⟩
abbrev main_v46 : Ref sig .tc := ⟨.hbm, 122, rfl⟩
abbrev main_cst_6 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_cst_7 : Ref sig .tc := ⟨.hbm, 129, rfl⟩
abbrev main_v52 : Ref sig .tc := ⟨.hbm, 130, rfl⟩
abbrev main_v53 : Ref sig .tc := ⟨.hbm, 131, rfl⟩
abbrev main_cst_8 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_cst_9 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_cst_10 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v76 : Ref sig .tc := ⟨.hbm, 160, rfl⟩

abbrev nD : Nat := 1
abbrev τ : Topo := Topo.v7x

variable {F : FTy → Type} [FloatOps F]
-- ==== Kernel3.lean ====
abbrev S4x2048x4096 : Shape := ⟨3, ![4, 2048, 4096]⟩
abbrev S4x4096x20576 : Shape := ⟨3, ![4, 4096, 20576]⟩
abbrev S8192x4096 : Shape := ⟨2, ![8192, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S8192x2048 : Shape := ⟨2, ![8192, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S8192x4096, .f32⟩
  | .hbm, ⟨3, _⟩ => ⟨S8192x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S8192x2048, .f32⟩
  | .hbm, ⟨12, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x2048x4096 : Shape := ⟨3, ![4, 2048, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S4x2048x20576 : Shape := ⟨3, ![4, 2048, 20576]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x8192 : Shape := ⟨3, ![4, 2048, 8192]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S4x2048x20576, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x4096, .f32⟩
  | .hbm, ⟨12, _⟩ => ⟨S4x2048x8192, .f32⟩
  | .hbm, ⟨13, _⟩ => ⟨S8192x2048, .f32⟩
  | .hbm, ⟨14, _⟩ => ⟨S8192x2048, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel4.lean ====
abbrev S4x2048x4096 : Shape := ⟨3, ![4, 2048, 4096]⟩
abbrev S4x4096x20576 : Shape := ⟨3, ![4, 4096, 20576]⟩
abbrev S8192x4096 : Shape := ⟨2, ![8192, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S8192x2048 : Shape := ⟨2, ![8192, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S8192x4096, .f32⟩
  | .hbm, ⟨3, _⟩ => ⟨S8192x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c3_i32 : BitVec 32 := 3#32
  let c0_i32 : BitVec 32 := 0#32
  let c0_i32_0 : BitVec 32 := 0#32
  ![c3_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048x4096 : Shape := ⟨3, ![4, 2048, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S4x2048x20576 : Shape := ⟨3, ![4, 2048, 20576]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x8192 : Shape := ⟨3, ![4, 2048, 8192]⟩
abbrev S_ : Shape := ⟨0, ![]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S4x2048x20576, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x4096, .f32⟩
  | .hbm, ⟨12, _⟩ => ⟨S4x2048x8192, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S8192x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel5.lean ====
abbrev S4x2048x4096 : Shape := ⟨3, ![4, 2048, 4096]⟩
abbrev S8192x2048 : Shape := ⟨2, ![8192, 2048]⟩
abbrev S4x4096x20576 : Shape := ⟨3, ![4, 4096, 20576]⟩
abbrev S8192x4096 : Shape := ⟨2, ![8192, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S1024x4096 : Shape := ⟨2, ![1024, 4096]⟩
abbrev S1024x2048 : Shape := ⟨2, ![1024, 2048]⟩
abbrev S1x4096x256 : Shape := ⟨3, ![1, 4096, 256]⟩
abbrev S1x2048x256 : Shape := ⟨3, ![1, 2048, 256]⟩
abbrev S1024x256 : Shape := ⟨2, ![1024, 256]⟩
abbrev S4096x256 : Shape := ⟨2, ![4096, 256]⟩
abbrev S2048x256 : Shape := ⟨2, ![2048, 256]⟩

abbrev nBuf : Space → Nat
  | .hbm => 20
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S8192x2048, .f32⟩
  | .hbm, ⟨2, _⟩ => ⟨S8192x2048, .f32⟩
  | .hbm, ⟨3, _⟩ => ⟨S4x4096x20576, .f32⟩
  | .hbm, ⟨4, _⟩ => ⟨S4x2048x4096, .f32⟩
  | .hbm, ⟨5, _⟩ => ⟨S4x2048x4096, .f32⟩
  | .hbm, ⟨6, _⟩ => ⟨S8192x4096, .f32⟩
  | .hbm, ⟨7, _⟩ => ⟨S8192x4096, .bf16⟩
  | .hbm, ⟨8, _⟩ => ⟨S8192x2048, .bf16⟩
  | .hbm, ⟨9, _⟩ => ⟨S8192x2048, .bf16⟩
  | .hbm, ⟨10, _⟩ => ⟨S4x4096x8192, .f32⟩
  | .hbm, ⟨11, _⟩ => ⟨S4x4096x12288, .f32⟩
  | .hbm, ⟨12, _⟩ => ⟨S4x4096x96, .f32⟩
  | .hbm, ⟨13, _⟩ => ⟨S_, .f32⟩
  | .hbm, ⟨14, _⟩ => ⟨S4x4096x32, .f32⟩
  | .hbm, ⟨15, _⟩ => ⟨S4x4096x20608, .f32⟩
  | .hbm, ⟨16, _⟩ => ⟨S4x4096x20608, .bf16⟩
  | .hbm, ⟨17, _⟩ => ⟨S4x2048x4096, .bf16⟩
  | .hbm, ⟨18, _⟩ => ⟨S4x2048x4096, .bf16⟩
  | .hbm, ⟨19, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1024x256, .bf16⟩
  | .local _ .vmem, ⟨15, _⟩ => ⟨S1024x256, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c3_i32 : BitVec 32 := 3#32
  let c0_i32 : BitVec 32 := 0#32
  let c0_i32_0 : BitVec 32 := 0#32
  ![c3_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S4x2048x4096 : Shape := ⟨3, ![4, 2048, 4096]⟩
abbrev S8192x2048 : Shape := ⟨2, ![8192, 2048]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S4x2048x20576 : Shape := ⟨3, ![4, 2048, 20576]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x8192 : Shape := ⟨3, ![4, 2048, 8192]⟩
abbrev S8192x8192 : Shape := ⟨2, ![8192, 8192]⟩
abbrev S8192x4096 : Shape := ⟨2, ![8192, 4096]⟩
abbrev S_ : Shape := ⟨0, ![]⟩
abbrev S1x2048x4096 : Shape := ⟨3, ![1, 2048, 4096]⟩
abbrev S2048x4096 : Shape := ⟨2, ![2048, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8192x2048, .f32⟩
  | .hbm, ⟨2, _⟩ => ⟨S8192x2048, .f32⟩
  | .hbm, ⟨3, _⟩ => ⟨S4x4096x20576, .f32⟩
  | .hbm, ⟨4, _⟩ => ⟨S4x2048x4096, .f32⟩
  | .hbm, ⟨5, _⟩ => ⟨S4x2048x4096, .f32⟩
  | .hbm, ⟨6, _⟩ => ⟨S1x4096x20576, .f32⟩
  | .hbm, ⟨7, _⟩ => ⟨S4096x20576, .f32⟩
  | .hbm, ⟨8, _⟩ => ⟨S4x2048x20576, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x64, .f32⟩
  | .hbm, ⟨14, _⟩ => ⟨S4x2048x32, .f32⟩
  | .hbm, ⟨15, _⟩ => ⟨S4x2048x4096, .f32⟩
  | .hbm, ⟨16, _⟩ => ⟨S4x2048x8192, .f32⟩
  | .hbm, ⟨17, _⟩ => ⟨S8192x8192, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S1x2048x4096, .f32⟩
  | .hbm, ⟨29, _⟩ => ⟨S2048x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S1x2048x4096, .f32⟩
  | .hbm, ⟨41, _⟩ => ⟨S2048x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel6.lean ====
abbrev S4x2048x4096 : Shape := ⟨3, ![4, 2048, 4096]⟩
abbrev S4x4096x20576 : Shape := ⟨3, ![4, 4096, 20576]⟩
abbrev S8192x4096 : Shape := ⟨2, ![8192, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x1x128 : Shape := ⟨4, ![1, 8192, 1, 128]⟩
abbrev S32 : Shape := ⟨1, ![32]⟩
abbrev S1x32 : Shape := ⟨2, ![1, 32]⟩
abbrev S8192x32 : Shape := ⟨2, ![8192, 32]⟩
abbrev S1x8192x1x64 : Shape := ⟨4, ![1, 8192, 1, 64]⟩
abbrev S1x8192x2x64 : Shape := ⟨4, ![1, 8192, 2, 64]⟩
abbrev S8192x2048 : Shape := ⟨2, ![8192, 2048]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩

abbrev nBuf : Space → Nat
  | .hbm => 79
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S8192x4096, .f32⟩
  | .hbm, ⟨3, _⟩ => ⟨S8192x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S2048, .i32⟩
  | .hbm, ⟨12, _⟩ => ⟨S1x2048, .i32⟩
  | .hbm, ⟨13, _⟩ => ⟨S4x2048, .i32⟩
  | .hbm, ⟨14, _⟩ => ⟨S8192, .i32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S8192, .f32⟩
  | .hbm, ⟨30, _⟩ => ⟨S8192x1, .f32⟩
  | .hbm, ⟨31, _⟩ => ⟨S1x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x128, .f32⟩
  | .hbm, ⟨38, _⟩ => ⟨S1x8192x1x128, .f32⟩
  | .hbm, ⟨39, _⟩ => ⟨S1x8192x1x128, .f32⟩
  | .hbm, ⟨40, _⟩ => ⟨S8192x128, .f32⟩
  | .hbm, ⟨41, _⟩ => ⟨S8192x64, .f32⟩
  | .hbm, ⟨42, _⟩ => ⟨S8192x128, .f32⟩
  | .hbm, ⟨43, _⟩ => ⟨S1x8192x1x128, .f32⟩
  | .hbm, ⟨44, _⟩ => ⟨S1x8192x1x128, .f32⟩
  | .hbm, ⟨45, _⟩ => ⟨S8192x128, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8192, .f32⟩
  | .hbm, ⟨61, _⟩ => ⟨S8192x1, .f32⟩
  | .hbm, ⟨62, _⟩ => ⟨S1x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S8192x64, .f32⟩
  | .hbm, ⟨69, _⟩ => ⟨S1x8192x1x64, .f32⟩
  | .hbm, ⟨70, _⟩ => ⟨S1x8192x2x64, .f32⟩
  | .hbm, ⟨71, _⟩ => ⟨S8192x128, .f32⟩
  | .hbm, ⟨72, _⟩ => ⟨S8192x32, .f32⟩
  | .hbm, ⟨73, _⟩ => ⟨S8192x64, .f32⟩
  | .hbm, ⟨74, _⟩ => ⟨S1x8192x1x64, .f32⟩
  | .hbm, ⟨75, _⟩ => ⟨S1x8192x2x64, .f32⟩
  | .hbm, ⟨76, _⟩ => ⟨S8192x128, .f32⟩
  | .hbm, ⟨77, _⟩ => ⟨S8192x2048, .f32⟩
  | .hbm, ⟨78, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66_0 : Ref sig .tc := ⟨.hbm, 77, rfl⟩
abbrev main_v66_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4x2048x4096 : Shape := ⟨3, ![4, 2048, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S4x2048x20576 : Shape := ⟨3, ![4, 2048, 20576]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x8192 : Shape := ⟨3, ![4, 2048, 8192]⟩
abbrev S4x2048x16x128 : Shape := ⟨4, ![4, 2048, 16, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x16x64 : Shape := ⟨4, ![4, 2048, 16, 64]⟩
abbrev S1x2048x1x64 : Shape := ⟨4, ![1, 2048, 1, 64]⟩
abbrev S8192x2048 : Shape := ⟨2, ![8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S4x2048x20576, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x4096, .f32⟩
  | .hbm, ⟨12, _⟩ => ⟨S4x2048x8192, .f32⟩
  | .hbm, ⟨13, _⟩ => ⟨S4x2048x16x128, .f32⟩
  | .hbm, ⟨14, _⟩ => ⟨S2048, .i32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S2048, .f32⟩
  | .hbm, ⟨30, _⟩ => ⟨S2048x1, .f32⟩
  | .hbm, ⟨31, _⟩ => ⟨S1x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x64, .f32⟩
  | .hbm, ⟨36, _⟩ => ⟨S2048x1x64, .f32⟩
  | .hbm, ⟨37, _⟩ => ⟨S2048x64, .f32⟩
  | .hbm, ⟨38, _⟩ => ⟨S2048x1x64, .f32⟩
  | .hbm, ⟨39, _⟩ => ⟨S4x2048x16x64, .f32⟩
  | .hbm, ⟨40, _⟩ => ⟨S4x2048x16x64, .f32⟩
  | .hbm, ⟨41, _⟩ => ⟨S1x2048x1x64, .f32⟩
  | .hbm, ⟨42, _⟩ => ⟨S4x2048x16x64, .f32⟩
  | .hbm, ⟨43, _⟩ => ⟨S4x2048x16x64, .f32⟩
  | .hbm, ⟨44, _⟩ => ⟨S1x2048x1x64, .f32⟩
  | .hbm, ⟨45, _⟩ => ⟨S4x2048x16x64, .f32⟩
  | .hbm, ⟨46, _⟩ => ⟨S4x2048x16x64, .f32⟩
  | .hbm, ⟨47, _⟩ => ⟨S4x2048x16x64, .f32⟩
  | .hbm, ⟨48, _⟩ => ⟨S1x2048x1x64, .f32⟩
  | .hbm, ⟨49, _⟩ => ⟨S4x2048x16x64, .f32⟩
  | .hbm, ⟨50, _⟩ => ⟨S4x2048x16x64, .f32⟩
  | .hbm, ⟨51, _⟩ => ⟨S1x2048x1x64, .f32⟩
  | .hbm, ⟨52, _⟩ => ⟨S4x2048x16x64, .f32⟩
  | .hbm, ⟨53, _⟩ => ⟨S4x2048x16x64, .f32⟩
  | .hbm, ⟨54, _⟩ => ⟨S4x2048x16x64, .f32⟩
  | .hbm, ⟨55, _⟩ => ⟨S4x2048x16x128, .f32⟩
  | .hbm, ⟨56, _⟩ => ⟨S8192x2048, .f32⟩
  | .hbm, ⟨57, _⟩ => ⟨S8192x2048, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Kernel7.lean ====
abbrev S4x2048x4096 : Shape := ⟨3, ![4, 2048, 4096]⟩
abbrev S4x4096x20576 : Shape := ⟨3, ![4, 4096, 20576]⟩
abbrev S8192x4096 : Shape := ⟨2, ![8192, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x1x128 : Shape := ⟨4, ![1, 8192, 1, 128]⟩
abbrev S32 : Shape := ⟨1, ![32]⟩
abbrev S1x32 : Shape := ⟨2, ![1, 32]⟩
abbrev S8192x32 : Shape := ⟨2, ![8192, 32]⟩
abbrev S1x8192x1x64 : Shape := ⟨4, ![1, 8192, 1, 64]⟩
abbrev S1x8192x2x64 : Shape := ⟨4, ![1, 8192, 2, 64]⟩
abbrev S1024x4096 : Shape := ⟨2, ![1024, 4096]⟩
abbrev S1x4096x128 : Shape := ⟨3, ![1, 4096, 128]⟩
abbrev S1024x128 : Shape := ⟨2, ![1024, 128]⟩
abbrev S1024x64 : Shape := ⟨2, ![1024, 64]⟩
abbrev S1024x32 : Shape := ⟨2, ![1024, 32]⟩
abbrev S4096x128 : Shape := ⟨2, ![4096, 128]⟩

abbrev nBuf : Space → Nat
  | .hbm => 80
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S8192x4096, .f32⟩
  | .hbm, ⟨3, _⟩ => ⟨S8192x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S2048, .i32⟩
  | .hbm, ⟨12, _⟩ => ⟨S1x2048, .i32⟩
  | .hbm, ⟨13, _⟩ => ⟨S4x2048, .i32⟩
  | .hbm, ⟨14, _⟩ => ⟨S8192, .i32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S8192, .f32⟩
  | .hbm, ⟨30, _⟩ => ⟨S8192x1, .f32⟩
  | .hbm, ⟨31, _⟩ => ⟨S1x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x128, .f32⟩
  | .hbm, ⟨38, _⟩ => ⟨S1x8192x1x128, .f32⟩
  | .hbm, ⟨39, _⟩ => ⟨S1x8192x1x128, .f32⟩
  | .hbm, ⟨40, _⟩ => ⟨S8192x128, .f32⟩
  | .hbm, ⟨41, _⟩ => ⟨S8192x64, .f32⟩
  | .hbm, ⟨42, _⟩ => ⟨S8192x128, .f32⟩
  | .hbm, ⟨43, _⟩ => ⟨S1x8192x1x128, .f32⟩
  | .hbm, ⟨44, _⟩ => ⟨S1x8192x1x128, .f32⟩
  | .hbm, ⟨45, _⟩ => ⟨S8192x128, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8192, .f32⟩
  | .hbm, ⟨61, _⟩ => ⟨S8192x1, .f32⟩
  | .hbm, ⟨62, _⟩ => ⟨S1x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S8192x64, .f32⟩
  | .hbm, ⟨69, _⟩ => ⟨S1x8192x1x64, .f32⟩
  | .hbm, ⟨70, _⟩ => ⟨S1x8192x2x64, .f32⟩
  | .hbm, ⟨71, _⟩ => ⟨S8192x128, .f32⟩
  | .hbm, ⟨72, _⟩ => ⟨S8192x32, .f32⟩
  | .hbm, ⟨73, _⟩ => ⟨S8192x64, .f32⟩
  | .hbm, ⟨74, _⟩ => ⟨S1x8192x1x64, .f32⟩
  | .hbm, ⟨75, _⟩ => ⟨S1x8192x2x64, .f32⟩
  | .hbm, ⟨76, _⟩ => ⟨S8192x128, .f32⟩
  | .hbm, ⟨77, _⟩ => ⟨S8192x64, .f32⟩
  | .hbm, ⟨78, _⟩ => ⟨S8192x64, .bf16⟩
  | .hbm, ⟨79, _⟩ => ⟨S8192x32, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x64, .f32⟩
  | .local _ .vmem, ⟨8, _⟩ => ⟨S1024x64, .f32⟩
  | .local _ .vmem, ⟨9, _⟩ => ⟨S1024x64, .bf16⟩
  | .local _ .vmem, ⟨10, _⟩ => ⟨S1024x64, .bf16⟩
  | .local _ .vmem, ⟨11, _⟩ => ⟨S1024x32, .f32⟩
  | .local _ .vmem, ⟨12, _⟩ => ⟨S1024x32, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66_0 : Ref sig .tc := ⟨.hbm, 77, rfl⟩
abbrev main_v66_1 : Ref sig .tc := ⟨.hbm, 78, rfl⟩
abbrev main_v66_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c160_i32 : BitVec 32 := 160#32
  let v0 : BitVec 32 := Scalar.addi c160_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S4x2048x4096 : Shape := ⟨3, ![4, 2048, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S4x2048x20576 : Shape := ⟨3, ![4, 2048, 20576]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x8192 : Shape := ⟨3, ![4, 2048, 8192]⟩
abbrev S4x2048x1x64 : Shape := ⟨4, ![4, 2048, 1, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S4x2048x1x32 : Shape := ⟨4, ![4, 2048, 1, 32]⟩
abbrev S1x2048x1x32 : Shape := ⟨4, ![1, 2048, 1, 32]⟩
abbrev S8192x64 : Shape := ⟨2, ![8192, 64]⟩
abbrev S8192x32 : Shape := ⟨2, ![8192, 32]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S4x2048x20576, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x4096, .f32⟩
  | .hbm, ⟨12, _⟩ => ⟨S4x2048x8192, .f32⟩
  | .hbm, ⟨13, _⟩ => ⟨S4x2048x1x64, .f32⟩
  | .hbm, ⟨14, _⟩ => ⟨S2048, .i32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x1x32, .f32⟩
  | .hbm, ⟨37, _⟩ => ⟨S2048x32, .f32⟩
  | .hbm, ⟨38, _⟩ => ⟨S2048x1x32, .f32⟩
  | .hbm, ⟨39, _⟩ => ⟨S4x2048x1x32, .f32⟩
  | .hbm, ⟨40, _⟩ => ⟨S4x2048x1x32, .f32⟩
  | .hbm, ⟨41, _⟩ => ⟨S1x2048x1x32, .f32⟩
  | .hbm, ⟨42, _⟩ => ⟨S4x2048x1x32, .f32⟩
  | .hbm, ⟨43, _⟩ => ⟨S4x2048x1x32, .f32⟩
  | .hbm, ⟨44, _⟩ => ⟨S1x2048x1x32, .f32⟩
  | .hbm, ⟨45, _⟩ => ⟨S4x2048x1x32, .f32⟩
  | .hbm, ⟨46, _⟩ => ⟨S4x2048x1x32, .f32⟩
  | .hbm, ⟨47, _⟩ => ⟨S4x2048x1x32, .f32⟩
  | .hbm, ⟨48, _⟩ => ⟨S1x2048x1x32, .f32⟩
  | .hbm, ⟨49, _⟩ => ⟨S4x2048x1x32, .f32⟩
  | .hbm, ⟨50, _⟩ => ⟨S4x2048x1x32, .f32⟩
  | .hbm, ⟨51, _⟩ => ⟨S1x2048x1x32, .f32⟩
  | .hbm, ⟨52, _⟩ => ⟨S4x2048x1x32, .f32⟩
  | .hbm, ⟨53, _⟩ => ⟨S4x2048x1x32, .f32⟩
  | .hbm, ⟨54, _⟩ => ⟨S4x2048x1x32, .f32⟩
  | .hbm, ⟨55, _⟩ => ⟨S4x2048x1x64, .f32⟩
  | .hbm, ⟨56, _⟩ => ⟨S4x2048x64, .f32⟩
  | .hbm, ⟨57, _⟩ => ⟨S8192x64, .f32⟩
  | .hbm, ⟨58, _⟩ => ⟨S8192x64, .bf16⟩
  | .hbm, ⟨59, _⟩ => ⟨S8192x32, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩

abbrev nD : Nat := 1
abbrev τ : Topo := Topo.v7x

variable {F : FTy → Type} [FloatOps F]
-- ==== Kernel8.lean ====
abbrev S4x2048x4096 : Shape := ⟨3, ![4, 2048, 4096]⟩
abbrev S4x4096x20576 : Shape := ⟨3, ![4, 4096, 20576]⟩
abbrev S8192x4096 : Shape := ⟨2, ![8192, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x1x128 : Shape := ⟨4, ![1, 8192, 1, 128]⟩
abbrev S32 : Shape := ⟨1, ![32]⟩
abbrev S1x32 : Shape := ⟨2, ![1, 32]⟩
abbrev S8192x32 : Shape := ⟨2, ![8192, 32]⟩
abbrev S1x8192x1x64 : Shape := ⟨4, ![1, 8192, 1, 64]⟩
abbrev S1x8192x2x64 : Shape := ⟨4, ![1, 8192, 2, 64]⟩
abbrev S8192x2048 : Shape := ⟨2, ![8192, 2048]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩

abbrev nBuf : Space → Nat
  | .hbm => 78
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S8192x4096, .f32⟩
  | .hbm, ⟨3, _⟩ => ⟨S8192x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S2048, .i32⟩
  | .hbm, ⟨12, _⟩ => ⟨S1x2048, .i32⟩
  | .hbm, ⟨13, _⟩ => ⟨S4x2048, .i32⟩
  | .hbm, ⟨14, _⟩ => ⟨S8192, .i32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S8192, .f32⟩
  | .hbm, ⟨30, _⟩ => ⟨S8192x1, .f32⟩
  | .hbm, ⟨31, _⟩ => ⟨S1x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x128, .f32⟩
  | .hbm, ⟨38, _⟩ => ⟨S1x8192x1x128, .f32⟩
  | .hbm, ⟨39, _⟩ => ⟨S1x8192x1x128, .f32⟩
  | .hbm, ⟨40, _⟩ => ⟨S8192x128, .f32⟩
  | .hbm, ⟨41, _⟩ => ⟨S8192x64, .f32⟩
  | .hbm, ⟨42, _⟩ => ⟨S8192x128, .f32⟩
  | .hbm, ⟨43, _⟩ => ⟨S1x8192x1x128, .f32⟩
  | .hbm, ⟨44, _⟩ => ⟨S1x8192x1x128, .f32⟩
  | .hbm, ⟨45, _⟩ => ⟨S8192x128, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8192, .f32⟩
  | .hbm, ⟨61, _⟩ => ⟨S8192x1, .f32⟩
  | .hbm, ⟨62, _⟩ => ⟨S1x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S8192x64, .f32⟩
  | .hbm, ⟨69, _⟩ => ⟨S1x8192x1x64, .f32⟩
  | .hbm, ⟨70, _⟩ => ⟨S1x8192x2x64, .f32⟩
  | .hbm, ⟨71, _⟩ => ⟨S8192x128, .f32⟩
  | .hbm, ⟨72, _⟩ => ⟨S8192x32, .f32⟩
  | .hbm, ⟨73, _⟩ => ⟨S8192x64, .f32⟩
  | .hbm, ⟨74, _⟩ => ⟨S1x8192x1x64, .f32⟩
  | .hbm, ⟨75, _⟩ => ⟨S1x8192x2x64, .f32⟩
  | .hbm, ⟨76, _⟩ => ⟨S8192x128, .f32⟩
  | .hbm, ⟨77, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4x2048x4096 : Shape := ⟨3, ![4, 2048, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S4x2048x20576 : Shape := ⟨3, ![4, 2048, 20576]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x8192 : Shape := ⟨3, ![4, 2048, 8192]⟩
abbrev S4x2048x16x128 : Shape := ⟨4, ![4, 2048, 16, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x16x64 : Shape := ⟨4, ![4, 2048, 16, 64]⟩
abbrev S1x2048x1x64 : Shape := ⟨4, ![1, 2048, 1, 64]⟩
abbrev S8192x2048 : Shape := ⟨2, ![8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S4x2048x20576, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x4096, .f32⟩
  | .hbm, ⟨12, _⟩ => ⟨S4x2048x8192, .f32⟩
  | .hbm, ⟨13, _⟩ => ⟨S4x2048x16x128, .f32⟩
  | .hbm, ⟨14, _⟩ => ⟨S2048, .i32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S2048, .f32⟩
  | .hbm, ⟨30, _⟩ => ⟨S2048x1, .f32⟩
  | .hbm, ⟨31, _⟩ => ⟨S1x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x64, .f32⟩
  | .hbm, ⟨36, _⟩ => ⟨S2048x1x64, .f32⟩
  | .hbm, ⟨37, _⟩ => ⟨S2048x64, .f32⟩
  | .hbm, ⟨38, _⟩ => ⟨S2048x1x64, .f32⟩
  | .hbm, ⟨39, _⟩ => ⟨S4x2048x16x64, .f32⟩
  | .hbm, ⟨40, _⟩ => ⟨S4x2048x16x64, .f32⟩
  | .hbm, ⟨41, _⟩ => ⟨S1x2048x1x64, .f32⟩
  | .hbm, ⟨42, _⟩ => ⟨S4x2048x16x64, .f32⟩
  | .hbm, ⟨43, _⟩ => ⟨S4x2048x16x64, .f32⟩
  | .hbm, ⟨44, _⟩ => ⟨S1x2048x1x64, .f32⟩
  | .hbm, ⟨45, _⟩ => ⟨S4x2048x16x64, .f32⟩
  | .hbm, ⟨46, _⟩ => ⟨S4x2048x16x64, .f32⟩
  | .hbm, ⟨47, _⟩ => ⟨S4x2048x16x64, .f32⟩
  | .hbm, ⟨48, _⟩ => ⟨S1x2048x1x64, .f32⟩
  | .hbm, ⟨49, _⟩ => ⟨S4x2048x16x64, .f32⟩
  | .hbm, ⟨50, _⟩ => ⟨S4x2048x16x64, .f32⟩
  | .hbm, ⟨51, _⟩ => ⟨S1x2048x1x64, .f32⟩
  | .hbm, ⟨52, _⟩ => ⟨S4x2048x16x64, .f32⟩
  | .hbm, ⟨53, _⟩ => ⟨S4x2048x16x64, .f32⟩
  | .hbm, ⟨54, _⟩ => ⟨S4x2048x16x64, .f32⟩
  | .hbm, ⟨55, _⟩ => ⟨S4x2048x16x128, .f32⟩
  | .hbm, ⟨56, _⟩ => ⟨S8192x2048, .f32⟩
  | .hbm, ⟨57, _⟩ => ⟨S8192x2048, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Kernel9.lean ====
abbrev S4x2048x4096 : Shape := ⟨3, ![4, 2048, 4096]⟩
abbrev S4x4096x20576 : Shape := ⟨3, ![4, 4096, 20576]⟩
abbrev S8192x4096 : Shape := ⟨2, ![8192, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x1x128 : Shape := ⟨4, ![1, 8192, 1, 128]⟩
abbrev S32 : Shape := ⟨1, ![32]⟩
abbrev S1x32 : Shape := ⟨2, ![1, 32]⟩
abbrev S8192x32 : Shape := ⟨2, ![8192, 32]⟩
abbrev S1x8192x1x64 : Shape := ⟨4, ![1, 8192, 1, 64]⟩
abbrev S1x8192x2x64 : Shape := ⟨4, ![1, 8192, 2, 64]⟩
abbrev S8192x2048 : Shape := ⟨2, ![8192, 2048]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S4096x512 : Shape := ⟨2, ![4096, 512]⟩

abbrev nBuf : Space → Nat
  | .hbm => 78
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S8192x4096, .f32⟩
  | .hbm, ⟨3, _⟩ => ⟨S8192x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S2048, .i32⟩
  | .hbm, ⟨12, _⟩ => ⟨S1x2048, .i32⟩
  | .hbm, ⟨13, _⟩ => ⟨S4x2048, .i32⟩
  | .hbm, ⟨14, _⟩ => ⟨S8192, .i32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S8192, .f32⟩
  | .hbm, ⟨30, _⟩ => ⟨S8192x1, .f32⟩
  | .hbm, ⟨31, _⟩ => ⟨S1x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x128, .f32⟩
  | .hbm, ⟨38, _⟩ => ⟨S1x8192x1x128, .f32⟩
  | .hbm, ⟨39, _⟩ => ⟨S1x8192x1x128, .f32⟩
  | .hbm, ⟨40, _⟩ => ⟨S8192x128, .f32⟩
  | .hbm, ⟨41, _⟩ => ⟨S8192x64, .f32⟩
  | .hbm, ⟨42, _⟩ => ⟨S8192x128, .f32⟩
  | .hbm, ⟨43, _⟩ => ⟨S1x8192x1x128, .f32⟩
  | .hbm, ⟨44, _⟩ => ⟨S1x8192x1x128, .f32⟩
  | .hbm, ⟨45, _⟩ => ⟨S8192x128, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8192, .f32⟩
  | .hbm, ⟨61, _⟩ => ⟨S8192x1, .f32⟩
  | .hbm, ⟨62, _⟩ => ⟨S1x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S8192x64, .f32⟩
  | .hbm, ⟨69, _⟩ => ⟨S1x8192x1x64, .f32⟩
  | .hbm, ⟨70, _⟩ => ⟨S1x8192x2x64, .f32⟩
  | .hbm, ⟨71, _⟩ => ⟨S8192x128, .f32⟩
  | .hbm, ⟨72, _⟩ => ⟨S8192x32, .f32⟩
  | .hbm, ⟨73, _⟩ => ⟨S8192x64, .f32⟩
  | .hbm, ⟨74, _⟩ => ⟨S1x8192x1x64, .f32⟩
  | .hbm, ⟨75, _⟩ => ⟨S1x8192x2x64, .f32⟩
  | .hbm, ⟨76, _⟩ => ⟨S8192x128, .f32⟩
  | .hbm, ⟨77, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4x2048x4096 : Shape := ⟨3, ![4, 2048, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S4x2048x20576 : Shape := ⟨3, ![4, 2048, 20576]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x8192 : Shape := ⟨3, ![4, 2048, 8192]⟩
abbrev S4x2048x32x64 : Shape := ⟨4, ![4, 2048, 32, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S4x2048x32x32 : Shape := ⟨4, ![4, 2048, 32, 32]⟩
abbrev S1x2048x1x32 : Shape := ⟨4, ![1, 2048, 1, 32]⟩
abbrev S8192x2048 : Shape := ⟨2, ![8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S4x2048x20576, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x4096, .f32⟩
  | .hbm, ⟨12, _⟩ => ⟨S4x2048x8192, .f32⟩
  | .hbm, ⟨13, _⟩ => ⟨S4x2048x32x64, .f32⟩
  | .hbm, ⟨14, _⟩ => ⟨S2048, .i32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x1x32, .f32⟩
  | .hbm, ⟨37, _⟩ => ⟨S2048x32, .f32⟩
  | .hbm, ⟨38, _⟩ => ⟨S2048x1x32, .f32⟩
  | .hbm, ⟨39, _⟩ => ⟨S4x2048x32x32, .f32⟩
  | .hbm, ⟨40, _⟩ => ⟨S4x2048x32x32, .f32⟩
  | .hbm, ⟨41, _⟩ => ⟨S1x2048x1x32, .f32⟩
  | .hbm, ⟨42, _⟩ => ⟨S4x2048x32x32, .f32⟩
  | .hbm, ⟨43, _⟩ => ⟨S4x2048x32x32, .f32⟩
  | .hbm, ⟨44, _⟩ => ⟨S1x2048x1x32, .f32⟩
  | .hbm, ⟨45, _⟩ => ⟨S4x2048x32x32, .f32⟩
  | .hbm, ⟨46, _⟩ => ⟨S4x2048x32x32, .f32⟩
  | .hbm, ⟨47, _⟩ => ⟨S4x2048x32x32, .f32⟩
  | .hbm, ⟨48, _⟩ => ⟨S1x2048x1x32, .f32⟩
  | .hbm, ⟨49, _⟩ => ⟨S4x2048x32x32, .f32⟩
  | .hbm, ⟨50, _⟩ => ⟨S4x2048x32x32, .f32⟩
  | .hbm, ⟨51, _⟩ => ⟨S1x2048x1x32, .f32⟩
  | .hbm, ⟨52, _⟩ => ⟨S4x2048x32x32, .f32⟩
  | .hbm, ⟨53, _⟩ => ⟨S4x2048x32x32, .f32⟩
  | .hbm, ⟨54, _⟩ => ⟨S4x2048x32x32, .f32⟩
  | .hbm, ⟨55, _⟩ => ⟨S4x2048x32x64, .f32⟩
  | .hbm, ⟨56, _⟩ => ⟨S8192x2048, .f32⟩
  | .hbm, ⟨57, _⟩ => ⟨S8192x2048, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Kernel10.lean ====
abbrev S128x1x4096 : Shape := ⟨3, ![128, 1, 4096]⟩
abbrev S4x4096x20576 : Shape := ⟨3, ![4, 4096, 20576]⟩
abbrev S128x4096 : Shape := ⟨2, ![128, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S128x2048 : Shape := ⟨2, ![128, 2048]⟩
abbrev S1x4096x512 : Shape := ⟨3, ![1, 4096, 512]⟩
abbrev S128x512 : Shape := ⟨2, ![128, 512]⟩
abbrev S4096x512 : Shape := ⟨2, ![4096, 512]⟩

abbrev nBuf : Space → Nat
  | .hbm => 13
  | .vmem => 7
  | .smem => 0
  | _ => 0

abbrev bufTy : (tb : Table) → Fin (tcTables nBuf tb) → BufTy
  | .hbm, ⟨0, _⟩ => ⟨S128x1x4096, .f32⟩
  | .hbm, ⟨1, _⟩ => ⟨S4x4096x20576, .f32⟩
  | .hbm, ⟨2, _⟩ => ⟨S128x4096, .f32⟩
  | .hbm, ⟨3, _⟩ => ⟨S128x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S128x2048, .f32⟩
  | .hbm, ⟨12, _⟩ => ⟨S128x2048, .bf16⟩
  | .local _ .vmem, ⟨0, _⟩ => ⟨S128x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S128x512, .f32⟩
  | .local _ .vmem, ⟨4, _⟩ => ⟨S128x512, .f32⟩
  | .local _ .vmem, ⟨5, _⟩ => ⟨S128x512, .bf16⟩
  | .local _ .vmem, ⟨6, _⟩ => ⟨S128x512, .bf16⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S128x1x4096 : Shape := ⟨3, ![128, 1, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S128x1x20576 : Shape := ⟨3, ![128, 1, 20576]⟩
abbrev S128x1x2048 : Shape := ⟨3, ![128, 1, 2048]⟩
abbrev S128x1x64 : Shape := ⟨3, ![128, 1, 64]⟩
abbrev S128x1x32 : Shape := ⟨3, ![128, 1, 32]⟩
abbrev S128x1x8192 : Shape := ⟨3, ![128, 1, 8192]⟩
abbrev S128x2048 : Shape := ⟨2, ![128, 2048]⟩

abbrev nBuf : Space → Nat
  | .hbm => 15
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S128x1x20576, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S128x1x64, .f32⟩
  | .hbm, ⟨10, _⟩ => ⟨S128x1x32, .f32⟩
  | .hbm, ⟨11, _⟩ => ⟨S128x1x4096, .f32⟩
  | .hbm, ⟨12, _⟩ => ⟨S128x1x8192, .f32⟩
  | .hbm, ⟨13, _⟩ => ⟨S128x2048, .f32⟩
  | .hbm, ⟨14, _⟩ => ⟨S128x2048, .bf16⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel11.lean ====
abbrev S128x1x4096 : Shape := ⟨3, ![128, 1, 4096]⟩
abbrev S4x4096x20576 : Shape := ⟨3, ![4, 4096, 20576]⟩
abbrev S128x4096 : Shape := ⟨2, ![128, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S128x2048 : Shape := ⟨2, ![128, 2048]⟩
abbrev S1x4096x512 : Shape := ⟨3, ![1, 4096, 512]⟩
abbrev S128x512 : Shape := ⟨2, ![128, 512]⟩
abbrev S4096x512 : Shape := ⟨2, ![4096, 512]⟩

abbrev nBuf : Space → Nat
  | .hbm => 12
  | .vmem => 7
  | .smem => 0
  | _ => 0

abbrev bufTy : (tb : Table) → Fin (tcTables nBuf tb) → BufTy
  | .hbm, ⟨0, _⟩ => ⟨S128x1x4096, .f32⟩
  | .hbm, ⟨1, _⟩ => ⟨S4x4096x20576, .f32⟩
  | .hbm, ⟨2, _⟩ => ⟨S128x4096, .f32⟩
  | .hbm, ⟨3, _⟩ => ⟨S128x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S128x2048, .f32⟩
  | .local _ .vmem, ⟨0, _⟩ => ⟨S128x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S128x512, .f32⟩
  | .local _ .vmem, ⟨6, _⟩ => ⟨S128x512, .f32⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c3_i32 : BitVec 32 := 3#32
  let c0_i32 : BitVec 32 := 0#32
  let c0_i32_0 : BitVec 32 := 0#32
  ![c3_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S128x1x4096 : Shape := ⟨3, ![128, 1, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S128x1x20576 : Shape := ⟨3, ![128, 1, 20576]⟩
abbrev S128x1x2048 : Shape := ⟨3, ![128, 1, 2048]⟩
abbrev S128x1x64 : Shape := ⟨3, ![128, 1, 64]⟩
abbrev S128x1x32 : Shape := ⟨3, ![128, 1, 32]⟩
abbrev S128x1x8192 : Shape := ⟨3, ![128, 1, 8192]⟩
abbrev S_ : Shape := ⟨0, ![]⟩
abbrev S128x2048 : Shape := ⟨2, ![128, 2048]⟩

abbrev nBuf : Space → Nat
  | .hbm => 25
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S128x1x20576, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S128x1x64, .f32⟩
  | .hbm, ⟨10, _⟩ => ⟨S128x1x32, .f32⟩
  | .hbm, ⟨11, _⟩ => ⟨S128x1x4096, .f32⟩
  | .hbm, ⟨12, _⟩ => ⟨S128x1x8192, .f32⟩
  | .hbm, ⟨13, _⟩ => ⟨S128x1x2048, .f32⟩
  | .hbm, ⟨14, _⟩ => ⟨S128x1x2048, .f32⟩
  | .hbm, ⟨15, _⟩ => ⟨S128x1x2048, .f32⟩
  | .hbm, ⟨16, _⟩ => ⟨S128x1x2048, .f32⟩
  | .hbm, ⟨17, _⟩ => ⟨S_, .f32⟩
  | .hbm, ⟨18, _⟩ => ⟨S128x1x2048, .f32⟩
  | .hbm, ⟨19, _⟩ => ⟨S128x1x2048, .f32⟩
  | .hbm, ⟨20, _⟩ => ⟨S_, .f32⟩
  | .hbm, ⟨21, _⟩ => ⟨S128x1x2048, .f32⟩
  | .hbm, ⟨22, _⟩ => ⟨S128x1x2048, .f32⟩
  | .hbm, ⟨23, _⟩ => ⟨S128x1x2048, .f32⟩
  | .hbm, ⟨24, _⟩ => ⟨S128x2048, .f32⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel12.lean ====
abbrev S128x1x4096 : Shape := ⟨3, ![128, 1, 4096]⟩
abbrev S4x4096x20576 : Shape := ⟨3, ![4, 4096, 20576]⟩
abbrev S128x4096 : Shape := ⟨2, ![128, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S128 : Shape := ⟨1, ![128]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S1x128x1x128 : Shape := ⟨4, ![1, 128, 1, 128]⟩
abbrev S32 : Shape := ⟨1, ![32]⟩
abbrev S1x32 : Shape := ⟨2, ![1, 32]⟩
abbrev S128x32 : Shape := ⟨2, ![128, 32]⟩
abbrev S1x128x1x64 : Shape := ⟨4, ![1, 128, 1, 64]⟩
abbrev S1x128x2x64 : Shape := ⟨4, ![1, 128, 2, 64]⟩
abbrev S1x4096x128 : Shape := ⟨3, ![1, 4096, 128]⟩
abbrev S4096x128 : Shape := ⟨2, ![4096, 128]⟩

abbrev nBuf : Space → Nat
  | .hbm => 78
  | .vmem => 7
  | .smem => 0
  | _ => 0

abbrev bufTy : (tb : Table) → Fin (tcTables nBuf tb) → BufTy
  | .hbm, ⟨0, _⟩ => ⟨S128x1x4096, .f32⟩
  | .hbm, ⟨1, _⟩ => ⟨S4x4096x20576, .f32⟩
  | .hbm, ⟨2, _⟩ => ⟨S128x4096, .f32⟩
  | .hbm, ⟨3, _⟩ => ⟨S128x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S_, .i32⟩
  | .hbm, ⟨12, _⟩ => ⟨S128, .i32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S128, .f32⟩
  | .hbm, ⟨28, _⟩ => ⟨S128x1, .f32⟩
  | .hbm, ⟨29, _⟩ => ⟨S1x64, .f32⟩
  | .hbm, ⟨30, _⟩ => ⟨S128x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S128x64, .f32⟩
  | .hbm, ⟨35, _⟩ => ⟨S128x128, .f32⟩
  | .hbm, ⟨36, _⟩ => ⟨S1x128x1x128, .f32⟩
  | .hbm, ⟨37, _⟩ => ⟨S1x128x1x128, .f32⟩
  | .hbm, ⟨38, _⟩ => ⟨S128x128, .f32⟩
  | .hbm, ⟨39, _⟩ => ⟨S128x64, .f32⟩
  | .hbm, ⟨40, _⟩ => ⟨S128x128, .f32⟩
  | .hbm, ⟨41, _⟩ => ⟨S1x128x1x128, .f32⟩
  | .hbm, ⟨42, _⟩ => ⟨S1x128x1x128, .f32⟩
  | .hbm, ⟨43, _⟩ => ⟨S128x128, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S128, .f32⟩
  | .hbm, ⟨59, _⟩ => ⟨S128x1, .f32⟩
  | .hbm, ⟨60, _⟩ => ⟨S1x32, .f32⟩
  | .hbm, ⟨61, _⟩ => ⟨S128x32, .f32⟩
  | .hbm, ⟨62, _⟩ => ⟨S128x32, .f32⟩
  | .hbm, ⟨63, _⟩ => ⟨S128x32, .f32⟩
  | .hbm, ⟨64, _⟩ => ⟨S128x32, .f32⟩
  | .hbm, ⟨65, _⟩ => ⟨S128x32, .f32⟩
  | .hbm, ⟨66, _⟩ => ⟨S128x64, .f32⟩
  | .hbm, ⟨67, _⟩ => ⟨S1x128x1x64, .f32⟩
  | .hbm, ⟨68, _⟩ => ⟨S1x128x2x64, .f32⟩
  | .hbm, ⟨69, _⟩ => ⟨S128x128, .f32⟩
  | .hbm, ⟨70, _⟩ => ⟨S128x32, .f32⟩
  | .hbm, ⟨71, _⟩ => ⟨S128x64, .f32⟩
  | .hbm, ⟨72, _⟩ => ⟨S1x128x1x64, .f32⟩
  | .hbm, ⟨73, _⟩ => ⟨S1x128x2x64, .f32⟩
  | .hbm, ⟨74, _⟩ => ⟨S128x128, .f32⟩
  | .hbm, ⟨75, _⟩ => ⟨S128x64, .f32⟩
  | .hbm, ⟨76, _⟩ => ⟨S128x64, .bf16⟩
  | .hbm, ⟨77, _⟩ => ⟨S128x32, .f32⟩
  | .local _ .vmem, ⟨0, _⟩ => ⟨S128x4096, .bf16⟩
  | .local _ .vmem, ⟨1, _⟩ => ⟨S1x4096x128, .bf16⟩
  | .local _ .vmem, ⟨2, _⟩ => ⟨S128x128, .f32⟩
  | .local _ .vmem, ⟨3, _⟩ => ⟨S128x128, .f32⟩
  | .local _ .vmem, ⟨4, _⟩ => ⟨S128x64, .f32⟩
  | .local _ .vmem, ⟨5, _⟩ => ⟨S128x64, .bf16⟩
  | .local _ .vmem, ⟨6, _⟩ => ⟨S128x32, .f32⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63_0 : Ref sig .tc := ⟨.hbm, 75, rfl⟩
abbrev main_v63_1 : Ref sig .tc := ⟨.hbm, 76, rfl⟩
abbrev main_v63_2 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c160_i32 : BitVec 32 := 160#32
  let v0 : BitVec 32 := Scalar.addi c160_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference12Ideal.lean ====
abbrev S128x1x4096 : Shape := ⟨3, ![128, 1, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S128x1x20576 : Shape := ⟨3, ![128, 1, 20576]⟩
abbrev S128x1x2048 : Shape := ⟨3, ![128, 1, 2048]⟩
abbrev S128x1x64 : Shape := ⟨3, ![128, 1, 64]⟩
abbrev S128x1x32 : Shape := ⟨3, ![128, 1, 32]⟩
abbrev S128x1x8192 : Shape := ⟨3, ![128, 1, 8192]⟩
abbrev S128x1x1x64 : Shape := ⟨4, ![128, 1, 1, 64]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S128x1x1x32 : Shape := ⟨4, ![128, 1, 1, 32]⟩
abbrev S1x1x1x32 : Shape := ⟨4, ![1, 1, 1, 32]⟩
abbrev S128x64 : Shape := ⟨2, ![128, 64]⟩
abbrev S128x32 : Shape := ⟨2, ![128, 32]⟩

abbrev nBuf : Space → Nat
  | .hbm => 62
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S128x1x20576, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S128x1x64, .f32⟩
  | .hbm, ⟨10, _⟩ => ⟨S128x1x32, .f32⟩
  | .hbm, ⟨11, _⟩ => ⟨S128x1x4096, .f32⟩
  | .hbm, ⟨12, _⟩ => ⟨S128x1x8192, .f32⟩
  | .hbm, ⟨13, _⟩ => ⟨S128x1x1x64, .f32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S1, .f32⟩
  | .hbm, ⟨33, _⟩ => ⟨S1x1, .f32⟩
  | .hbm, ⟨34, _⟩ => ⟨S1x32, .f32⟩
  | .hbm, ⟨35, _⟩ => ⟨S1x32, .f32⟩
  | .hbm, ⟨36, _⟩ => ⟨S1x32, .f32⟩
  | .hbm, ⟨37, _⟩ => ⟨S1x32, .f32⟩
  | .hbm, ⟨38, _⟩ => ⟨S1x1x32, .f32⟩
  | .hbm, ⟨39, _⟩ => ⟨S1x32, .f32⟩
  | .hbm, ⟨40, _⟩ => ⟨S1x1x32, .f32⟩
  | .hbm, ⟨41, _⟩ => ⟨S128x1x1x32, .f32⟩
  | .hbm, ⟨42, _⟩ => ⟨S128x1x1x32, .f32⟩
  | .hbm, ⟨43, _⟩ => ⟨S1x1x1x32, .f32⟩
  | .hbm, ⟨44, _⟩ => ⟨S128x1x1x32, .f32⟩
  | .hbm, ⟨45, _⟩ => ⟨S128x1x1x32, .f32⟩
  | .hbm, ⟨46, _⟩ => ⟨S1x1x1x32, .f32⟩
  | .hbm, ⟨47, _⟩ => ⟨S128x1x1x32, .f32⟩
  | .hbm, ⟨48, _⟩ => ⟨S128x1x1x32, .f32⟩
  | .hbm, ⟨49, _⟩ => ⟨S128x1x1x32, .f32⟩
  | .hbm, ⟨50, _⟩ => ⟨S1x1x1x32, .f32⟩
  | .hbm, ⟨51, _⟩ => ⟨S128x1x1x32, .f32⟩
  | .hbm, ⟨52, _⟩ => ⟨S128x1x1x32, .f32⟩
  | .hbm, ⟨53, _⟩ => ⟨S1x1x1x32, .f32⟩
  | .hbm, ⟨54, _⟩ => ⟨S128x1x1x32, .f32⟩
  | .hbm, ⟨55, _⟩ => ⟨S128x1x1x32, .f32⟩
  | .hbm, ⟨56, _⟩ => ⟨S128x1x1x32, .f32⟩
  | .hbm, ⟨57, _⟩ => ⟨S128x1x1x64, .f32⟩
  | .hbm, ⟨58, _⟩ => ⟨S128x1x64, .f32⟩
  | .hbm, ⟨59, _⟩ => ⟨S128x64, .f32⟩
  | .hbm, ⟨60, _⟩ => ⟨S128x64, .bf16⟩
  | .hbm, ⟨61, _⟩ => ⟨S128x32, .f32⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩

abbrev nD : Nat := 1
abbrev τ : Topo := Topo.v7x

variable {F : FTy → Type} [FloatOps F]
-- ==== Kernel13.lean ====
abbrev S128x1x4096 : Shape := ⟨3, ![128, 1, 4096]⟩
abbrev S4x4096x20576 : Shape := ⟨3, ![4, 4096, 20576]⟩
abbrev S128x4096 : Shape := ⟨2, ![128, 4096]⟩
abbrev S4x4096x8192 : Shape := ⟨3, ![4, 4096, 8192]⟩
abbrev S4x4096x12288 : Shape := ⟨3, ![4, 4096, 12288]⟩
abbrev S4x4096x96 : Shape := ⟨3, ![4, 4096, 96]⟩
abbrev S_ : Shape := ⟨0, ![]⟩
abbrev S4x4096x32 : Shape := ⟨3, ![4, 4096, 32]⟩
abbrev S4x4096x20608 : Shape := ⟨3, ![4, 4096, 20608]⟩
abbrev S128 : Shape := ⟨1, ![128]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S1x128x1x128 : Shape := ⟨4, ![1, 128, 1, 128]⟩
abbrev S32 : Shape := ⟨1, ![32]⟩
abbrev S1x32 : Shape := ⟨2, ![1, 32]⟩
abbrev S128x32 : Shape := ⟨2, ![128, 32]⟩
abbrev S1x128x1x64 : Shape := ⟨4, ![1, 128, 1, 64]⟩
abbrev S1x128x2x64 : Shape := ⟨4, ![1, 128, 2, 64]⟩
abbrev S128x2048 : Shape := ⟨2, ![128, 2048]⟩
abbrev S1x4096x512 : Shape := ⟨3, ![1, 4096, 512]⟩
abbrev S128x512 : Shape := ⟨2, ![128, 512]⟩
abbrev S4096x512 : Shape := ⟨2, ![4096, 512]⟩

abbrev nBuf : Space → Nat
  | .hbm => 77
  | .vmem => 9
  | .smem => 0
  | _ => 0

abbrev bufTy : (tb : Table) → Fin (tcTables nBuf tb) → BufTy
  | .hbm, ⟨0, _⟩ => ⟨S128x1x4096, .f32⟩
  | .hbm, ⟨1, _⟩ => ⟨S4x4096x20576, .f32⟩
  | .hbm, ⟨2, _⟩ => ⟨S128x4096, .f32⟩
  | .hbm, ⟨3, _⟩ => ⟨S128x4096, .bf16⟩
  | .hbm, ⟨4, _⟩ => ⟨S4x4096x8192, .f32⟩
  | .hbm, ⟨5, _⟩ => ⟨S4x4096x12288, .f32⟩
  | .hbm, ⟨6, _⟩ => ⟨S4x4096x96, .f32⟩
  | .hbm, ⟨7, _⟩ => ⟨S_, .f32⟩
  | .hbm, ⟨8, _⟩ => ⟨S4x4096x32, .f32⟩
  | .hbm, ⟨9, _⟩ => ⟨S4x4096x20608, .f32⟩
  | .hbm, ⟨10, _⟩ => ⟨S4x4096x20608, .bf16⟩
  | .hbm, ⟨11, _⟩ => ⟨S_, .i32⟩
  | .hbm, ⟨12, _⟩ => ⟨S128, .i32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S128, .f32⟩
  | .hbm, ⟨28, _⟩ => ⟨S128x1, .f32⟩
  | .hbm, ⟨29, _⟩ => ⟨S1x64, .f32⟩
  | .hbm, ⟨30, _⟩ => ⟨S128x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S128x64, .f32⟩
  | .hbm, ⟨35, _⟩ => ⟨S128x128, .f32⟩
  | .hbm, ⟨36, _⟩ => ⟨S1x128x1x128, .f32⟩
  | .hbm, ⟨37, _⟩ => ⟨S1x128x1x128, .f32⟩
  | .hbm, ⟨38, _⟩ => ⟨S128x128, .f32⟩
  | .hbm, ⟨39, _⟩ => ⟨S128x64, .f32⟩
  | .hbm, ⟨40, _⟩ => ⟨S128x128, .f32⟩
  | .hbm, ⟨41, _⟩ => ⟨S1x128x1x128, .f32⟩
  | .hbm, ⟨42, _⟩ => ⟨S1x128x1x128, .f32⟩
  | .hbm, ⟨43, _⟩ => ⟨S128x128, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S128, .f32⟩
  | .hbm, ⟨59, _⟩ => ⟨S128x1, .f32⟩
  | .hbm, ⟨60, _⟩ => ⟨S1x32, .f32⟩
  | .hbm, ⟨61, _⟩ => ⟨S128x32, .f32⟩
  | .hbm, ⟨62, _⟩ => ⟨S128x32, .f32⟩
  | .hbm, ⟨63, _⟩ => ⟨S128x32, .f32⟩
  | .hbm, ⟨64, _⟩ => ⟨S128x32, .f32⟩
  | .hbm, ⟨65, _⟩ => ⟨S128x32, .f32⟩
  | .hbm, ⟨66, _⟩ => ⟨S128x64, .f32⟩
  | .hbm, ⟨67, _⟩ => ⟨S1x128x1x64, .f32⟩
  | .hbm, ⟨68, _⟩ => ⟨S1x128x2x64, .f32⟩
  | .hbm, ⟨69, _⟩ => ⟨S128x128, .f32⟩
  | .hbm, ⟨70, _⟩ => ⟨S128x32, .f32⟩
  | .hbm, ⟨71, _⟩ => ⟨S128x64, .f32⟩
  | .hbm, ⟨72, _⟩ => ⟨S1x128x1x64, .f32⟩
  | .hbm, ⟨73, _⟩ => ⟨S1x128x2x64, .f32⟩
  | .hbm, ⟨74, _⟩ => ⟨S128x128, .f32⟩
  | .hbm, ⟨75, _⟩ => ⟨S128x2048, .f32⟩
  | .hbm, ⟨76, _⟩ => ⟨S128x2048, .bf16⟩
  | .local _ .vmem, ⟨0, _⟩ => ⟨S128x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S128x128, .f32⟩
  | .local _ .vmem, ⟨4, _⟩ => ⟨S128x128, .f32⟩
  | .local _ .vmem, ⟨5, _⟩ => ⟨S128x512, .f32⟩
  | .local _ .vmem, ⟨6, _⟩ => ⟨S128x512, .f32⟩
  | .local _ .vmem, ⟨7, _⟩ => ⟨S128x512, .bf16⟩
  | .local _ .vmem, ⟨8, _⟩ => ⟨S128x512, .bf16⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63_0 : Ref sig .tc := ⟨.hbm, 75, rfl⟩
abbrev main_v63_1 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let c0_i32 : BitVec 32 := 0#32
  let c0_i32_0 : BitVec 32 := 0#32
  ![c3_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S128x1x4096 : Shape := ⟨3, ![128, 1, 4096]⟩
abbrev S4x4096x20576 : Shape := ⟨3, ![4, 4096, 20576]⟩
abbrev S1x4096x20576 : Shape := ⟨3, ![1, 4096, 20576]⟩
abbrev S4096x20576 : Shape := ⟨2, ![4096, 20576]⟩
abbrev S128x1x20576 : Shape := ⟨3, ![128, 1, 20576]⟩
abbrev S128x1x2048 : Shape := ⟨3, ![128, 1, 2048]⟩
abbrev S128x1x64 : Shape := ⟨3, ![128, 1, 64]⟩
abbrev S128x1x32 : Shape := ⟨3, ![128, 1, 32]⟩
abbrev S128x1x8192 : Shape := ⟨3, ![128, 1, 8192]⟩
abbrev S128x1x16x128 : Shape := ⟨4, ![128, 1, 16, 128]⟩
abbrev S1 : Shape := ⟨1, ![1]⟩
abbrev S_ : Shape := ⟨0, ![]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S128x1x16x64 : Shape := ⟨4, ![128, 1, 16, 64]⟩
abbrev S1x1x1x64 : Shape := ⟨4, ![1, 1, 1, 64]⟩
abbrev S128x2048 : Shape := ⟨2, ![128, 2048]⟩

abbrev nBuf : Space → Nat
  | .hbm => 60
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S4x4096x20576, .f32⟩
  | .hbm, ⟨2, _⟩ => ⟨S1x4096x20576, .f32⟩
  | .hbm, ⟨3, _⟩ => ⟨S4096x20576, .f32⟩
  | .hbm, ⟨4, _⟩ => ⟨S128x1x20576, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S128x1x64, .f32⟩
  | .hbm, ⟨10, _⟩ => ⟨S128x1x32, .f32⟩
  | .hbm, ⟨11, _⟩ => ⟨S128x1x4096, .f32⟩
  | .hbm, ⟨12, _⟩ => ⟨S128x1x8192, .f32⟩
  | .hbm, ⟨13, _⟩ => ⟨S128x1x16x128, .f32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S1, .f32⟩
  | .hbm, ⟨33, _⟩ => ⟨S1x1, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x1x64, .f32⟩
  | .hbm, ⟨39, _⟩ => ⟨S1x64, .f32⟩
  | .hbm, ⟨40, _⟩ => ⟨S1x1x64, .f32⟩
  | .hbm, ⟨41, _⟩ => ⟨S128x1x16x64, .f32⟩
  | .hbm, ⟨42, _⟩ => ⟨S128x1x16x64, .f32⟩
  | .hbm, ⟨43, _⟩ => ⟨S1x1x1x64, .f32⟩
  | .hbm, ⟨44, _⟩ => ⟨S128x1x16x64, .f32⟩
  | .hbm, ⟨45, _⟩ => ⟨S128x1x16x64, .f32⟩
  | .hbm, ⟨46, _⟩ => ⟨S1x1x1x64, .f32⟩
  | .hbm, ⟨47, _⟩ => ⟨S128x1x16x64, .f32⟩
  | .hbm, ⟨48, _⟩ => ⟨S128x1x16x64, .f32⟩
  | .hbm, ⟨49, _⟩ => ⟨S128x1x16x64, .f32⟩
  | .hbm, ⟨50, _⟩ => ⟨S1x1x1x64, .f32⟩
  | .hbm, ⟨51, _⟩ => ⟨S128x1x16x64, .f32⟩
  | .hbm, ⟨52, _⟩ => ⟨S128x1x16x64, .f32⟩
  | .hbm, ⟨53, _⟩ => ⟨S1x1x1x64, .f32⟩
  | .hbm, ⟨54, _⟩ => ⟨S128x1x16x64, .f32⟩
  | .hbm, ⟨55, _⟩ => ⟨S128x1x16x64, .f32⟩
  | .hbm, ⟨56, _⟩ => ⟨S128x1x16x64, .f32⟩
  | .hbm, ⟨57, _⟩ => ⟨S128x1x16x128, .f32⟩
  | .hbm, ⟨58, _⟩ => ⟨S128x2048, .f32⟩
  | .hbm, ⟨59, _⟩ => ⟨S128x2048, .bf16⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩

abbrev nD : Nat := 1
abbrev τ : Topo := Topo.v7x

variable {F : FTy → Type} [FloatOps F]
-- ==== Proof.Blocks.lean ====
/-
  Where a block's element lies in its array: the block's index times the block's size, and the element's place in it.
-/
module

public import Idealize.ShloMosaic.Lib.Pipeline
public import Idealize.ShloMosaic.Lib.Pipeline.Value
public import Idealize.ShloMosaic.Lib.Pointwise

@[expose] public section

noncomputable section

namespace Cert.Proof.Blocks

open Idealize.ShloMosaic Idealize.ShloMosaic.TcCoe
open Idealize.ShloMosaic.Pipeline (Window)

variable {sig : RefSig}

/-- Where a block's element lies in its array. -/
theorem emb_val {G : Pipeline.Grid} (w : Window sig G) (t : Fin G.N) (hk : w.kind = Pipeline.WinKind.blocked) {v : Fin w.shape.rank → ℕ} (hi : w.index t = v)
    (y : (w.xblock (G.coords t)).Idx) (a : Fin w.shape.rank) : ((w.rect t).emb y a : ℕ) = v a * w.size a + (y a : ℕ) := by
  rw [← hi]
  exact Window.rect_emb_val w t y a hk

/-- A block's element's coordinates, of the block's index and its own. -/
theorem coord2 {k0 k1 n0 n1 : ℕ} (r0 r1 : ℕ) (p0 : Fin k0) (p1 : Fin k1) (i0 : Fin n0) (i1 : Fin n1) (h0 : r0 * k0 + p0.val = i0.val) (h1 : r1 * k1 + p1.val = i1.val)
    (a : Fin 2) : (![r0, r1] : Fin 2 → ℕ) a * (![k0, k1] : Fin 2 → ℕ) a + (ix2 p0 p1 a : ℕ) = (ix2 i0 i1 a : ℕ) := by
  match a with
  | 0 => exact h0
  | 1 => exact h1
theorem coord3 {k0 k1 k2 n0 n1 n2 : ℕ} (r0 r1 r2 : ℕ) (p0 : Fin k0) (p1 : Fin k1) (p2 : Fin k2) (i0 : Fin n0) (i1 : Fin n1) (i2 : Fin n2) (h0 : r0 * k0 + p0.val = i0.val)
    (h1 : r1 * k1 + p1.val = i1.val) (h2 : r2 * k2 + p2.val = i2.val)
    (a : Fin 3) : (![r0, r1, r2] : Fin 3 → ℕ) a * (![k0, k1, k2] : Fin 3 → ℕ) a + (ix3 p0 p1 p2 a : ℕ) = (ix3 i0 i1 i2 a : ℕ) := by
  match a with
  | 0 => exact h0
  | 1 => exact h1
  | 2 => exact h2
theorem coord4 {k0 k1 k2 k3 n0 n1 n2 n3 : ℕ} (r0 r1 r2 r3 : ℕ) (p0 : Fin k0) (p1 : Fin k1) (p2 : Fin k2) (p3 : Fin k3) (i0 : Fin n0) (i1 : Fin n1) (i2 : Fin n2) (i3 : Fin n3)
    (h0 : r0 * k0 + p0.val = i0.val) (h1 : r1 * k1 + p1.val = i1.val) (h2 : r2 * k2 + p2.val = i2.val) (h3 : r3 * k3 + p3.val = i3.val)
    (a : Fin 4) : (![r0, r1, r2, r3] : Fin 4 → ℕ) a * (![k0, k1, k2, k3] : Fin 4 → ℕ) a + (ix4 p0 p1 p2 p3 a : ℕ) = (ix4 i0 i1 i2 i3 a : ℕ) := by
  match a with
  | 0 => exact h0
  | 1 => exact h1
  | 2 => exact h2
  | 3 => exact h3

theorem zero_row (k : ℕ) {n : ℕ} (d : Fin n) : 0 * k + d.val = d.val := by omega
theorem one_row (r n : ℕ) (e : Fin n) (h : r = e.val) : r * 1 + (0 : Fin 1).val = e.val := by
  rw [Nat.mul_one, h]; rfl

end Cert.Proof.Blocks
end
-- ==== Proof.FfnTables.lean ====
/-
  The words the expert kernel reads from its table of counts: how many row tiles each group takes, which group a row
  tile belongs to, whether it holds any row, and the blocks its windows take. Every block lies in its array whatever the
  counts are.
-/
module

public import proofs.«01_k».proof.Proof.Gen.Kernel2Ideal

@[expose] public section

noncomputable section

namespace Cert.Proof.Ffn

open Cert.Kernel2Ideal Cert.Kernel2Ideal.Gen
open Idealize.ShloMosaic

variable {F : FTy → Type} [FloatOps F]

/-- The tiles of a group of `v` rows: the quotient of `v + 255` by 256, rounded down, as the kernel spells it. -/
def ceilW (v : BitVec 32) : BitVec 32 :=
  Scalar.select
    (Scalar.andi
      (Scalar.cmpi .ne (Scalar.subi (Scalar.extui (Scalar.cmpi .sgt (Scalar.subi (Scalar.addi v 256#32) 1#32) 0#32))
        (Scalar.extui (Scalar.cmpi .slt (Scalar.subi (Scalar.addi v 256#32) 1#32) 0#32)))
        (Scalar.subi (Scalar.extui (Scalar.cmpi .sgt 256#32 0#32)) (Scalar.extui (Scalar.cmpi .slt 256#32 0#32))))
      (Scalar.cmpi .ne (Scalar.remsi (Scalar.subi (Scalar.addi v 256#32) 1#32) 256#32) 0#32))
    (Scalar.subi (Scalar.divsi (Scalar.subi (Scalar.addi v 256#32) 1#32) 256#32) 1#32)
    (Scalar.divsi (Scalar.subi (Scalar.addi v 256#32) 1#32) 256#32)

/-- The four counts. -/
abbrev Cnt := Fin 4 → BitVec 32

/-- The tiles up to each group. -/
def cum1 (w : Cnt) : BitVec 32 := Scalar.addi 0#32 (ceilW (w 0))
def cum2 (w : Cnt) : BitVec 32 := Scalar.addi (cum1 w) (ceilW (w 1))
def cum3 (w : Cnt) : BitVec 32 := Scalar.addi (cum2 w) (ceilW (w 2))
def cum4 (w : Cnt) : BitVec 32 := Scalar.addi (cum3 w) (ceilW (w 3))

/-- The group of row tile `r`. -/
def grpW (w : Cnt) (r : BitVec 32) : BitVec 32 :=
  Scalar.minsi (Scalar.addi (Scalar.addi (Scalar.extui (Scalar.cmpi .sge r (cum1 w))) (Scalar.extui (Scalar.cmpi .sge r (cum2 w))))
    (Scalar.extui (Scalar.cmpi .sge r (cum3 w)))) 3#32

/-- Whether row tile `r` holds any row. -/
def usedW (w : Cnt) (r : BitVec 32) : BitVec 1 := Scalar.cmpi .slt r (cum4 w)

/-- The last row tile that does. -/
def lastW (w : Cnt) : BitVec 32 := Scalar.maxsi (Scalar.subi (cum4 w) 1#32) 0#32

/-- The row block taken. -/
def rowW (w : Cnt) (r : BitVec 32) : BitVec 32 := Scalar.select (usedW w r) r 0#32

/-- The expert taken, and the half of its hidden units. -/
def expW (w : Cnt) (r e : BitVec 32) : BitVec 32 :=
  Scalar.select (usedW w r) (Scalar.addi (Scalar.muli (grpW w r) 4#32) e)
    (Scalar.subi (Scalar.addi (Scalar.muli (grpW w (lastW w)) 4#32) 4#32) 1#32)
def halfW (w : Cnt) (r c : BitVec 32) : BitVec 32 := Scalar.select (usedW w r) c 1#32

/-- The counts read from the table. -/
def cntOf (pf : pre0.Contents (Elt F)) : Cnt := fun
  | 0 => pf.at 0 (Rect.unit (s := S8x128) ![0, 0] S1x1.size facts.inb_S8x128_S1x1_0_0) facts.numel1_S1x1
  | 1 => pf.at 0 (Rect.unit (s := S8x128) ![1, 0] S1x1.size facts.inb_S8x128_S1x1_1_0) facts.numel1_S1x1
  | 2 => pf.at 0 (Rect.unit (s := S8x128) ![2, 0] S1x1.size facts.inb_S8x128_S1x1_2_0) facts.numel1_S1x1
  | 3 => pf.at 0 (Rect.unit (s := S8x128) ![3, 0] S1x1.size facts.inb_S8x128_S1x1_3_0) facts.numel1_S1x1

abbrev a0 (i : grid0.Coords) : BitVec 32 := BitVec.ofNat 32 (i 0).val
abbrev a1 (i : grid0.Coords) : BitVec 32 := BitVec.ofNat 32 (i 1).val
abbrev a2 (i : grid0.Coords) : BitVec 32 := BitVec.ofNat 32 (i 2).val

section Maps
variable (pf : pre0.Contents (Elt F)) (i : grid0.Coords)

theorem t0_eq : cc0_transform_0 facts.inb_S8x128_S1x1_0_0 facts.numel1_S1x1 facts.inb_S8x128_S1x1_1_0 facts.inb_S8x128_S1x1_2_0 facts.inb_S8x128_S1x1_3_0 pf i = ![(rowW (cntOf pf) (a0 i)).toNat, 0] := rfl
theorem t1_eq : cc0_transform_1 facts.inb_S8x128_S1x1_0_0 facts.numel1_S1x1 facts.inb_S8x128_S1x1_1_0 facts.inb_S8x128_S1x1_2_0 facts.inb_S8x128_S1x1_3_0 pf i = ![(rowW (cntOf pf) (a0 i)).toNat, 0] := rfl
theorem t2_eq : cc0_transform_2 facts.inb_S8x128_S1x1_0_0 facts.numel1_S1x1 facts.inb_S8x128_S1x1_1_0 facts.inb_S8x128_S1x1_2_0 facts.inb_S8x128_S1x1_3_0 pf i
    = ![3, (expW (cntOf pf) (a0 i) (a1 i)).toNat, 0, (halfW (cntOf pf) (a0 i) (a2 i)).toNat] := rfl
theorem t3_eq : cc0_transform_3 facts.inb_S8x128_S1x1_0_0 facts.numel1_S1x1 facts.inb_S8x128_S1x1_1_0 facts.inb_S8x128_S1x1_2_0 facts.inb_S8x128_S1x1_3_0 pf i
    = ![3, (expW (cntOf pf) (a0 i) (a1 i)).toNat, 0, (halfW (cntOf pf) (a0 i) (a2 i)).toNat] := rfl
theorem t4_eq : cc0_transform_4 facts.inb_S8x128_S1x1_0_0 facts.numel1_S1x1 facts.inb_S8x128_S1x1_1_0 facts.inb_S8x128_S1x1_2_0 facts.inb_S8x128_S1x1_3_0 pf i
    = ![3, (expW (cntOf pf) (a0 i) (a1 i)).toNat, (halfW (cntOf pf) (a0 i) (a2 i)).toNat, 0] := rfl

end Maps

/-- The point is the first, the last of its row tile. -/
def firstB (i : grid0.Coords) : BitVec 1 := Scalar.andi (Scalar.cmpi .eq (a1 i) 0#32) (Scalar.cmpi .eq (a2 i) 0#32)
def lastB (i : grid0.Coords) : BitVec 1 := Scalar.andi (Scalar.cmpi .eq (a1 i) 3#32) (Scalar.cmpi .eq (a2 i) 1#32)

/-- What the kernel branches on, of the counts. -/
def cond1 (w : Cnt) (i : grid0.Coords) : BitVec 1 := Scalar.cmpi .ne (Scalar.extui (Scalar.andi (usedW w (a0 i)) (firstB i))) 0#32
def cond2 (w : Cnt) (i : grid0.Coords) : BitVec 1 := Scalar.cmpi .ne (Scalar.extui (usedW w (a0 i))) 0#32
theorem cond3_eq (w : Cnt) (i : grid0.Coords) : k0_cond3 i (w 0) (w 1) (w 2) (w 3) = Scalar.cmpi .ne (Scalar.extui (Scalar.andi (usedW w (a0 i)) (lastB i))) 0#32 := rfl
theorem cond4_eq (w : Cnt) (i : grid0.Coords) : k0_cond4 i (w 0) (w 1) (w 2) (w 3)
    = Scalar.cmpi .ne (Scalar.extui (Scalar.andi (Scalar.xori (usedW w (a0 i)) 1#1) (lastB i))) 0#32 := rfl

/-! ### Bounds -/

theorem one_bit (b : BitVec 1) : b = 0#1 ∨ b = 1#1 := by revert b; decide

/-- The group's word, as a sum of three tests. -/
theorem grpW_toNat (w : Cnt) (r : BitVec 32) :
    (grpW w r).toNat = (Scalar.cmpi .sge r (cum1 w)).toNat + (Scalar.cmpi .sge r (cum2 w)).toNat + (Scalar.cmpi .sge r (cum3 w)).toNat := by
  unfold grpW
  generalize Scalar.cmpi .sge r (cum1 w) = p
  generalize Scalar.cmpi .sge r (cum2 w) = q
  generalize Scalar.cmpi .sge r (cum3 w) = s
  revert p q s; decide

theorem grpW_lt (w : Cnt) (r : BitVec 32) : (grpW w r).toNat < 4 := by
  rw [grpW_toNat]
  have := (Scalar.cmpi .sge r (cum1 w)).isLt
  have := (Scalar.cmpi .sge r (cum2 w)).isLt
  have := (Scalar.cmpi .sge r (cum3 w)).isLt
  omega

theorem select_le (b : BitVec 1) (x y : BitVec 32) (n : ℕ) (hx : x.toNat < n) (hy : y.toNat < n) : (Scalar.select b x y).toNat < n := by
  rcases one_bit b with rfl | rfl
  · exact hy
  · exact hx

theorem expert_toNat (g e : BitVec 32) (hg : g.toNat < 4) (he : e.toNat < 4) :
    (Scalar.addi (Scalar.muli g 4#32) e).toNat = g.toNat * 4 + e.toNat := by
  show (g * 4#32 + e).toNat = _
  rw [BitVec.toNat_add, BitVec.toNat_mul, BitVec.toNat_ofNat]
  omega

theorem expert_last (g : BitVec 32) (hg : g.toNat < 4) :
    (Scalar.subi (Scalar.addi (Scalar.muli g 4#32) 4#32) 1#32).toNat < 16 := by
  show (g * 4#32 + 4#32 - 1#32).toNat < _
  rw [BitVec.toNat_sub, BitVec.toNat_add, BitVec.toNat_mul, BitVec.toNat_ofNat, BitVec.toNat_ofNat]
  omega

theorem a0_toNat (i : grid0.Coords) : (a0 i).toNat = (i 0).val := by
  have : (i 0).val < 36 := (i 0).isLt
  rw [BitVec.toNat_ofNat]; omega
theorem a1_toNat (i : grid0.Coords) : (a1 i).toNat = (i 1).val := by
  have : (i 1).val < 4 := (i 1).isLt
  rw [BitVec.toNat_ofNat]; omega
theorem a2_toNat (i : grid0.Coords) : (a2 i).toNat = (i 2).val := by
  have : (i 2).val < 2 := (i 2).isLt
  rw [BitVec.toNat_ofNat]; omega

theorem rowW_lt (w : Cnt) (i : grid0.Coords) : (rowW w (a0 i)).toNat < 36 :=
  select_le _ _ _ _ (by rw [a0_toNat]; exact (i 0).isLt) (by decide)
theorem expW_lt (w : Cnt) (i : grid0.Coords) : (expW w (a0 i) (a1 i)).toNat < 16 := by
  have h1 : (a1 i).toNat < 4 := by rw [a1_toNat]; exact (i 1).isLt
  have h2 := grpW_lt w (a0 i)
  exact select_le _ _ _ _ (by rw [expert_toNat _ _ h2 h1]; omega) (expert_last _ (grpW_lt w _))
theorem halfW_lt (w : Cnt) (i : grid0.Coords) : (halfW w (a0 i) (a2 i)).toNat < 2 :=
  select_le _ _ _ _ (by rw [a2_toNat]; exact (i 2).isLt) (by decide)

theorem words_wu (ix : Fin 4 → ℕ) (h : ∀ a, (ix a + 1) * S1x1x4096x512.size a ≤ S4x16x4096x1024.size a) :
    (Rect.block (s := S4x16x4096x1024) S1x1x4096x512.size ix h).WholeWords (EltTy.packing .bf16) :=
  .inl (.inr ⟨by decide, rfl, .inl ⟨⟨ix 2 * 2048, by show ix 2 * 4096 = 2 * (ix 2 * 2048); omega⟩, ⟨2048, rfl⟩⟩⟩)
theorem words_wd (ix : Fin 4 → ℕ) (h : ∀ a, (ix a + 1) * S1x1x512x4096.size a ≤ S4x16x1024x4096.size a) :
    (Rect.block (s := S4x16x1024x4096) S1x1x512x4096.size ix h).WholeWords (EltTy.packing .bf16) :=
  .inl (.inr ⟨by decide, rfl, .inl ⟨⟨ix 2 * 256, by show ix 2 * 512 = 2 * (ix 2 * 256); omega⟩, ⟨256, rfl⟩⟩⟩)

/-- Every window's block lies in its array, whatever the table holds. -/
theorem ok (pf : pre0.Contents (Elt F)) : ok0 pf := by
  unfold ok0
  refine ⟨fun i => ?_, fun i => ?_, fun i => ?_, fun i => ?_, fun i => ?_⟩
  · rw [t0_eq]
    have := rowW_lt (cntOf pf) i
    refine ⟨fun a => ?_, .inl rfl⟩
    match a with
    | ⟨0, _⟩ => show ((rowW (cntOf pf) (a0 i)).toNat + 1) * 256 ≤ 9216; omega
    | ⟨1, _⟩ => show (0 + 1) * 4096 ≤ 4096; omega
  · rw [t1_eq]
    have := rowW_lt (cntOf pf) i
    refine ⟨fun a => ?_, .inl rfl⟩
    match a with
    | ⟨0, _⟩ => show ((rowW (cntOf pf) (a0 i)).toNat + 1) * 256 ≤ 9216; omega
    | ⟨1, _⟩ => show (0 + 1) * 128 ≤ 128; omega
  · rw [t2_eq]
    have := expW_lt (cntOf pf) i
    have := halfW_lt (cntOf pf) i
    refine ⟨fun a => ?_, .inr (words_wu _ _)⟩
    match a with
    | ⟨0, _⟩ => show (3 + 1) * 1 ≤ 4; omega
    | ⟨1, _⟩ => show ((expW (cntOf pf) (a0 i) (a1 i)).toNat + 1) * 1 ≤ 16; omega
    | ⟨2, _⟩ => show (0 + 1) * 4096 ≤ 4096; omega
    | ⟨3, _⟩ => show ((halfW (cntOf pf) (a0 i) (a2 i)).toNat + 1) * 512 ≤ 1024; omega
  · rw [t3_eq]
    have := expW_lt (cntOf pf) i
    have := halfW_lt (cntOf pf) i
    refine ⟨fun a => ?_, .inr (words_wu _ _)⟩
    match a with
    | ⟨0, _⟩ => show (3 + 1) * 1 ≤ 4; omega
    | ⟨1, _⟩ => show ((expW (cntOf pf) (a0 i) (a1 i)).toNat + 1) * 1 ≤ 16; omega
    | ⟨2, _⟩ => show (0 + 1) * 4096 ≤ 4096; omega
    | ⟨3, _⟩ => show ((halfW (cntOf pf) (a0 i) (a2 i)).toNat + 1) * 512 ≤ 1024; omega
  · rw [t4_eq]
    have := expW_lt (cntOf pf) i
    have := halfW_lt (cntOf pf) i
    refine ⟨fun a => ?_, .inr (words_wd _ _)⟩
    match a with
    | ⟨0, _⟩ => show (3 + 1) * 1 ≤ 4; omega
    | ⟨1, _⟩ => show ((expW (cntOf pf) (a0 i) (a1 i)).toNat + 1) * 1 ≤ 16; omega
    | ⟨2, _⟩ => show ((halfW (cntOf pf) (a0 i) (a2 i)).toNat + 1) * 512 ≤ 1024; omega
    | ⟨3, _⟩ => show (0 + 1) * 4096 ≤ 4096; omega

/-! ### The branches at a point -/

theorem bits1 (u v : BitVec 1) : (Scalar.cmpi .ne (Scalar.extui (Scalar.andi u v)) 0#32 = 1#1) ↔ u = 1#1 ∧ v = 1#1 := by revert u v; decide
theorem bits2 (u : BitVec 1) : (Scalar.cmpi .ne (Scalar.extui u) 0#32 = 1#1) ↔ u = 1#1 := by revert u; decide
theorem bits4 (u v : BitVec 1) : (Scalar.cmpi .ne (Scalar.extui (Scalar.andi (Scalar.xori u 1#1) v)) 0#32 = 1#1) ↔ u ≠ 1#1 ∧ v = 1#1 := by revert u v; decide

theorem firstB_iff (i : grid0.Coords) : firstB i = 1#1 ↔ (i 1).val = 0 ∧ (i 2).val = 0 := by
  have h1 : (i 1).val < 4 := (i 1).isLt
  have h2 : (i 2).val < 2 := (i 2).isLt
  unfold firstB a1 a2
  generalize (i 1).val = e at *
  generalize (i 2).val = c at *
  obtain rfl | rfl | rfl | rfl : e = 0 ∨ e = 1 ∨ e = 2 ∨ e = 3 := by omega
  all_goals obtain rfl | rfl : c = 0 ∨ c = 1 := by omega
  all_goals decide
theorem lastB_iff (i : grid0.Coords) : lastB i = 1#1 ↔ (i 1).val = 3 ∧ (i 2).val = 1 := by
  have h1 : (i 1).val < 4 := (i 1).isLt
  have h2 : (i 2).val < 2 := (i 2).isLt
  unfold lastB a1 a2
  generalize (i 1).val = e at *
  generalize (i 2).val = c at *
  obtain rfl | rfl | rfl | rfl : e = 0 ∨ e = 1 ∨ e = 2 ∨ e = 3 := by omega
  all_goals obtain rfl | rfl : c = 0 ∨ c = 1 := by omega
  all_goals decide

theorem cond1_iff (w : Cnt) (i : grid0.Coords) : cond1 w i = 1#1 ↔ usedW w (a0 i) = 1#1 ∧ (i 1).val = 0 ∧ (i 2).val = 0 :=
  (bits1 _ _).trans (and_congr_right fun _ => firstB_iff i)
theorem cond2_iff (w : Cnt) (i : grid0.Coords) : cond2 w i = 1#1 ↔ usedW w (a0 i) = 1#1 := bits2 _
theorem cond3_iff (w : Cnt) (i : grid0.Coords) : k0_cond3 i (w 0) (w 1) (w 2) (w 3) = 1#1 ↔ usedW w (a0 i) = 1#1 ∧ (i 1).val = 3 ∧ (i 2).val = 1 := by
  rw [cond3_eq]; exact (bits1 _ _).trans (and_congr_right fun _ => lastB_iff i)
theorem cond4_iff (w : Cnt) (i : grid0.Coords) : k0_cond4 i (w 0) (w 1) (w 2) (w 3) = 1#1 ↔ usedW w (a0 i) ≠ 1#1 ∧ (i 1).val = 3 ∧ (i 2).val = 1 := by
  rw [cond4_eq]; exact (bits4 _ _).trans (and_congr_right fun _ => lastB_iff i)

/-- The grid's coordinates at a point. -/
theorem coords_0 : ∀ t : Fin grid0.N, (grid0.coords t 0).val = t.val / 8 := by decide
theorem coords_1 : ∀ t : Fin grid0.N, (grid0.coords t 1).val = t.val / 2 % 4 := by decide
theorem coords_2 : ∀ t : Fin grid0.N, (grid0.coords t 2).val = t.val % 2 := by decide

end Cert.Proof.Ffn

end
-- ==== Proof.FfnBody.lean ====
/-
  The expert kernel's body, run once for any reading `F` of the floats, in the five cases a point can be in: the row
  tile holds rows and the point is its first, a middle or its last; the row tile holds none and the point is its last
  or another.
-/
module

public import proofs.«01_k».proof.Proof.FfnTables
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Kernel2
public import Idealize.ShloMosaic.Lib.WholeRead
public import Idealize.ShloMosaic.Lib.WritesUnit
public import Idealize.ShloMosaic.Lib.Pipeline.ReadBack
public import Idealize.ShloMosaic.Lib.Tactic
public import Idealize.ShloMosaic.Lib.Tactic.RunNames
public import Idealize.ShloMosaic.Adequacy
public import Idealize.ShloMosaic.Init

@[expose] public section

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
abbrev 𝒱₀ : Variants := Variants.none

local notation "𝕄" => MT nD τ sig Unit (Elt F) ℕ (UU nD τ) ℕ

section Whole
variable {Val : EltTy → Type} {κ : Kind} {sp : Space} {s : Shape} {e : EltTy}

/-- A load of all of a whole buffer reads what it holds. -/
theorem read_full {m : Memref sig κ sp s e} (h : m.IsWhole) (X : s.Idx → Val e) (off : Fin s.rank → ℕ) (inb : ∀ a, off a + s.size a ≤ s.size a)
    (h0 : ∀ a, off a = 0) : View.readAt Val m.view (Rect.unit (s := s) off s.size inb).toLoadRect (h.unread X) = X := by
  funext x
  rw [h.readAt_unread]
  refine congrArg X (funext fun a => Fin.ext ?_)
  show off a + 1 * (x a).val = (x a).val
  rw [h0 a]; omega

/-- A store to all of a whole buffer leaves what it stored. -/
theorem write_full {m : Memref sig κ sp s e} (h : m.IsWhole) (f : m.view.ty.Contents Val) (w : s.Idx → Val e) (off : Fin s.rank → ℕ)
    (inb : ∀ a, off a + s.size a ≤ s.size a) (L : List (View.Piece Val s e)) (h0 : ∀ a, off a = 0) :
    m.view.writes Val f (⟨Rect.unit (s := s) off s.size inb, w⟩ :: L) = h.unread w := by
  refine h.eq_unread (funext fun x => ?_)
  exact View.read_writes_cons_unit_of_mem m.view f inb w L x x rfl fun a => by rw [h0 a]; omega

/-- A load of all of a whole buffer after a store to all of it reads what was stored. -/
theorem readCov_full [∀ e, Nonempty (Val e)] (v : View sig κ sp s e) (w : s.Idx → Val e) (off off' : Fin s.rank → ℕ)
    (inb : ∀ a, off a + s.size a ≤ s.size a) (inb' : ∀ a, off' a + s.size a ≤ s.size a) (L : List (View.Piece Val s e)) (h0 : ∀ a, off a = 0)
    (h0' : ∀ a, off' a = 0) :
    v.readCov (⟨Rect.unit (s := s) off s.size inb, w⟩ :: L) (Rect.unit (s := s) off' s.size inb').toLoadRect = w := by
  rw [View.readCov_fill v inb w L _ h0]
  funext x
  refine congrArg w (funext fun a => Fin.ext ?_)
  show off' a + 1 * (x a).val = (x a).val
  rw [h0' a]; omega
end Whole

/-- The kernel's five windows of inputs, its output's and its two scratch buffers, as a point holds them. -/
abbrev pt (c : Dev nD) {sp : Space} {S : Shape} {e : EltTy} (M : Memref sig .tc sp S e) (h : M.IsWhole) (X : S.Idx → Elt F e) : sProp 𝕄 :=
  M.view.loc (c : Thread nD τ) ↦{fullShare} h.unread X

abbrev tabAt (c : Dev nD) (pf : pre0.Contents (Elt F)) : sProp 𝕄 :=
  (Memref.whole main_arg0 : Memref sig .tc .smem S8x128 .i32).view.loc (c : Thread nD τ) ↦{fullShare} pf 0

section Run
variable (c : Dev nD) (i : grid0.Coords) (pf : pre0.Contents (Elt F))
  (M4 : Memref sig .tc .vmem S256x4096 .f32) (h4 : M4.IsWhole) (M5 : Memref sig .tc .vmem S256x128 .f32) (h5 : M5.IsWhole)
  (M6 : Memref sig .tc .vmem S1x1x4096x512 .bf16) (h6 : M6.IsWhole) (M7 : Memref sig .tc .vmem S1x1x4096x512 .bf16) (h7 : M7.IsWhole)
  (M8 : Memref sig .tc .vmem S1x1x512x4096 .bf16) (h8 : M8.IsWhole) (M9 : Memref sig .tc .vmem S1x1x4096 .f32) (h9 : M9.IsWhole)
  (M10 : Memref sig .tc .vmem S1x1x4096 .f32) (h10 : M10.IsWhole) (M11 : Memref sig .tc .vmem S256x4096 .f32) (h11 : M11.IsWhole)
  (M12 : Memref sig .tc .vmem S256x4096 .bf16) (h12 : M12.IsWhole) (M13 : Memref sig .tc .vmem S256x4096 .f32) (h13 : M13.IsWhole)
  (x : S256x4096.Idx → Elt F .f32) (ga : S256x128.Idx → Elt F .f32) (wg wu : S1x1x4096x512.Idx → Elt F .bf16) (wd : S1x1x512x4096.Idx → Elt F .bf16)
  (g b : S1x1x4096.Idx → Elt F .f32) (o : S256x4096.Idx → Elt F .f32) (xb : S256x4096.Idx → Elt F .bf16) (ac : S256x4096.Idx → Elt F .f32)

abbrev kbody : Prog (TpuEff nD τ sig (Elt F) Λ₀ .tc) PUnit :=
  cc0__gffn_kernel i (Memref.whole main_arg0) (Memref.isWhole_whole _) M4 h4 M5 h5 M6 h6 M7 h7 M8 h8 M9 h9 M10 h10 M11 h11 M12 h12 M13 h13

/-- What a point holds. -/
abbrev held (o : S256x4096.Idx → Elt F .f32) (xb : S256x4096.Idx → Elt F .bf16) (ac : S256x4096.Idx → Elt F .f32) : sProp 𝕄 :=
  iprop(tabAt c pf ∗ pt c M4 h4 x ∗ pt c M5 h5 ga ∗ pt c M6 h6 wg ∗ pt c M7 h7 wu ∗ pt c M8 h8 wd ∗ pt c M9 h9 g ∗ pt c M10 h10 b
    ∗ pt c M11 h11 o ∗ pt c M12 h12 xb ∗ pt c M13 h13 ac)

/-- The body after its four reads of the table, over what it branches on. -/
def tailP (b1 b2 b3 b4 : BitVec 1) (gr : BitVec 32) : Prog (TpuEff nD τ sig (Elt F) Λ₀ .tc) PUnit := do
  if b1 = 1#1 then do
    let v112 : Vec F S256x4096 .f32 ← Prog.lift (.load M4 (Rect.unit (s := S256x4096) ![0, 0] S256x4096.size facts.inb_S256x4096_S256x4096_0_0).toLoadRect (View.loadsAt_vmem facts.h_S256x4096))
    let v114 : Vec F S256x4096 .bf16 ← Prog.lift (.load M12 (Rect.unit (s := S256x4096) ![0, 0] S256x4096.size facts.inb_S256x4096_S256x4096_0_0).toLoadRect (View.loadsAt_vmem facts.h_S256x4096))
    Prog.lift (.store M12 (Rect.unit (s := S256x4096) ![0, 0] S256x4096.size facts.inb_S256x4096_S256x4096_0_0) (k0_pay1 v112) Finset.univ (View.stores_vmem facts.h_S256x4096 (h12.storeExact_slice rfl _ facts.packedbf16_S256x4096_S256x4096_0_0) (fun _ => rfl)) (.inl rfl))
    let v118 : Vec F S256x4096 .f32 ← Prog.lift (.load M13 (Rect.unit (s := S256x4096) ![0, 0] S256x4096.size facts.inb_S256x4096_S256x4096_0_0).toLoadRect (View.loadsAt_vmem facts.h_S256x4096))
    Prog.lift (.store M13 (Rect.unit (s := S256x4096) ![0, 0] S256x4096.size facts.inb_S256x4096_S256x4096_0_0) (k0_pay2 (F := F)) Finset.univ (View.stores_vmem_bits_univ facts.h_S256x4096 rfl) (.inl rfl))
    pure ⟨⟩
  else do
    pure ⟨⟩
  if b2 = 1#1 then do
    let v112 : Vec F S256x4096 .bf16 ← Prog.lift (.load M12 (Rect.unit (s := S256x4096) ![0, 0] S256x4096.size facts.inb_S256x4096_S256x4096_0_0).toLoadRect (View.loadsAt_vmem facts.h_S256x4096))
    let v113 : Vec F S1x1x4096x512 .bf16 ← Prog.lift (.load M6 (Rect.unit (s := S1x1x4096x512) ![0, 0, 0, 0] S1x1x4096x512.size facts.inb_S1x1x4096x512_S1x1x4096x512_0_0_0_0).toLoadRect (View.loadsAt_vmem facts.h_S1x1x4096x512))
    let v116 : Vec F S1x1x4096x512 .bf16 ← Prog.lift (.load M7 (Rect.unit (s := S1x1x4096x512) ![0, 0, 0, 0] S1x1x4096x512.size facts.inb_S1x1x4096x512_S1x1x4096x512_0_0_0_0).toLoadRect (View.loadsAt_vmem facts.h_S1x1x4096x512))
    let v119 : Vec F S256x128 .f32 ← Prog.lift (.load M5 (Rect.unit (s := S256x128) ![0, 0] S256x128.size facts.inb_S256x128_S256x128_0_0).toLoadRect (View.loadsAt_vmem facts.h_S256x128))
    let v141 : Vec F S256x4096 .f32 ← Prog.lift (.load M13 (Rect.unit (s := S256x4096) ![0, 0] S256x4096.size facts.inb_S256x4096_S256x4096_0_0).toLoadRect (View.loadsAt_vmem facts.h_S256x4096))
    let v142 : Vec F S1x1x512x4096 .bf16 ← Prog.lift (.load M8 (Rect.unit (s := S1x1x512x4096) ![0, 0, 0, 0] S1x1x512x4096.size facts.inb_S1x1x512x4096_S1x1x512x4096_0_0_0_0).toLoadRect (View.loadsAt_vmem facts.h_S1x1x512x4096))
    let v146 : Vec F S256x4096 .f32 ← Prog.lift (.load M13 (Rect.unit (s := S256x4096) ![0, 0] S256x4096.size facts.inb_S256x4096_S256x4096_0_0).toLoadRect (View.loadsAt_vmem facts.h_S256x4096))
    Prog.lift (.store M13 (Rect.unit (s := S256x4096) ![0, 0] S256x4096.size facts.inb_S256x4096_S256x4096_0_0) (k0_pay3 v141 (k0_pay6 (a1 i) gr v112 v113 v116 v119 v142)) Finset.univ (View.stores_vmem_bits_univ facts.h_S256x4096 rfl) (.inl rfl))
    pure ⟨⟩
  else do
    pure ⟨⟩
  if b3 = 1#1 then do
    let v112 : Vec F S256x4096 .f32 ← Prog.lift (.load M4 (Rect.unit (s := S256x4096) ![0, 0] S256x4096.size facts.inb_S256x4096_S256x4096_0_0).toLoadRect (View.loadsAt_vmem facts.h_S256x4096))
    let v115 : Vec F S256x4096 .f32 ← Prog.lift (.load M13 (Rect.unit (s := S256x4096) ![0, 0] S256x4096.size facts.inb_S256x4096_S256x4096_0_0).toLoadRect (View.loadsAt_vmem facts.h_S256x4096))
    let v117 : Vec F S1x1x4096 .f32 ← Prog.lift (.load M9 (Rect.unit (s := S1x1x4096) ![0, 0, 0] S1x1x4096.size facts.inb_S1x1x4096_S1x1x4096_0_0_0).toLoadRect (View.loadsAt_vmem facts.h_S1x1x4096))
    let v119 : Vec F S1x1x4096 .f32 ← Prog.lift (.load M10 (Rect.unit (s := S1x1x4096) ![0, 0, 0] S1x1x4096.size facts.inb_S1x1x4096_S1x1x4096_0_0_0).toLoadRect (View.loadsAt_vmem facts.h_S1x1x4096))
    let v141 : Vec F S256x4096 .f32 ← Prog.lift (.load M11 (Rect.unit (s := S256x4096) ![0, 0] S256x4096.size facts.inb_S256x4096_S256x4096_0_0).toLoadRect (View.loadsAt_vmem facts.h_S256x4096))
    Prog.lift (.store M11 (Rect.unit (s := S256x4096) ![0, 0] S256x4096.size facts.inb_S256x4096_S256x4096_0_0) (k0_pay4 v112 v115 v117 v119) Finset.univ (View.stores_vmem_bits_univ facts.h_S256x4096 rfl) (.inl rfl))
    pure ⟨⟩
  else do
    pure ⟨⟩
  if b4 = 1#1 then do
    let v113 : Vec F S256x4096 .f32 ← Prog.lift (.load M11 (Rect.unit (s := S256x4096) ![0, 0] S256x4096.size facts.inb_S256x4096_S256x4096_0_0).toLoadRect (View.loadsAt_vmem facts.h_S256x4096))
    Prog.lift (.store M11 (Rect.unit (s := S256x4096) ![0, 0] S256x4096.size facts.inb_S256x4096_S256x4096_0_0) (k0_pay5 (F := F)) Finset.univ (View.stores_vmem_bits_univ facts.h_S256x4096 rfl) (.inl rfl))
    pure ⟨⟩
  else do
    pure ⟨⟩
  pure ⟨⟩

/-- The body is its four reads, then the rest. -/
theorem kbody_eq : kbody (F := F) i M4 h4 M5 h5 M6 h6 M7 h7 M8 h8 M9 h9 M10 h10 M11 h11 M12 h12 M13 h13 = (do
    let v0 : Elt F .i32 ← smemLoad (Memref.whole main_arg0) (Rect.unit (s := S8x128) ![0, 0] S1x1.size facts.inb_S8x128_S1x1_0_0) facts.numel1_S1x1 rfl
    let v21 : Elt F .i32 ← smemLoad (Memref.whole main_arg0) (Rect.unit (s := S8x128) ![1, 0] S1x1.size facts.inb_S8x128_S1x1_1_0) facts.numel1_S1x1 rfl
    let v42 : Elt F .i32 ← smemLoad (Memref.whole main_arg0) (Rect.unit (s := S8x128) ![2, 0] S1x1.size facts.inb_S8x128_S1x1_2_0) facts.numel1_S1x1 rfl
    let v63 : Elt F .i32 ← smemLoad (Memref.whole main_arg0) (Rect.unit (s := S8x128) ![3, 0] S1x1.size facts.inb_S8x128_S1x1_3_0) facts.numel1_S1x1 rfl
    tailP i M4 M5 M6 M7 M8 M9 M10 M11 M12 h12 M13
      (cond1 (fun | 0 => v0 | 1 => v21 | 2 => v42 | 3 => v63) i) (cond2 (fun | 0 => v0 | 1 => v21 | 2 => v42 | 3 => v63) i)
      (k0_cond3 i v0 v21 v42 v63) (k0_cond4 i v0 v21 v42 v63) (grpW (fun | 0 => v0 | 1 => v21 | 2 => v42 | 3 => v63) (a0 i))) := by
  unfold kbody
  rw [cc0__gffn_kernel_eq_skeleton]
  rfl

/-- A middle point of a row tile that holds rows. -/
theorem tail_mid (b1 b2 b3 b4 : BitVec 1) (gr : BitVec 32) (e1 : b1 = 0#1) (e2 : b2 = 1#1) (e3 : b3 = 0#1) (e4 : b4 = 0#1) :
    held c pf M4 h4 M5 h5 M6 h6 M7 h7 M8 h8 M9 h9 M10 h10 M11 h11 M12 h12 M13 h13 x ga wg wu wd g b o xb ac
      ⊢ wp frame (wpE (defs₀ (F := F)) 𝒱₀ (c : Thread nD τ) none) Set.univ (tailP i M4 M5 M6 M7 M8 M9 M10 M11 M12 h12 M13 b1 b2 b3 b4 gr)
        (fun _ => held c pf M4 h4 M5 h5 M6 h6 M7 h7 M8 h8 M9 h9 M10 h10 M11 h11 M12 h12 M13 h13 x ga wg wu wd g b
          o xb (k0_pay3 ac (k0_pay6 (a1 i) gr xb wg wu ga wd))) := by
  unfold tailP
  subst_vars
  iintro ⟨HT, H4, H5, H6, H7, H8, H9, H10, H11, H12, H13⟩
  sl_exec (disch := decide)
  sl_step
  try sl_unfold_run_values
  try simp (disch := decide) only [read_full h4, read_full h5, read_full h6, read_full h7, read_full h8, read_full h9, read_full h10, read_full h11,
    read_full h12, read_full h13, write_full h11, write_full h12, write_full h13]
  isplitl [HT]; · iexact HT
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Its first point. -/
theorem tail_first (b1 b2 b3 b4 : BitVec 1) (gr : BitVec 32) (e1 : b1 = 1#1) (e2 : b2 = 1#1) (e3 : b3 = 0#1) (e4 : b4 = 0#1) :
    held c pf M4 h4 M5 h5 M6 h6 M7 h7 M8 h8 M9 h9 M10 h10 M11 h11 M12 h12 M13 h13 x ga wg wu wd g b o xb ac
      ⊢ wp frame (wpE (defs₀ (F := F)) 𝒱₀ (c : Thread nD τ) none) Set.univ (tailP i M4 M5 M6 M7 M8 M9 M10 M11 M12 h12 M13 b1 b2 b3 b4 gr)
        (fun _ => held c pf M4 h4 M5 h5 M6 h6 M7 h7 M8 h8 M9 h9 M10 h10 M11 h11 M12 h12 M13 h13 x ga wg wu wd g b
          o (k0_pay1 x) (k0_pay3 k0_pay2 (k0_pay6 (a1 i) gr (k0_pay1 x) wg wu ga wd))) := by
  unfold tailP
  subst_vars
  iintro ⟨HT, H4, H5, H6, H7, H8, H9, H10, H11, H12, H13⟩
  sl_exec (disch := decide)
  sl_step
  try sl_unfold_run_values
  unfold tail_first.sl.H12_1 tail_first.sl.H13_1
  rw [readCov_full M13.view _ ![0, 0] ![0, 0] _ _ _ (by decide) (by decide), readCov_full M12.view _ ![0, 0] ![0, 0] _ _ _ (by decide) (by decide)]
  try simp (disch := decide) only [read_full h4, read_full h5, read_full h6, read_full h7, read_full h8, read_full h9, read_full h10, read_full h11,
    read_full h12, read_full h13, write_full h11, write_full h12, write_full h13]
  isplitl [HT]; · iexact HT
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Its last point. -/
theorem tail_last (b1 b2 b3 b4 : BitVec 1) (gr : BitVec 32) (e1 : b1 = 0#1) (e2 : b2 = 1#1) (e3 : b3 = 1#1) (e4 : b4 = 0#1) :
    held c pf M4 h4 M5 h5 M6 h6 M7 h7 M8 h8 M9 h9 M10 h10 M11 h11 M12 h12 M13 h13 x ga wg wu wd g b o xb ac
      ⊢ wp frame (wpE (defs₀ (F := F)) 𝒱₀ (c : Thread nD τ) none) Set.univ (tailP i M4 M5 M6 M7 M8 M9 M10 M11 M12 h12 M13 b1 b2 b3 b4 gr)
        (fun _ => held c pf M4 h4 M5 h5 M6 h6 M7 h7 M8 h8 M9 h9 M10 h10 M11 h11 M12 h12 M13 h13 x ga wg wu wd g b
          (k0_pay4 x (k0_pay3 ac (k0_pay6 (a1 i) gr xb wg wu ga wd)) g b) xb (k0_pay3 ac (k0_pay6 (a1 i) gr xb wg wu ga wd))) := by
  unfold tailP
  subst_vars
  iintro ⟨HT, H4, H5, H6, H7, H8, H9, H10, H11, H12, H13⟩
  sl_exec (disch := decide)
  sl_step
  try sl_unfold_run_values
  unfold tail_last.sl.H13_1
  rw [readCov_full M13.view _ ![0, 0] ![0, 0] _ _ _ (by decide) (by decide)]
  try simp (disch := decide) only [read_full h4, read_full h5, read_full h6, read_full h7, read_full h8, read_full h9, read_full h10, read_full h11,
    read_full h12, read_full h13, write_full h11, write_full h12, write_full h13]
  isplitl [HT]; · iexact HT
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A point of a row tile that holds none, not its last. -/
theorem tail_idle (b1 b2 b3 b4 : BitVec 1) (gr : BitVec 32) (e1 : b1 = 0#1) (e2 : b2 = 0#1) (e3 : b3 = 0#1) (e4 : b4 = 0#1) :
    held c pf M4 h4 M5 h5 M6 h6 M7 h7 M8 h8 M9 h9 M10 h10 M11 h11 M12 h12 M13 h13 x ga wg wu wd g b o xb ac
      ⊢ wp frame (wpE (defs₀ (F := F)) 𝒱₀ (c : Thread nD τ) none) Set.univ (tailP i M4 M5 M6 M7 M8 M9 M10 M11 M12 h12 M13 b1 b2 b3 b4 gr)
        (fun _ => held c pf M4 h4 M5 h5 M6 h6 M7 h7 M8 h8 M9 h9 M10 h10 M11 h11 M12 h12 M13 h13 x ga wg wu wd g b
          o xb ac) := by
  unfold tailP
  subst_vars
  iintro ⟨HT, H4, H5, H6, H7, H8, H9, H10, H11, H12, H13⟩
  sl_exec (disch := decide)
  sl_step
  try sl_unfold_run_values
  try simp (disch := decide) only [read_full h4, read_full h5, read_full h6, read_full h7, read_full h8, read_full h9, read_full h10, read_full h11,
    read_full h12, read_full h13, write_full h11, write_full h12, write_full h13]
  isplitl [HT]; · iexact HT
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Its last point. -/
theorem tail_zero (b1 b2 b3 b4 : BitVec 1) (gr : BitVec 32) (e1 : b1 = 0#1) (e2 : b2 = 0#1) (e3 : b3 = 0#1) (e4 : b4 = 1#1) :
    held c pf M4 h4 M5 h5 M6 h6 M7 h7 M8 h8 M9 h9 M10 h10 M11 h11 M12 h12 M13 h13 x ga wg wu wd g b o xb ac
      ⊢ wp frame (wpE (defs₀ (F := F)) 𝒱₀ (c : Thread nD τ) none) Set.univ (tailP i M4 M5 M6 M7 M8 M9 M10 M11 M12 h12 M13 b1 b2 b3 b4 gr)
        (fun _ => held c pf M4 h4 M5 h5 M6 h6 M7 h7 M8 h8 M9 h9 M10 h10 M11 h11 M12 h12 M13 h13 x ga wg wu wd g b
          k0_pay5 xb ac) := by
  unfold tailP
  subst_vars
  iintro ⟨HT, H4, H5, H6, H7, H8, H9, H10, H11, H12, H13⟩
  sl_exec (disch := decide)
  sl_step
  try sl_unfold_run_values
  try simp (disch := decide) only [read_full h4, read_full h5, read_full h6, read_full h7, read_full h8, read_full h9, read_full h10, read_full h11,
    read_full h12, read_full h13, write_full h11, write_full h12, write_full h13]
  isplitl [HT]; · iexact HT
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body, given what the rest of it does at the counts the table holds. -/
theorem run_head (Q : sProp 𝕄) (R : sProp 𝕄)
    (hk : iprop(tabAt c pf ∗ R)
      ⊢ wp frame (wpE (defs₀ (F := F)) 𝒱₀ (c : Thread nD τ) none) Set.univ
        (tailP i M4 M5 M6 M7 M8 M9 M10 M11 M12 h12 M13 (cond1 (cntOf pf) i) (cond2 (cntOf pf) i) (k0_cond3 i (cntOf pf 0) (cntOf pf 1) (cntOf pf 2) (cntOf pf 3))
          (k0_cond4 i (cntOf pf 0) (cntOf pf 1) (cntOf pf 2) (cntOf pf 3)) (grpW (cntOf pf) (a0 i)))
        (fun _ => Q)) :
    iprop(tabAt c pf ∗ R)
      ⊢ wp frame (wpE (defs₀ (F := F)) 𝒱₀ (c : Thread nD τ) none) Set.univ (kbody i M4 h4 M5 h5 M6 h6 M7 h7 M8 h8 M9 h9 M10 h10 M11 h11 M12 h12 M13 h13) (fun _ => Q) := by
  rw [kbody_eq]
  iintro ⟨HT, HR⟩
  sl_exec
  iexact HtailP_0

end Run

end Cert.Proof.Ffn

end
-- ==== Proof.FfnLaunch.lean ====
/-
  The launch of the expert kernel: what each point holds, the body obligation, and the run of @main at any reading `F` of
  the floats, whatever the counts are.
-/
module

public import proofs.«01_k».proof.Proof.FfnBody
public import Idealize.ShloMosaic.Lib.Pipeline.Regions
public import Idealize.ShloMosaic.Lib.Pipeline.TableIdle
public import Idealize.ShloMosaic.Lib.Pipeline.ValueKit

@[expose] public section

set_option maxRecDepth 100000

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- The one core. -/
abbrev c₀ : Dev nD := 0

/-- The table at launch, and its counts. -/
abbrev pfM : pre0.Contents (Elt F) := fun k => m ((c₀ : Thread nD τ).loc (pre0.ref k))
abbrev cM : Cnt := cntOf (pfM m)

/-- The prefetched table's admissible contents: as launched. -/
def adm (p : Fin 1) : (pcfgs (F := F) p).Adm := ⟨pfM m, ok (pfM m)⟩

/-- The launch's pipeline. -/
abbrev cfgM : Cfg sig Λ₀ := Pipeline.pin (pcfgs (F := F)) (adm m) 0

/-- An array's block at a point. -/
abbrev blkAt (w : Fin 8) (t : Fin (cfgM m).N) : (((cfgM m).win w).xblock ((cfgM m).grid.coords t)).Idx → Elt F ((cfgM m).win w).elt :=
  (((cfgM m).win w).blk t).view.read (Elt F) (m ((c₀ : Thread nD τ).loc (Pipeline.arrRef spec0 w)))

/-- The blocks a point holds: the rows, their gates, the expert's three matrices, the norm's two vectors. -/
def xB (t : Fin (cfgM m).N) : S256x4096.Idx → Elt F .f32 := blkAt m 0 t
def gaB (t : Fin (cfgM m).N) : S256x128.Idx → Elt F .f32 := blkAt m 1 t
def wgB (t : Fin (cfgM m).N) : S1x1x4096x512.Idx → Elt F .bf16 := blkAt m 2 t
def wuB (t : Fin (cfgM m).N) : S1x1x4096x512.Idx → Elt F .bf16 := blkAt m 3 t
def wdB (t : Fin (cfgM m).N) : S1x1x512x4096.Idx → Elt F .bf16 := blkAt m 4 t
def gB (t : Fin (cfgM m).N) : S1x1x4096.Idx → Elt F .f32 := blkAt m 5 t
def bB (t : Fin (cfgM m).N) : S1x1x4096.Idx → Elt F .f32 := blkAt m 6 t

/-- The point's coordinates. -/
abbrev co (t : Fin (cfgM m).N) : grid0.Coords := grid0.coords t

/-- What a point adds. -/
def part (t : Fin (cfgM m).N) : S256x4096.Idx → Elt F .f32 :=
  k0_pay6 (a1 (co m t)) (grpW (cM m) (a0 (co m t))) (k0_pay1 (xB m t)) (wgB m t) (wuB m t) (gaB m t) (wdB m t)

/-- The sum before point `n`, within its row tile. -/
def accN : ℕ → S256x4096.Idx → Elt F .f32
  | 0 => k0_pay2
  | n + 1 => if h : n < (cfgM m).N then k0_pay3 (if n % 8 = 0 then k0_pay2 else accN n) (part m ⟨n, h⟩) else k0_pay2

/-- What a row tile's last point leaves in its result block. -/
def outB (t : Fin (cfgM m).N) : S256x4096.Idx → Elt F .f32 :=
  if usedW (cM m) (a0 (co m t)) = 1#1 then k0_pay4 (xB m t) (accN m (t.val + 1)) (gB m t) (bB m t) else k0_pay5

/-- The two scratch buffers before point `n`: within a row tile that holds rows, the rows rounded and the sum so far. -/
def Scr (n : ℕ) (h : n ≤ (cfgM m).N) (b0 : S256x4096.Idx → Elt F .bf16) (b1 : S256x4096.Idx → Elt F .f32) : Prop :=
  ∀ h0 : n % 8 ≠ 0, usedW (cM m) (a0 (co m ⟨n - 1, by omega⟩)) = 1#1 → b0 = k0_pay1 (xB m ⟨n - 1, by omega⟩) ∧ b1 = accN m n

/-- The invariant before point `n`. -/
def PhiS (c : Dev nD) (n : ℕ) (h : n ≤ (cfgM m).N) : sProp 𝕄 :=
  iprop(tabAt c (pfM m) ∗ ∃ b0 b1, ⌜Scr m n h b0 b1⌝ ∗ pt c (Memref.whole cc0_scratch0 : Memref sig .tc .vmem S256x4096 .bf16) (Memref.isWhole_whole _) b0
    ∗ pt c (Memref.whole cc0_scratch1 : Memref sig .tc .vmem S256x4096 .f32) (Memref.isWhole_whole _) b1)

/-- The proof data. -/
def dats (p : Fin 1) (c : Dev nD) : Dat τ (Elt F) Unit ℕ (UU nD τ) ℕ (Pipeline.pin (pcfgs (F := F)) (adm m) p) c where
  A w := m ((c : Thread nD τ).loc (Pipeline.arrRef spec0 w))
  after w t := match w with
    | 0 => xB m t
    | 1 => gaB m t
    | 2 => wgB m t
    | 3 => wuB m t
    | 4 => wdB m t
    | 5 => gB m t
    | 6 => bB m t
    | 7 => outB m t
    | ⟨_ + 8, h⟩ => absurd h (Nat.not_lt.2 (Nat.le_add_left _ _))
  Φ t := PhiS m c t.val (Nat.le_of_lt_succ t.isLt)
  q _ := fullShare
  owed _ := 0

/-- An input window holds its block, fetched there or not. -/
theorem before0 (t : Fin (cfgM m).N) (d) : (dats m 0 c₀).before 0 t d = xB m t :=
  (dats m 0 c₀).before_in_eq_fetched 0 rfl (fun _ => rfl) (fun _ _ _ => rfl) (fun _ => rfl) t d
theorem before1 (t : Fin (cfgM m).N) (d) : (dats m 0 c₀).before 1 t d = gaB m t :=
  (dats m 0 c₀).before_in_eq_fetched 1 rfl (fun _ => rfl) (fun _ _ _ => rfl) (fun _ => rfl) t d
theorem before2 (t : Fin (cfgM m).N) (d) : (dats m 0 c₀).before 2 t d = wgB m t :=
  (dats m 0 c₀).before_in_eq_fetched 2 rfl (fun _ => rfl) (fun _ _ _ => rfl) (fun _ => rfl) t d
theorem before3 (t : Fin (cfgM m).N) (d) : (dats m 0 c₀).before 3 t d = wuB m t :=
  (dats m 0 c₀).before_in_eq_fetched 3 rfl (fun _ => rfl) (fun _ _ _ => rfl) (fun _ => rfl) t d
theorem before4 (t : Fin (cfgM m).N) (d) : (dats m 0 c₀).before 4 t d = wdB m t :=
  (dats m 0 c₀).before_in_eq_fetched 4 rfl (fun _ => rfl) (fun _ _ _ => rfl) (fun _ => rfl) t d
theorem before5 (t : Fin (cfgM m).N) (d) : (dats m 0 c₀).before 5 t d = gB m t :=
  (dats m 0 c₀).before_in_eq_fetched 5 rfl (fun _ => rfl) (fun _ _ _ => rfl) (fun _ => rfl) t d
theorem before6 (t : Fin (cfgM m).N) (d) : (dats m 0 c₀).before 6 t d = bB m t :=
  (dats m 0 c₀).before_in_eq_fetched 6 rfl (fun _ => rfl) (fun _ _ _ => rfl) (fun _ => rfl) t d

/-- The result's block moves at each row tile. -/
theorem flush7 (t : Fin (cfgM m).N) : ((cfgM m).win 7).flush t = decide (t.val % 8 = 7) := by
  rw [Window.flush_eq_flushF]
  exact (show ∀ t : Fin grid0.N, (true && (t.val + 1 = grid0.N || decide (∃ h : t.val + 1 < grid0.N, ∃ a, cc0_transform_7 (grid0.coords ⟨t.val + 1, h⟩) a ≠ cc0_transform_7 (grid0.coords t) a))) = decide (t.val % 8 = 7) by decide +kernel) t

/-- The row block taken at two points of a row tile is the same. -/
theorem xB_pred (n : ℕ) (h : n < (cfgM m).N) (h0 : n % 8 ≠ 0) : xB m ⟨n - 1, by omega⟩ = xB m ⟨n, h⟩ := by
  have hc : grid0.coords (⟨n - 1, Nat.lt_of_le_of_lt (Nat.sub_le _ _) h⟩ : Fin grid0.N) 0 = grid0.coords (⟨n, h⟩ : Fin grid0.N) 0 := by
    refine Fin.ext ?_
    exact (coords_0 _).trans (Eq.trans (by show (n - 1) / 8 = n / 8; omega) (coords_0 ⟨n, h⟩).symm)
  have hi : ((cfgM m).win 0).index ⟨n - 1, Nat.lt_of_le_of_lt (Nat.sub_le _ _) h⟩ = ((cfgM m).win 0).index ⟨n, h⟩ := by
    show ix0 (pfM m) 0 (grid0.coords _) = ix0 (pfM m) 0 (grid0.coords _)
    show cc0_transform_0 _ _ _ _ _ (pfM m) (grid0.coords _) = cc0_transform_0 _ _ _ _ _ (pfM m) (grid0.coords _)
    rw [t0_eq, t0_eq]
    unfold a0
    rw [hc]
  exact (dats m 0 c₀).fetched_congr 0 hi rfl (xB m ⟨n, h⟩)

/-- The table's words as the result's idle table names them. -/
theorem atD_eq (pf : pre0.Contents (Elt F)) : pf.atD 0 ![0, 0] = cntOf pf 0 ∧ pf.atD 0 ![1, 0] = cntOf pf 1 ∧ pf.atD 0 ![2, 0] = cntOf pf 2 ∧ pf.atD 0 ![3, 0] = cntOf pf 3 := by
  refine ⟨?_, ?_, ?_, ?_⟩
  all_goals
    unfold Pipeline.Prefetch.Contents.atD
    refine (dif_pos (by decide)).trans (congrArg (pf 0) (funext fun a => ?_))
    match a with
    | ⟨0, _⟩ => rfl
    | ⟨1, _⟩ => rfl

/-- The result's block is left as found but at a row tile's last point. -/
theorem idle7 (t : Fin (cfgM m).N) : (cfgM m).idle 7 ((cfgM m).grid.coords t) = decide (t.val % 8 ≠ 7) := by
  show idle0 (pfM m) 7 (co m t) = _
  obtain ⟨e0, e1, e2, e3⟩ := atD_eq (pfM m)
  show (!(k0_cond3 (co m t) ((pfM m).atD 0 ![0, 0]) ((pfM m).atD 0 ![1, 0]) ((pfM m).atD 0 ![2, 0]) ((pfM m).atD 0 ![3, 0]) == 1#1)
    && !(k0_cond4 (co m t) ((pfM m).atD 0 ![0, 0]) ((pfM m).atD 0 ![1, 0]) ((pfM m).atD 0 ![2, 0]) ((pfM m).atD 0 ![3, 0]) == 1#1)) = _
  rw [e0, e1, e2, e3]
  have h3 := cond3_iff (cM m) (co m t)
  have h4 := cond4_iff (cM m) (co m t)
  have c1 : (co m t 1).val = _ := coords_1 t
  have c2 : (co m t 2).val = _ := coords_2 t
  rw [c1, c2] at h3 h4
  rw [Bool.eq_iff_iff]
  simp only [Bool.and_eq_true, Bool.not_eq_true', beq_eq_false_iff_ne, ne_eq, decide_eq_true_eq, h3, h4]
  by_cases hu : usedW (cM m) (a0 (co m t)) = 1#1
  · simp only [hu, true_and, not_true_eq_false, false_and, not_false_eq_true, and_true]; omega
  · simp only [hu, true_and, not_true_eq_false, false_and, not_false_eq_true, and_true]; omega

section Core
variable (M4 : Memref sig .tc .vmem S256x4096 .f32) (h4 : M4.IsWhole) (M5 : Memref sig .tc .vmem S256x128 .f32) (h5 : M5.IsWhole)
  (M6 : Memref sig .tc .vmem S1x1x4096x512 .bf16) (h6 : M6.IsWhole) (M7 : Memref sig .tc .vmem S1x1x4096x512 .bf16) (h7 : M7.IsWhole)
  (M8 : Memref sig .tc .vmem S1x1x512x4096 .bf16) (h8 : M8.IsWhole) (M9 : Memref sig .tc .vmem S1x1x4096 .f32) (h9 : M9.IsWhole)
  (M10 : Memref sig .tc .vmem S1x1x4096 .f32) (h10 : M10.IsWhole) (M11 : Memref sig .tc .vmem S256x4096 .f32) (h11 : M11.IsWhole)
  (M12 : Memref sig .tc .vmem S256x4096 .bf16) (h12 : M12.IsWhole) (M13 : Memref sig .tc .vmem S256x4096 .f32) (h13 : M13.IsWhole)

/-- What a point holds, at its blocks. -/
abbrev heldM (c : Dev nD) (t : Fin (cfgM m).N) (o : S256x4096.Idx → Elt F .f32) (xb : S256x4096.Idx → Elt F .bf16) (ac : S256x4096.Idx → Elt F .f32) : sProp 𝕄 :=
  held c (pfM m) M4 h4 M5 h5 M6 h6 M7 h7 M8 h8 M9 h9 M10 h10 M11 h11 M12 h12 M13 h13 (xB m t) (gaB m t) (wgB m t) (wuB m t) (wdB m t) (gB m t) (bB m t) o xb ac

/-- What a point leaves. -/
abbrev postM (c : Dev nD) (t : Fin (cfgM m).N) (o : S256x4096.Idx → Elt F .f32) : sProp 𝕄 :=
  iprop(∃ o' xb' ac', ⌜Scr m (t.val + 1) t.isLt xb' ac' ∧ (t.val % 8 = 7 → o' = outB m t) ∧ (t.val % 8 ≠ 7 → o' = o)⌝
    ∗ heldM m M4 h4 M5 h5 M6 h6 M7 h7 M8 h8 M9 h9 M10 h10 M11 h11 M12 h12 M13 h13 c t o' xb' ac')

/-- The sum after a point. -/
theorem accN_succ (t : Fin (cfgM m).N) : accN m (t.val + 1) = k0_pay3 (if t.val % 8 = 0 then k0_pay2 else accN m t.val) (part m t) := by
  rw [accN, dif_pos t.isLt]

theorem core (c : Dev nD) (t : Fin (cfgM m).N) (o : S256x4096.Idx → Elt F .f32) (xb : S256x4096.Idx → Elt F .bf16) (ac : S256x4096.Idx → Elt F .f32)
    (hs : Scr m t.val (Nat.le_of_lt t.isLt) xb ac) :
    heldM m M4 h4 M5 h5 M6 h6 M7 h7 M8 h8 M9 h9 M10 h10 M11 h11 M12 h12 M13 h13 c t o xb ac
      ⊢ wp frame (wpE (defs₀ (F := F)) 𝒱₀ (c : Thread nD τ) none) Set.univ (kbody (co m t) M4 h4 M5 h5 M6 h6 M7 h7 M8 h8 M9 h9 M10 h10 M11 h11 M12 h12 M13 h13)
        (fun _ => postM m M4 h4 M5 h5 M6 h6 M7 h7 M8 h8 M9 h9 M10 h10 M11 h11 M12 h12 M13 h13 c t o) := by
  have i1 := cond1_iff (cM m) (co m t)
  have i2 := cond2_iff (cM m) (co m t)
  have i3 := cond3_iff (cM m) (co m t)
  have i4 := cond4_iff (cM m) (co m t)
  have c1 : (co m t 1).val = _ := coords_1 t
  have c2 : (co m t 2).val = _ := coords_2 t
  rw [c1, c2] at i1 i3 i4
  have z : ∀ b : BitVec 1, ¬ b = 1#1 → b = 0#1 := fun b hb => (one_bit b).resolve_right hb
  have hu' : usedW (cM m) (a0 (co m ⟨t.val + 1 - 1, t.isLt⟩)) = usedW (cM m) (a0 (co m t)) := rfl
  refine run_head c (co m t) (pfM m) M4 h4 M5 h5 M6 h6 M7 h7 M8 h8 M9 h9 M10 h10 M11 h11 M12 h12 M13 h13 _ _ ?_
  by_cases hu : usedW (cM m) (a0 (co m t)) = 1#1
  · have hxa : t.val % 8 ≠ 0 → xb = k0_pay1 (xB m t) ∧ ac = accN m t.val := fun h0 => by
      have hp : usedW (cM m) (a0 (co m ⟨t.val - 1, Nat.lt_of_le_of_lt (Nat.sub_le _ _) t.isLt⟩)) = 1#1 := by
        rw [← hu]
        have hc : (co m ⟨t.val - 1, Nat.lt_of_le_of_lt (Nat.sub_le _ _) t.isLt⟩) 0 = (co m t) 0 := by
          refine Fin.ext ?_
          exact (coords_0 _).trans (Eq.trans (by show (t.val - 1) / 8 = t.val / 8; omega) (coords_0 t).symm)
        unfold a0; rw [hc]
      obtain ⟨e0, e1⟩ := hs h0 hp
      exact ⟨e0.trans (congrArg k0_pay1 (xB_pred m t.val t.isLt h0)), e1⟩
    by_cases h0 : t.val % 8 = 0
    · refine (tail_first c (co m t) (pfM m) M4 h4 M5 h5 M6 h6 M7 h7 M8 h8 M9 h9 M10 h10 M11 h11 M12 h12 M13 h13 (xB m t) (gaB m t) (wgB m t) (wuB m t) (wdB m t) (gB m t) (bB m t)
        o xb ac _ _ _ _ _ (i1.2 ⟨hu, by omega, by omega⟩) (i2.2 hu) (z _ fun h => by have := i3.1 h; omega) (z _ fun h => (i4.1 h).1 hu)).trans ((wp_mono _ _ _ fun _ => ?_))
      iintro H
      iexists o, _, _
      isplitr; swap; (· iexact H)
      ipureintro
      refine ⟨fun _ _ => ⟨rfl, ?_⟩, fun h => by omega, fun _ => rfl⟩
      rw [accN_succ, if_pos h0]; rfl
    · obtain ⟨rfl, rfl⟩ := hxa h0
      by_cases h7 : t.val % 8 = 7
      · refine (tail_last c (co m t) (pfM m) M4 h4 M5 h5 M6 h6 M7 _ M8 h8 M9 h9 M10 h10 M11 h11 M12 h12 M13 h13 (xB m t) (gaB m t) (wgB m t) (wuB m t) (wdB m t) (gB m t) (bB m t)
          o _ _ _ _ _ _ _ (z _ fun h => by have := i1.1 h; omega) (i2.2 hu) (i3.2 ⟨hu, by omega, by omega⟩) (z _ fun h => (i4.1 h).1 hu)).trans ((wp_mono _ _ _ fun _ => ?_))
        iintro H
        iexists _, _, _
        isplitr; swap; (· iexact H)
        ipureintro
        refine ⟨fun _ _ => ⟨rfl, ?_⟩, fun _ => ?_, fun h => absurd h7 h⟩
        · rw [accN_succ, if_neg h0]; rfl
        · unfold outB; rw [if_pos hu, accN_succ, if_neg h0]; rfl
      · refine (tail_mid c (co m t) (pfM m) M4 h4 M5 h5 M6 h6 M7 _ M8 h8 M9 h9 M10 h10 M11 h11 M12 h12 M13 h13 (xB m t) (gaB m t) (wgB m t) (wuB m t) (wdB m t) (gB m t) (bB m t)
          o _ _ _ _ _ _ _ (z _ fun h => by have := i1.1 h; omega) (i2.2 hu) (z _ fun h => by have := i3.1 h; omega) (z _ fun h => (i4.1 h).1 hu)).trans ((wp_mono _ _ _ fun _ => ?_))
        iintro H
        iexists o, _, _
        isplitr; swap; (· iexact H)
        ipureintro
        refine ⟨fun _ _ => ⟨rfl, ?_⟩, fun h => absurd h h7, fun _ => rfl⟩
        rw [accN_succ, if_neg h0]; rfl
  · have hs' : ∀ b0 b1, Scr m (t.val + 1) t.isLt b0 b1 := fun _ _ _ h => absurd h hu
    by_cases h7 : t.val % 8 = 7
    · refine (tail_zero c (co m t) (pfM m) M4 h4 M5 h5 M6 h6 M7 _ M8 h8 M9 h9 M10 h10 M11 h11 M12 h12 M13 h13 (xB m t) (gaB m t) (wgB m t) (wuB m t) (wdB m t) (gB m t) (bB m t)
        o xb ac _ _ _ _ _ (z _ fun h => hu (i1.1 h).1) (z _ fun h => hu (i2.1 h)) (z _ fun h => hu (i3.1 h).1) (i4.2 ⟨hu, by omega, by omega⟩)).trans ((wp_mono _ _ _ fun _ => ?_))
      iintro H
      iexists _, _, _
      isplitr; swap; (· iexact H)
      ipureintro
      refine ⟨hs' _ _, fun _ => ?_, fun h => absurd h7 h⟩
      unfold outB; rw [if_neg hu]
    · refine (tail_idle c (co m t) (pfM m) M4 h4 M5 h5 M6 h6 M7 _ M8 h8 M9 h9 M10 h10 M11 h11 M12 h12 M13 h13 (xB m t) (gaB m t) (wgB m t) (wuB m t) (wdB m t) (gB m t) (bB m t)
        o xb ac _ _ _ _ _ (z _ fun h => hu (i1.1 h).1) (z _ fun h => hu (i2.1 h)) (z _ fun h => hu (i3.1 h).1) (z _ fun h => by have := i4.1 h; omega)).trans ((wp_mono _ _ _ fun _ => ?_))
      iintro H
      iexists o, _, _
      isplitr; swap; (· iexact H)
      ipureintro
      exact ⟨hs' _ _, fun h => absurd h h7, fun _ => rfl⟩

end Core

/-- A whole buffer owned at contents is it held there. -/
theorem owns_pt (c : Dev nD) {sp : Space} {S : Shape} {e : EltTy} (M : Memref sig .tc sp S e) (h : M.IsWhole) (X : S.Idx → Elt F e) :
    (owns (c : Thread nD τ) M fullShare X : sProp 𝕄) = pt c M h X := by
  unfold owns pt
  rw [h.set_eq_univ]
  have h₁ : iprop(∃ f, ⌜M.view.read (Elt F) f = X⌝ ∗ (M.view.loc (c : Thread nD τ) ↦{fullShare} f)) ⊢ (M.view.loc (c : Thread nD τ) ↦{fullShare} h.unread X : sProp 𝕄) := by
    iintro ⟨%f, %hf, H⟩
    ihave H' := (Entails.of_eq (congrArg (fun f => (M.view.loc (c : Thread nD τ) ↦{fullShare} f : sProp 𝕄)) (h.eq_unread hf))) $$ H
    iexact H'
  have h₂ : (M.view.loc (c : Thread nD τ) ↦{fullShare} h.unread X : sProp 𝕄) ⊢ iprop(∃ f, ⌜M.view.read (Elt F) f = X⌝ ∗ (M.view.loc (c : Thread nD τ) ↦{fullShare} f)) := by
    iintro H
    iexists _
    isplitr
    · ipureintro; exact h.read_unread X
    iexact H
  exact BI.equiv_iff.mp ⟨h₁, h₂⟩

set_option backward.isDefEq.respectTransparency.types false in
theorem body_obligation [∀ e, Nonempty (Elt F e)] (c : Dev nD) : BodyObligation (dats m 0 c) (defs₀ (F := F)) 𝒱₀ () Set.univ := fun t => by
  obtain rfl : c = c₀ := Subsingleton.elim _ _
  rw [bigSep_W0, bigSep_W0]
  rw [show (dats m 0 c₀).Φ t.castSucc = PhiS m c₀ t.val (Nat.le_of_lt t.isLt) from rfl, show (dats m 0 c₀).Φ t.succ = PhiS m c₀ (t.val + 1) t.isLt from rfl,
    show (dats m 0 c₀).owesAt () t.succ = (dats m 0 c₀).owesAt () t.castSucc from rfl]
  unfold PhiS
  have W : ∀ (w : Fin 8) , (((cfgM m).win w).stage ((cfgM m).slots t w)).IsWhole := fun w => (launch0 (F := F)).stage_whole w _
  iintro ⟨⟨HT, ⟨%b0, %b1, %hs, HS0, HS1⟩⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Entails.of_eq ((owns_pt c₀ _ (W 0) _).trans (congrArg (pt c₀ _ (W 0)) (before0 m t d0)))) $$ H0
  ihave H1 := (Entails.of_eq ((owns_pt c₀ _ (W 1) _).trans (congrArg (pt c₀ _ (W 1)) (before1 m t d1)))) $$ H1
  ihave H2 := (Entails.of_eq ((owns_pt c₀ _ (W 2) _).trans (congrArg (pt c₀ _ (W 2)) (before2 m t d2)))) $$ H2
  ihave H3 := (Entails.of_eq ((owns_pt c₀ _ (W 3) _).trans (congrArg (pt c₀ _ (W 3)) (before3 m t d3)))) $$ H3
  ihave H4 := (Entails.of_eq ((owns_pt c₀ _ (W 4) _).trans (congrArg (pt c₀ _ (W 4)) (before4 m t d4)))) $$ H4
  ihave H5 := (Entails.of_eq ((owns_pt c₀ _ (W 5) _).trans (congrArg (pt c₀ _ (W 5)) (before5 m t d5)))) $$ H5
  ihave H6 := (Entails.of_eq ((owns_pt c₀ _ (W 6) _).trans (congrArg (pt c₀ _ (W 6)) (before6 m t d6)))) $$ H6
  ihave H7 := (Entails.of_eq (owns_pt c₀ _ (W 7) _)) $$ H7
  have key := core m _ (W 0) _ (W 1) _ (W 2) _ (W 3) _ (W 4) _ (W 5) _ (W 6) _ (W 7) (Memref.whole cc0_scratch0) (Memref.isWhole_whole _) (Memref.whole cc0_scratch1) (Memref.isWhole_whole _) c₀ t
    ((dats m 0 c₀).before 7 t d7) b0 b1 hs
  ihave Hrun := key $$ [HT HS0 HS1 H0 H1 H2 H3 H4 H5 H6 H7]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact HS1
  iapply (wp_wand frame (wpE defs₀ 𝒱₀ (c₀ : Thread nD τ) none) Set.univ) $$ Hrun
  iintro %x ⟨%o', %xb', %ac', %hp, HT, H0, H1, H2, H3, H4, H5, H6, H7, HS0, HS1⟩
  isplitl [HT HS0 HS1]
  · isplitl [HT]; · iexact HT
    iexists xb', ac'
    isplitr; · ipureintro; exact hp.1
    isplitl [HS0]; · iexact HS0
    iexact HS1
  isplitl [HO]; · iexact HO
  isplitl [H0]; · iapply (Entails.of_eq (owns_pt c₀ _ (W 0) _).symm); iexact H0
  isplitl [H1]; · iapply (Entails.of_eq (owns_pt c₀ _ (W 1) _).symm); iexact H1
  isplitl [H2]; · iapply (Entails.of_eq (owns_pt c₀ _ (W 2) _).symm); iexact H2
  isplitl [H3]; · iapply (Entails.of_eq (owns_pt c₀ _ (W 3) _).symm); iexact H3
  isplitl [H4]; · iapply (Entails.of_eq (owns_pt c₀ _ (W 4) _).symm); iexact H4
  isplitl [H5]; · iapply (Entails.of_eq (owns_pt c₀ _ (W 5) _).symm); iexact H5
  isplitl [H6]; · iapply (Entails.of_eq (owns_pt c₀ _ (W 6) _).symm); iexact H6
  by_cases h7 : t.val % 8 = 7
  · have hi : idle0 (adm m 0).1 7 (((pcfgs (F := F) 0).gridAt (adm m 0).1).coords t) = false :=
      (idle7 m t).trans (decide_eq_false (not_not.2 h7))
    dsimp only
    rw [hi]
    iapply (Entails.of_eq ((congrArg (pt c₀ _ (W 7)) (hp.2.1 h7)).trans (owns_pt c₀ _ (W 7) _).symm)); iexact H7
  · have hi : idle0 (adm m 0).1 7 (((pcfgs (F := F) 0).gridAt (adm m 0).1).coords t) = true :=
      (idle7 m t).trans (decide_eq_true h7)
    dsimp only
    rw [hi]
    dsimp only
    generalize hfl : Window.flush _ _ = fl
    obtain rfl : fl = false := hfl.symm.trans ((flush7 m t).trans (decide_eq_false h7))
    iexists d7
    iapply (Entails.of_eq ((congrArg (pt c₀ _ (W 7)) (hp.2.2 h7)).trans (owns_pt c₀ _ (W 7) _).symm)); iexact H7

/-- The launch element: the pipeline library's; no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

abbrev L : GSem nD τ sig → Finset Unit := fun _ => ∅
abbrev lv : GSem nD τ sig → Unit → ℕ := fun _ _ => 0

/-- The prefetched table listed. -/
theorem prefHeld_eq : (Pipeline.prefHeld pre0 c₀ (fun _ => fullShare) (adm m 0).1 : sProp 𝕄) = tabAt c₀ (pfM m) := by
  unfold Pipeline.prefHeld
  rw [show (Finset.univ : Finset (Fin pre0.K)) = {0} from rfl, BI.bigSep_singleton]
  rfl

/-- What the region leaves: the table as launched, the arrays after the write-backs. -/
abbrev Tₙ (c : Dev nD) : sProp 𝕄 := iprop(tabAt c (pfM m) ∗ (dats m 0 c).arrays ((dats m 0 c).arrAt · (cfgM m).N))

/-- A whole scratch buffer held is it held at what it reads. -/
theorem pt_of {sp : Space} {S : Shape} {e : EltTy} (c : Dev nD) (M : Memref sig .tc sp S e) (h : M.IsWhole) (f : M.view.ty.Contents (Elt F)) :
    (M.view.loc (c : Thread nD τ) ↦{fullShare} f : sProp 𝕄) = pt c M h (M.view.read (Elt F) f) := by
  unfold pt; rw [h.unread_read]

set_option backward.isDefEq.respectTransparency.types false in
/-- THE REGION. -/
def reg0 [∀ e, Nonempty (Elt F e)] : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation m c).loose
  hwaits := Pipeline.hwaits_of_owed_zero _ _ _ _ L lv 0 fun _ _ => rfl
  pre c := iprop((unscopedBufs c (fun b => m ((c : Thread nD τ).loc b))) ∗ ∃ W, owes (c : Thread nD τ) (0 : CellTallies nD τ sig Unit) W)
  post c := iprop(Tₙ m c ∗ ∃ W, owes (c : Thread nD τ) (0 : CellTallies nD τ sig Unit) W)
  X c := iprop(emp)
  Y c := tabAt c (pfM m)
  Z c := iprop(emp)
  hentry c := by
    obtain rfl : c = c₀ := Subsingleton.elim _ _
    rw [Pipeline.ownSems0_none]
    have hsplit := (Pipeline.arrays_of_unscopedBufs (pcfgs (F := F)) (adm m) (dats m) (launch0 (F := F)).win (launch0 (F := F)).arr_whole c₀
      ((dats m 0 c₀).share_full fun _ => rfl) (fun b => m ((c₀ : Thread nD τ).loc b)) (fun w => rfl)).trans
      (sep_mono .rfl (Entails.of_eq ((Pipeline.unscopedRest_split preFacts0 c₀ (fun b => m ((c₀ : Thread nD τ).loc b))))))
    iintro ⟨⟨Hub, HO⟩, -, -⟩
    ihave H := hsplit $$ Hub
    icases H with ⟨Ha, Hp, -⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr <;> iempintro
  hin c := by
    obtain rfl : c = c₀ := Subsingleton.elim _ _
    rw [show (dats m 0 c₀).Φ 0 = PhiS m c₀ 0 (Nat.zero_le _) from rfl, scopedRest0_eq]; unfold PhiS
    iintro ⟨-, Hp, ⟨%f0, H0⟩, ⟨%f1, H1⟩⟩
    isplitl [Hp]; · iapply (Entails.of_eq (prefHeld_eq m)); iexact Hp
    ihave H0 := (Entails.of_eq (pt_of c₀ (Memref.whole cc0_scratch0 : Memref sig .tc .vmem S256x4096 .bf16) (Memref.isWhole_whole _) f0)) $$ H0
    ihave H1 := (Entails.of_eq (pt_of c₀ (Memref.whole cc0_scratch1 : Memref sig .tc .vmem S256x4096 .f32) (Memref.isWhole_whole _) f1)) $$ H1
    iexists ((Memref.whole cc0_scratch0 : Memref sig .tc .vmem S256x4096 .bf16).view.read (Elt F) f0), ((Memref.whole cc0_scratch1 : Memref sig .tc .vmem S256x4096 .f32).view.read (Elt F) f1)
    isplitr
    · ipureintro; exact fun h => absurd rfl h
    isplitl [H0]; · iexact H0
    iexact H1
  hout c := by
    obtain rfl : c = c₀ := Subsingleton.elim _ _
    rw [Pipeline.ownSems0_none, show (dats m 0 c₀).Φ (Fin.last _) = PhiS m c₀ (cfgM m).N (Nat.le_refl _) from rfl, scopedRest0_eq]; unfold PhiS
    iintro ⟨HT, ⟨%b0, %b1, -, H0, H1⟩⟩
    isplitl [HT]; · iexact HT
    isplitr; · iempintro
    isplitl [H0]; · iexists _; iexact H0
    iexists _; iexact H1
  hexit c := by
    iintro ⟨Ha, HO, HY, -⟩
    imodintro
    isplitr [HO]
    · isplitl [HY]; · iexact HY
      iexact Ha
    · unfold Pipeline.Dat.owesAt Pipeline.owesWithin
      icases HO with ⟨%W, -, HO⟩; iexists W; iexact HO

/-- The physical post: the result's array after the write-backs, the arguments as launched. -/
def QC : PUnit × MemSt nD τ sig (Elt F) → Prop := fun r =>
  r.2.mem ((c₀ : Thread nD τ).loc main_v0) = (dats m 0 c₀).arrAt 7 (cfgM m).N
    ∧ r.2.mem ((c₀ : Thread nD τ).loc main_arg0) = m ((c₀ : Thread nD τ).loc main_arg0) ∧ r.2.mem ((c₀ : Thread nD τ).loc main_arg1) = m ((c₀ : Thread nD τ).loc main_arg1)
    ∧ r.2.mem ((c₀ : Thread nD τ).loc main_arg2) = m ((c₀ : Thread nD τ).loc main_arg2) ∧ r.2.mem ((c₀ : Thread nD τ).loc main_arg3) = m ((c₀ : Thread nD τ).loc main_arg3)
    ∧ r.2.mem ((c₀ : Thread nD τ).loc main_arg4) = m ((c₀ : Thread nD τ).loc main_arg4) ∧ r.2.mem ((c₀ : Thread nD τ).loc main_arg5) = m ((c₀ : Thread nD τ).loc main_arg5)
    ∧ r.2.mem ((c₀ : Thread nD τ).loc main_arg6) = m ((c₀ : Thread nD τ).loc main_arg6) ∧ r.2.mem ((c₀ : Thread nD τ).loc main_arg7) = m ((c₀ : Thread nD τ).loc main_arg7)

set_option backward.isDefEq.respectTransparency.types false in
/-- THE RUN: from any memory whose counters are zero, every weakly fair execution of @main terminates with the result's
    array after the write-backs, the arguments as launched and every counter at zero. -/
theorem run_main [∀ e, Nonempty (Elt F e)] :
    θ_run defs (onTc (τ := τ) (main (F := F))) (s₀ m ρ) (fun r => QC m r ∧ r.2.sem = fun _ => 0) :=
  Pipeline.θ_run_regions_kit_sems (pcfgs (F := F)) (adm m) (dats m) () (cellOf_inj (adm m)) EP defs₀ 𝒱₀ L lv m ρ main [.region (reg0 m)]
    (fun c Q => by rw [main_segs (adm m) (dats m) () 𝒱₀ L lv (reg0 m) c])
    (by simp only [Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop((unscopedBufs c (fun b => m ((c : Thread nD τ).loc b))) ∗ ∃ W, owes (c : Thread nD τ) (0 : CellTallies nD τ sig Unit) W)) (Tₙ := Tₙ m)
    (hch := ⟨fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => QC m (⟨⟩, s))
    (hfin := fun c s' => by
      obtain rfl : c = c₀ := Subsingleton.elim _ _
      dsimp only [Tₙ]
      unfold Pipeline.Dat.arrays
      rw [bigSep_W0]
      iintro ⟨⟨HT, H0, H1, H2, H3, H4, H5, H6, H7⟩, HSI⟩
      icombine HSI HT gives %hT
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      imodintro
      isplitr
      · ipureintro
        have U : ∀ (w : Fin 8), ((cfgM m).win w).arr.view.set = Finset.univ := fun w => ((launch0 (F := F)).arr_whole w).set_eq_univ
        refine ⟨?_, Buf.eq_of_forall_mem_univ hT, ?_, ?_, ?_, ?_, ?_, ?_, ?_⟩
        · exact Buf.eq_of_forall_mem_univ (fun i _ => h7 i (U 7 ▸ Finset.mem_univ i))
        · exact (Buf.eq_of_forall_mem_univ (fun i _ => h0 i (U 0 ▸ Finset.mem_univ i))).trans ((dats m 0 c₀).arrAt_in 0 rfl _)
        · exact (Buf.eq_of_forall_mem_univ (fun i _ => h1 i (U 1 ▸ Finset.mem_univ i))).trans ((dats m 0 c₀).arrAt_in 1 rfl _)
        · exact (Buf.eq_of_forall_mem_univ (fun i _ => h2 i (U 2 ▸ Finset.mem_univ i))).trans ((dats m 0 c₀).arrAt_in 2 rfl _)
        · exact (Buf.eq_of_forall_mem_univ (fun i _ => h3 i (U 3 ▸ Finset.mem_univ i))).trans ((dats m 0 c₀).arrAt_in 3 rfl _)
        · exact (Buf.eq_of_forall_mem_univ (fun i _ => h4 i (U 4 ▸ Finset.mem_univ i))).trans ((dats m 0 c₀).arrAt_in 4 rfl _)
        · exact (Buf.eq_of_forall_mem_univ (fun i _ => h5 i (U 5 ▸ Finset.mem_univ i))).trans ((dats m 0 c₀).arrAt_in 5 rfl _)
        · exact (Buf.eq_of_forall_mem_univ (fun i _ => h6 i (U 6 ▸ Finset.mem_univ i))).trans ((dats m 0 c₀).arrAt_in 6 rfl _)
      iexact HSI)
    (hQ := fun _ h hz => ⟨h c₀, funext fun g => hz g (.inr (by revert g; decide))⟩)

end Cert.Proof.Ffn
end
-- ==== Proof.FfnRef.lean ====
/-
  The run of the expert kernel's reference: a straight line of host operations. Every row goes through all sixteen
  experts, with a gate of zero for the experts outside the row's group, then through the layer norm.
-/
module

public import proofs.«01_k».proof.Proof.Gen.Reference2Ideal
public import Idealize.ShloMosaic.Lib.StableHlo.Run

@[expose] public section

set_option maxRecDepth 100000

noncomputable section

namespace Cert.Proof.FfnRef

open Cert.Reference2Ideal Cert.Reference2Ideal.Gen
open Idealize.ShloMosaic Idealize.ShloMosaic.TcCoe Idealize.ShloMosaic.StableHlo Idealize.SL.Sem

variable {F : FTy → Type} [FloatOps F]

/-- @main's operations in order, its calls' in place. -/
abbrev ops : List (HloOp τ sig (Elt F)) :=
  [ unary main_arg0 main_v0 (extractStridedSlice S4x1 ![0, 0] · slices_S8x128_S4x1_0_0),
    reshape main_v0 main_v1 (rfl : (.i32 : EltTy) = .i32) shapeCasts_S4x1_S4,
    nullary main_c (constantI S_ 32 255#32),
    unary main_c main_v2 (broadcastInDim S4 ![] bcast_S_S4),
    binary main_v1 main_v2 main_v3 addi,
    nullary main_c_0 (constantI S_ 32 256#32),
    unary main_c_0 main_call0_v0 id,
    unary main_call0_v0 main_call0_v1 (broadcastInDim S4 ![] bcast_S_S4),
    binary main_v3 main_call0_v1 main_call0_v2 Host.divsi,
    unary main_v3 main_call0_v3 signi,
    unary main_call0_v0 main_call0_v4 signi,
    unary main_call0_v4 main_call0_v5 (broadcastInDim S4 ![] bcast_S_S4),
    binary main_call0_v3 main_call0_v5 main_call0_v6 (cmpi .ne),
    unary main_call0_v0 main_call0_v7 (broadcastInDim S4 ![] bcast_S_S4),
    binary main_v3 main_call0_v7 main_call0_v8 Host.remsi,
    nullary main_call0_c (constantI S_ 32 0#32),
    unary main_call0_c main_call0_v9 (broadcastInDim S4 ![] bcast_S_S4),
    binary main_call0_v8 main_call0_v9 main_call0_v10 (cmpi .ne),
    binary main_call0_v6 main_call0_v10 main_call0_v11 andi,
    nullary main_call0_c_0 (constantI S_ 32 1#32),
    unary main_call0_c_0 main_call0_v12 (broadcastInDim S4 ![] bcast_S_S4),
    binary main_call0_v2 main_call0_v12 main_call0_v13 subi,
    ternary main_call0_v11 main_call0_v13 main_call0_v2 main_v4 select,
    nullary main_call1_call0_c (constantI S_ 32 0#32),
    unary main_call1_call0_c main_call1_call0_v0 (broadcastInDim S_ ![] bcast_S_S_),
    binary main_v4 main_call1_call0_v0 main_v5 (fun x v => Host.reduceWindow IntOp.addi ![4] ![1] ![3] ![0] x v reduceWindows_S4_S4_w4s1p3_0 h_S_),
    nullary main_v6 (iotaInDim S9216 32 0),
    nullary main_c_1 (constantI S_ 32 256#32),
    unary main_c_1 main_call2_v0 id,
    unary main_call2_v0 main_call2_v1 (broadcastInDim S9216 ![] bcast_S_S9216),
    binary main_v6 main_call2_v1 main_call2_v2 Host.divsi,
    unary main_v6 main_call2_v3 signi,
    unary main_call2_v0 main_call2_v4 signi,
    unary main_call2_v4 main_call2_v5 (broadcastInDim S9216 ![] bcast_S_S9216),
    binary main_call2_v3 main_call2_v5 main_call2_v6 (cmpi .ne),
    unary main_call2_v0 main_call2_v7 (broadcastInDim S9216 ![] bcast_S_S9216),
    binary main_v6 main_call2_v7 main_call2_v8 Host.remsi,
    nullary main_call2_c (constantI S_ 32 0#32),
    unary main_call2_c main_call2_v9 (broadcastInDim S9216 ![] bcast_S_S9216),
    binary main_call2_v8 main_call2_v9 main_call2_v10 (cmpi .ne),
    binary main_call2_v6 main_call2_v10 main_call2_v11 andi,
    nullary main_call2_c_0 (constantI S_ 32 1#32),
    unary main_call2_c_0 main_call2_v12 (broadcastInDim S9216 ![] bcast_S_S9216),
    binary main_call2_v2 main_call2_v12 main_call2_v13 subi,
    ternary main_call2_v11 main_call2_v13 main_call2_v2 main_v7 select,
    unary main_v7 main_v8 (broadcastInDim S9216x1 ![0] bcast_S9216_S9216x1_0),
    unary main_v5 main_v9 (extractStridedSlice S3 ![0] · slices_S4_S3_0),
    unary main_v9 main_v10 (broadcastInDim S1x3 ![1] bcast_S3_S1x3_1),
    unary main_v8 main_v11 (broadcastInDim S9216x3 ![0, 1] bcast_S9216x1_S9216x3_0_1),
    unary main_v10 main_v12 (broadcastInDim S9216x3 ![0, 1] bcast_S1x3_S9216x3_0_1),
    binary main_v11 main_v12 main_v13 (cmpi .sge),
    unary main_v13 main_v14 (extui 32 · natLt_1_32),
    nullary main_c_2 (constantI S_ 32 0#32),
    binary main_v14 main_c_2 main_v15 (fun x v => Host.reduce IntOp.addi x v reducesTo_S9216x3_S9216_d1 h_S_),
    nullary main_v16 (iotaInDim S16 32 0),
    nullary main_c_3 (constantI S_ 32 4#32),
    unary main_c_3 main_call3_v0 id,
    unary main_call3_v0 main_call3_v1 (broadcastInDim S16 ![] bcast_S_S16),
    binary main_v16 main_call3_v1 main_call3_v2 Host.divsi,
    unary main_v16 main_call3_v3 signi,
    unary main_call3_v0 main_call3_v4 signi,
    unary main_call3_v4 main_call3_v5 (broadcastInDim S16 ![] bcast_S_S16),
    binary main_call3_v3 main_call3_v5 main_call3_v6 (cmpi .ne),
    unary main_call3_v0 main_call3_v7 (broadcastInDim S16 ![] bcast_S_S16),
    binary main_v16 main_call3_v7 main_call3_v8 Host.remsi,
    nullary main_call3_c (constantI S_ 32 0#32),
    unary main_call3_c main_call3_v9 (broadcastInDim S16 ![] bcast_S_S16),
    binary main_call3_v8 main_call3_v9 main_call3_v10 (cmpi .ne),
    binary main_call3_v6 main_call3_v10 main_call3_v11 andi,
    nullary main_call3_c_0 (constantI S_ 32 1#32),
    unary main_call3_c_0 main_call3_v12 (broadcastInDim S16 ![] bcast_S_S16),
    binary main_call3_v2 main_call3_v12 main_call3_v13 subi,
    ternary main_call3_v11 main_call3_v13 main_call3_v2 main_v17 select,
    unary main_v17 main_v18 (broadcastInDim S1x16 ![1] bcast_S16_S1x16_1),
    unary main_v15 main_v19 (broadcastInDim S9216x1 ![0] bcast_S9216_S9216x1_0),
    unary main_v18 main_v20 (broadcastInDim S9216x16 ![0, 1] bcast_S1x16_S9216x16_0_1),
    unary main_v19 main_v21 (broadcastInDim S9216x16 ![0, 1] bcast_S9216x1_S9216x16_0_1),
    binary main_v20 main_v21 main_v22 (cmpi .eq),
    unary main_arg2 main_v23 (extractStridedSlice S9216x16 ![0, 0] · slices_S9216x128_S9216x16_0_0),
    nullary main_cst (constant S_ .f32 0x00000000#32),
    unary main_cst main_call4_v0 id,
    unary main_call4_v0 main_call4_v1 (broadcastInDim S9216x16 ![] bcast_S_S9216x16),
    ternary main_v22 main_v23 main_call4_v1 main_v24 select,
    unary main_arg3 main_v25 (extractStridedSlice S1x16x4096x1024 ![3, 0, 0, 0] · slices_S4x16x4096x1024_S1x16x4096x1024_3_0_0_0),
    reshape main_v25 main_v26 (rfl : (.bf16 : EltTy) = .bf16) shapeCasts_S1x16x4096x1024_S16x4096x1024,
    unary main_v26 main_v27 (extf .f32 · bitsLt_bf16_f32),
    unary main_arg4 main_v28 (extractStridedSlice S1x16x4096x1024 ![3, 0, 0, 0] · slices_S4x16x4096x1024_S1x16x4096x1024_3_0_0_0),
    reshape main_v28 main_v29 (rfl : (.bf16 : EltTy) = .bf16) shapeCasts_S1x16x4096x1024_S16x4096x1024,
    unary main_v29 main_v30 (extf .f32 · bitsLt_bf16_f32),
    unary main_arg5 main_v31 (extractStridedSlice S1x16x1024x4096 ![3, 0, 0, 0] · slices_S4x16x1024x4096_S1x16x1024x4096_3_0_0_0),
    reshape main_v31 main_v32 (rfl : (.bf16 : EltTy) = .bf16) shapeCasts_S1x16x1024x4096_S16x1024x4096,
    unary main_v32 main_v33 (extf .f32 · bitsLt_bf16_f32),
    binary main_arg1 main_v27 main_v34 (fun l r => Host.dotGeneral dot_S9216x4096_S16x4096x1024_S9216x16x1024_1_1_0_02_n_n none l r),
    unary main_v34 main_call5_v0 Host.negf,
    unary main_call5_v0 main_call5_v1 Host.exp,
    nullary main_call5_cst (constant S_ .f32 0x3F800000#32),
    unary main_call5_cst main_call5_v2 (broadcastInDim S9216x16x1024 ![] bcast_S_S9216x16x1024),
    binary main_call5_v2 main_call5_v1 main_call5_v3 addf,
    nullary main_call5_cst_0 (constant S_ .f32 0x3F800000#32),
    unary main_call5_cst_0 main_call5_v4 (broadcastInDim S9216x16x1024 ![] bcast_S_S9216x16x1024),
    binary main_call5_v4 main_call5_v3 main_call5_v5 Host.divf,
    binary main_v34 main_call5_v5 main_v35 mulf,
    binary main_arg1 main_v30 main_v36 (fun l r => Host.dotGeneral dot_S9216x4096_S16x4096x1024_S9216x16x1024_1_1_0_02_n_n none l r),
    binary main_v35 main_v36 main_v37 mulf,
    unary main_v24 main_v38 (broadcastInDim S9216x16x1 ![0, 1] bcast_S9216x16_S9216x16x1_0_1),
    unary main_v38 main_v39 (broadcastInDim S9216x16x1024 ![0, 1, 2] bcast_S9216x16x1_S9216x16x1024_0_1_2),
    binary main_v37 main_v39 main_v40 mulf,
    binary main_v40 main_v33 main_v41 (fun l r => Host.dotGeneral dot_S9216x16x1024_S16x1024x4096_S9216x4096_12_01_0_2_n_n none l r),
    nullary main_cst_4 (constant S_ .f32 0x3FD744FD#32),
    unary main_cst_4 main_v42 (broadcastInDim S9216x4096 ![] bcast_S_S9216x4096),
    binary main_v42 main_arg1 main_v43 mulf,
    binary main_v43 main_v41 main_v44 addf,
    nullary main_cst_5 (constant S_ .f32 0x00000000#32),
    binary main_v44 main_cst_5 main_v45 (fun x v => Host.reduceAdd x v reducesTo_S9216x4096_S9216_d1 h_S_),
    unary main_v45 main_v46 (broadcastInDim S9216x1 ![0] bcast_S9216_S9216x1_0),
    nullary main_cst_6 (constant S_ .f32 0x45800000#32),
    unary main_cst_6 main_v47 (broadcastInDim S9216x1 ![] bcast_S_S9216x1),
    binary main_v46 main_v47 main_v48 Host.divf,
    unary main_v48 main_v49 (broadcastInDim S9216x4096 ![0, 1] bcast_S9216x1_S9216x4096_0_1),
    binary main_v44 main_v49 main_v50 subf,
    binary main_v50 main_v50 main_v51 mulf,
    nullary main_cst_7 (constant S_ .f32 0x00000000#32),
    binary main_v51 main_cst_7 main_v52 (fun x v => Host.reduceAdd x v reducesTo_S9216x4096_S9216_d1 h_S_),
    unary main_v52 main_v53 (broadcastInDim S9216x1 ![0] bcast_S9216_S9216x1_0),
    nullary main_cst_8 (constant S_ .f32 0x45800000#32),
    unary main_cst_8 main_v54 (broadcastInDim S9216x1 ![] bcast_S_S9216x1),
    binary main_v53 main_v54 main_v55 Host.divf,
    unary main_v48 main_v56 (broadcastInDim S9216x4096 ![0, 1] bcast_S9216x1_S9216x4096_0_1),
    binary main_v44 main_v56 main_v57 subf,
    nullary main_cst_9 (constant S_ .f32 0x3727C5AC#32),
    unary main_cst_9 main_v58 (broadcastInDim S9216x1 ![] bcast_S_S9216x1),
    binary main_v55 main_v58 main_v59 addf,
    unary main_v59 main_v60 Host.rsqrt,
    unary main_v60 main_v61 (broadcastInDim S9216x4096 ![0, 1] bcast_S9216x1_S9216x4096_0_1),
    binary main_v57 main_v61 main_v62 mulf,
    unary main_arg6 main_v63 (extractStridedSlice S1x1x4096 ![3, 0, 0] · slices_S4x1x4096_S1x1x4096_3_0_0),
    reshape main_v63 main_v64 (rfl : (.f32 : EltTy) = .f32) shapeCasts_S1x1x4096_S1x4096,
    unary main_v64 main_v65 (broadcastInDim S9216x4096 ![0, 1] bcast_S1x4096_S9216x4096_0_1),
    binary main_v62 main_v65 main_v66 mulf,
    unary main_arg7 main_v67 (extractStridedSlice S1x1x4096 ![3, 0, 0] · slices_S4x1x4096_S1x1x4096_3_0_0),
    reshape main_v67 main_v68 (rfl : (.f32 : EltTy) = .f32) shapeCasts_S1x1x4096_S1x4096,
    unary main_v68 main_v69 (broadcastInDim S9216x4096 ![0, 1] bcast_S1x4096_S9216x4096_0_1),
    binary main_v66 main_v69 main_v70 addf,
    unary main_v5 main_v71 (extractStridedSlice S1 ![3] · slices_S4_S1_3),
    reshape main_v71 main_v72 (rfl : (.i32 : EltTy) = .i32) shapeCasts_S1_S_,
    unary main_v72 main_v73 (broadcastInDim S9216 ![] bcast_S_S9216),
    binary main_v7 main_v73 main_v74 (cmpi .slt),
    unary main_v74 main_v75 (broadcastInDim S9216x1 ![0] bcast_S9216_S9216x1_0),
    nullary main_cst_10 (constant S_ .f32 0x00000000#32),
    unary main_cst_10 main_call6_v0 id,
    unary main_v75 main_call6_v1 (broadcastInDim S9216x4096 ![0, 1] bcast_S9216x1_S9216x4096_0_1),
    unary main_call6_v0 main_call6_v2 (broadcastInDim S9216x4096 ![] bcast_S_S9216x4096),
    ternary main_call6_v1 main_v70 main_call6_v2 main_v76 select ]

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., unary_bufs_sub .., unary_bufs_sub ..,
    unary_bufs_sub .., unary_bufs_sub .., binary_bufs_sub .., unary_bufs_sub .., nullary_bufs_sub .., binary_bufs_sub ..,
    nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., unary_bufs_sub .., unary_bufs_sub .., unary_bufs_sub .., unary_bufs_sub .., binary_bufs_sub ..,
    unary_bufs_sub .., nullary_bufs_sub .., unary_bufs_sub .., unary_bufs_sub .., ternary_bufs_sub .., unary_bufs_sub ..,
    reshape_bufs_sub .., unary_bufs_sub .., unary_bufs_sub .., reshape_bufs_sub .., unary_bufs_sub .., unary_bufs_sub ..,
    reshape_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    binary_bufs_sub .., binary_bufs_sub .., unary_bufs_sub .., unary_bufs_sub .., binary_bufs_sub .., binary_bufs_sub ..,
    nullary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    unary_bufs_sub .., unary_bufs_sub .., binary_bufs_sub .., unary_bufs_sub .., reshape_bufs_sub .., unary_bufs_sub ..,
    binary_bufs_sub .., unary_bufs_sub .., reshape_bufs_sub .., unary_bufs_sub .., binary_bufs_sub .., unary_bufs_sub ..,
    reshape_bufs_sub .., unary_bufs_sub .., binary_bufs_sub .., unary_bufs_sub .., nullary_bufs_sub .., unary_bufs_sub ..,
    unary_bufs_sub .., unary_bufs_sub .., ternary_bufs_sub ..⟩

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig) := by
  refine ⟨?_, ?_, ?_, ?_, ?_, ?_, ?_, ?_⟩ <;> after_results

/-- Each group's count plus 255. -/
def padR (n : IVec S8x128 32) : IVec S4 32 :=
  addi (shapeCast S4 (extractStridedSlice S4x1 ![0, 0] n slices_S8x128_S4x1_0_0) shapeCasts_S4x1_S4) (broadcastInDim S4 ![] bcast_S_S4 (constantI S_ 32 255#32))

/-- The floor division of a vector by a constant. -/
def floorR {s : Shape} (h : S_.BroadcastsInDim s (![] : Fin 0 → Fin s.rank)) (x : IVec s 32) (v : BitVec 32) : IVec s 32 :=
  select (andi (cmpi .ne (signi x) (broadcastInDim s ![] h (signi (constantI S_ 32 v))))
    (cmpi .ne (Host.remsi x (broadcastInDim s ![] h (constantI S_ 32 v))) (broadcastInDim s ![] h (constantI S_ 32 0#32))))
    (subi (Host.divsi x (broadcastInDim s ![] h (constantI S_ 32 v))) (broadcastInDim s ![] h (constantI S_ 32 1#32))) (Host.divsi x (broadcastInDim s ![] h (constantI S_ 32 v)))

/-- The tiles up to each group. -/
def cumR (n : IVec S8x128 32) : IVec S4 32 :=
  Host.reduceWindow IntOp.addi ![4] ![1] ![3] ![0] (floorR bcast_S_S4 (padR n) 256#32) (broadcastInDim S_ ![] bcast_S_S_ (constantI S_ 32 0#32)) reduceWindows_S4_S4_w4s1p3_0 h_S_

/-- Each row's tile. -/
def tileR : IVec S9216 32 := floorR bcast_S_S9216 (iotaInDim S9216 32 0) 256#32

/-- Each row's group: how many of the first three groups end at or before its tile. -/
def grpR (n : IVec S8x128 32) : IVec S9216 32 :=
  Host.reduce IntOp.addi
    (extui 32 (cmpi .sge (broadcastInDim S9216x3 ![0, 1] bcast_S9216x1_S9216x3_0_1 (broadcastInDim S9216x1 ![0] bcast_S9216_S9216x1_0 tileR))
      (broadcastInDim S9216x3 ![0, 1] bcast_S1x3_S9216x3_0_1 (broadcastInDim S1x3 ![1] bcast_S3_S1x3_1 (extractStridedSlice S3 ![0] (cumR n) slices_S4_S3_0)))) natLt_1_32)
    (constantI S_ 32 0#32) reducesTo_S9216x3_S9216_d1 h_S_

/-- Each expert's group. -/
def expR : IVec S16 32 := floorR bcast_S_S16 (iotaInDim S16 32 0) 4#32

/-- Each row's gates, zero outside its group. -/
def gateR (n : IVec S8x128 32) (ga : FVec F S9216x128 .f32) : FVec F S9216x16 .f32 :=
  select (cmpi .eq (broadcastInDim S9216x16 ![0, 1] bcast_S1x16_S9216x16_0_1 (broadcastInDim S1x16 ![1] bcast_S16_S1x16_1 expR))
      (broadcastInDim S9216x16 ![0, 1] bcast_S9216x1_S9216x16_0_1 (broadcastInDim S9216x1 ![0] bcast_S9216_S9216x1_0 (grpR n))))
    (extractStridedSlice S9216x16 ![0, 0] ga slices_S9216x128_S9216x16_0_0) (broadcastInDim S9216x16 ![] bcast_S_S9216x16 (constant S_ .f32 0x00000000#32))

/-- The layer's matrix of each expert. -/
def upR (w : FVec F S4x16x4096x1024 .bf16) : FVec F S16x4096x1024 .f32 :=
  extf .f32 (shapeCast S16x4096x1024 (extractStridedSlice S1x16x4096x1024 ![3, 0, 0, 0] w slices_S4x16x4096x1024_S1x16x4096x1024_3_0_0_0) shapeCasts_S1x16x4096x1024_S16x4096x1024) bitsLt_bf16_f32
def downR (w : FVec F S4x16x1024x4096 .bf16) : FVec F S16x1024x4096 .f32 :=
  extf .f32 (shapeCast S16x1024x4096 (extractStridedSlice S1x16x1024x4096 ![3, 0, 0, 0] w slices_S4x16x1024x4096_S1x16x1024x4096_3_0_0_0) shapeCasts_S1x16x1024x4096_S16x1024x4096) bitsLt_bf16_f32

/-- A row's product with every expert's matrix. -/
def preR (x : FVec F S9216x4096 .f32) (w : FVec F S4x16x4096x1024 .bf16) : FVec F S9216x16x1024 .f32 :=
  Host.dotGeneral dot_S9216x4096_S16x4096x1024_S9216x16x1024_1_1_0_02_n_n none x (upR w)

/-- The hidden units, gated. -/
def hidR (n : IVec S8x128 32) (x : FVec F S9216x4096 .f32) (ga : FVec F S9216x128 .f32) (wg wu : FVec F S4x16x4096x1024 .bf16) : FVec F S9216x16x1024 .f32 :=
  mulf (mulf (mulf (preR x wg) (Host.divf (broadcastInDim S9216x16x1024 ![] bcast_S_S9216x16x1024 (constant S_ .f32 0x3F800000#32))
      (addf (broadcastInDim S9216x16x1024 ![] bcast_S_S9216x16x1024 (constant S_ .f32 0x3F800000#32)) (Host.exp (Host.negf (preR x wg)))))) (preR x wu))
    (broadcastInDim S9216x16x1024 ![0, 1, 2] bcast_S9216x16x1_S9216x16x1024_0_1_2 (broadcastInDim S9216x16x1 ![0, 1] bcast_S9216x16_S9216x16x1_0_1 (gateR n ga)))

/-- The rows before the norm. -/
def sumR (x y : FVec F S9216x4096 .f32) : FVec F S9216x4096 .f32 :=
  addf (mulf (broadcastInDim S9216x4096 ![] bcast_S_S9216x4096 (constant S_ .f32 0x3FD744FD#32)) x) y

/-- A row's mean, and a row less its mean. -/
def meanR (z : FVec F S9216x4096 .f32) : FVec F S9216x1 .f32 :=
  Host.divf (broadcastInDim S9216x1 ![0] bcast_S9216_S9216x1_0 (Host.reduceAdd z (constant S_ .f32 0x00000000#32) reducesTo_S9216x4096_S9216_d1 h_S_))
    (broadcastInDim S9216x1 ![] bcast_S_S9216x1 (constant S_ .f32 0x45800000#32))
def cenR (z : FVec F S9216x4096 .f32) : FVec F S9216x4096 .f32 :=
  subf z (broadcastInDim S9216x4096 ![0, 1] bcast_S9216x1_S9216x4096_0_1 (meanR z))

/-- The layer's vector, one row. -/
def rowR (g : FVec F S4x1x4096 .f32) : FVec F S9216x4096 .f32 :=
  broadcastInDim S9216x4096 ![0, 1] bcast_S1x4096_S9216x4096_0_1 (shapeCast S1x4096 (extractStridedSlice S1x1x4096 ![3, 0, 0] g slices_S4x1x4096_S1x1x4096_3_0_0) shapeCasts_S1x1x4096_S1x4096)

/-- The layer norm of every row. -/
def normR (z : FVec F S9216x4096 .f32) (g b : FVec F S4x1x4096 .f32) : FVec F S9216x4096 .f32 :=
  addf (mulf (mulf (cenR z) (broadcastInDim S9216x4096 ![0, 1] bcast_S9216x1_S9216x4096_0_1
    (Host.rsqrt (addf (meanR (mulf (cenR z) (cenR z))) (broadcastInDim S9216x1 ![] bcast_S_S9216x1 (constant S_ .f32 0x3727C5AC#32)))))) (rowR g)) (rowR b)

/-- Whether each row's tile holds any row of a group. -/
def usedR (n : IVec S8x128 32) : IVec S9216 1 :=
  cmpi .slt tileR (broadcastInDim S9216 ![] bcast_S_S9216 (shapeCast S_ (extractStridedSlice S1 ![3] (cumR n) slices_S4_S1_3) shapeCasts_S1_S_))

/-- The reference's result. -/
def outR (n : IVec S8x128 32) (x : FVec F S9216x4096 .f32) (ga : FVec F S9216x128 .f32) (wg wu : FVec F S4x16x4096x1024 .bf16)
    (wd : FVec F S4x16x1024x4096 .bf16) (g b : FVec F S4x1x4096 .f32) : FVec F S9216x4096 .f32 :=
  select (broadcastInDim S9216x4096 ![0, 1] bcast_S9216x1_S9216x4096_0_1 (broadcastInDim S9216x1 ![0] bcast_S9216_S9216x1_0 (usedR n)))
    (normR (sumR x (Host.dotGeneral dot_S9216x16x1024_S16x1024x4096_S9216x4096_12_01_0_2_n_n none (hidR n x ga wg wu) (downR wd))) g b)
    (broadcastInDim S9216x4096 ![] bcast_S_S9216x4096 (constant S_ .f32 0x00000000#32))

theorem out_eq (V : Valuation τ sig (Elt F)) :
    after ops V (main_v76 : DevRef τ sig) = outR (V (main_arg0 : DevRef τ sig)) (V (main_arg1 : DevRef τ sig)) (V (main_arg2 : DevRef τ sig)) (V (main_arg3 : DevRef τ sig))
      (V (main_arg4 : DevRef τ sig)) (V (main_arg5 : DevRef τ sig)) (V (main_arg6 : DevRef τ sig)) (V (main_arg7 : DevRef τ sig)) := by
  after_results
  rfl

/-- THE REFERENCE'S RUN. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v76)
          = outR (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono (fun _ h c => ⟨(h c main_v76).trans (out_eq _), (h c main_arg0).trans (arg_eq _).1, (h c main_arg1).trans (arg_eq _).2.1,
      (h c main_arg2).trans (arg_eq _).2.2.1, (h c main_arg3).trans (arg_eq _).2.2.2.1, (h c main_arg4).trans (arg_eq _).2.2.2.2.1,
      (h c main_arg5).trans (arg_eq _).2.2.2.2.2.1, (h c main_arg6).trans (arg_eq _).2.2.2.2.2.2.1, (h c main_arg7).trans (arg_eq _).2.2.2.2.2.2.2⟩)
    (run_seq scopedRefs_eq scopedSems_eq defs main (fun _ => ops) main_eq (fun _ => ops_sub) m ρ)

end Cert.Proof.FfnRef
end
-- ==== Proof.PermBody.lean ====
/-
  The row permutation kernel's body, run once for any reading `F` of the floats: it fills the four offsets in scalar
  memory, copies row `t` of the result out of the source's row `first[grp t] + rank t`, at most 64 copies in flight, and
  waits for the last 64.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Batch
public import Idealize.ShloMosaic.Lib.Ring
public import Idealize.ShloMosaic.Adequacy
public import Idealize.ShloMosaic.Init

@[expose] public section

noncomputable section

namespace Cert.Proof.Perm

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the run: the frame's, beside the counters of the batch of copies. -/
abbrev UU (nD : Nat) (τ : Topo) : Type := UR sig nD τ × Counters
abbrev 𝒱₀ : Variants := Variants.none

local notation "𝕄" => MT nD τ sig Unit (Elt F) ℕ (UU nD τ) ℕ

/-- The semaphore every copy completes on. -/
abbrev sm : DmaSem sig := (cc0_scratch2).sem

theorem inbD (t : Fin 8192) : ∀ a, (![t.val, 0] : Fin 2 → Nat) a + S1x4096.size a ≤ S8192x4096.size a := by
  have := t.isLt; intro a; fin_cases a
  · show t.val + 1 ≤ 8192; omega
  · show 0 + 4096 ≤ 4096; omega

/-- Row `t` of the result. -/
def dRow (t : Fin 8192) : Memref sig .tc .hbm S1x4096 .f32 :=
  (Memref.whole main_v0 : Memref sig .tc .hbm S8192x4096 .f32).slice (Rect.unit (s := S8192x4096) ![t.val, 0] S1x4096.size (inbD t)) (fun _ => rfl)

/-- The result, as a function of the source and the row each row comes from. -/
def gathered (src : S9216x4096.Idx → Elt F .f32) (pos : Fin 8192 → Fin 9216) : S8192x4096.Idx → Elt F .f32 :=
  fun y => src (fun | ⟨0, _⟩ => pos (y 0) | ⟨1, _⟩ => y 1)

/-- The one index of a vector of words. -/
def ix1 {n : ℕ} (t : Fin n) : (⟨1, ![n]⟩ : Shape).Idx := fun | ⟨0, _⟩ => t

/-- A word read from a whole vector in scalar memory is its element at the offset. -/
theorem readG (Val : EltTy → Type) (g : main_arg0.ty.Contents Val) (off : Fin 1 → ℕ) (h : ∀ a, off a + S1.size a ≤ S8192.size a)
    (x : (Rect.unit (s := S8192) off S1.size h).toLoadRect.shape.Idx) (t : Fin 8192) (ht : off 0 = t.val) :
    View.readAt Val (Memref.whole main_arg0).view (Rect.unit (s := S8192) off S1.size h).toLoadRect g x = g (ix1 t) := by
  refine congrArg g (funext fun a => ?_)
  match a with
  | ⟨0, _⟩ =>
    refine Fin.ext ?_
    have hx : (x 0).val < 1 := (x 0).isLt
    show off 0 + 1 * (x 0).val = t.val
    omega
theorem readR (Val : EltTy → Type) (g : main_arg1.ty.Contents Val) (off : Fin 1 → ℕ) (h : ∀ a, off a + S1.size a ≤ S8192.size a)
    (x : (Rect.unit (s := S8192) off S1.size h).toLoadRect.shape.Idx) (t : Fin 8192) (ht : off 0 = t.val) :
    View.readAt Val (Memref.whole main_arg1).view (Rect.unit (s := S8192) off S1.size h).toLoadRect g x = g (ix1 t) := by
  refine congrArg g (funext fun a => ?_)
  match a with
  | ⟨0, _⟩ =>
    refine Fin.ext ?_
    have hx : (x 0).val < 1 := (x 0).isLt
    show off 0 + 1 * (x 0).val = t.val
    omega
theorem readO (Val : EltTy → Type) (g : cc0_scratch1.ty.Contents Val) (off : Fin 1 → ℕ) (h : ∀ a, off a + S1.size a ≤ S4.size a)
    (x : (Rect.unit (s := S4) off S1.size h).toLoadRect.shape.Idx) (t : Fin 4) (ht : off 0 = t.val) :
    View.readAt Val (Memref.whole cc0_scratch1).view (Rect.unit (s := S4) off S1.size h).toLoadRect g x = g (ix1 t) := by
  refine congrArg g (funext fun a => ?_)
  match a with
  | ⟨0, _⟩ =>
    refine Fin.ext ?_
    have hx : (x 0).val < 1 := (x 0).isLt
    show off 0 + 1 * (x 0).val = t.val
    omega

/-- The routing facts the run needs of the words it reads: the groups are four, and the row each copy reads is `pos`. -/
structure Routed (g r : S8192.Idx → BitVec 32) (o : S4.Idx → BitVec 32) (pos : Fin 8192 → Fin 9216) : Prop where
  grp : ∀ t : Fin 8192, (g (ix1 t)).toNat < 4
  row : ∀ t : Fin 8192, (o (ix1 ⟨(g (ix1 t)).toNat, grp t⟩) + r (ix1 t)).toNat = (pos t).val

/-- The loop's trip as a row. -/
def tr (k : Fin k0_t1_loop.trips) : Fin 8192 := ⟨k.val, k.isLt⟩

theorem off1_tr (k : Fin k0_t1_loop.trips) : k0_off1 k 0 = (tr k).val := by rw [Gen.k0_off1_eq]; rfl
theorem off3_tr (k : Fin k0_t1_loop.trips) : k0_off3 k 0 = (tr k).val := by rw [Gen.k0_off3_eq]; rfl

/-- The wait among the copies is taken from trip 64 on. -/
theorem cond_tr (k : ℕ) (hk : k < 8192) :
    (Scalar.cmpi .ne (Scalar.extui (Scalar.cmpi .sge (Scf.iv 0#32 1#32 k) 64#32)) 0#32 = 1#1) ↔ 64 ≤ k := by
  have e : Scf.iv 0#32 1#32 k = BitVec.ofNat 32 k := by simp [Scf.iv]
  have h2 : (64#32).sle (BitVec.ofNat 32 k) = decide (64 ≤ k) := by
    rw [BitVec.sle_eq_decide, decide_eq_decide, BitVec.toInt_eq_toNat_cond, BitVec.toInt_eq_toNat_cond, BitVec.toNat_ofNat, BitVec.toNat_ofNat]
    omega
  rw [e]
  show BitVec.ofBool ((BitVec.ofBool ((64#32).sle (BitVec.ofNat 32 k))).setWidth 32 != 0#32) = 1#1 ↔ _
  rw [h2]
  by_cases h : 64 ≤ k <;> simp [h]

section Facts
variable {g r : S8192.Idx → BitVec 32} {o : S4.Idx → BitVec 32} {pos : Fin 8192 → Fin 9216} (hR : Routed g r o pos)
include hR

theorem chk1_of (k : Fin k0_t1_loop.trips) : k0_chk1 (g (ix1 (tr k))) := by
  intro a
  match a with
  | ⟨0, _⟩ => have := hR.grp (tr k); show (g (ix1 (tr k))).toNat + 1 ≤ 4; omega

/-- The two checks, of the words as the run reads them. -/
theorem chk1_read (k : Fin k0_t1_loop.trips)
    (h : ∀ a, k0_off1 k a + S1.size a ≤ S8192.size a) (x : (Rect.unit (s := S8192) (k0_off1 k) S1.size h).toLoadRect.shape.Idx) :
    k0_chk1 (View.readAt (Elt F) (Memref.whole main_arg0).view (Rect.unit (s := S8192) (k0_off1 k) S1.size h).toLoadRect g x) := by
  exact (readG (Elt F) g _ h x (tr k) (off1_tr k)) ▸ chk1_of hR k

theorem row_read (k : Fin k0_t1_loop.trips) (v : BitVec 32) (hv : v = g (ix1 (tr k)))
    (h : ∀ a, k0_off2 v a + S1.size a ≤ S4.size a) (x : (Rect.unit (s := S4) (k0_off2 v) S1.size h).toLoadRect.shape.Idx)
    (h' : ∀ a, k0_off3 k a + S1.size a ≤ S8192.size a) (x' : (Rect.unit (s := S8192) (k0_off3 k) S1.size h').toLoadRect.shape.Idx) :
    k0_off5 (View.readAt (Elt F) (Memref.whole cc0_scratch1).view (Rect.unit (s := S4) (k0_off2 v) S1.size h).toLoadRect o x)
      (View.readAt (Elt F) (Memref.whole main_arg1).view (Rect.unit (s := S8192) (k0_off3 k) S1.size h').toLoadRect r x') = ![(pos (tr k)).val, 0] := by
  subst hv
  have e1 := readO (Elt F) o _ h x ⟨(g (ix1 (tr k))).toNat, hR.grp (tr k)⟩ rfl
  have e2 := readR (Elt F) r _ h' x' (tr k) (off3_tr k)
  rw [e1, e2, ← hR.row (tr k)]
  rfl

theorem chk2_read (k : Fin k0_t1_loop.trips) (v : BitVec 32) (hv : v = g (ix1 (tr k)))
    (h : ∀ a, k0_off2 v a + S1.size a ≤ S4.size a) (x : (Rect.unit (s := S4) (k0_off2 v) S1.size h).toLoadRect.shape.Idx)
    (h' : ∀ a, k0_off3 k a + S1.size a ≤ S8192.size a) (x' : (Rect.unit (s := S8192) (k0_off3 k) S1.size h').toLoadRect.shape.Idx) :
    k0_chk2 (View.readAt (Elt F) (Memref.whole cc0_scratch1).view (Rect.unit (s := S4) (k0_off2 v) S1.size h).toLoadRect o x)
      (View.readAt (Elt F) (Memref.whole main_arg1).view (Rect.unit (s := S8192) (k0_off3 k) S1.size h').toLoadRect r x') := by
  unfold k0_chk2
  rw [row_read hR k v hv h x h' x']
  have := (pos (tr k)).isLt
  intro a
  match a with
  | ⟨0, _⟩ => show (pos (tr k)).val + 1 ≤ 9216; omega
  | ⟨1, _⟩ => show 0 + 4096 ≤ 4096; omega

end Facts

section Names
variable (c : Dev nD)

/-- Row `t` of the result held at some contents, and at the contents of the whole array `G`. -/
abbrev rowAny (t : Fin 8192) : sProp 𝕄 := iprop(∃ g, (dRow t).view.loc (c : Thread nD τ) ↦[(dRow t).view.set]{fullShare} g)
abbrev rowAt (G : S8192x4096.Idx → Elt F .f32) (t : Fin 8192) : sProp 𝕄 :=
  iprop((dRow t).view.loc (c : Thread nD τ) ↦[(dRow t).view.set]{fullShare} G)
/-- The source whole under the read token of copy `t`. -/
abbrev srcTok (src : S9216x4096.Idx → Elt F .f32) (t : ℕ) : sProp 𝕄 :=
  (Memref.whole main_arg3 : Memref sig .tc .hbm S9216x4096 .f32).view.loc (c : Thread nD τ) ↦[(Memref.whole main_arg3 : Memref sig .tc .hbm S9216x4096 .f32).view.set]{Transfers.shareTokN fullShare t} src

/-- One row's credit. -/
abbrev NN : ℕ := 512

theorem amount_row (t : Fin 8192) : (dRow t).view.amount (.dma sm) = NN := rfl

/-- The copies' deliveries: row `t` of the result at the gathered contents. -/
abbrev deliv (G : S8192x4096.Idx → Elt F .f32) (t : Fin 8192) : sProp 𝕄 := rowAt c G t

/-- The batch of the 8192 copies on the one semaphore, `j` issued, `u` units consumed. -/
abbrev batch (G : S8192x4096.Idx → Elt F .f32) (j u : ℕ) : sProp 𝕄 :=
  Transfers.Batch (countersEmb (U := UU nD τ)) (c : Thread nD τ) (.dma sm) () NN (deliv (F := F) c G) j u

/-- Before trip `k` of the copying loop. -/
def copyAt (g r : S8192.Idx → BitVec 32) (o : S4.Idx → BitVec 32) (src : S9216x4096.Idx → Elt F .f32)
    (G : S8192x4096.Idx → Elt F .f32) (k : ℕ) (_ : Unit) : sProp 𝕄 :=
  iprop(((Memref.whole main_arg0 : Memref sig .tc .smem S8192 .i32).view.loc (c : Thread nD τ) ↦{fullShare} g) ∗ ((Memref.whole main_arg1 : Memref sig .tc .smem S8192 .i32).view.loc (c : Thread nD τ) ↦{fullShare} r)
    ∗ ((Memref.whole cc0_scratch1 : Memref sig .tc .smem S4 .i32).view.loc (c : Thread nD τ) ↦{fullShare} o)
    ∗ batch c G k (NN * (k - 64)) ∗ (∃ W, owes (c : Thread nD τ) 0 W)
    ∗ bigSep (Ring.rangeSet 8192 k 8192) (rowAny (F := F) c)
    ∗ bigSep (Ring.rangeSet 8192 k 8192) (fun t => srcTok c src t.val))

/-- A row of the result, once the source's row `pos t` has landed in it, is the gathered array's row. -/
theorem landed (src : S9216x4096.Idx → Elt F .f32) (pos : Fin 8192 → Fin 9216) (t : Fin 8192) (gd : S8192x4096.Idx → Elt F .f32)
    (h : ∀ a, (![(pos t).val, 0] : Fin 2 → ℕ) a + S1x4096.size a ≤ S9216x4096.size a) (y : S8192x4096.Idx)
    (hy : y ∈ (dRow t).view.set) :
    (dRow t).view.write (Elt F) gd
      (((Memref.whole main_arg3).slice (Rect.unit (s := S9216x4096) ![(pos t).val, 0] S1x4096.size h) (fun _ => rfl)).view.read (Elt F) src)
      Finset.univ y = gathered src pos y := by
  obtain ⟨x, -, rfl⟩ := Finset.mem_map.mp hy
  refine (View.write_emb_of_mem _ _ (Finset.mem_univ x)).trans ?_
  have hx : (x 0).val < 1 := (x 0).isLt
  refine congrArg src (funext fun a => ?_)
  match a with
  | ⟨0, _⟩ =>
    have e : (show S8192x4096.Idx from (dRow t).view.emb x) 0 = t := Fin.ext (show t.val + 1 * (x 0).val = t.val by omega)
    have e2 : (pos t).val + 1 * (x 0).val = (pos ((show S8192x4096.Idx from (dRow t).view.emb x) 0)).val := by rw [e]; omega
    exact Fin.ext e2
  | ⟨1, _⟩ => rfl

/-- A row's window of the source out of the whole of it. -/
theorem srcTok_row (src : S9216x4096.Idx → Elt F .f32) (t : ℕ) (p : Fin 9216)
    (h : ∀ a, (![p.val, 0] : Fin 2 → ℕ) a + S1x4096.size a ≤ S9216x4096.size a) :
    (srcTok c src t : sProp 𝕄) ⊢
      ((Memref.whole main_arg3).slice (Rect.unit (s := S9216x4096) ![p.val, 0] S1x4096.size h) (fun _ => rfl)).view.loc (c : Thread nD τ)
        ↦[((Memref.whole main_arg3).slice (Rect.unit (s := S9216x4096) ![p.val, 0] S1x4096.size h) (fun _ => rfl)).view.set]{Transfers.shareTokN fullShare t} src := by
  unfold srcTok
  rw [show (Memref.whole main_arg3 : Memref sig .tc .hbm S9216x4096 .f32).view.set = Finset.univ from View.set_whole _]
  iintro H
  ihave H2 := (pointsTo_split_subset (Finset.subset_univ
    ((Memref.whole main_arg3).slice (Rect.unit (s := S9216x4096) ![p.val, 0] S1x4096.size h) (fun _ => rfl)).view.set)).1 $$ H
  icases H2 with ⟨H2, -⟩
  iexact H2

/-- What copy `t` delivers. -/
theorem landed_row (src : S9216x4096.Idx → Elt F .f32) (pos : Fin 8192 → Fin 9216) (t : Fin 8192)
    (gd : Buf (Elt F) ((dRow t).view.loc (c : Thread nD τ)))
    (h : ∀ a, (![(pos t).val, 0] : Fin 2 → ℕ) a + S1x4096.size a ≤ S9216x4096.size a) (R : sProp 𝕄) :
    iprop(((dRow t).view.loc (c : Thread nD τ) ↦[(dRow t).view.set]{fullShare} ((dRow t).view.write (Elt F) gd
      (((Memref.whole main_arg3).slice (Rect.unit (s := S9216x4096) ![(pos t).val, 0] S1x4096.size h) (fun _ => rfl)).view.read (Elt F) src)
      Finset.univ) : sProp 𝕄) ∗ R) ⊢ deliv c (gathered src pos) t := by
  have e : ((dRow t).view.loc (c : Thread nD τ) ↦[(dRow t).view.set]{fullShare} ((dRow t).view.write (Elt F) gd
      (((Memref.whole main_arg3).slice (Rect.unit (s := S9216x4096) ![(pos t).val, 0] S1x4096.size h) (fun _ => rfl)).view.read (Elt F) src)
      Finset.univ) : sProp 𝕄) = deliv c (gathered src pos) t := pointsTo_congr (landed src pos t gd h)
  rw [e]
  iintro ⟨H, -⟩
  iexact H

/-- The issue of copy `t`. -/
theorem issue (src : S9216x4096.Idx → Elt F .f32) (pos : Fin 8192 → Fin 9216) (t : Fin 8192) (u : ℕ) (hu : u ≤ t.val * NN)
    (gd : S8192x4096.Idx → Elt F .f32) (offS offD : Fin 2 → ℕ) (hS : offS = ![(pos t).val, 0]) (hD : offD = ![t.val, 0])
    (h1 : ∀ a, offS a + S1x4096.size a ≤ S9216x4096.size a) (h2 : ∀ a, offD a + S1x4096.size a ≤ S8192x4096.size a)
    {α : Type} {kont : PUnit → Prog (TpuEff nD τ sig (Elt F) Λ₀ .tc) α} {Q : α → sProp 𝕄}
    {w1} {w2} {w3} :
    iprop(srcTok c src t.val ∗ ((dRow t).view.loc (c : Thread nD τ) ↦[(dRow t).view.set]{fullShare} gd) ∗ batch c (gathered src pos) t.val u)
      ⊢ iprop((batch c (gathered src pos) (t.val + 1) u -∗ wp frame (wpE defs₀ 𝒱₀ (c : Thread nD τ) none) Set.univ (kont ⟨⟩) Q)
          -∗ wp frame (wpE defs₀ 𝒱₀ (c : Thread nD τ) none) Set.univ
            (.op (.enqueueDma ((Memref.whole main_arg3).slice (Rect.unit (s := S9216x4096) offS S1x4096.size h1) (fun _ => rfl))
              (.here ((Memref.whole main_v0).slice (Rect.unit (s := S8192x4096) offD S1x4096.size h2) (fun _ => rfl))) (.dma sm) w1 w2 w3) kont) Q) := by
  subst hS; subst hD
  have key := Transfers.wp_dmaBatch (countersEmb (U := UU nD τ)) 𝒱₀ (c : Thread nD τ) none (defs := defs₀) (Q := Q) (k := kont)
    (src := (Memref.whole main_arg3).slice (Rect.unit (s := S9216x4096) ![(pos t).val, 0] S1x4096.size h1) (fun _ => rfl))
    (via := ReadAs.same) (hsrc := w1) (hdst := w2) (hsem := w3) (sm := .dma sm) (q := Transfers.shareTokN fullShare t.val) (fs := src) (fd := gd)
    (dst := dRow t) () NN (amount_row t) subset_rfl
    (D := deliv c (gathered src pos)) (j := t.val) (u := u) t.isLt hu (landed_row c src pos t gd h1 _)
  refine .trans ?_ key
  iintro ⟨HT, HD, HB⟩
  isplitl [HT]; · iapply (srcTok_row c src t.val (pos t) h1); iexact HT
  isplitl [HD]; · iexact HD
  iexact HB

/-- ONE TRIP of the copying loop. -/
theorem copy_step [∀ e, Nonempty (Elt F e)] (i : grid0.Coords) (g r : S8192.Idx → BitVec 32) (o : S4.Idx → BitVec 32) (src : S9216x4096.Idx → Elt F .f32)
    (pos : Fin 8192 → Fin 9216) (hR : Routed g r o pos)
    (plan : Transfers.InterleavedWaits (c : Thread nD τ) (SemLoc.dma (sig := sig) sm)) (k : Fin k0_t1_loop.trips) (acc : Unit) :
    copyAt c g r o src (gathered src pos) k.val acc ⊢ wp frame (wpE defs₀ 𝒱₀ (c : Thread nD τ) none) Set.univ
      (Gen.k0_t1_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 0#32 k acc)
      (copyAt c g r o src (gathered src pos) (k.val + 1)) := by
  have hk : k.val < 8192 := k.isLt
  have hcond := cond_tr k.val hk
  unfold copyAt
  rw [Ring.bigSep_rangeSet_head (Φ := rowAny (F := F) c) (by omega) (by omega),
    Ring.bigSep_rangeSet_head (Φ := fun t => srcTok c src t.val) (by omega) (by omega)]
  unfold rowAny
  iintro ⟨HG, HR, HO, HB, ⟨%W, Hw⟩, ⟨⟨%gd, HD⟩, HDs⟩, HT, HTs⟩
  unfold Gen.k0_t1_body
  rcases Nat.lt_or_ge k.val 64 with h64 | h64
  · have hc : ¬ _ := fun h => absurd (hcond.1 h) (by omega)
    sl_exec (disch := first
      | exact hc
      | exact chk1_read hR k _ _
      | exact chk2_read hR k _ (readG (Elt F) g _ _ _ (tr k) (off1_tr k)) _ _ _ _)
    iapply (issue c src pos (tr k) (NN * (k.val - 64)) (by show _ ≤ k.val * 512; unfold NN; omega) gd _ _
      (row_read hR k _ (readG (Elt F) g _ _ _ (tr k) (off1_tr k)) _ _ _ _) (Gen.k0_off4_eq k)) $$ [HT HD HB]
    · isplitl [HT]; · iexact HT
      isplitl [HD]; · iexact HD
      iexact HB
    iintro HB
    sl_step
    isplitl [HG]; · iexact HG
    isplitl [HR]; · iexact HR
    isplitl [HO]; · iexact HO
    isplitl [HB]
    · rw [show NN * (k.val + 1 - 64) = NN * (k.val - 64) by unfold NN; omega]
      iexact HB
    isplitl [Hw]; · iexists _; iexact Hw
    isplitl [HDs]; · iexact HDs
    iexact HTs
  · have hc := hcond.2 h64
    have hb1 : NN * (k.val - 64) + 1 * NN ≤ k.val * NN := by unfold NN; omega
    sl_exec (disch := first
      | exact hc
      | exact chk1_read hR k _ _
      | exact chk2_read hR k _ (readG (Elt F) g _ _ _ (tr k) (off1_tr k)) _ _ _ _)
    iapply (issue c src pos (tr k) (NN * (k.val - 64) + 1 * NN) (by show _ ≤ k.val * 512; unfold NN; omega) gd _ _
      (row_read hR k _ (readG (Elt F) g _ _ _ (tr k) (off1_tr k)) _ _ _ _) (Gen.k0_off4_eq k)) $$ [HT HD HB]
    · isplitl [HT]; · iexact HT
      isplitl [HD]; · iexact HD
      iexact HB
    iintro HB
    sl_step
    isplitl [HG]; · iexact HG
    isplitl [HR]; · iexact HR
    isplitl [HO]; · iexact HO
    isplitl [HB]
    · rw [show NN * (k.val + 1 - 64) = NN * (k.val - 64) + 1 * NN by unfold NN; omega]
      iexact HB
    isplitl [Hw]; · iexists _; iexact Hw
    isplitl [HDs]; · iexact HDs
    iexact HTs

/-- The draining loop's invariant: every copy issued, all but the last 64 waited for, and `k` of those. -/
def drainAt (G : S8192x4096.Idx → Elt F .f32) (k : ℕ) (_ : Unit) : sProp 𝕄 :=
  iprop(⌜k ≤ 64⌝ ∗ (∃ W, owes (c : Thread nD τ) 0 W) ∗ batch c G 8192 ((8128 + k) * NN))

/-- ONE TRIP of the draining loop. -/
theorem drain_step [∀ e, Nonempty (Elt F e)] (i : grid0.Coords) (G : S8192x4096.Idx → Elt F .f32)
    (plan : Transfers.InterleavedWaits (c : Thread nD τ) (SemLoc.dma (sig := sig) sm)) (k : Fin k0_t2_loop.trips) (acc : Unit) :
    drainAt c G k.val acc ⊢ wp frame (wpE defs₀ 𝒱₀ (c : Thread nD τ) none) Set.univ
      (Gen.k0_t2_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 k acc)
      (drainAt c G (k.val + 1)) := by
  have hk : k.val < 64 := k.isLt
  have hb : (8128 + k.val) * NN + 1 * NN ≤ 8192 * NN := by unfold NN; omega
  unfold drainAt
  iintro ⟨-, ⟨%W, HO⟩, HB⟩
  unfold Gen.k0_t2_body
  sl_exec
  sl_step
  isplitr; · ipureintro; omega
  isplitl [HO]; · iexists _; iexact HO
  rw [show (8128 + (k.val + 1)) * NN = (8128 + k.val) * NN + 1 * NN by unfold NN; omega]
  iexact HB

end Names

end Cert.Proof.Perm
end
-- ==== Proof.PermRun.lean ====
/-
  The whole body of the row permutation kernel: the four offsets written, the result taken apart into its rows and the
  source into read tokens, the two loops, and the rows joined back at the gathered contents.
-/
module

public import proofs.«01_k».proof.Proof.PermBody
public import Idealize.ShloMosaic.Lib.CellWrites

@[expose] public section

set_option maxRecDepth 100000

noncomputable section

namespace Cert.Proof.Perm

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The tiles of 256 rows a group of `w` rows takes, as the kernel computes it: the floor division of `w + 256 - 1` by 256. -/
def tilesOf (w : BitVec 32) : BitVec 32 :=
  let x := Scalar.subi (Scalar.addi w 256#32) 1#32
  let q := Scalar.divsi x 256#32
  let s := Scalar.subi (Scalar.extui (Scalar.cmpi .sgt x 0#32)) (Scalar.extui (Scalar.cmpi .slt x 0#32))
  let s' := Scalar.subi (Scalar.extui (Scalar.cmpi .sgt (256#32 : BitVec 32) 0#32)) (Scalar.extui (Scalar.cmpi .slt (256#32 : BitVec 32) 0#32))
  Scalar.select (Scalar.andi (Scalar.cmpi .ne s s') (Scalar.cmpi .ne (Scalar.remsi x 256#32) 0#32)) (Scalar.subi q 1#32) q

/-- The count of group `j`: the word in column 0 of row `j`. -/
def cntAt (n : S8x128.Idx → BitVec 32) (j : Fin 8) : BitVec 32 := n (fun | ⟨0, _⟩ => j | ⟨1, _⟩ => (0 : Fin 128))

/-- The offsets the kernel writes from the counts of groups 0, 1 and 2: each group's first row. -/
def offsW (w0 w1 w2 : BitVec 32) : S4.Idx → BitVec 32 := fun y =>
  if (y 0).val = 3 then Scalar.muli (Scalar.addi (Scalar.addi (Scalar.addi 0#32 (tilesOf w0)) (tilesOf w1)) (tilesOf w2)) 256#32
  else if (y 0).val = 2 then Scalar.muli (Scalar.addi (Scalar.addi 0#32 (tilesOf w0)) (tilesOf w1)) 256#32
  else if (y 0).val = 1 then Scalar.muli (Scalar.addi 0#32 (tilesOf w0)) 256#32
  else 0#32

def offs (n : S8x128.Idx → BitVec 32) : S4.Idx → BitVec 32 := offsW (cntAt n 0) (cntAt n 1) (cntAt n 2)

/-- The word of group `j`'s count, as the body loads it. -/
theorem readN (n : S8x128.Idx → BitVec 32) (j : Fin 8) (h : ∀ a, (![j.val, 0] : Fin 2 → ℕ) a + S1x1.size a ≤ S8x128.size a)
    (x : (Rect.unit (s := S8x128) ![j.val, 0] S1x1.size h).toLoadRect.shape.Idx) :
    View.readAt (Elt F) (Memref.whole main_arg2 : Memref sig .tc .smem S8x128 .i32).view (Rect.unit (s := S8x128) ![j.val, 0] S1x1.size h).toLoadRect n x = cntAt n j := by
  refine congrArg n (funext fun a => ?_)
  match a with
  | ⟨0, _⟩ => exact Fin.ext (by have hx : (x 0).val < 1 := (x 0).isLt; show j.val + 1 * (x 0).val = j.val; omega)
  | ⟨1, _⟩ => exact Fin.ext (by have hx : (x 1).val < 1 := (x 1).isLt; show 0 + 1 * (x 1).val = 0; omega)

/-- Scalar memory after the four stores holds the offsets. -/
theorem offs_written (f : S4.Idx → BitVec 32) (a3 a2 a1 a0 : BitVec 32) (h3 h2 h1 h0) (y : S4.Idx) :
    (Memref.whole cc0_scratch1 : Memref sig .tc .smem S4 .i32).view.writes (Elt F) f
      [⟨Rect.unit (s := S4) ![3] S1.size h3, fun _ => a3⟩, ⟨Rect.unit (s := S4) ![2] S1.size h2, fun _ => a2⟩,
        ⟨Rect.unit (s := S4) ![1] S1.size h1, fun _ => a1⟩, ⟨Rect.unit (s := S4) ![0] S1.size h0, fun _ => a0⟩] y
      = if (y 0).val = 3 then a3 else if (y 0).val = 2 then a2 else if (y 0).val = 1 then a1 else a0 := by
  have hy : (y 0).val < 4 := (y 0).isLt
  refine (View.read_writes_cons_cell (Val := Elt F) (d := S4.size) (Memref.whole cc0_scratch1 : Memref sig .tc .smem S4 .i32).view f (off := ![3]) h3 a3 _ y).trans ?_
  by_cases e3 : (y 0).val = 3
  · exact (if_pos e3).trans (if_pos e3).symm
  refine (if_neg e3).trans (Eq.trans ?_ (if_neg e3).symm)
  refine (View.read_writes_cons_cell (Val := Elt F) (d := S4.size) (Memref.whole cc0_scratch1 : Memref sig .tc .smem S4 .i32).view f (off := ![2]) h2 a2 _ y).trans ?_
  by_cases e2 : (y 0).val = 2
  · exact (if_pos e2).trans (if_pos e2).symm
  refine (if_neg e2).trans (Eq.trans ?_ (if_neg e2).symm)
  refine (View.read_writes_cons_cell (Val := Elt F) (d := S4.size) (Memref.whole cc0_scratch1 : Memref sig .tc .smem S4 .i32).view f (off := ![1]) h1 a1 _ y).trans ?_
  by_cases e1 : (y 0).val = 1
  · exact (if_pos e1).trans (if_pos e1).symm
  refine (if_neg e1).trans (Eq.trans ?_ (if_neg e1).symm)
  refine (View.read_writes_cons_cell (Val := Elt F) (d := S4.size) (Memref.whole cc0_scratch1 : Memref sig .tc .smem S4 .i32).view f (off := ![0]) h0 a0 _ y).trans ?_
  exact if_pos (show (y 0).val = 0 by omega)

/-! ### The result as rows -/

theorem dset_eq (t : Fin 8192) : (dRow t).view.set = (Rect.unit (s := S8192x4096) ![t.val, 0] S1x4096.size (inbD t)).set :=
  View.set_slice_whole _ _

abbrev rset (t : Fin 8192) : Finset S8192x4096.Idx := (Rect.unit (s := S8192x4096) ![t.val, 0] S1x4096.size (inbD t)).set

theorem mem_rset (t : Fin 8192) (y : S8192x4096.Idx) : y ∈ rset t ↔ (y 0).val = t.val := by
  rw [Rect.mem_set_unit]
  have h1 : (y 1).val < 4096 := (y 1).isLt
  constructor
  · intro H; have a0 : t.val ≤ (y 0).val ∧ (y 0).val < t.val + 1 := H 0; omega
  · intro H a; fin_cases a
    · show t.val ≤ (y 0).val ∧ (y 0).val < t.val + 1; omega
    · show 0 ≤ (y 1).val ∧ (y 1).val < 0 + 4096; omega

theorem rset_disjoint : ∀ b b' : Fin 8192, b ≠ b' → Disjoint (rset b) (rset b') := fun b b' hne => by
  rw [Finset.disjoint_left]; intro y hy hy'; rw [mem_rset] at hy hy'; exact hne (Fin.ext (by omega))

theorem rset_cover : Finset.univ.biUnion rset = Finset.univ := by
  ext y; simp only [Finset.mem_biUnion, Finset.mem_univ, true_and, iff_true]; exact ⟨y 0, (mem_rset _ _).mpr rfl⟩

section Names
variable (c : Dev nD)

abbrev dstAt (f : S8192x4096.Idx → Elt F .f32) : sProp 𝕄 :=
  (Memref.whole main_v0 : Memref sig .tc .hbm S8192x4096 .f32).view.loc (c : Thread nD τ) ↦{fullShare} f

theorem rows_eq (f : S8192x4096.Idx → Elt F .f32) : (dstAt c f : sProp 𝕄) = bigSep Finset.univ (rowAt c f) := by
  refine (Ring.pointsTo_blocks (ℓ := (Memref.whole main_v0 : Memref sig .tc .hbm S8192x4096 .f32).view.loc (c : Thread nD τ)) (q := fullShare)
    rset rset_disjoint rset_cover f).trans (congrArg (bigSep Finset.univ) (funext fun t => ?_))
  unfold rowAt
  rw [dset_eq]
  rfl

theorem rowAt_any (f : S8192x4096.Idx → Elt F .f32) (t : Fin 8192) : (rowAt c f t : sProp 𝕄) ⊢ rowAny (F := F) c t := by
  iintro H; iexists f; iexact H

theorem bigSep_all {N : ℕ} (Φ : Fin N → sProp 𝕄) : bigSep Finset.univ Φ = bigSep (Ring.rangeSet N 0 N) Φ := by
  rw [Ring.rangeSet_univ]

theorem rows_any0 (f : S8192x4096.Idx → Elt F .f32) : bigSep (Finset.univ : Finset (Fin 8192)) (rowAt c f) ⊢ bigSep (Finset.univ : Finset (Fin 8192)) (rowAny (F := F) c) :=
  BI.bigSep_mono fun t _ => rowAt_any c f t

theorem rows_any (f : S8192x4096.Idx → Elt F .f32) : (dstAt c f : sProp 𝕄) ⊢ bigSep (Ring.rangeSet 8192 0 8192) (rowAny (F := F) c) := by
  refine .trans (Entails.of_eq (rows_eq c f)) ?_
  refine .trans (rows_any0 c f) ?_
  exact Entails.of_eq (bigSep_all _)

abbrev srcAt (q : PosShare TreeShare) (src : S9216x4096.Idx → Elt F .f32) : sProp 𝕄 :=
  (Memref.whole main_arg3 : Memref sig .tc .hbm S9216x4096 .f32).view.loc (c : Thread nD τ) ↦[(Memref.whole main_arg3 : Memref sig .tc .hbm S9216x4096 .f32).view.set]{q} src

theorem src_toks_n (N : ℕ) (src : S9216x4096.Idx → Elt F .f32) :
    (srcAt c fullShare src : sProp 𝕄) ⊢
      iprop(srcAt c (Transfers.shareDrop fullShare N) src ∗ bigSep (Ring.rangeSet N 0 N) (fun t : Fin N => srcTok c src t.val)) := by
  iintro H
  ihave H2 := (Transfers.pointsTo_toks_range fullShare N).1 $$ H
  icases H2 with ⟨Hr, Ht⟩
  isplitl [Hr]; · iexact Hr
  iapply (Entails.of_eq (Ring.bigSep_rangeSet_eq_range (NB := N) (lo := 0) (hi := N) (Φ := fun t : Fin N => srcTok (F := F) c src t.val) le_rfl
    (fun t => srcTok c src t) (fun k hk => by show srcTok c src k = srcTok c src (0 + k); rw [Nat.zero_add])).symm)
  iexact Ht

/-- What of the source stays readable while the copies are in flight. -/
@[irreducible] def qRest : PosShare TreeShare := Transfers.shareDrop fullShare 8192

theorem src_toks (src : S9216x4096.Idx → Elt F .f32) :
    (srcAt c fullShare src : sProp 𝕄) ⊢
      iprop(srcAt c qRest src ∗ bigSep (Ring.rangeSet 8192 0 8192) (fun t : Fin 8192 => srcTok c src t.val)) := by
  unfold qRest
  exact src_toks_n c 8192 src

theorem storable_held (ℓ : Loc nD τ sig) (I : Finset (Idx ℓ)) (q : PosShare TreeShare) (f : Buf (Elt F) ℓ) :
    BI.Storable (upEmb : UEmb _ 𝕄) (ℓ ↦[I]{q} f) := inferInstance

instance deliv_storable (G : S8192x4096.Idx → Elt F .f32) (t : Fin 8192) : BI.Storable (upEmb : UEmb _ 𝕄) (deliv c G t) :=
  storable_held _ _ _ _

/-- THE WHOLE BODY. -/
theorem body_run [∀ e, Nonempty (Elt F e)] (i : grid0.Coords) (g r : S8192.Idx → BitVec 32) (n : S8x128.Idx → BitVec 32) (src : S9216x4096.Idx → Elt F .f32)
    (pos : Fin 8192 → Fin 9216) (hR : Routed g r (offs n) pos)
    (plan : Transfers.InterleavedWaits (c : Thread nD τ) (SemLoc.dma (sig := sig) sm)) (o : S4.Idx → BitVec 32) (d : S8192x4096.Idx → Elt F .f32) (W : Waits sig Unit) :
    iprop(((Memref.whole main_arg0 : Memref sig .tc .smem S8192 .i32).view.loc (c : Thread nD τ) ↦{fullShare} g)
      ∗ ((Memref.whole main_arg1 : Memref sig .tc .smem S8192 .i32).view.loc (c : Thread nD τ) ↦{fullShare} r)
      ∗ ((Memref.whole main_arg2 : Memref sig .tc .smem S8x128 .i32).view.loc (c : Thread nD τ) ↦{fullShare} n)
      ∗ srcAt c fullShare src ∗ dstAt c d
      ∗ ((Memref.whole cc0_scratch1 : Memref sig .tc .smem S4 .i32).view.loc (c : Thread nD τ) ↦{fullShare} o)
      ∗ semVal ((c : Thread nD τ), SemLoc.dma sm) 0 ∗ owes (c : Thread nD τ) 0 W)
    ⊢ wp frame (wpE defs₀ 𝒱₀ (c : Thread nD τ) none) Set.univ
      (cc0__perm_kernel (F := F) i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2)
      (fun _ => iprop(((Memref.whole main_arg0 : Memref sig .tc .smem S8192 .i32).view.loc (c : Thread nD τ) ↦{fullShare} g)
      ∗ ((Memref.whole main_arg1 : Memref sig .tc .smem S8192 .i32).view.loc (c : Thread nD τ) ↦{fullShare} r)
      ∗ ((Memref.whole main_arg2 : Memref sig .tc .smem S8x128 .i32).view.loc (c : Thread nD τ) ↦{fullShare} n)
      ∗ srcAt c qRest src ∗ dstAt c (gathered src pos)
      ∗ (∃ o, (Memref.whole cc0_scratch1 : Memref sig .tc .smem S4 .i32).view.loc (c : Thread nD τ) ↦{fullShare} o)
      ∗ semVal ((c : Thread nD τ), SemLoc.dma sm) 0 ∗ ∃ W, owes (c : Thread nD τ) 0 W)) := by
  iintro ⟨HG, HR, HN, HS, HD, HO, Hc, Hw⟩
  ihave HDr := (rows_any c d) $$ HD
  ihave HS' := (src_toks c src) $$ HS
  icases HS' with ⟨HSr, HT⟩
  imod (Transfers.batch_alloc' (Lvl := ℕ) (countersEmb (U := UU nD τ)) (c : Thread nD τ) () NN (deliv c (gathered src pos)) (sm := .dma sm) (E := Set.univ)) $$ Hc with HB
  rw [Gen.cc0__perm_kernel_eq_skeleton]
  unfold Gen.cc0__perm_kernel_skel
  rw [Gen.k0_part1_eq_skeleton]
  unfold Gen.k0_part1_skel
  rw [Gen.k0_part2_eq_skeleton]
  unfold Gen.k0_part2_skel
  sl_exec
  have e : (Memref.whole cc0_scratch1 : Memref sig .tc .smem S4 .i32).view.writes (Elt F) (Memref.whole cc0_scratch1 : Memref sig .tc .smem S4 .i32).view.junk (body_run.sl.HO_4 n) = offs n := by
    unfold body_run.sl.HO_4
    funext y
    refine (offs_written _ _ _ _ _ _ _ _ _ y).trans ?_
    unfold offs
    rw [← readN (F := F) n 0 Gen.inb_S8x128_S1x1_0_0 (Shape.Idx.first (by decide)), ← readN (F := F) n 1 Gen.inb_S8x128_S1x1_1_0 (Shape.Idx.first (by decide)), ← readN (F := F) n 2 Gen.inb_S8x128_S1x1_2_0 (Shape.Idx.first (by decide))]
    rfl
  rw [e]
  sl_for (copyAt c g r (offs n) src (gathered src pos)) $$ [HG HR HO HB Hw HDr HT]
  · intro k acc; exact copy_step c i g r (offs n) src pos hR plan k acc
  · unfold copyAt
    isplitl [HG]; · iexact HG
    isplitl [HR]; · iexact HR
    isplitl [HO]; · iexact HO
    isplitl [HB]; · iexact HB
    isplitl [Hw]; · iexists _; iexact Hw
    isplitl [HDr]; · iexact HDr
    iexact HT
  iintro %acc HL
  unfold copyAt
  icases HL with ⟨HG, HR, HO, HB, Hw, -, -⟩
  sl_for (drainAt c (gathered src pos)) $$ [HB Hw]
  · intro k acc; exact drain_step c i (gathered src pos) plan k acc
  · unfold drainAt
    isplitr; · ipureintro; omega
    isplitl [Hw]; · iexact Hw
    iexact HB
  iintro %acc2 HL
  unfold drainAt
  icases HL with ⟨-, Hw, HB⟩
  ihave HB := (show batch c (gathered src pos) 8192 ((8128 + Scf.trips k0_t2_loop.lb k0_t2_loop.ub k0_t2_loop.st) * NN) ⊢ batch c (gathered src pos) 8192 (NN * 8192) from
    Entails.of_eq (congrArg (batch c (gathered src pos) 8192) (show (8128 + Scf.trips k0_t2_loop.lb k0_t2_loop.ub k0_t2_loop.st) * NN = NN * 8192 by
      rw [show Scf.trips k0_t2_loop.lb k0_t2_loop.ub k0_t2_loop.st = 64 from by decide]; unfold NN; omega))) $$ HB
  imod (Transfers.batch_collect' (countersEmb (U := UU nD τ)) (c : Thread nD τ) (N := NN) (by decide) (D := deliv c (gathered src pos))) $$ HB with ⟨Hall, Hc⟩
  sl_step
  isplitl [HG]; · iexact HG
  isplitl [HR]; · iexact HR
  isplitl [HN]; · iexact HN
  isplitl [HSr]; · iexact HSr
  isplitl [Hall]; · iapply (Entails.of_eq (rows_eq c (gathered src pos)).symm); iexact Hall
  isplitl [HO]; · iexists _; iexact HO
  isplitl [Hc]; · iexact Hc
  iexact Hw

end Names

end Cert.Proof.Perm
end
-- ==== Proof.PermTables.lean ====
/-
  The tables of the row permutation: what the precondition says of them as numbers, what a group's tiles and first row
  are, and that every token's row lies in the sorted array.
-/
module

public import proofs.«01_k».proof.Proof.PermRun
public import proofs.«01_k».proof.Pre_routing
public import Idealize.ShloMosaic.Lib.Pipeline.Value

@[expose] public section

set_option maxRecDepth 100000

noncomputable section

namespace Cert.Proof.Perm

open Cert.KernelIdeal
open Idealize.ShloMosaic

/-- The precondition's shape facts. -/
theorem preFacts : Cert.Pre_routing.Facts where
  slices_S8x128_S4x1_0_0 := by decide
  shapeCasts_S4x1_S4 := by decide
  slices_S4_S1_0 := by decide
  shapeCasts_S1_S_ := by decide
  slices_S4_S1_1 := by decide
  slices_S4_S1_2 := by decide
  slices_S4_S1_3 := by decide
  bcast_S8192_S8192x1_0 := by decide
  bcast_S_S8192x1 := by decide
  bcast_S4_S1x4_1 := by decide
  bcast_S_S1x4 := by decide
  bcast_S8192x1_S8192x4_0_1 := by decide
  bcast_S1x4_S8192x4_0_1 := by decide
  bcast_S_S8192x4 := by decide

attribute [local instance] preFacts

/-- The tables as numbers: groups below 4, counts whose sum is at most the rows, a token's rank below its group's count. -/
structure Fits (g r : S8192.Idx → BitVec 32) (n : S8x128.Idx → BitVec 32) : Prop where
  grp : ∀ t : Fin 8192, (g (ix1 t)).toNat < 4
  sum : (cntAt n 0).toNat + (cntAt n 1).toNat + (cntAt n 2).toNat + (cntAt n 3).toNat ≤ 8192
  rank : ∀ t : Fin 8192, (r (ix1 t)).toNat < (cntAt n ⟨(g (ix1 t)).toNat, by have := grp t; omega⟩).toNat

/-- Element `(t, j)` of the predicate. -/
def at2 (t : Fin 8192) (j : Fin 4) : Cert.Pre_routing.S8192x4.Idx := fun | ⟨0, _⟩ => t | ⟨1, _⟩ => j

theorem cnt_col (n : S8x128.Idx → BitVec 32) (y : Cert.Pre_routing.S4.Idx) (j : Fin 8) (hj : (y 0).val = j.val) :
    shapeCast Cert.Pre_routing.S4 ((extractStridedSlice Cert.Pre_routing.S4x1 ![0, 0] · Cert.Pre_routing.Facts.slices_S8x128_S4x1_0_0) n) Cert.Pre_routing.Facts.shapeCasts_S4x1_S4 y
      = cntAt n j := by
  refine (shapeCast_apply _ _ y (fun | ⟨0, _⟩ => y 0 | ⟨1, _⟩ => (0 : Fin 1) : Cert.Pre_routing.S4x1.Idx) ?_).trans ?_
  · rw [Shape.rowMajor_val_two, Shape.rowMajor_val_one]
    show (y 0).val * 1 + 0 = (y 0).val
    omega
  · refine congrArg n (funext fun a => ?_)
    match a with
    | ⟨0, _⟩ => exact Fin.ext (by show 0 + (y 0).val = j.val; omega)
    | ⟨1, _⟩ => rfl

theorem cnt_one (n : S8x128.Idx → BitVec 32) (k : Fin 4) (hk : Cert.Pre_routing.S4.Slices ![k.val] Cert.Pre_routing.S1) (y : Cert.Pre_routing.S_.Idx) :
    shapeCast Cert.Pre_routing.S_ (extractStridedSlice Cert.Pre_routing.S1 ![k.val] (shapeCast Cert.Pre_routing.S4
      ((extractStridedSlice Cert.Pre_routing.S4x1 ![0, 0] · Cert.Pre_routing.Facts.slices_S8x128_S4x1_0_0) n) Cert.Pre_routing.Facts.shapeCasts_S4x1_S4) hk)
      Cert.Pre_routing.Facts.shapeCasts_S1_S_ y = cntAt n (k.castLE (by omega)) := by
  refine (shapeCast_apply _ _ y (fun | ⟨0, _⟩ => ⟨0, Nat.one_pos⟩) ?_).trans ?_
  · rw [Shape.rowMajor_val_one]
    have := (Cert.Pre_routing.S_.rowMajor y).isLt
    have e : Cert.Pre_routing.S_.numel = 1 := by decide
    show 0 = _
    omega
  · exact cnt_col n _ (k.castLE (by omega)) rfl

theorem fits_of_pre {F : FTy → Type} [FloatOps F] (g r : S8192.Idx → BitVec 32) (n : S8x128.Idx → BitVec 32) (src : S9216x4096.Idx → F .f32)
    (h : Cert.Pre_routing.fn (F := F) g r n src = fun _ => 1#1) : Fits g r n := by
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  have ofBool_eq_one (p : Bool) : (BitVec.ofBool p = 1#1) ↔ p = true := by cases p <;> decide
  have word (t : Fin 8192) (f : BitVec 32 → Bool) (x : S8192.Idx → BitVec 32) (i : S8192.Idx) (hi : i 0 = t) (e : f (x i) = true) : f (x (ix1 t)) = true := by
    obtain rfl : i = ix1 t := by
      funext a
      match a with
      | ⟨0, _⟩ => exact hi
    exact e
  have key : ∀ (t : Fin 8192) (j : Fin 4), ((((((0#32).sle (g (ix1 t)) = true ∧ (g (ix1 t)).slt 4#32 = true) ∧ (0#32).sle (r (ix1 t)) = true)
      ∧ (0#32).sle (cntAt n (j.castLE (by omega))) = true) ∧ (cntAt n (j.castLE (by omega))).sle 8192#32 = true)
      ∧ (cntAt n 0 + cntAt n 1 + cntAt n 2 + cntAt n 3).sle 8192#32 = true)
      ∧ ((g (ix1 t) != BitVec.ofNat 32 j.val) = true ∨ (r (ix1 t)).slt (cntAt n (j.castLE (by omega))) = true) := by
    intro t j
    have e := congrFun h (at2 t j)
    simp only [Pre_routing.fn, Pre_routing.fn_part1, Pre_routing.fn_part2, andi, ori, cmpi, addi, broadcastInDim, constantI, IntOp.cmpi, iotaInDim, andi_ofBool, ori_ofBool, ofBool_eq_one,
      Bool.and_eq_true, Bool.or_eq_true] at e
    obtain ⟨⟨⟨⟨⟨⟨h1, h2⟩, h3⟩, h4⟩, h5⟩, h6⟩, h7⟩ := e
    refine ⟨⟨⟨⟨⟨⟨word t (fun w => (0#32).sle w) g _ rfl h1, word t (fun w => w.slt 4#32) g _ rfl h2⟩, word t (fun w => (0#32).sle w) r _ rfl h3⟩, ?_⟩, ?_⟩, ?_⟩, ?_⟩
    · exact (congrArg (fun w => (0#32).sle w) (cnt_col n _ (j.castLE (by omega)) rfl)).symm.trans h4
    · exact (congrArg (fun w => w.sle 8192#32) (cnt_col n _ (j.castLE (by omega)) rfl)).symm.trans h5
    · exact (congrArg (fun w => w.sle 8192#32) (congrArg₂ IntOp.addi (congrArg₂ IntOp.addi (congrArg₂ IntOp.addi (cnt_one n 0 _ _) (cnt_one n 1 _ _))
        (cnt_one n 2 _ _)) (cnt_one n 3 _ _))).symm.trans h6
    · rcases h7 with h7 | h7
      · exact .inl (word t (fun w => w != BitVec.ofNat 32 j.val) g _ rfl h7)
      · replace h7 := (congrArg (fun w => BitVec.slt _ w) (cnt_col n _ (j.castLE (by omega)) rfl)).symm.trans h7
        exact .inr (word t (fun w => w.slt (cntAt n (j.castLE (by omega)))) r _ rfl h7)
  have nn (w : BitVec 32) (a : (0#32).sle w = true) : w.toNat < 2 ^ 31 := by
    simp only [BitVec.sle, decide_eq_true_eq, BitVec.toInt, BitVec.toNat_ofNat] at a; omega
  have le (w : BitVec 32) (a : (0#32).sle w = true) (b : w.sle 8192#32 = true) : w.toNat ≤ 8192 := by
    simp only [BitVec.sle, decide_eq_true_eq, BitVec.toInt, BitVec.toNat_ofNat] at a b; omega
  have lt (w : BitVec 32) (a : (0#32).sle w = true) (b : w.slt 4#32 = true) : w.toNat < 4 := by
    simp only [BitVec.sle, BitVec.slt, decide_eq_true_eq, BitVec.toInt, BitVec.toNat_ofNat] at a b; omega
  have lt' (w v : BitVec 32) (a : (0#32).sle w = true) (b : w.slt v = true) (c : (0#32).sle v = true) : w.toNat < v.toNat := by
    simp only [BitVec.sle, BitVec.slt, decide_eq_true_eq, BitVec.toInt, BitVec.toNat_ofNat] at a b c; omega
  have hg (t : Fin 8192) : (g (ix1 t)).toNat < 4 := lt _ (key t 0).1.1.1.1.1.1 (key t 0).1.1.1.1.1.2
  refine ⟨hg, ?_, fun t => ?_⟩
  · have c0 := le _ (key 0 0).1.1.1.2 (key 0 0).1.1.2
    have c1 := le _ (key 0 1).1.1.1.2 (key 0 1).1.1.2
    have c2 := le _ (key 0 2).1.1.1.2 (key 0 2).1.1.2
    have c3 := le _ (key 0 3).1.1.1.2 (key 0 3).1.1.2
    have hs := (key 0 0).1.2
    change (cntAt n 0).toNat ≤ _ at c0; change (cntAt n 1).toNat ≤ _ at c1
    change (cntAt n 2).toNat ≤ _ at c2; change (cntAt n 3).toNat ≤ _ at c3
    simp only [BitVec.sle, decide_eq_true_eq, BitVec.toInt, BitVec.toNat_add, BitVec.toNat_ofNat] at hs
    omega
  · have k := key t ⟨(g (ix1 t)).toNat, hg t⟩
    refine lt' _ _ k.1.1.1.1.2 (k.2.resolve_left fun hne => ?_) k.1.1.1.2
    rw [BitVec.ofNat_toNat, BitVec.setWidth_eq] at hne
    simp at hne

/-- A quotient of two words of the positive half, the divisor not zero, at any unit. -/
theorem div_pos_eq (u : ArithUnit) (x y : BitVec 32) (hx : x.toNat < 2 ^ 31) (hy : y.toNat < 2 ^ 31) (hy0 : 0 < y.toNat) :
    (IntOp.divsi u x y).toNat = x.toNat / y.toNat := by
  have mx : x.msb = false := by rw [BitVec.msb_eq_false_iff_two_mul_lt]; omega
  have my : y.msb = false := by rw [BitVec.msb_eq_false_iff_two_mul_lt]; omega
  unfold IntOp.divsi
  rw [if_neg, BitVec.sdiv_eq, mx, my]
  · exact BitVec.toNat_udiv
  · rintro (h | ⟨h, -⟩)
    · rw [h] at hy0; exact absurd hy0 (by decide)
    · rw [h] at mx; exact absurd mx (by decide)

/-- The floor division by 256 of a positive word, as the kernel computes it. -/
theorem floor_eq (x : BitVec 32) (h0 : 0 < x.toNat) (hx : x.toNat < 2 ^ 31) :
    (Scalar.select (Scalar.andi (Scalar.cmpi .ne (Scalar.extui (Scalar.cmpi .sgt x 0#32) - Scalar.extui (Scalar.cmpi .slt x 0#32))
        (Scalar.extui (Scalar.cmpi .sgt (256#32 : BitVec 32) 0#32) - Scalar.extui (Scalar.cmpi .slt (256#32 : BitVec 32) 0#32)))
      (Scalar.cmpi .ne (Scalar.remsi x 256#32) 0#32)) (Scalar.divsi x 256#32 - 1#32) (Scalar.divsi x 256#32)).toNat = x.toNat / 256 := by
  have e1 : Scalar.cmpi .sgt x 0#32 = 1#1 := by
    have : (0#32 : BitVec 32).slt x = true := by
      simp only [BitVec.slt, decide_eq_true_eq, BitVec.toInt, BitVec.toNat_ofNat]; omega
    show BitVec.ofBool ((0#32 : BitVec 32).slt x) = _
    rw [this]; rfl
  have e2 : Scalar.cmpi .slt x 0#32 = 0#1 := by
    have : x.slt (0#32 : BitVec 32) = false := by
      simp only [BitVec.slt, decide_eq_false_iff_not, BitVec.toInt, BitVec.toNat_ofNat]; omega
    show BitVec.ofBool (x.slt (0#32 : BitVec 32)) = _
    rw [this]; rfl
  rw [e1, e2]
  have e3 : Scalar.cmpi .ne (Scalar.extui 1#1 - Scalar.extui 0#1)
      (Scalar.extui (Scalar.cmpi .sgt (256#32 : BitVec 32) 0#32) - Scalar.extui (Scalar.cmpi .slt (256#32 : BitVec 32) 0#32)) = 0#1 := by decide
  rw [e3]
  have e4 (c : BitVec 1) : Scalar.andi 0#1 c = 0#1 := BitVec.zero_and
  rw [e4]
  exact div_pos_eq .scalar x 256#32 hx (by decide) (by decide)

/-- The tiles of a group of at most 8192 rows. -/
theorem tilesOf_eq (w : BitVec 32) (hw : w.toNat ≤ 8192) : (tilesOf w).toNat = (w.toNat + 255) / 256 := by
  have hx : (w + 256#32 - 1#32).toNat = w.toNat + 255 := by
    simp only [BitVec.toNat_sub, BitVec.toNat_add, BitVec.toNat_ofNat]; omega
  unfold tilesOf
  simp only [Scalar.subi, Scalar.addi, IntOp.subi, IntOp.addi]
  generalize w + 256#32 - 1#32 = x at hx ⊢
  rw [show (w.toNat + 255) / 256 = x.toNat / 256 by rw [hx]]
  exact floor_eq x (by omega) (by omega)

/-- The row of token `t` in the sorted array. -/
def posOf (g r : S8192.Idx → BitVec 32) (n : S8x128.Idx → BitVec 32) (t : Fin 8192) : Fin 9216 :=
  ⟨(offs n (fun | ⟨0, _⟩ => ⟨(g (ix1 t)).toNat % 4, Nat.mod_lt _ (by decide)⟩) + r (ix1 t)).toNat % 9216, Nat.mod_lt _ (by decide)⟩

/-- A group's first row, as a number. -/
theorem offs_toNat (n : S8x128.Idx → BitVec 32) (hs : (cntAt n 0).toNat + (cntAt n 1).toNat + (cntAt n 2).toNat + (cntAt n 3).toNat ≤ 8192) :
    (offs n (ix1 0)).toNat = 0
    ∧ (offs n (ix1 1)).toNat = ((cntAt n 0).toNat + 255) / 256 * 256
    ∧ (offs n (ix1 2)).toNat = (((cntAt n 0).toNat + 255) / 256 + ((cntAt n 1).toNat + 255) / 256) * 256
    ∧ (offs n (ix1 3)).toNat = (((cntAt n 0).toNat + 255) / 256 + ((cntAt n 1).toNat + 255) / 256 + ((cntAt n 2).toNat + 255) / 256) * 256 := by
  have h0 := tilesOf_eq (cntAt n 0) (by omega)
  have h1 := tilesOf_eq (cntAt n 1) (by omega)
  have h2 := tilesOf_eq (cntAt n 2) (by omega)
  refine ⟨rfl, ?_, ?_, ?_⟩
  · show (Scalar.muli (Scalar.addi 0#32 (tilesOf (cntAt n 0))) 256#32).toNat = _
    simp only [Scalar.muli, Scalar.addi, IntOp.muli, IntOp.addi, BitVec.toNat_mul, BitVec.toNat_add, BitVec.toNat_ofNat, h0]
    omega
  · show (Scalar.muli (Scalar.addi (Scalar.addi 0#32 (tilesOf (cntAt n 0))) (tilesOf (cntAt n 1))) 256#32).toNat = _
    simp only [Scalar.muli, Scalar.addi, IntOp.muli, IntOp.addi, BitVec.toNat_mul, BitVec.toNat_add, BitVec.toNat_ofNat, h0, h1]
    omega
  · show (Scalar.muli (Scalar.addi (Scalar.addi (Scalar.addi 0#32 (tilesOf (cntAt n 0))) (tilesOf (cntAt n 1))) (tilesOf (cntAt n 2))) 256#32).toNat = _
    simp only [Scalar.muli, Scalar.addi, IntOp.muli, IntOp.addi, BitVec.toNat_mul, BitVec.toNat_add, BitVec.toNat_ofNat, h0, h1, h2]
    omega

/-- THE TABLES ROUTE: under the precondition token `t`'s row, its group's first row plus its rank, lies in the sorted array. -/
theorem routed_of_fits {g r : S8192.Idx → BitVec 32} {n : S8x128.Idx → BitVec 32} (h : Fits g r n) : Routed g r (offs n) (posOf g r n) := by
  refine ⟨h.grp, fun t => ?_⟩
  have hg := h.grp t
  have hs := h.sum
  have hr := h.rank t
  obtain ⟨o0, o1, o2, o3⟩ := offs_toNat n hs
  have e : (fun | ⟨0, _⟩ => ⟨(g (ix1 t)).toNat % 4, Nat.mod_lt _ (by decide)⟩ : S4.Idx) = ix1 ⟨(g (ix1 t)).toNat, hg⟩ := by
    funext a
    match a with
    | ⟨0, _⟩ => exact Fin.ext (Nat.mod_eq_of_lt hg)
  unfold posOf
  show _ = (offs n _ + r (ix1 t)).toNat % 9216
  rw [e]
  refine (Nat.mod_eq_of_lt ?_).symm
  rw [BitVec.toNat_add]
  clear e
  have key : ∀ (k : ℕ) (hk : k < 4), (r (ix1 t)).toNat < (cntAt n ⟨k, by omega⟩).toNat →
      ((offs n (ix1 ⟨k, hk⟩)).toNat + (r (ix1 t)).toNat) % 2 ^ 32 < 9216 := by
    intro k hk hr
    interval_cases k
    · change _ < (cntAt n 0).toNat at hr; change ((offs n (ix1 0)).toNat + _) % _ < _; omega
    · change _ < (cntAt n 1).toNat at hr; change ((offs n (ix1 1)).toNat + _) % _ < _; omega
    · change _ < (cntAt n 2).toNat at hr; change ((offs n (ix1 2)).toNat + _) % _ < _; omega
    · change _ < (cntAt n 3).toNat at hr; change ((offs n (ix1 3)).toNat + _) % _ < _; omega
  exact key _ hg hr

end Cert.Proof.Perm
end
-- ==== Proof.FfnWords.lean ====
/-
  The words the reference computes from the counts are the ones the expert kernel computes: how many tiles lie up to
  each group, each row's tile, its group, and whether its tile holds any row. They agree whatever the counts are.
-/
module

public import proofs.«01_k».proof.Proof.FfnTables
public import proofs.«01_k».proof.Proof.FfnRef
public import proofs.«01_k».proof.Proof.PermTables
public import Idealize.ShloMosaic.Lib.Pointwise
public import Idealize.ShloMosaic.Lib.Routing.OpsOne

@[expose] public section

set_option maxRecDepth 100000

noncomputable section

namespace Cert.Proof.FfnWords

open Idealize.ShloMosaic
open Cert.Reference2Ideal FfnRef
open Ffn (Cnt ceilW cum1 cum2 cum3 cum4 grpW usedW)

/-- The sign of a word, as the host spells it. -/
def signW (x : BitVec 32) : BitVec 32 := if x = 0 then 0 else if x.msb = true then -1 else 1

/-- The two spellings of the sign agree. -/
theorem sign_eq (x : BitVec 32) : signW x = Scalar.extui (Scalar.cmpi .sgt x 0#32) - Scalar.extui (Scalar.cmpi .slt x 0#32) := by
  have e1 : Scalar.cmpi .sgt x 0#32 = BitVec.ofBool ((0#32 : BitVec 32).slt x) := rfl
  have e2 : Scalar.cmpi .slt x 0#32 = BitVec.ofBool (x.slt (0#32 : BitVec 32)) := rfl
  have hl := x.isLt
  unfold signW
  rw [e1, e2]
  by_cases h0 : x = 0
  · subst h0; decide
  · have hz : x.toNat ≠ 0 := fun h => h0 (BitVec.eq_of_toNat_eq (by rw [h]; rfl))
    rw [if_neg h0]
    by_cases hm : x.msb = true
    · have h2 : 2 ^ 31 ≤ x.toNat := by
        rw [BitVec.msb_eq_decide, decide_eq_true_eq] at hm; omega
      have s1 : (0#32 : BitVec 32).slt x = false := by
        simp only [BitVec.slt, decide_eq_false_iff_not, BitVec.toInt, BitVec.toNat_ofNat]; omega
      have s2 : x.slt (0#32 : BitVec 32) = true := by
        simp only [BitVec.slt, decide_eq_true_eq, BitVec.toInt, BitVec.toNat_ofNat]; omega
      rw [if_pos hm, s1, s2]; decide
    · have h2 : x.toNat < 2 ^ 31 := by
        rw [BitVec.msb_eq_decide, decide_eq_true_eq] at hm; omega
      have s1 : (0#32 : BitVec 32).slt x = true := by
        simp only [BitVec.slt, decide_eq_true_eq, BitVec.toInt, BitVec.toNat_ofNat]; omega
      have s2 : x.slt (0#32 : BitVec 32) = false := by
        simp only [BitVec.slt, decide_eq_false_iff_not, BitVec.toInt, BitVec.toNat_ofNat]; omega
      rw [if_neg hm, s1, s2]; decide

theorem no_corner (x : BitVec 32) : ¬ IntOp.SDivCorner x 256#32 := by
  rintro (h | ⟨-, h⟩)
  · exact absurd h (by decide)
  · exact absurd h (by decide)

/-- A quotient and a remainder by 256 are the same on either unit. -/
theorem div_unit (x : BitVec 32) : IntOp.divsi .host x 256#32 = Scalar.divsi x 256#32 := by
  unfold Scalar.divsi IntOp.divsi
  rw [if_neg (no_corner x), if_neg (no_corner x)]
theorem rem_unit (x : BitVec 32) : IntOp.remsi .host x 256#32 = Scalar.remsi x 256#32 := by
  unfold Scalar.remsi IntOp.remsi
  rw [if_neg (no_corner x), if_neg (no_corner x)]

/-- The floor division of a word by 256, as the kernel spells it. -/
def floorW (x : BitVec 32) : BitVec 32 :=
  Scalar.select (Scalar.andi (Scalar.cmpi .ne (Scalar.extui (Scalar.cmpi .sgt x 0#32) - Scalar.extui (Scalar.cmpi .slt x 0#32))
        (Scalar.extui (Scalar.cmpi .sgt (256#32 : BitVec 32) 0#32) - Scalar.extui (Scalar.cmpi .slt (256#32 : BitVec 32) 0#32)))
      (Scalar.cmpi .ne (Scalar.remsi x 256#32) 0#32)) (Scalar.divsi x 256#32 - 1#32) (Scalar.divsi x 256#32)

theorem ceilW_eq (v : BitVec 32) : ceilW v = floorW (v + 256#32 - 1#32) := rfl

/-- The reference's floor division by 256 is the kernel's, element by element. -/
theorem floorR_eq {s : Shape} (h : S_.BroadcastsInDim s (![] : Fin 0 → Fin s.rank)) (x : IVec s 32) (i : s.Idx) :
    floorR h x 256#32 i = floorW (x i) := by
  have e : floorR h x 256#32 i = Scalar.select (IntOp.andi (IntOp.cmpi .ne (signW (x i)) (signW 256#32)) (IntOp.cmpi .ne (IntOp.remsi .host (x i) 256#32) 0#32))
      (IntOp.subi (IntOp.divsi .host (x i) 256#32) 1#32) (IntOp.divsi .host (x i) 256#32) := rfl
  rw [e, sign_eq, sign_eq, div_unit, rem_unit]
  rfl

/-- A row's tile. -/
theorem tileR_eq (p : Fin 9216) : tileR (ix1 p) = BitVec.ofNat 32 (p.val / 256) := by
  have hp := p.isLt
  refine (floorR_eq _ _ _).trans ?_
  show floorW (BitVec.ofNat 32 p.val) = _
  have hx : (BitVec.ofNat 32 p.val).toNat = p.val := by rw [BitVec.toNat_ofNat]; omega
  by_cases h0 : p.val = 0
  · rw [h0]; decide
  · apply BitVec.eq_of_toNat_eq
    refine (Perm.floor_eq _ (by rw [hx]; omega) (by rw [hx]; omega)).trans ?_
    rw [hx, BitVec.toNat_ofNat]; omega

/-- An expert's group. -/
theorem expR_eq (e : Fin 16) : expR (ix1 e) = BitVec.ofNat 32 (e.val / 4) := by
  revert e; decide +kernel

/-- The counts, read from the table. -/
def cntR (n : IVec S8x128 32) : Cnt := fun k => n (ix2 (⟨k.val, Nat.lt_of_lt_of_le k.isLt (by decide)⟩ : Fin 8) (0 : Fin 128))

/-- A group's tiles. -/
theorem tiles_eq (n : IVec S8x128 32) (k : Fin 4) : floorR Gen.bcast_S_S4 (padR n) 256#32 (ix1 k) = ceilW (cntR n k) := by
  rw [floorR_eq, ceilW_eq]
  refine congrArg floorW ?_
  have e : padR n (ix1 k) = cntR n k + 255#32 := by
    pointwise [padR]
    rfl
  rw [e]
  apply BitVec.eq_of_toNat_eq
  simp only [BitVec.toNat_add, BitVec.toNat_sub, BitVec.toNat_ofNat]
  have := (cntR n k).isLt
  omega

/-- The tiles up to each group. -/
theorem cumR_eq (n : IVec S8x128 32) :
    cumR n (ix1 0) = cum1 (cntR n) ∧ cumR n (ix1 1) = cum2 (cntR n) ∧ cumR n (ix1 2) = cum3 (cntR n) ∧ cumR n (ix1 3) = cum4 (cntR n) := by
  have t := tiles_eq n
  have e : ∀ k : Fin 4, cumR n (ix1 k) = ∑ i : Fin 4, if i ≤ k then floorR Gen.bcast_S_S4 (padR n) 256#32 (ix1 i) else 0 := fun k =>
    Routing.cumsum_vec (N := 4) (Nm1 := 3) rfl (floorR Gen.bcast_S_S4 (padR n) 256#32) _ rfl Gen.reduceWindows_S4_S4_w4s1p3_0 Gen.h_S_ k
  simp only [e, t]
  generalize cntR n = w
  unfold cum4 cum3 cum2 cum1
  simp only [Fin.sum_univ_four]
  generalize ceilW (w 0) = a
  generalize ceilW (w 1) = b
  generalize ceilW (w 2) = c
  generalize ceilW (w 3) = d
  refine ⟨?_, ?_, ?_, ?_⟩
  · show a + 0 + 0 + 0 = 0#32 + a
    simp
  · show a + b + 0 + 0 = 0#32 + a + b
    simp
  · show a + b + c + 0 = 0#32 + a + b + c
    simp
  · show a + b + c + d = 0#32 + a + b + c + d
    simp

/-- A row's group. -/
theorem grpR_eq (n : IVec S8x128 32) (p : Fin 9216) : grpR n (ix1 p) = grpW (cntR n) (BitVec.ofNat 32 (p.val / 256)) := by
  obtain ⟨c0, c1, c2, -⟩ := cumR_eq n
  have e : grpR n (ix1 p) = Finset.fold IntOp.addi (0#32)
        (fun x : Fin 3 => BitVec.setWidth 32 (IntOp.cmpi CmpIPredicate.sge (tileR (ix1 p)) (cumR n (ix1 (⟨x.val, Nat.lt_of_lt_of_le x.isLt (by decide)⟩ : Fin 4)))))
        Finset.univ := by
    pointwise [grpR]
  have e' : grpR n (ix1 p) = BitVec.setWidth 32 (IntOp.cmpi CmpIPredicate.sge (tileR (ix1 p)) (cumR n (ix1 0)))
      + (BitVec.setWidth 32 (IntOp.cmpi CmpIPredicate.sge (tileR (ix1 p)) (cumR n (ix1 1)))
        + (BitVec.setWidth 32 (IntOp.cmpi CmpIPredicate.sge (tileR (ix1 p)) (cumR n (ix1 2))) + 0#32)) := e.trans rfl
  rw [e', c0, c1, c2, tileR_eq]
  unfold grpW
  show BitVec.setWidth 32 (Scalar.cmpi .sge _ _) + (BitVec.setWidth 32 (Scalar.cmpi .sge _ _) + (BitVec.setWidth 32 (Scalar.cmpi .sge _ _) + 0#32)) = _
  generalize Scalar.cmpi .sge (BitVec.ofNat 32 (p.val / 256)) (cum1 (cntR n)) = a
  generalize Scalar.cmpi .sge (BitVec.ofNat 32 (p.val / 256)) (cum2 (cntR n)) = b
  generalize Scalar.cmpi .sge (BitVec.ofNat 32 (p.val / 256)) (cum3 (cntR n)) = c
  revert a b c; decide

/-- Whether a row's tile holds any row. -/
theorem usedR_eq (n : IVec S8x128 32) (p : Fin 9216) : usedR n (ix1 p) = usedW (cntR n) (BitVec.ofNat 32 (p.val / 256)) := by
  have e : usedR n (ix1 p) = IntOp.cmpi CmpIPredicate.slt (tileR (ix1 p)) (cumR n (ix1 3)) := by
    pointwise [usedR]
  rw [e, (cumR_eq n).2.2.2, tileR_eq]
  rfl

end Cert.Proof.FfnWords
end
-- ==== Proof.FfnValue.lean ====
/-
  The expert kernel's value over the extended reals: every row is the reference's. A row tile's eight points add, in
  turn, the two halves of each of its group's four experts; the reference adds all sixteen experts, those outside the
  row's group with a gate of zero. The sum's terms are the same, so is the norm taken of it.
-/
module

public import proofs.«01_k».proof.Proof.Blocks
public import proofs.«01_k».proof.Proof.FfnLaunch
public import proofs.«01_k».proof.Proof.FfnWords
public import Idealize.ShloMosaic.Lib.Pointwise

@[expose] public section

set_option maxRecDepth 100000

noncomputable section

namespace Cert.Proof.FfnValue

open Idealize.ShloMosaic Idealize.ShloMosaic.TcCoe
open Idealize.ShloMosaic.Pipeline (Dat Cfg Window)
open Cert.Kernel2Ideal Cert.Kernel2Ideal.Gen Ffn Blocks
open FfnRef (normR sumR cenR meanR rowR hidR preR upR downR gateR usedR outR grpR expR)

/-! ### Sums -/

/-- A sum over sixteen that is nonzero on one group of four. -/
theorem sum_group {M : Type} [AddCommMonoid M] (W : Fin 16 → M) (g : ℕ) (hg : g < 4) :
    (∑ e : Fin 16, if e.val / 4 = g then W e else 0) = ∑ q : Fin 4, W ⟨g * 4 + q.val, by omega⟩ := by
  obtain rfl | rfl | rfl | rfl : g = 0 ∨ g = 1 ∨ g = 2 ∨ g = 3 := by omega
  all_goals
    rw [Fin.sum_univ_four]
    simp [Fin.sum_univ_succ]
    try abel

/-- A sum over 1024 in two halves. -/
theorem sum_halves {M : Type} [AddCommMonoid M] (U : Fin 1024 → M) :
    (∑ f : Fin 1024, U f) = ∑ h : Fin 2, ∑ f : Fin 512, U ⟨h.val * 512 + f.val, by omega⟩ := by
  rw [Fin.sum_univ_two]
  refine (Fin.sum_univ_add (a := 512) (b := 512) U).trans ?_
  refine congrArg₂ (· + ·) (Finset.sum_congr rfl fun f _ => congrArg U (Fin.ext ?_)) (Finset.sum_congr rfl fun f _ => congrArg U (Fin.ext ?_))
  · show f.val = 0 * 512 + f.val
    omega
  · show 512 + f.val = 1 * 512 + f.val
    omega

/-- A sum over eight points, as four pairs. -/
theorem sum_eight {M : Type} [AddCommMonoid M] (T : ℕ → ℕ → M) :
    (∑ k ∈ Finset.range 8, T (k / 2) (k % 2)) = ∑ q : Fin 4, ∑ h : Fin 2, T q.val h.val := by
  simp only [Finset.sum_range_succ, Finset.sum_range_zero, Fin.sum_univ_four, Fin.sum_univ_two, zero_add]
  show T 0 0 + T 0 1 + T 1 0 + T 1 1 + T 2 0 + T 2 1 + T 3 0 + T 3 1 = T 0 0 + T 0 1 + (T 1 0 + T 1 1) + (T 2 0 + T 2 1) + (T 3 0 + T 3 1)
  simp only [add_assoc]

/-- A lane sum that keeps one lane. -/
theorem sum_lane (v : Fin 128 → EReal) (w : BitVec 32) (l : Fin 128) (hw : w.toNat = l.val) :
    (∑ x : Fin 128, Scalar.select (IntOp.cmpi CmpIPredicate.eq (BitVec.ofNat 32 x.val) w) (v x) 0) = v l := by
  have hl := l.isLt
  rw [Finset.sum_eq_single l]
  · have : IntOp.cmpi CmpIPredicate.eq (BitVec.ofNat 32 l.val) w = 1#1 := by
      rw [← hw, BitVec.ofNat_toNat, BitVec.setWidth_eq]
      show BitVec.ofBool (w == w) = _
      rw [beq_self_eq_true]; rfl
    rw [this]; rfl
  · intro x _ hx
    have hxl := x.isLt
    have : IntOp.cmpi CmpIPredicate.eq (BitVec.ofNat 32 x.val) w = 0#1 := by
      show BitVec.ofBool (BitVec.ofNat 32 x.val == w) = _
      rw [beq_eq_false_iff_ne.mpr]; · rfl
      intro h
      apply hx
      apply Fin.ext
      rw [← hw, ← h, BitVec.toNat_ofNat]; omega
    rw [this]; rfl
  · intro h; exact absurd (Finset.mem_univ _) h

/-! ### The two programs' terms -/

/-- A hidden unit of a row. -/
def act (x wg wu : Fin 4096 → EReal) : EReal :=
  (∑ d, x d * wg d) * Ideal.div 1 (1 + Ideal.exp (-∑ d, x d * wg d)) * ∑ d, x d * wu d

/-- What a hidden unit of an expert adds to a row's column. -/
def term (x : FVec Ideal S9216x4096 .f32) (ga : FVec Ideal S9216x128 .f32) (wg wu : FVec Ideal S4x16x4096x1024 .bf16) (wd : FVec Ideal S4x16x1024x4096 .bf16)
    (i : Fin 9216) (j : Fin 4096) (e : Fin 16) (f : Fin 1024) : EReal :=
  act (fun d => x (ix2 i d)) (fun d => wg (ix4 3 e d f)) (fun d => wu (ix4 3 e d f)) * ga (ix2 i (⟨e.val, Nat.lt_of_lt_of_le e.isLt (by decide)⟩ : Fin 128))
    * wd (ix4 3 e f j)

/-- The kernel's point, at an index. -/
theorem pay6_apply (a q : BitVec 32) (x : Vec Ideal S256x4096 .bf16) (wg wu : Vec Ideal S1x1x4096x512 .bf16) (ga : Vec Ideal S256x128 .f32) (wd : Vec Ideal S1x1x512x4096 .bf16)
    (p : Fin 256) (j : Fin 4096) (l : Fin 128) (hl : (Scalar.addi (Scalar.muli q 4#32) a).toNat = l.val) :
    k0_pay6 a q x wg wu ga wd (ix2 p j)
      = ∑ f : Fin 512, act (fun d => x (ix2 p d)) (fun d => wg (ix4 0 0 d f)) (fun d => wu (ix4 0 0 d f)) * ga (ix2 p l) * wd (ix4 0 0 f j) := by
  have hs := sum_lane (fun x => ga (ix2 p x)) _ l hl
  pointwise [k0_pay6]
  refine Finset.sum_congr rfl fun f _ => ?_
  unfold act
  rw [hs, zero_sub]

theorem pay1_apply (x : Vec Ideal S256x4096 .f32) (p : Fin 256) (j : Fin 4096) : k0_pay1 x (ix2 p j) = x (ix2 p j) := by
  pointwise [k0_pay1]
theorem pay2_apply (p : Fin 256) (j : Fin 4096) : k0_pay2 (F := Ideal) (ix2 p j) = 0 := by
  pointwise [k0_pay2]
theorem pay3_apply (x y : Vec Ideal S256x4096 .f32) (p : Fin 256) (j : Fin 4096) : k0_pay3 x y (ix2 p j) = x (ix2 p j) + y (ix2 p j) := by
  pointwise [k0_pay3]
theorem pay5_apply (p : Fin 256) (j : Fin 4096) : k0_pay5 (F := Ideal) (ix2 p j) = 0 := by
  pointwise [k0_pay5]

/-- The two layer norms, of equal rows. -/
theorem norm_eq (x acc : Vec Ideal S256x4096 .f32) (g b : Vec Ideal S1x1x4096 .f32) (X Y : FVec Ideal S9216x4096 .f32) (G B : FVec Ideal S4x1x4096 .f32)
    (p : Fin 256) (i : Fin 9216) (hx : ∀ d, x (ix2 p d) = X (ix2 i d)) (hacc : ∀ d, acc (ix2 p d) = Y (ix2 i d))
    (hg : ∀ d, g (ix3 0 0 d) = G (ix3 3 0 d)) (hb : ∀ d, b (ix3 0 0 d) = B (ix3 3 0 d)) (j : Fin 4096) :
    k0_pay4 x acc g b (ix2 p j) = normR (sumR X Y) G B (ix2 i j) := by
  pointwise [k0_pay4, normR, cenR, meanR, rowR, sumR]
  simp only [hx, hacc, hg, hb]

/-- The reference's sum over the experts, at an index. -/
theorem dot_apply (h : FVec Ideal Reference2Ideal.S9216x16x1024 .f32) (wd : FVec Ideal S4x16x1024x4096 .bf16) (i : Fin 9216) (j : Fin 4096) :
    Host.dotGeneral Reference2Ideal.dot_S9216x16x1024_S16x1024x4096_S9216x4096_12_01_0_2_n_n none h (downR wd) (ix2 i j)
      = ∑ e : Fin 16, ∑ f : Fin 1024, h (ix3 i e f) * wd (ix4 3 e f j) := by
  pointwise [downR]

theorem hid_apply (n : IVec S8x128 32) (x : FVec Ideal S9216x4096 .f32) (ga : FVec Ideal S9216x128 .f32) (wg wu : FVec Ideal S4x16x4096x1024 .bf16)
    (i : Fin 9216) (e : Fin 16) (f : Fin 1024) :
    hidR n x ga wg wu (ix3 i e f)
      = act (fun d => x (ix2 i d)) (fun d => wg (ix4 3 e d f)) (fun d => wu (ix4 3 e d f)) * gateR n ga (ix2 i e) := by
  pointwise [hidR, preR, upR]
  rfl

theorem gate_apply (n : IVec S8x128 32) (ga : FVec Ideal S9216x128 .f32) (i : Fin 9216) (e : Fin 16) :
    gateR n ga (ix2 i e) = Scalar.select (IntOp.cmpi CmpIPredicate.eq (expR (ix1 e)) (grpR n (ix1 i)))
      (ga (ix2 i (⟨e.val, Nat.lt_of_lt_of_le e.isLt (by decide)⟩ : Fin 128))) 0 := by
  pointwise [gateR]

theorem sel_apply (u : IVec Reference2Ideal.S9216 1) (z : FVec Ideal S9216x4096 .f32) (i : Fin 9216) (j : Fin 4096) :
    select (broadcastInDim S9216x4096 ![0, 1] Reference2Ideal.Gen.bcast_S9216x1_S9216x4096_0_1 (broadcastInDim Reference2Ideal.S9216x1 ![0] Reference2Ideal.Gen.bcast_S9216_S9216x1_0 u))
      z (broadcastInDim S9216x4096 ![] Reference2Ideal.Gen.bcast_S_S9216x4096 (constant Reference2Ideal.S_ .f32 0x00000000#32)) (ix2 i j)
      = Scalar.select (u (ix1 i)) (z (ix2 i j)) 0 := by
  pointwise

/-- The reference's sum over the experts is the group's. -/
theorem ref_sum (n : IVec S8x128 32) (x : FVec Ideal S9216x4096 .f32) (ga : FVec Ideal S9216x128 .f32) (wg wu : FVec Ideal S4x16x4096x1024 .bf16)
    (wd : FVec Ideal S4x16x1024x4096 .bf16) (i : Fin 9216) (j : Fin 4096) (g : ℕ) (hg : (grpW (FfnWords.cntR n) (BitVec.ofNat 32 (i.val / 256))).toNat = g) (hg4 : g < 4) :
    Host.dotGeneral Reference2Ideal.dot_S9216x16x1024_S16x1024x4096_S9216x4096_12_01_0_2_n_n none (hidR n x ga wg wu) (downR wd) (ix2 i j)
      = ∑ q : Fin 4, ∑ h : Fin 2, ∑ f : Fin 512, term x ga wg wu wd i j ⟨g * 4 + q.val, by omega⟩ ⟨h.val * 512 + f.val, by omega⟩ := by
  rw [dot_apply]
  refine Eq.trans (Finset.sum_congr rfl fun e _ => ?_) ((sum_group (fun e => ∑ f : Fin 1024, term x ga wg wu wd i j e f) g hg4).trans
    (Finset.sum_congr rfl fun q _ => sum_halves _))
  have he := e.isLt
  by_cases h : e.val / 4 = g
  · rw [if_pos h]
    refine Finset.sum_congr rfl fun f _ => ?_
    have hc : IntOp.cmpi CmpIPredicate.eq (expR (ix1 e)) (grpR n (ix1 i)) = 1#1 := by
      rw [FfnWords.expR_eq, FfnWords.grpR_eq, h, ← hg, BitVec.ofNat_toNat, BitVec.setWidth_eq]
      show BitVec.ofBool (_ == _) = _
      rw [beq_self_eq_true]; rfl
    rw [hid_apply, gate_apply, hc]
    rfl
  · rw [if_neg h]
    refine Finset.sum_eq_zero fun f _ => ?_
    have hc : IntOp.cmpi CmpIPredicate.eq (expR (ix1 e)) (grpR n (ix1 i)) = 0#1 := by
      rw [FfnWords.expR_eq, FfnWords.grpR_eq]
      show BitVec.ofBool (_ == _) = _
      rw [beq_eq_false_iff_ne.mpr]; · rfl
      intro hh
      apply h
      rw [← hg, ← hh, BitVec.toNat_ofNat]; omega
    rw [hid_apply, gate_apply, hc]
    show act _ _ _ * 0 * _ = 0
    rw [mul_zero, zero_mul]

/-! ### The kernel's blocks -/

variable (m : (ℓ : Loc nD τ sig) → Buf (Elt Ideal) ℓ)

/-- The arguments at launch. -/
abbrev argN : IVec S8x128 32 := m ((c₀ : Thread nD τ).loc main_arg0)
abbrev argX : FVec Ideal S9216x4096 .f32 := m ((c₀ : Thread nD τ).loc main_arg1)
abbrev argGa : FVec Ideal S9216x128 .f32 := m ((c₀ : Thread nD τ).loc main_arg2)
abbrev argWg : FVec Ideal S4x16x4096x1024 .bf16 := m ((c₀ : Thread nD τ).loc main_arg3)
abbrev argWu : FVec Ideal S4x16x4096x1024 .bf16 := m ((c₀ : Thread nD τ).loc main_arg4)
abbrev argWd : FVec Ideal S4x16x1024x4096 .bf16 := m ((c₀ : Thread nD τ).loc main_arg5)
abbrev argG : FVec Ideal S4x1x4096 .f32 := m ((c₀ : Thread nD τ).loc main_arg6)
abbrev argB : FVec Ideal S4x1x4096 .f32 := m ((c₀ : Thread nD τ).loc main_arg7)

/-- The counts the kernel reads. -/
theorem cnt_eq : cM m = FfnWords.cntR (argN m) := by
  funext k
  match k with
  | 0 => exact congrArg (argN m) (funext fun (a : Fin 2) => by match a with | 0 => rfl | 1 => rfl)
  | 1 => exact congrArg (argN m) (funext fun (a : Fin 2) => by match a with | 0 => rfl | 1 => rfl)
  | 2 => exact congrArg (argN m) (funext fun (a : Fin 2) => by match a with | 0 => rfl | 1 => rfl)
  | 3 => exact congrArg (argN m) (funext fun (a : Fin 2) => by match a with | 0 => rfl | 1 => rfl)

theorem xB_eq (t : Fin (cfgM m).N) (p : Fin 256) (d : Fin 4096) (i : Fin 9216) (hi : (rowW (cM m) (a0 (co m t))).toNat * 256 + p.val = i.val) :
    xB m t (ix2 p d) = argX m (ix2 i d) := by
  refine congrArg (argX m) (funext fun (a : Fin 2) => Fin.ext ?_)
  have h : ((((cfgM m).win 0).rect t).emb (ix2 p d) a : ℕ) = (![(rowW (cM m) (a0 (co m t))).toNat, 0] : Fin 2 → ℕ) a * (![256, 4096] : Fin 2 → ℕ) a + ((ix2 p d) a : ℕ) := emb_val ((cfgM m).win 0) t rfl (t0_eq (pfM m) (co m t)) (ix2 p d) a
  exact h.trans (coord2 _ _ p d i d hi (zero_row _ d) a)

theorem gaB_eq (t : Fin (cfgM m).N) (p : Fin 256) (d : Fin 128) (i : Fin 9216) (hi : (rowW (cM m) (a0 (co m t))).toNat * 256 + p.val = i.val) :
    gaB m t (ix2 p d) = argGa m (ix2 i d) := by
  refine congrArg (argGa m) (funext fun (a : Fin 2) => Fin.ext ?_)
  have h : ((((cfgM m).win 1).rect t).emb (ix2 p d) a : ℕ) = (![(rowW (cM m) (a0 (co m t))).toNat, 0] : Fin 2 → ℕ) a * (![256, 128] : Fin 2 → ℕ) a + ((ix2 p d) a : ℕ) := emb_val ((cfgM m).win 1) t rfl (t1_eq (pfM m) (co m t)) (ix2 p d) a
  exact h.trans (coord2 _ _ p d i d hi (zero_row _ d) a)

theorem wgB_eq (t : Fin (cfgM m).N) (d : Fin 4096) (f : Fin 512) (e : Fin 16) (f' : Fin 1024) (he : (expW (cM m) (a0 (co m t)) (a1 (co m t))).toNat = e.val)
    (hf : (halfW (cM m) (a0 (co m t)) (a2 (co m t))).toNat * 512 + f.val = f'.val) :
    wgB m t (ix4 (0 : Fin 1) (0 : Fin 1) d f) = argWg m (ix4 (3 : Fin 4) e d f') := by
  refine congrArg (argWg m) (funext fun (a : Fin 4) => Fin.ext ?_)
  have h : ((((cfgM m).win 2).rect t).emb (ix4 (0 : Fin 1) (0 : Fin 1) d f) a : ℕ) = (![3, (expW (cM m) (a0 (co m t)) (a1 (co m t))).toNat, 0, (halfW (cM m) (a0 (co m t)) (a2 (co m t))).toNat] : Fin 4 → ℕ) a * (![1, 1, 4096, 512] : Fin 4 → ℕ) a + ((ix4 (0 : Fin 1) (0 : Fin 1) d f) a : ℕ) := emb_val ((cfgM m).win 2) t rfl (t2_eq (pfM m) (co m t)) (ix4 (0 : Fin 1) (0 : Fin 1) d f) a
  exact h.trans (coord4 _ _ _ _ _ _ d f (3 : Fin 4) e d f' rfl (one_row _ _ e he) (zero_row _ d) hf a)

theorem wuB_eq (t : Fin (cfgM m).N) (d : Fin 4096) (f : Fin 512) (e : Fin 16) (f' : Fin 1024) (he : (expW (cM m) (a0 (co m t)) (a1 (co m t))).toNat = e.val)
    (hf : (halfW (cM m) (a0 (co m t)) (a2 (co m t))).toNat * 512 + f.val = f'.val) :
    wuB m t (ix4 (0 : Fin 1) (0 : Fin 1) d f) = argWu m (ix4 (3 : Fin 4) e d f') := by
  refine congrArg (argWu m) (funext fun (a : Fin 4) => Fin.ext ?_)
  have h : ((((cfgM m).win 3).rect t).emb (ix4 (0 : Fin 1) (0 : Fin 1) d f) a : ℕ) = (![3, (expW (cM m) (a0 (co m t)) (a1 (co m t))).toNat, 0, (halfW (cM m) (a0 (co m t)) (a2 (co m t))).toNat] : Fin 4 → ℕ) a * (![1, 1, 4096, 512] : Fin 4 → ℕ) a + ((ix4 (0 : Fin 1) (0 : Fin 1) d f) a : ℕ) := emb_val ((cfgM m).win 3) t rfl (t3_eq (pfM m) (co m t)) (ix4 (0 : Fin 1) (0 : Fin 1) d f) a
  exact h.trans (coord4 _ _ _ _ _ _ d f (3 : Fin 4) e d f' rfl (one_row _ _ e he) (zero_row _ d) hf a)

theorem wdB_eq (t : Fin (cfgM m).N) (d : Fin 4096) (f : Fin 512) (e : Fin 16) (f' : Fin 1024) (he : (expW (cM m) (a0 (co m t)) (a1 (co m t))).toNat = e.val)
    (hf : (halfW (cM m) (a0 (co m t)) (a2 (co m t))).toNat * 512 + f.val = f'.val) :
    wdB m t (ix4 (0 : Fin 1) (0 : Fin 1) f d) = argWd m (ix4 (3 : Fin 4) e f' d) := by
  refine congrArg (argWd m) (funext fun (a : Fin 4) => Fin.ext ?_)
  have h : ((((cfgM m).win 4).rect t).emb (ix4 (0 : Fin 1) (0 : Fin 1) f d) a : ℕ) = (![3, (expW (cM m) (a0 (co m t)) (a1 (co m t))).toNat, (halfW (cM m) (a0 (co m t)) (a2 (co m t))).toNat, 0] : Fin 4 → ℕ) a * (![1, 1, 512, 4096] : Fin 4 → ℕ) a + ((ix4 (0 : Fin 1) (0 : Fin 1) f d) a : ℕ) := emb_val ((cfgM m).win 4) t rfl (t4_eq (pfM m) (co m t)) (ix4 (0 : Fin 1) (0 : Fin 1) f d) a
  exact h.trans (coord4 _ _ _ _ _ _ f d (3 : Fin 4) e f' d rfl (one_row _ _ e he) hf (zero_row _ d) a)

theorem gB_eq (t : Fin (cfgM m).N) (d : Fin 4096) : gB m t (ix3 (0 : Fin 1) (0 : Fin 1) d) = argG m (ix3 (3 : Fin 4) (0 : Fin 1) d) := by
  refine congrArg (argG m) (funext fun (a : Fin 3) => Fin.ext ?_)
  have h : ((((cfgM m).win 5).rect t).emb (ix3 (0 : Fin 1) (0 : Fin 1) d) a : ℕ) = (![3, 0, 0] : Fin 3 → ℕ) a * (![1, 1, 4096] : Fin 3 → ℕ) a + ((ix3 (0 : Fin 1) (0 : Fin 1) d) a : ℕ) := emb_val ((cfgM m).win 5) t rfl rfl (ix3 (0 : Fin 1) (0 : Fin 1) d) a
  exact h.trans (coord3 _ _ _ _ _ d (3 : Fin 4) (0 : Fin 1) d rfl rfl (zero_row _ d) a)

theorem bB_eq (t : Fin (cfgM m).N) (d : Fin 4096) : bB m t (ix3 (0 : Fin 1) (0 : Fin 1) d) = argB m (ix3 (3 : Fin 4) (0 : Fin 1) d) := by
  refine congrArg (argB m) (funext fun (a : Fin 3) => Fin.ext ?_)
  have h : ((((cfgM m).win 6).rect t).emb (ix3 (0 : Fin 1) (0 : Fin 1) d) a : ℕ) = (![3, 0, 0] : Fin 3 → ℕ) a * (![1, 1, 4096] : Fin 3 → ℕ) a + ((ix3 (0 : Fin 1) (0 : Fin 1) d) a : ℕ) := emb_val ((cfgM m).win 6) t rfl rfl (ix3 (0 : Fin 1) (0 : Fin 1) d) a
  exact h.trans (coord3 _ _ _ _ _ d (3 : Fin 4) (0 : Fin 1) d rfl rfl (zero_row _ d) a)

/-! ### A row tile's points -/

theorem row_used (w : Cnt) (r : BitVec 32) (h : usedW w r = 1#1) : rowW w r = r := by
  unfold rowW; rw [h]; rfl
theorem exp_used (w : Cnt) (r e : BitVec 32) (h : usedW w r = 1#1) : expW w r e = Scalar.addi (Scalar.muli (grpW w r) 4#32) e := by
  unfold expW; rw [h]; rfl
theorem half_used (w : Cnt) (r c : BitVec 32) (h : usedW w r = 1#1) : halfW w r c = c := by
  unfold halfW; rw [h]; rfl

/-- What a point of a row tile adds: half the hidden units of one expert of the row's group. -/
theorem part_apply (t : Fin (cfgM m).N) (hu : usedW (cM m) (a0 (co m t)) = 1#1) (p : Fin 256) (j : Fin 4096) (i : Fin 9216) (hi : t.val / 8 * 256 + p.val = i.val)
    (g : ℕ) (hg : (grpW (cM m) (a0 (co m t))).toNat = g) (q : Fin 4) (hq : t.val / 2 % 4 = q.val) (h : Fin 2) (hh : t.val % 2 = h.val) (hg4 : g < 4) :
    part m t (ix2 p j) = ∑ f : Fin 512, term (argX m) (argGa m) (argWg m) (argWu m) (argWd m) i j ⟨g * 4 + q.val, by omega⟩ ⟨h.val * 512 + f.val, by omega⟩ := by
  have e0 : (a0 (co m t)).toNat = t.val / 8 := (a0_toNat _).trans (coords_0 t)
  have e1 : (a1 (co m t)).toNat = q.val := ((a1_toNat _).trans (coords_1 t)).trans hq
  have e2 : (a2 (co m t)).toNat = h.val := ((a2_toNat _).trans (coords_2 t)).trans hh
  have hl : (Scalar.addi (Scalar.muli (grpW (cM m) (a0 (co m t))) 4#32) (a1 (co m t))).toNat = g * 4 + q.val := by
    rw [expert_toNat _ _ (grpW_lt _ _) (by rw [e1]; exact q.isLt), hg, e1]
  have hrow : (rowW (cM m) (a0 (co m t))).toNat * 256 + p.val = i.val := by rw [row_used _ _ hu, e0, hi]
  have hexp : (expW (cM m) (a0 (co m t)) (a1 (co m t))).toNat = g * 4 + q.val := by rw [exp_used _ _ _ hu, hl]
  have hhalf : (halfW (cM m) (a0 (co m t)) (a2 (co m t))).toNat = h.val := by rw [half_used _ _ _ hu, e2]
  refine (pay6_apply _ _ _ _ _ _ _ p j ⟨g * 4 + q.val, by omega⟩ hl).trans (Finset.sum_congr rfl fun f _ => ?_)
  have hf : (halfW (cM m) (a0 (co m t)) (a2 (co m t))).toNat * 512 + f.val = h.val * 512 + f.val := by rw [hhalf]
  have hx : (fun d => k0_pay1 (xB m t) (ix2 p d)) = fun d => argX m (ix2 i d) := funext fun d => (pay1_apply _ p d).trans (xB_eq m t p d i hrow)
  have hwg : (fun d => wgB m t (ix4 0 0 d f)) = fun d => argWg m (ix4 3 ⟨g * 4 + q.val, by omega⟩ d ⟨h.val * 512 + f.val, by omega⟩) := funext fun d => wgB_eq m t d f _ _ hexp hf
  have hwu : (fun d => wuB m t (ix4 0 0 d f)) = fun d => argWu m (ix4 3 ⟨g * 4 + q.val, by omega⟩ d ⟨h.val * 512 + f.val, by omega⟩) := funext fun d => wuB_eq m t d f _ _ hexp hf
  rw [hx, hwg, hwu, gaB_eq m t p _ i hrow, wdB_eq m t j f ⟨g * 4 + q.val, by omega⟩ ⟨h.val * 512 + f.val, by omega⟩ hexp hf]
  rfl

/-- A point's addend, by its number. -/
def partN (p : Fin 256) (j : Fin 4096) (n : ℕ) : EReal := if h : n < (cfgM m).N then part m ⟨n, h⟩ (ix2 p j) else 0

theorem acc_apply (p : Fin 256) (j : Fin 4096) (r : ℕ) : ∀ k : ℕ, k < 8 → 8 * r + k < (cfgM m).N →
    accN m (8 * r + k + 1) (ix2 p j) = ∑ i ∈ Finset.range (k + 1), partN m p j (8 * r + i)
  | 0, _, h => by
    rw [show accN m (8 * r + 0 + 1) = _ from accN_succ m ⟨8 * r + 0, h⟩, pay3_apply, if_pos (show (8 * r + 0) % 8 = 0 by omega), pay2_apply, Finset.sum_range_one, zero_add]
    exact (show partN m p j (8 * r + 0) = _ from dif_pos h).symm
  | k + 1, hk, h => by
    rw [show accN m (8 * r + (k + 1) + 1) = _ from accN_succ m ⟨8 * r + (k + 1), h⟩, pay3_apply, if_neg (show ¬ (8 * r + (k + 1)) % 8 = 0 by omega), Finset.sum_range_succ]
    exact congrArg₂ (· + ·) (acc_apply p j r k (by omega) (by omega)) (show partN m p j (8 * r + (k + 1)) = _ from dif_pos h).symm

/-- The grid's points. -/
theorem N_eq : (cfgM m).N = 288 := by
  show grid0.N = 288
  decide

/-- A row tile's sum is the reference's. -/
theorem acc_ref (t : Fin (cfgM m).N) (ht : t.val % 8 = 7) (hu : usedW (cM m) (a0 (co m t)) = 1#1) (p : Fin 256) (j : Fin 4096) (i : Fin 9216)
    (hi : t.val / 8 * 256 + p.val = i.val) :
    accN m (t.val + 1) (ix2 p j)
      = Host.dotGeneral Reference2Ideal.dot_S9216x16x1024_S16x1024x4096_S9216x4096_12_01_0_2_n_n none (hidR (argN m) (argX m) (argGa m) (argWg m) (argWu m)) (downR (argWd m)) (ix2 i j) := by
  have hN := N_eq m
  have htl := t.isLt
  have hp := p.isLt
  have w0 : ∀ s : Fin (cfgM m).N, s.val / 8 = t.val / 8 → a0 (co m s) = BitVec.ofNat 32 (i.val / 256) := fun s hs => by
    have : ((co m s) 0).val = i.val / 256 := (coords_0 s).trans (by rw [hs]; omega)
    unfold a0
    rw [this]
  have hg4 := grpW_lt (cM m) (a0 (co m t))
  have hgr : (grpW (FfnWords.cntR (argN m)) (BitVec.ofNat 32 (i.val / 256))).toNat = (grpW (cM m) (a0 (co m t))).toNat := by
    rw [w0 t rfl, cnt_eq]
  generalize hgd : (grpW (cM m) (a0 (co m t))).toNat = g at hg4 hgr
  rw [ref_sum _ _ _ _ _ _ i j g hgr hg4]
  have e : t.val + 1 = 8 * (t.val / 8) + 7 + 1 := by omega
  rw [e, acc_apply m p j (t.val / 8) 7 (by omega) (by omega)]
  refine Eq.trans (Finset.sum_congr rfl fun k hk => ?_) (sum_eight (fun q h => if hq : q < 4 ∧ h < 2 then
    ∑ f : Fin 512, term (argX m) (argGa m) (argWg m) (argWu m) (argWd m) i j ⟨g * 4 + q, by omega⟩ ⟨h * 512 + f.val, by omega⟩ else 0) |>.trans
      (Finset.sum_congr rfl fun q _ => Finset.sum_congr rfl fun h _ => dif_pos ⟨q.isLt, h.isLt⟩))
  have hk8 : k < 8 := Finset.mem_range.1 hk
  have hs : 8 * (t.val / 8) + k < (cfgM m).N := by omega
  unfold partN
  rw [dif_pos hs, dif_pos (⟨by omega, by omega⟩ : k / 2 < 4 ∧ k % 2 < 2)]
  have hw : a0 (co m ⟨8 * (t.val / 8) + k, hs⟩) = a0 (co m t) := (w0 _ (by show (8 * (t.val / 8) + k) / 8 = _; omega)).trans (w0 t rfl).symm
  exact part_apply m ⟨8 * (t.val / 8) + k, hs⟩ (by rw [hw]; exact hu) p j i (by show (8 * (t.val / 8) + k) / 8 * 256 + _ = _; omega) g (by rw [hw]; exact hgd)
    ⟨k / 2, by omega⟩ (by show (8 * (t.val / 8) + k) / 2 % 4 = k / 2; omega) ⟨k % 2, by omega⟩ (by show (8 * (t.val / 8) + k) % 2 = k % 2; omega) hg4

/-- What a row tile writes back is the reference's rows. -/
theorem out_apply (t : Fin (cfgM m).N) (ht : t.val % 8 = 7) (p : Fin 256) (j : Fin 4096) (i : Fin 9216) (hi : t.val / 8 * 256 + p.val = i.val) :
    outB m t (ix2 p j) = outR (argN m) (argX m) (argGa m) (argWg m) (argWu m) (argWd m) (argG m) (argB m) (ix2 i j) := by
  have hp := p.isLt
  have w0 : a0 (co m t) = BitVec.ofNat 32 (i.val / 256) := by
    have : ((co m t) 0).val = i.val / 256 := (coords_0 t).trans (by omega)
    unfold a0
    rw [this]
  refine Eq.trans ?_ (sel_apply (usedR (argN m)) (normR (sumR (argX m) (Host.dotGeneral Reference2Ideal.dot_S9216x16x1024_S16x1024x4096_S9216x4096_12_01_0_2_n_n none
    (hidR (argN m) (argX m) (argGa m) (argWg m) (argWu m)) (downR (argWd m)))) (argG m) (argB m)) i j).symm
  have hur : usedR (argN m) (ix1 i) = usedW (cM m) (a0 (co m t)) := by rw [FfnWords.usedR_eq, w0, cnt_eq]
  rw [hur]
  unfold outB
  by_cases hu : usedW (cM m) (a0 (co m t)) = 1#1
  · rw [if_pos hu, hu]
    have hrow : (rowW (cM m) (a0 (co m t))).toNat * 256 + p.val = i.val := by
      rw [row_used _ _ hu, (a0_toNat _).trans (coords_0 t), hi]
    exact norm_eq _ _ _ _ (argX m) _ (argG m) (argB m) p i (fun d => xB_eq m t p d i hrow) (fun d => acc_ref m t ht hu p d i hi) (gB_eq m t) (bB_eq m t) j
  · rw [if_neg hu, (one_bit _).resolve_right hu]
    exact pay5_apply p j

theorem index7 (t : Fin (cfgM m).N) : ((cfgM m).win 7).index t = ![t.val / 8, 0] := by
  have e : ((cfgM m).win 7).index t = cc0_transform_7 (grid0.coords t) := rfl
  rw [e]
  exact (show ∀ t : Fin grid0.N, cc0_transform_7 (grid0.coords t) = ![t.val / 8, 0] by decide +kernel) t

/-- THE RESULT: the array the kernel leaves is the reference's. -/
theorem arr_eq : (dats m 0 c₀).arrAt 7 (cfgM m).N = outR (argN m) (argX m) (argGa m) (argWg m) (argWu m) (argWd m) (argG m) (argB m) := by
  have hN := N_eq m
  refine (dats m 0 c₀).arrAt_eq_of_emb 7 _ (fun t hf y => ?_) (fun i => ?_)
  · rw [flush7, decide_eq_true_eq] at hf
    have htl := t.isLt
    have hy0 : (y (0 : Fin 2)).val < 256 := (y (0 : Fin 2)).isLt
    have hi : t.val / 8 * 256 + (y (0 : Fin 2)).val < 9216 := by omega
    refine (show _ = outB m t y from rfl).trans ?_
    have ey : y = ix2 (⟨(y (0 : Fin 2)).val, hy0⟩ : Fin 256) (⟨(y (1 : Fin 2)).val, (y (1 : Fin 2)).isLt⟩ : Fin 4096) := funext fun (a : Fin 2) => by
      match a with
      | 0 => rfl
      | 1 => rfl
    refine (congrArg (outB m t) ey).trans ((out_apply m t hf _ _ ⟨t.val / 8 * 256 + (y (0 : Fin 2)).val, hi⟩ rfl).trans ?_)
    refine congrArg (outR (argN m) (argX m) (argGa m) (argWg m) (argWu m) (argWd m) (argG m) (argB m)) (funext fun (a : Fin 2) => Fin.ext ?_)
    have h : ((((cfgM m).win 7).rect t).emb y a : ℕ) = (![t.val / 8, 0] : Fin 2 → ℕ) a * (![256, 4096] : Fin 2 → ℕ) a + (y a : ℕ) :=
      emb_val ((cfgM m).win 7) t rfl (index7 m t) y a
    refine Eq.trans ?_ h.symm
    match a with
    | 0 => rfl
    | 1 => exact (zero_row 4096 (⟨(y (1 : Fin 2)).val, (y (1 : Fin 2)).isLt⟩ : Fin 4096)).symm
  · have hi0 : (i (0 : Fin 2)).val < 9216 := (i (0 : Fin 2)).isLt
    have hi1 : (i (1 : Fin 2)).val < 4096 := (i (1 : Fin 2)).isLt
    have ht : 8 * ((i (0 : Fin 2)).val / 256) + 7 < (cfgM m).N := by omega
    refine ⟨⟨8 * ((i (0 : Fin 2)).val / 256) + 7, ht⟩, ?_, ?_⟩
    · rw [flush7]
      exact decide_eq_true (show (8 * ((i (0 : Fin 2)).val / 256) + 7) % 8 = 7 by omega)
    · refine (Window.emb_mem_blk_iff ((cfgM m).win 7) ⟨8 * ((i (0 : Fin 2)).val / 256) + 7, ht⟩ i).2 fun (a : Fin 2) => ?_
      rw [index7]
      match a with
      | 0 =>
        show (8 * ((i (0 : Fin 2)).val / 256) + 7) / 8 * 256 ≤ (i (0 : Fin 2)).val ∧ (i (0 : Fin 2)).val < (8 * ((i (0 : Fin 2)).val / 256) + 7) / 8 * 256 + 256
        omega
      | 1 =>
        show 0 * 4096 ≤ (i (1 : Fin 2)).val ∧ (i (1 : Fin 2)).val < 0 * 4096 + 4096
        omega

end Cert.Proof.FfnValue
end
-- ==== Proof.Wide.lean ====
/-
  The projection's weight and its input as the kernel holds them: the weight's columns reordered (the first 8192, then
  those from 8288 on, then the 96 between, then zeros) and the input's rows laid end to end.
-/
module

public import proofs.«01_k».proof.Kernel4Ideal
public import proofs.«01_k».proof.Proof.Gen.Reference4Ideal.Run
public import Idealize.ShloMosaic.Lib.Pointwise

@[expose] public section

set_option maxRecDepth 100000

noncomputable section

namespace Cert.Proof.Wide

open Idealize.ShloMosaic Idealize.ShloMosaic.TcCoe
open Cert.Kernel4Ideal

/-- A row of the input, by its number. -/
def row (x : Vec Ideal S4x2048x4096 .f32) (i : Fin 8192) (d : Fin 4096) : EReal := x (ix3 (⟨i.val / 2048, by omega⟩ : Fin 4) (⟨i.val % 2048, by omega⟩ : Fin 2048) d)

/-- The input, its rows laid end to end. -/
theorem flat_apply (x : Vec Ideal S4x2048x4096 .f32) (h : S4x2048x4096.ShapeCasts S8192x4096) (hb : FTy.bf16.bits < FTy.f32.bits) (i : Fin 8192) (d : Fin 4096) :
    truncf (F := Ideal) .bf16 (shapeCast S8192x4096 x h) hb (ix2 i d) = row x i d := by
  unfold row
  pointwise

/-- An entry of the last layer's projection. -/
def proj (x : Vec Ideal S4x2048x4096 .f32) (w : Vec Ideal S4x4096x20576 .f32) (i : Fin 8192) (c : Fin 20576) : EReal := ∑ d : Fin 4096, row x i d * w (ix3 3 d c)

/-- The last layer's projection, whole. -/
def projR (x : FVec Ideal S4x2048x4096 .f32) (w : FVec Ideal S4x4096x20576 .f32) : FVec Ideal Reference4Ideal.S4x2048x20576 .f32 :=
  Host.dotGeneral Reference4Ideal.dot_S4x2048x4096_S4096x20576_S4x2048x20576_2_0_01_1_n_n none x
    (shapeCast Reference4Ideal.S4096x20576 (extractStridedSlice Reference4Ideal.S1x4096x20576 ![3, 0, 0] w Reference4Ideal.Gen.slices_S4x4096x20576_S1x4096x20576_3_0_0)
      Reference4Ideal.Gen.shapeCasts_S1x4096x20576_S4096x20576)

theorem projR_apply (x : FVec Ideal S4x2048x4096 .f32) (w : FVec Ideal S4x4096x20576 .f32) (b : Fin 4) (s : Fin 2048) (c : Fin 20576) :
    projR x w (ix3 b s c) = ∑ d : Fin 4096, x (ix3 b s d) * w (ix3 3 d c) := by
  pointwise [projR]

/-- The sigmoid. -/
abbrev sig (x : EReal) : EReal := Ideal.div 1 (1 + Ideal.exp (-x))

theorem hz2 : (![0, 0] : Fin 2 → Nat) = fun _ => 0 := funext fun (a : Fin 2) => by match a with | 0 => rfl | 1 => rfl
theorem hz3 : (![0, 0, 0] : Fin 3 → Nat) = fun _ => 0 := funext fun (a : Fin 3) => by match a with | 0 => rfl | 1 => rfl | 2 => rfl

/-- The weight, its columns reordered. -/
abbrev widen (w : Vec Ideal S4x4096x20576 .f32) (h1 : S4x4096x20576.Slices ![0, 0, 0] S4x4096x8192) (h2 : S4x4096x20576.Slices ![0, 0, 8288] S4x4096x12288)
    (h3 : S4x4096x20576.Slices ![0, 0, 8192] S4x4096x96) (z : Vec Ideal S4x4096x32 .f32)
    (hc : Shape.Concatenates [S4x4096x8192, S4x4096x12288, S4x4096x96, S4x4096x32] S4x4096x20608 2) (hb : FTy.bf16.bits < FTy.f32.bits) : Vec Ideal S4x4096x20608 .bf16 :=
  truncf (F := Ideal) .bf16 (concatenate S4x4096x20608 2 [⟨S4x4096x8192, extractStridedSlice S4x4096x8192 ![0, 0, 0] w h1⟩,
    ⟨S4x4096x12288, extractStridedSlice S4x4096x12288 ![0, 0, 8288] w h2⟩, ⟨S4x4096x96, extractStridedSlice S4x4096x96 ![0, 0, 8192] w h3⟩, ⟨S4x4096x32, z⟩] hc) hb

variable (w : Vec Ideal S4x4096x20576 .f32) (h1 : S4x4096x20576.Slices ![0, 0, 0] S4x4096x8192) (h2 : S4x4096x20576.Slices ![0, 0, 8288] S4x4096x12288)
    (h3 : S4x4096x20576.Slices ![0, 0, 8192] S4x4096x96) (z : Vec Ideal S4x4096x32 .f32)
    (hc : Shape.Concatenates [S4x4096x8192, S4x4096x12288, S4x4096x96, S4x4096x32] S4x4096x20608 2) (hb : FTy.bf16.bits < FTy.f32.bits)

/-- A column before 8192 stays in its place. -/
theorem low_apply (l : Fin 4) (d : Fin 4096) (c : Fin 20608) (c' : Fin 20576) (hlt : c.val < 8192) (he : c'.val = c.val) :
    widen w h1 h2 h3 z hc hb (ix3 l d c) = w (ix3 l d c') := by
  obtain ⟨n, hn⟩ := c'
  obtain rfl : n = c.val := he
  pointwise [widen]
  rw [dif_pos hlt]

/-- A column from 8192 on, before 20480, comes from 96 further on. -/
theorem high_apply (l : Fin 4) (d : Fin 4096) (c : Fin 20608) (c' : Fin 20576) (hge : 8192 ≤ c.val) (hlt : c.val < 20480) (he : c'.val = c.val + 96) :
    widen w h1 h2 h3 z hc hb (ix3 l d c) = w (ix3 l d c') := by
  obtain ⟨n, hn⟩ := c'
  obtain rfl : n = c.val + 96 := he
  pointwise [widen]
  rw [dif_neg (by omega), dif_pos (by omega)]
  exact congrArg (fun n : Fin 20576 => w (ix3 l d n)) (Fin.ext (show 8288 + (c.val - 8192) = c.val + 96 by omega))

/-- A column from 20480 on, before the zeros, comes from the 96 from 8192 on. -/
theorem last_apply (l : Fin 4) (d : Fin 4096) (c : Fin 20608) (c' : Fin 20576) (hge : 20480 ≤ c.val) (hlt : c.val < 20576) (he : c'.val = 8192 + (c.val - 20480)) :
    widen w h1 h2 h3 z hc hb (ix3 l d c) = w (ix3 l d c') := by
  obtain ⟨n, hn⟩ := c'
  obtain rfl : n = 8192 + (c.val - 20480) := he
  pointwise [widen]
  rw [dif_neg (by omega), dif_neg (by omega), dif_pos (by omega)]
  exact congrArg (fun n : Fin 20576 => w (ix3 l d n)) (Fin.ext (show 8192 + (c.val - 8192 - 12288) = 8192 + (c.val - 20480) by omega))

end Cert.Proof.Wide
end
-- ==== Proof.Step.lean ====
/-
  The projection of one token a row: 128 rows, each a sequence of its own, as the kernel and the reference hold them.
-/
module

public import proofs.«01_k».proof.Kernel10Ideal
public import proofs.«01_k».proof.Proof.Gen.Reference10Ideal.Run
public import Idealize.ShloMosaic.Lib.Pointwise

@[expose] public section

set_option maxRecDepth 100000

noncomputable section

namespace Cert.Proof.Step

open Idealize.ShloMosaic Idealize.ShloMosaic.TcCoe
open Cert.Kernel10Ideal

/-- The rows, the axis of one dropped. -/
theorem rows_apply (x : Vec Ideal S128x1x4096 .f32) (h : S128x1x4096.ShapeCasts S128x4096) (hb : FTy.bf16.bits < FTy.f32.bits) (i : Fin 128) (d : Fin 4096) :
    truncf (F := Ideal) .bf16 (shapeCast S128x4096 x h) hb (ix2 i d) = x (ix3 i 0 d) := by
  pointwise

/-- An entry of the last layer's projection. -/
def proj1 (x : Vec Ideal S128x1x4096 .f32) (w : Vec Ideal S4x4096x20576 .f32) (i : Fin 128) (c : Fin 20576) : EReal := ∑ d : Fin 4096, x (ix3 i 0 d) * w (ix3 3 d c)

/-- The last layer's projection, whole. -/
def proj1R (x : FVec Ideal S128x1x4096 .f32) (w : FVec Ideal S4x4096x20576 .f32) : FVec Ideal Reference10Ideal.S128x1x20576 .f32 :=
  Host.dotGeneral Reference10Ideal.dot_S128x1x4096_S4096x20576_S128x1x20576_2_0_01_1_n_n none x
    (shapeCast Reference10Ideal.S4096x20576 (extractStridedSlice Reference10Ideal.S1x4096x20576 ![3, 0, 0] w Reference10Ideal.Gen.slices_S4x4096x20576_S1x4096x20576_3_0_0)
      Reference10Ideal.Gen.shapeCasts_S1x4096x20576_S4096x20576)

theorem proj1R_apply (x : FVec Ideal S128x1x4096 .f32) (w : FVec Ideal S4x4096x20576 .f32) (i : Fin 128) (c : Fin 20576) :
    proj1R x w (ix3 i 0 c) = proj1 x w i c := by
  unfold proj1
  pointwise [proj1R]

end Cert.Proof.Step
end
-- ==== Proof.GluNew.lean ====
/-
  The gated unit's value over the extended reals: every entry is one column of the projection times the sigmoid of
  another, in the kernel's blocks as in the reference's slices.
-/
module

public import proofs.«01_k».proof.Proof.Gen.Kernel11Ideal.Value
public import proofs.«01_k».proof.Proof.Gen.Reference11Ideal.Run
public import proofs.«01_k».proof.Proof.Blocks
public import proofs.«01_k».proof.Proof.Wide
public import proofs.«01_k».proof.Proof.Step
public import Idealize.ShloMosaic.Lib.Pipeline.ValueKit
public import Idealize.ShloMosaic.Lib.Pointwise

@[expose] public section

set_option maxRecDepth 100000

noncomputable section

namespace Cert.Proof.GluNew

open Idealize.ShloMosaic Idealize.ShloMosaic.TcCoe
open Idealize.ShloMosaic.Pipeline (Dat Cfg Window)
open Cert.Kernel11Ideal Cert.Kernel11Ideal.Gen Blocks Wide Step

/-- The kernel's point, at an index. -/
theorem pay1_apply (a b : Vec Ideal S128x4096 .bf16) (u v : Vec Ideal S1x4096x512 .bf16) (p : Fin 128) (j : Fin 512) :
    k0_pay1 a u b v (ix2 p j) = (∑ d : Fin 4096, a (ix2 p d) * u (ix3 0 d j)) * sig (∑ d : Fin 4096, b (ix2 p d) * v (ix3 0 d j)) := by
  pointwise [k0_pay1]
  rw [zero_sub]

/-- What a point leaves in the result's staging buffer. -/
theorem out_eq (c : Dev nD) (i : grid0.Coords) (a2 : Memref Kernel11Ideal.sig .tc .vmem S128x4096 .bf16) (h2 : a2.IsWhole) (a3 : Memref Kernel11Ideal.sig .tc .vmem S1x4096x512 .bf16) (h3 : a3.IsWhole)
    (a4 : Memref Kernel11Ideal.sig .tc .vmem S1x4096x512 .bf16) (h4 : a4.IsWhole) (a5 : Memref Kernel11Ideal.sig .tc .vmem S128x512 .f32) (h5 : a5.IsWhole)
    (x0 : Vec Ideal S128x4096 .bf16) (x1 x2 : Vec Ideal S1x4096x512 .bf16) :
    out0_A_3 c i a2 h2 a3 h3 a4 h4 a5 h5 x0 x1 x2 = k0_pay1 x0 x1 x0 x2 := by
  unfold out0_A_3
  rw [View.read_writes_junk_eq_canon]
  unfold kernelRun0_A
  dsimp only
  rw [View.canon_unit_zero hz2]
  simp only [View.readAt_eq_ld, h2.read_unread, h3.read_unread, h4.read_unread, View.ld_unit_zero (S := S128x4096) hz2, View.ld_unit_zero (S := S1x4096x512) hz3]

/-! ### The reference -/

open Reference11Ideal.Gen in
/-- The gated unit of the projection. -/
def outR (x : FVec Ideal S128x1x4096 .f32) (w : FVec Ideal S4x4096x20576 .f32) : FVec Ideal S128x2048 .f32 :=
  shapeCast _ (mulf (extractStridedSlice Reference11Ideal.S128x1x2048 ![0, 0, 0] (extractStridedSlice S128x1x4096 ![0, 0, 8288] (proj1R x w) slices_S128x1x20576_S128x1x4096_0_0_8288)
      slices_S128x1x4096_S128x1x2048_0_0_0)
    (Host.divf (broadcastInDim Reference11Ideal.S128x1x2048 ![] bcast_S_S128x1x2048 (constant S_ .f32 0x3F800000#32))
      (addf (broadcastInDim Reference11Ideal.S128x1x2048 ![] bcast_S_S128x1x2048 (constant S_ .f32 0x3F800000#32))
        (Host.exp (Host.negf (extractStridedSlice Reference11Ideal.S128x1x2048 ![0, 0, 2048]
          (extractStridedSlice S128x1x4096 ![0, 0, 8288] (proj1R x w) slices_S128x1x20576_S128x1x4096_0_0_8288) slices_S128x1x4096_S128x1x2048_0_0_2048))))))
    shapeCasts_S128x1x2048_S128x2048

theorem outR_apply (x : FVec Ideal S128x1x4096 .f32) (w : FVec Ideal S4x4096x20576 .f32) (i : Fin 128) (j : Fin 2048) :
    outR x w (ix2 i j) = proj1 x w i ⟨8288 + j.val, by omega⟩ * sig (proj1 x w i ⟨8288 + (2048 + j.val), by omega⟩) := by
  pointwise [outR]
  simp only [proj1R_apply]

/-! ### The kernel's blocks -/

variable (m : (ℓ : Loc nD τ Kernel11Ideal.sig) → Buf (Elt Ideal) ℓ) (c : Dev nD)

/-- The arguments at launch. -/
abbrev argX : FVec Ideal S128x1x4096 .f32 := m ((c : Thread nD τ).loc main_arg0)
abbrev argW : FVec Ideal S4x4096x20576 .f32 := m ((c : Thread nD τ).loc main_arg1)

theorem V1_eq : V m c main_v1 = truncf .bf16 (shapeCast S128x4096 (argX m c) shapeCasts_S128x1x4096_S128x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

/-- The grid's points. -/
theorem N_eq : cfg0.N = 4 := by
  show grid0.N = 4
  decide

/-- The windows' blocks at a point. -/
theorem index0 : ∀ t : Fin cfg0.N, (cfg0.win 0).index t = ![0, 0] := by decide +kernel
theorem index1 : ∀ t : Fin cfg0.N, (cfg0.win 1).index t = ![3, 0, 16 + t.val] := by decide +kernel
theorem index2 : ∀ t : Fin cfg0.N, (cfg0.win 2).index t = ![3, 0, 20 + t.val] := by decide +kernel
theorem index3 : ∀ t : Fin cfg0.N, (cfg0.win 3).index t = ![0, t.val] := by decide +kernel

/-- The rows a point reads. -/
theorem x_eq (t : Fin cfg0.N) (p : Fin 128) (d : Fin 4096) (i : Fin 128) (hi : 0 * 128 + p.val = i.val) : iblk m c 0 t (ix2 p d) = argX m c (ix3 i 0 d) := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![0, 0] : Fin 2 → ℕ) a * (![128, 4096] : Fin 2 → ℕ) a + ((ix2 p d) a : ℕ) :=
      emb_val (cfg0.win 0) t rfl (index0 t) (ix2 p d) a
    exact h.trans (coord2 _ _ p d i d hi (zero_row _ d) a)
  rw [e, V1_eq]
  exact rows_apply _ _ _ i d

/-- The weight's columns a point reads, for the one factor and for the other. -/
theorem w1_eq (t : Fin cfg0.N) (d : Fin 4096) (j : Fin 512) (k : Fin 20576) (hk : 8288 + (t.val * 512 + j.val) = k.val) :
    X0_1 m c t (ix3 (0 : Fin 1) d j) = argW m c (ix3 (3 : Fin 4) d k) := by
  have hj := j.isLt
  have htl : t.val < 4 := Nat.lt_of_lt_of_eq t.isLt N_eq
  have e : X0_1 m c t (ix3 (0 : Fin 1) d j) = V m c main_v7 (ix3 (3 : Fin 4) d (⟨(16 + t.val) * 512 + j.val, by omega⟩ : Fin 20608)) := by
    refine (dif_pos (moved0_1 t _)).trans (congrArg (V m c main_v7) (funext fun (a : Fin 3) => Fin.ext ?_))
    have h : (((cfg0.win 1).rect t).emb (fun a => ⟨((ix3 (0 : Fin 1) d j) a).val, ((cfg0.win 1).moved_iff _ _).mp (moved0_1 t _) a⟩) a : ℕ)
        = (![3, 0, 16 + t.val] : Fin 3 → ℕ) a * (![1, 4096, 512] : Fin 3 → ℕ) a + ((ix3 (0 : Fin 1) d j) a : ℕ) :=
      emb_val (cfg0.win 1) t rfl (index1 t) _ a
    exact h.trans (coord3 _ _ _ _ d j (3 : Fin 4) d (⟨(16 + t.val) * 512 + j.val, by omega⟩ : Fin 20608) rfl (zero_row _ d) rfl a)
  rw [e, V7_eq]
  exact high_apply _ _ _ _ _ _ _ 3 d _ k (by show 8192 ≤ (16 + t.val) * 512 + j.val; omega) (by show (16 + t.val) * 512 + j.val < 20480; omega)
    (by show k.val = (16 + t.val) * 512 + j.val + 96; omega)
theorem w2_eq (t : Fin cfg0.N) (d : Fin 4096) (j : Fin 512) (k : Fin 20576) (hk : 8288 + (2048 + (t.val * 512 + j.val)) = k.val) :
    X0_2 m c t (ix3 (0 : Fin 1) d j) = argW m c (ix3 (3 : Fin 4) d k) := by
  have hj := j.isLt
  have htl : t.val < 4 := Nat.lt_of_lt_of_eq t.isLt N_eq
  have e : X0_2 m c t (ix3 (0 : Fin 1) d j) = V m c main_v7 (ix3 (3 : Fin 4) d (⟨(20 + t.val) * 512 + j.val, by omega⟩ : Fin 20608)) := by
    refine (dif_pos (moved0_2 t _)).trans (congrArg (V m c main_v7) (funext fun (a : Fin 3) => Fin.ext ?_))
    have h : (((cfg0.win 2).rect t).emb (fun a => ⟨((ix3 (0 : Fin 1) d j) a).val, ((cfg0.win 2).moved_iff _ _).mp (moved0_2 t _) a⟩) a : ℕ)
        = (![3, 0, 20 + t.val] : Fin 3 → ℕ) a * (![1, 4096, 512] : Fin 3 → ℕ) a + ((ix3 (0 : Fin 1) d j) a : ℕ) :=
      emb_val (cfg0.win 2) t rfl (index2 t) _ a
    exact h.trans (coord3 _ _ _ _ d j (3 : Fin 4) d (⟨(20 + t.val) * 512 + j.val, by omega⟩ : Fin 20608) rfl (zero_row _ d) rfl a)
  rw [e, V7_eq]
  exact high_apply _ _ _ _ _ _ _ 3 d _ k (by show 8192 ≤ (20 + t.val) * 512 + j.val; omega) (by show (20 + t.val) * 512 + j.val < 20480; omega)
    (by show k.val = (20 + t.val) * 512 + j.val + 96; omega)

/-- What a point leaves is the reference's block. -/
theorem point_apply (t : Fin cfg0.N) (p : Fin 128) (j : Fin 512) (i : Fin 128) (k : Fin 2048) (hi : 0 * 128 + p.val = i.val) (hk : t.val * 512 + j.val = k.val) :
    outsAt0 m c t (ix2 p j) = outR (argX m c) (argW m c) (ix2 i k) := by
  unfold outsAt0
  rw [out_eq, pay1_apply, outR_apply]
  unfold proj1
  refine congrArg₂ (fun a b : EReal => a * sig b) (Finset.sum_congr rfl fun d _ => ?_) (Finset.sum_congr rfl fun d _ => ?_)
  · rw [x_eq m c t p d i hi, w1_eq m c t d j ⟨8288 + k.val, by omega⟩ (by show _ = 8288 + k.val; rw [hk])]
  · rw [x_eq m c t p d i hi, w2_eq m c t d j ⟨8288 + (2048 + k.val), by omega⟩ (by show _ = 8288 + (2048 + k.val); rw [hk])]

/-- THE RESULT: the array the kernel leaves is the reference's. -/
theorem arr_eq : (dats m 0 c).arrAt 3 cfg0.N = outR (argX m c) (argW m c) := by
  have hN := N_eq
  refine (dats m 0 c).arrAt_eq_of_emb 3 _ (fun t hf y => ?_) (fun i => ?_)
  · have htl : t.val < 4 := Nat.lt_of_lt_of_eq t.isLt hN
    have hy0 : (y (0 : Fin 2)).val < 128 := (y (0 : Fin 2)).isLt
    have hy1 : (y (1 : Fin 2)).val < 512 := (y (1 : Fin 2)).isLt
    refine (cast_eq _ _).trans ((congrFun (after0_3 m c t) _).trans ?_)
    have ey : (cfg0.win 3).xinj (cfg0.grid.coords t) y = ix2 (⟨(y (0 : Fin 2)).val, hy0⟩ : Fin 128) (⟨(y (1 : Fin 2)).val, hy1⟩ : Fin 512) := funext fun (a : Fin 2) => by
      match a with
      | 0 => rfl
      | 1 => rfl
    refine (congrArg (outsAt0 m c t) ey).trans ((point_apply m c t _ _ ⟨0 * 128 + (y (0 : Fin 2)).val, by omega⟩
      ⟨t.val * 512 + (y (1 : Fin 2)).val, by omega⟩ rfl rfl).trans ?_)
    refine congrArg (outR (argX m c) (argW m c)) (funext fun (a : Fin 2) => Fin.ext ?_)
    have h : (((cfg0.win 3).rect t).emb y a : ℕ) = (![0, t.val] : Fin 2 → ℕ) a * (![128, 512] : Fin 2 → ℕ) a + (y a : ℕ) := emb_val (cfg0.win 3) t rfl (index3 t) y a
    refine Eq.trans ?_ h.symm
    match a with
    | 0 => rfl
    | 1 => rfl
  · have hi0 : (i (0 : Fin 2)).val < 128 := (i (0 : Fin 2)).isLt
    have hi1 : (i (1 : Fin 2)).val < 2048 := (i (1 : Fin 2)).isLt
    have ht : (i (1 : Fin 2)).val / 512 < cfg0.N := by omega
    refine ⟨⟨_, ht⟩, flush0_3 _, ?_⟩
    refine (Window.emb_mem_blk_iff (cfg0.win 3) ⟨_, ht⟩ i).2 fun (a : Fin 2) => ?_
    rw [index3]
    match a with
    | 0 =>
      show 0 * 128 ≤ (i (0 : Fin 2)).val
        ∧ (i (0 : Fin 2)).val < 0 * 128 + 128
      omega
    | 1 =>
      show ((i (1 : Fin 2)).val / 512) * 512 ≤ (i (1 : Fin 2)).val
        ∧ (i (1 : Fin 2)).val < ((i (1 : Fin 2)).val / 512) * 512 + 512
      omega

end Cert.Proof.GluNew
end
-- ==== Proof.GluValue.lean ====
/-
  The gated unit's value over the extended reals: every entry is one column of the projection times the sigmoid of
  another, in the kernel's blocks as in the reference's slices.
-/
module

public import proofs.«01_k».proof.Proof.Gen.Kernel4Ideal.Value
public import proofs.«01_k».proof.Proof.Gen.Reference4Ideal.Run
public import proofs.«01_k».proof.Proof.Blocks
public import proofs.«01_k».proof.Proof.Wide
public import Idealize.ShloMosaic.Lib.Pipeline.ValueKit
public import Idealize.ShloMosaic.Lib.Pointwise

@[expose] public section

set_option maxRecDepth 100000

noncomputable section

namespace Cert.Proof.GluValue

open Idealize.ShloMosaic Idealize.ShloMosaic.TcCoe
open Idealize.ShloMosaic.Pipeline (Dat Cfg Window)
open Cert.Kernel4Ideal Cert.Kernel4Ideal.Gen Blocks Wide

/-- The kernel's point, at an index. -/
theorem pay1_apply (a b : Vec Ideal S1024x4096 .bf16) (u v : Vec Ideal S1x4096x512 .bf16) (p : Fin 1024) (j : Fin 512) :
    k0_pay1 a u b v (ix2 p j) = (∑ d : Fin 4096, a (ix2 p d) * u (ix3 0 d j)) * sig (∑ d : Fin 4096, b (ix2 p d) * v (ix3 0 d j)) := by
  pointwise [k0_pay1]
  rw [zero_sub]

/-- What a point leaves in the result's staging buffer. -/
theorem out_eq (c : Dev nD) (i : grid0.Coords) (a2 : Memref Kernel4Ideal.sig .tc .vmem S1024x4096 .bf16) (h2 : a2.IsWhole) (a3 : Memref Kernel4Ideal.sig .tc .vmem S1x4096x512 .bf16) (h3 : a3.IsWhole)
    (a4 : Memref Kernel4Ideal.sig .tc .vmem S1x4096x512 .bf16) (h4 : a4.IsWhole) (a5 : Memref Kernel4Ideal.sig .tc .vmem S1024x512 .f32) (h5 : a5.IsWhole)
    (x0 : Vec Ideal S1024x4096 .bf16) (x1 x2 : Vec Ideal S1x4096x512 .bf16) :
    out0_A_3 c i a2 h2 a3 h3 a4 h4 a5 h5 x0 x1 x2 = k0_pay1 x0 x1 x0 x2 := by
  unfold out0_A_3
  rw [View.read_writes_junk_eq_canon]
  unfold kernelRun0_A
  dsimp only
  rw [View.canon_unit_zero hz2]
  simp only [View.readAt_eq_ld, h2.read_unread, h3.read_unread, h4.read_unread, View.ld_unit_zero (S := S1024x4096) hz2, View.ld_unit_zero (S := S1x4096x512) hz3]

/-! ### The reference -/

open Reference4Ideal.Gen in
/-- The gated unit of the projection. -/
def outR (x : FVec Ideal S4x2048x4096 .f32) (w : FVec Ideal S4x4096x20576 .f32) : FVec Ideal S8192x2048 .f32 :=
  shapeCast _ (mulf (extractStridedSlice Reference4Ideal.S4x2048x2048 ![0, 0, 0] (extractStridedSlice S4x2048x4096 ![0, 0, 8288] (projR x w) slices_S4x2048x20576_S4x2048x4096_0_0_8288)
      slices_S4x2048x4096_S4x2048x2048_0_0_0)
    (Host.divf (broadcastInDim Reference4Ideal.S4x2048x2048 ![] bcast_S_S4x2048x2048 (constant S_ .f32 0x3F800000#32))
      (addf (broadcastInDim Reference4Ideal.S4x2048x2048 ![] bcast_S_S4x2048x2048 (constant S_ .f32 0x3F800000#32))
        (Host.exp (Host.negf (extractStridedSlice Reference4Ideal.S4x2048x2048 ![0, 0, 2048]
          (extractStridedSlice S4x2048x4096 ![0, 0, 8288] (projR x w) slices_S4x2048x20576_S4x2048x4096_0_0_8288) slices_S4x2048x4096_S4x2048x2048_0_0_2048))))))
    shapeCasts_S4x2048x2048_S8192x2048

theorem outR_apply (x : FVec Ideal S4x2048x4096 .f32) (w : FVec Ideal S4x4096x20576 .f32) (i : Fin 8192) (j : Fin 2048) :
    outR x w (ix2 i j) = proj x w i ⟨8288 + j.val, by omega⟩ * sig (proj x w i ⟨8288 + (2048 + j.val), by omega⟩) := by
  pointwise [outR]
  simp only [projR_apply]
  rfl

/-! ### The kernel's blocks -/

variable (m : (ℓ : Loc nD τ Kernel4Ideal.sig) → Buf (Elt Ideal) ℓ) (c : Dev nD)

/-- The arguments at launch. -/
abbrev argX : FVec Ideal S4x2048x4096 .f32 := m ((c : Thread nD τ).loc main_arg0)
abbrev argW : FVec Ideal S4x4096x20576 .f32 := m ((c : Thread nD τ).loc main_arg1)

theorem V1_eq : V m c main_v1 = truncf .bf16 (shapeCast S8192x4096 (argX m c) shapeCasts_S4x2048x4096_S8192x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

/-- The windows' blocks at a point. -/
theorem index0 : ∀ t : Fin cfg0.N, (cfg0.win 0).index t = ![t.val / 4, 0] := by decide +kernel
theorem index1 : ∀ t : Fin cfg0.N, (cfg0.win 1).index t = ![3, 0, 16 + t.val % 4] := by decide +kernel
theorem index2 : ∀ t : Fin cfg0.N, (cfg0.win 2).index t = ![3, 0, 20 + t.val % 4] := by decide +kernel
theorem index3 : ∀ t : Fin cfg0.N, (cfg0.win 3).index t = ![t.val / 4, t.val % 4] := by decide +kernel

/-- The rows a point reads. -/
theorem x_eq (t : Fin cfg0.N) (p : Fin 1024) (d : Fin 4096) (i : Fin 8192) (hi : t.val / 4 * 1024 + p.val = i.val) : iblk m c 0 t (ix2 p d) = row (argX m c) i d := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![t.val / 4, 0] : Fin 2 → ℕ) a * (![1024, 4096] : Fin 2 → ℕ) a + ((ix2 p d) a : ℕ) :=
      emb_val (cfg0.win 0) t rfl (index0 t) (ix2 p d) a
    exact h.trans (coord2 _ _ p d i d hi (zero_row _ d) a)
  rw [e, V1_eq]
  exact flat_apply _ _ _ i d

/-- The weight's columns a point reads, for the one factor and for the other. -/
theorem w1_eq (t : Fin cfg0.N) (d : Fin 4096) (j : Fin 512) (k : Fin 20576) (hk : 8288 + (t.val % 4 * 512 + j.val) = k.val) :
    X0_1 m c t (ix3 (0 : Fin 1) d j) = argW m c (ix3 (3 : Fin 4) d k) := by
  have hj := j.isLt
  have e : X0_1 m c t (ix3 (0 : Fin 1) d j) = V m c main_v7 (ix3 (3 : Fin 4) d (⟨(16 + t.val % 4) * 512 + j.val, by omega⟩ : Fin 20608)) := by
    refine (dif_pos (moved0_1 t _)).trans (congrArg (V m c main_v7) (funext fun (a : Fin 3) => Fin.ext ?_))
    have h : (((cfg0.win 1).rect t).emb (fun a => ⟨((ix3 (0 : Fin 1) d j) a).val, ((cfg0.win 1).moved_iff _ _).mp (moved0_1 t _) a⟩) a : ℕ)
        = (![3, 0, 16 + t.val % 4] : Fin 3 → ℕ) a * (![1, 4096, 512] : Fin 3 → ℕ) a + ((ix3 (0 : Fin 1) d j) a : ℕ) :=
      emb_val (cfg0.win 1) t rfl (index1 t) _ a
    exact h.trans (coord3 _ _ _ _ d j (3 : Fin 4) d (⟨(16 + t.val % 4) * 512 + j.val, by omega⟩ : Fin 20608) rfl (zero_row _ d) rfl a)
  rw [e, V7_eq]
  exact high_apply _ _ _ _ _ _ _ 3 d _ k (by show 8192 ≤ (16 + t.val % 4) * 512 + j.val; omega) (by show (16 + t.val % 4) * 512 + j.val < 20480; omega)
    (by show k.val = (16 + t.val % 4) * 512 + j.val + 96; omega)
theorem w2_eq (t : Fin cfg0.N) (d : Fin 4096) (j : Fin 512) (k : Fin 20576) (hk : 8288 + (2048 + (t.val % 4 * 512 + j.val)) = k.val) :
    X0_2 m c t (ix3 (0 : Fin 1) d j) = argW m c (ix3 (3 : Fin 4) d k) := by
  have hj := j.isLt
  have e : X0_2 m c t (ix3 (0 : Fin 1) d j) = V m c main_v7 (ix3 (3 : Fin 4) d (⟨(20 + t.val % 4) * 512 + j.val, by omega⟩ : Fin 20608)) := by
    refine (dif_pos (moved0_2 t _)).trans (congrArg (V m c main_v7) (funext fun (a : Fin 3) => Fin.ext ?_))
    have h : (((cfg0.win 2).rect t).emb (fun a => ⟨((ix3 (0 : Fin 1) d j) a).val, ((cfg0.win 2).moved_iff _ _).mp (moved0_2 t _) a⟩) a : ℕ)
        = (![3, 0, 20 + t.val % 4] : Fin 3 → ℕ) a * (![1, 4096, 512] : Fin 3 → ℕ) a + ((ix3 (0 : Fin 1) d j) a : ℕ) :=
      emb_val (cfg0.win 2) t rfl (index2 t) _ a
    exact h.trans (coord3 _ _ _ _ d j (3 : Fin 4) d (⟨(20 + t.val % 4) * 512 + j.val, by omega⟩ : Fin 20608) rfl (zero_row _ d) rfl a)
  rw [e, V7_eq]
  exact high_apply _ _ _ _ _ _ _ 3 d _ k (by show 8192 ≤ (20 + t.val % 4) * 512 + j.val; omega) (by show (20 + t.val % 4) * 512 + j.val < 20480; omega)
    (by show k.val = (20 + t.val % 4) * 512 + j.val + 96; omega)

/-- What a point leaves is the reference's block. -/
theorem point_apply (t : Fin cfg0.N) (p : Fin 1024) (j : Fin 512) (i : Fin 8192) (k : Fin 2048) (hi : t.val / 4 * 1024 + p.val = i.val) (hk : t.val % 4 * 512 + j.val = k.val) :
    outsAt0 m c t (ix2 p j) = outR (argX m c) (argW m c) (ix2 i k) := by
  unfold outsAt0
  rw [out_eq, pay1_apply, outR_apply]
  unfold proj
  refine congrArg₂ (fun a b : EReal => a * sig b) (Finset.sum_congr rfl fun d _ => ?_) (Finset.sum_congr rfl fun d _ => ?_)
  · rw [x_eq m c t p d i hi, w1_eq m c t d j ⟨8288 + k.val, by omega⟩ (by show _ = 8288 + k.val; rw [hk])]
  · rw [x_eq m c t p d i hi, w2_eq m c t d j ⟨8288 + (2048 + k.val), by omega⟩ (by show _ = 8288 + (2048 + k.val); rw [hk])]

/-- The grid's points. -/
theorem N_eq : cfg0.N = 32 := by
  show grid0.N = 32
  decide

/-- THE RESULT: the array the kernel leaves is the reference's. -/
theorem arr_eq : (dats m 0 c).arrAt 3 cfg0.N = outR (argX m c) (argW m c) := by
  have hN := N_eq
  refine (dats m 0 c).arrAt_eq_of_emb 3 _ (fun t hf y => ?_) (fun i => ?_)
  · have htl : t.val < 32 := Nat.lt_of_lt_of_eq t.isLt hN
    have hy0 : (y (0 : Fin 2)).val < 1024 := (y (0 : Fin 2)).isLt
    have hy1 : (y (1 : Fin 2)).val < 512 := (y (1 : Fin 2)).isLt
    refine (cast_eq _ _).trans ((congrFun (after0_3 m c t) _).trans ?_)
    have ey : (cfg0.win 3).xinj (cfg0.grid.coords t) y = ix2 (⟨(y (0 : Fin 2)).val, hy0⟩ : Fin 1024) (⟨(y (1 : Fin 2)).val, hy1⟩ : Fin 512) := funext fun (a : Fin 2) => by
      match a with
      | 0 => rfl
      | 1 => rfl
    refine (congrArg (outsAt0 m c t) ey).trans ((point_apply m c t _ _ ⟨t.val / 4 * 1024 + (y (0 : Fin 2)).val, by omega⟩
      ⟨t.val % 4 * 512 + (y (1 : Fin 2)).val, by omega⟩ rfl rfl).trans ?_)
    refine congrArg (outR (argX m c) (argW m c)) (funext fun (a : Fin 2) => Fin.ext ?_)
    have h : (((cfg0.win 3).rect t).emb y a : ℕ) = (![t.val / 4, t.val % 4] : Fin 2 → ℕ) a * (![1024, 512] : Fin 2 → ℕ) a + (y a : ℕ) := emb_val (cfg0.win 3) t rfl (index3 t) y a
    refine Eq.trans ?_ h.symm
    match a with
    | 0 => rfl
    | 1 => rfl
  · have hi0 : (i (0 : Fin 2)).val < 8192 := (i (0 : Fin 2)).isLt
    have hi1 : (i (1 : Fin 2)).val < 2048 := (i (1 : Fin 2)).isLt
    have ht : 4 * ((i (0 : Fin 2)).val / 1024) + (i (1 : Fin 2)).val / 512 < cfg0.N := by omega
    refine ⟨⟨_, ht⟩, flush0_3 _, ?_⟩
    refine (Window.emb_mem_blk_iff (cfg0.win 3) ⟨_, ht⟩ i).2 fun (a : Fin 2) => ?_
    rw [index3]
    match a with
    | 0 =>
      show (4 * ((i (0 : Fin 2)).val / 1024) + (i (1 : Fin 2)).val / 512) / 4 * 1024 ≤ (i (0 : Fin 2)).val
        ∧ (i (0 : Fin 2)).val < (4 * ((i (0 : Fin 2)).val / 1024) + (i (1 : Fin 2)).val / 512) / 4 * 1024 + 1024
      omega
    | 1 =>
      show (4 * ((i (0 : Fin 2)).val / 1024) + (i (1 : Fin 2)).val / 512) % 4 * 512 ≤ (i (1 : Fin 2)).val
        ∧ (i (1 : Fin 2)).val < (4 * ((i (0 : Fin 2)).val / 1024) + (i (1 : Fin 2)).val / 512) % 4 * 512 + 512
      omega

end Cert.Proof.GluValue
end
-- ==== Proof.StepNarrow.lean ====
/-
  The rotary embedding on heads of 64 lanes where every row has the one position: the kernel's lanes below the middle of
  their head take from 32 lanes on, the others from 32 lanes back; the tables hold the one angle's cosine and sine.
-/
module

public import proofs.«01_k».proof.Kernel12Ideal
public import proofs.«01_k».proof.Proof.Gen.Kernel12Ideal
public import proofs.«01_k».proof.Proof.Gen.Reference12Ideal.Run
public import Idealize.ShloMosaic.Lib.Pointwise

@[expose] public section

set_option maxRecDepth 100000

noncomputable section

namespace Cert.Proof.StepNarrow

open Idealize.ShloMosaic Idealize.ShloMosaic.TcCoe
open Cert.Kernel12Ideal

/-- The pairs' frequencies. -/
def freq : FVec Ideal S32 .f32 :=
  Host.powf (broadcastInDim S32 ![] Gen.bcast_S_S32 (constant (F := Ideal) S_ .f32 0x461C4000#32 : FVec Ideal S_ .f32))
    (Host.divf (Host.negf (addf (broadcastInDim S32 ![] Gen.bcast_S_S32 (constant (F := Ideal) S_ .f32 0x00000000#32 : FVec Ideal S_ .f32))
      (mulf (broadcastInDim S32 ![] Gen.bcast_S_S32 (constant (F := Ideal) S_ .f32 0x40000000#32 : FVec Ideal S_ .f32)) (sitofp .f32 (iotaInDim S32 32 0)))))
      (broadcastInDim S32 ![] Gen.bcast_S_S32 (constant (F := Ideal) S_ .f32 0x42800000#32 : FVec Ideal S_ .f32)))

/-- The reference's angles: the one position times the pair's frequency. -/
def angR : FVec Ideal Reference12Ideal.S1x32 .f32 :=
  mulf (broadcastInDim Reference12Ideal.S1x32 ![0, 1] Reference12Ideal.Gen.bcast_S1x1_S1x32_0_1 (broadcastInDim Reference12Ideal.S1x1 ![0] Reference12Ideal.Gen.bcast_S1_S1x1_0
      (sitofp .f32 (addi (broadcastInDim Reference12Ideal.S1 ![] Reference12Ideal.Gen.bcast_S_S1 (constantI Reference12Ideal.S_ 32 8192#32)) (iotaInDim Reference12Ideal.S1 32 0)))))
    (broadcastInDim Reference12Ideal.S1x32 ![1] Reference12Ideal.Gen.bcast_S32_S1x32_1 freq)

/-- The kernel's angles: every row's position is the one. -/
def angK : FVec Ideal S128x32 .f32 :=
  mulf (broadcastInDim S128x32 ![0, 1] Gen.bcast_S128x1_S128x32_0_1 (broadcastInDim S128x1 ![0] Gen.bcast_S128_S128x1_0
      (sitofp .f32 (broadcastInDim S128 ![] Gen.bcast_S_S128 (constantI S_ 32 8192#32)))))
    (broadcastInDim S128x32 ![0, 1] Gen.bcast_S1x32_S128x32_0_1 (broadcastInDim S1x32 ![1] Gen.bcast_S32_S1x32_1 freq))

theorem angK_apply (i : Fin 128) (j : Fin 32) : angK (ix2 i j) = angR (ix2 (0 : Fin 1) j) := by
  pointwise [angK, angR]
  rfl

/-- The cosine and the sine of the angle at a position, of a pair. -/
def cosR (j : Fin 32) : EReal := Host.cos angR (ix2 (0 : Fin 1) j)
def sinR (j : Fin 32) : EReal := Host.sin angR (ix2 (0 : Fin 1) j)

/-- The kernel's tables: each head's twice along the 128 lanes. -/
def tabC : FVec Ideal S128x128 .f32 :=
  shapeCast S128x128 (broadcastInDim S1x128x2x64 ![0, 1, 2, 3] Gen.bcast_S1x128x1x64_S1x128x2x64_0_1_2_3
    (shapeCast S1x128x1x64 (concatenate S128x64 1 [⟨S128x32, Host.cos angK⟩, ⟨S128x32, Host.cos angK⟩] Gen.concatenates_S128x32_S128x32_S128x64_d1)
      Gen.shapeCasts_S128x64_S1x128x1x64)) Gen.shapeCasts_S1x128x2x64_S128x128
def tabS : FVec Ideal S128x128 .f32 :=
  shapeCast S128x128 (broadcastInDim S1x128x2x64 ![0, 1, 2, 3] Gen.bcast_S1x128x1x64_S1x128x2x64_0_1_2_3
    (shapeCast S1x128x1x64 (concatenate S128x64 1 [⟨S128x32, Host.negf (Host.sin angK)⟩, ⟨S128x32, Host.sin angK⟩] Gen.concatenates_S128x32_S128x32_S128x64_d1)
      Gen.shapeCasts_S128x64_S1x128x1x64)) Gen.shapeCasts_S1x128x2x64_S128x128

theorem cosK_apply (i : Fin 128) (j : Fin 32) : Host.cos angK (ix2 i j) = cosR j :=
  congrArg (FloatOps.hostUnary (F := Ideal) (φ := .f32) .cos) (angK_apply i j)
theorem sinK_apply (i : Fin 128) (j : Fin 32) : Host.sin angK (ix2 i j) = sinR j :=
  congrArg (FloatOps.hostUnary (F := Ideal) (φ := .f32) .sin) (angK_apply i j)

theorem tabC_low (i : Fin 128) (j : Fin 128) (hj : j.val % 64 < 32) : tabC (ix2 i j) = cosR ⟨j.val % 64, by omega⟩ := by
  rw [← cosK_apply]
  generalize hA : Host.cos angK = A
  unfold tabC
  rw [hA]
  pointwise
  rw [dif_pos hj]
theorem tabC_high (i : Fin 128) (j : Fin 128) (hj : ¬ j.val % 64 < 32) : tabC (ix2 i j) = cosR ⟨j.val % 64 - 32, by omega⟩ := by
  rw [← cosK_apply]
  generalize hA : Host.cos angK = A
  unfold tabC
  rw [hA]
  pointwise
  rw [dif_neg hj]
theorem tabS_low (i : Fin 128) (j : Fin 128) (hj : j.val % 64 < 32) : tabS (ix2 i j) = -sinR ⟨j.val % 64, by omega⟩ := by
  rw [← sinK_apply]
  generalize hA : Host.sin angK = A
  unfold tabS
  rw [hA]
  pointwise
  rw [dif_pos hj]
theorem tabS_high (i : Fin 128) (j : Fin 128) (hj : ¬ j.val % 64 < 32) : tabS (ix2 i j) = sinR ⟨j.val % 64 - 32, by omega⟩ := by
  rw [← sinK_apply]
  generalize hA : Host.sin angK = A
  unfold tabS
  rw [hA]
  pointwise
  rw [dif_neg hj]

/-- A turned entry, of the entries of a row of heads: the low half of a head, and the high half. -/
def turn {n : ℕ} (hn : n % 64 = 0) (P : Fin 128 → Fin n → EReal) (i : Fin 128) (c : Fin n) : EReal :=
  if h : c.val % 64 < 32 then P i c * cosR ⟨c.val % 64, h⟩ - P i ⟨c.val + 32, by omega⟩ * sinR ⟨c.val % 64, h⟩
  else P i ⟨c.val - 32, by omega⟩ * sinR ⟨c.val % 64 - 32, by omega⟩ + P i c * cosR ⟨c.val % 64 - 32, by omega⟩

/-- The number of a lane within its head. -/
def lane : IVec S128x128 32 := remsi (iota .tc S128x128 32 [1] Gen.iota_S128x128_d1_w32) (broadcast S128x128 (Scalar.select (Scalar.cmpi .eq 64#32 0#32) 1#32 64#32))

/-- Which lanes lie below the middle of their head. -/
def below : IVec S128x128 1 :=
  cmpi .slt (select (andi (xori (cmpi .slt lane (broadcast S128x128 0#32))
      (broadcastTo S128x128 (broadcast S128x128 (Scalar.cmpi .slt (Scalar.select (Scalar.cmpi .eq 64#32 0#32) 1#32 64#32) 0#32)) Gen.broadcasts_S128x128_S128x128))
      (cmpi .ne lane (broadcast S128x128 0#32)))
    (addi lane (broadcast S128x128 (Scalar.select (Scalar.cmpi .eq 64#32 0#32) 1#32 64#32))) lane) (broadcast S128x128 32#32)

theorem below_apply (p : Fin 128) (j : Fin 128) : below (ix2 p j) = if j.val % 64 < 32 then 1#1 else 0#1 := by
  pointwise [below, lane]
  revert j
  decide +kernel

/-- A run of two heads, turned. -/
def heads (a u v : FVec Ideal S128x128 .f32) : FVec Ideal S128x128 .f32 :=
  addf (mulf a u) (mulf (select below (dynamicRotate 1 96#32 none a Gen.rotates_S128x128_d1) (dynamicRotate 1 32#32 none a Gen.rotates_S128x128_d1)) v)

/-- A lane of it: its own entry times one table plus its partner's times the other. -/
theorem heads_apply (a u v : FVec Ideal S128x128 .f32) (p : Fin 128) (j k : Fin 128) (hk : k.val = if j.val % 64 < 32 then j.val + 32 else j.val - 32) :
    heads a u v (ix2 p j) = a (ix2 p j) * u (ix2 p j) + a (ix2 p k) * v (ix2 p j) := by
  pointwise [heads]
  rw [below_apply]
  refine congrArg (fun e : EReal => a (ix2 p j) * u (ix2 p j) + e * v (ix2 p j)) ?_
  by_cases h : j.val % 64 < 32
  · rw [if_pos h] at hk ⊢
    exact congrArg (fun k : Fin 128 => a (ix2 p k)) (Fin.ext (show (j.val + 128 - 96) % 128 = k.val by omega))
  · rw [if_neg h] at hk ⊢
    exact congrArg (fun k : Fin 128 => a (ix2 p k)) (Fin.ext (show (j.val + 128 - 32) % 128 = k.val by omega))

/-- A run whose entries are a projection's, with the tables' rows, is the projection's turned. -/
theorem heads_turn {n : ℕ} (hn : n % 64 = 0) (P : Fin 128 → Fin n → EReal) (a u v : FVec Ideal S128x128 .f32) (p : Fin 128) (i : Fin 128) (b : ℕ) (hb : b % 64 = 0)
    (ha : ∀ (k : Fin 128) (c : Fin n), b + k.val = c.val → a (ix2 p k) = P i c) (hu : ∀ j : Fin 128, u (ix2 p j) = tabC (ix2 i j)) (hv : ∀ j : Fin 128, v (ix2 p j) = tabS (ix2 i j))
    (j : Fin 128) (c : Fin n) (hc : b + j.val = c.val) : heads a u v (ix2 p j) = turn hn P i c := by
  have hj := j.isLt
  have hcn := c.isLt
  have ej : c.val % 64 = j.val % 64 := by omega
  unfold turn
  by_cases h : j.val % 64 < 32
  · rw [heads_apply a u v p j ⟨j.val + 32, by omega⟩ (by rw [if_pos h]), hu, hv, ha _ c hc]
    rw [dif_pos (by omega), ha _ ⟨c.val + 32, by omega⟩ (by show b + (j.val + 32) = c.val + 32; omega), tabC_low _ _ h, tabS_low _ _ h, mul_neg, ← sub_eq_add_neg]
    simp only [ej]
  · rw [heads_apply a u v p j ⟨j.val - 32, by omega⟩ (by rw [if_neg h]), hu, hv, ha _ c hc]
    rw [dif_neg (by omega), ha _ ⟨c.val - 32, by omega⟩ (by show b + (j.val - 32) = c.val - 32; omega), tabC_high _ _ h, tabS_high _ _ h, add_comm]
    simp only [ej]

end Cert.Proof.StepNarrow
end
-- ==== Proof.IkwNew.lean ====
/-
  The index keys and the index weights over the extended reals: one block of 128 columns of the projection, its first 64
  turned as one head (the index keys, as they are and narrowed), the next 32 as they are (the weights).
-/
module

public import proofs.«01_k».proof.Proof.Gen.Kernel12Ideal.Value
public import proofs.«01_k».proof.Proof.Gen.Reference12Ideal.Run
public import proofs.«01_k».proof.Proof.Blocks
public import proofs.«01_k».proof.Proof.Wide
public import proofs.«01_k».proof.Proof.Step
public import proofs.«01_k».proof.Proof.StepNarrow
public import Idealize.ShloMosaic.Lib.Pipeline.ValueKit
public import Idealize.ShloMosaic.Lib.Pointwise

@[expose] public section

set_option maxRecDepth 100000

noncomputable section

namespace Cert.Proof.IkwNew

open Idealize.ShloMosaic Idealize.ShloMosaic.TcCoe
open Idealize.ShloMosaic.Pipeline (Dat Cfg Window)
open Cert.Kernel12Ideal Cert.Kernel12Ideal.Gen Blocks Wide Step StepNarrow

/-- The block's product, at an index. -/
theorem dot_apply (a : Vec Ideal S128x4096 .bf16) (u : Vec Ideal S1x4096x128 .bf16) (p : Fin 128) (j : Fin 128) :
    k0_pay3 a u (ix2 p j) = ∑ d : Fin 4096, a (ix2 p d) * u (ix3 0 d j) := by
  pointwise [k0_pay3]

/-- The product turned, its two tables as the windows hold them. -/
theorem turned_eq (x0 : Vec Ideal S128x4096 .bf16) (x1 : Vec Ideal S1x4096x128 .bf16) (x2 x3 : Vec Ideal S128x128 .f32) :
    k0_pay4 x0 x1 x2 x3 = heads (k0_pay3 x0 x1) (shapeCast S128x128 x2 shapeCasts_S128x128_S128x128) (shapeCast S128x128 x3 shapeCasts_S128x128_S128x128) := rfl
theorem cast_apply (u : Vec Ideal S128x128 .f32) (p : Fin 128) (j : Fin 128) : shapeCast S128x128 u shapeCasts_S128x128_S128x128 (ix2 p j) = u (ix2 p j) := by
  pointwise

/-- What a point leaves in the results' staging buffers, at an index. -/
theorem out4_apply (x0 : Vec Ideal S128x4096 .bf16) (x1 : Vec Ideal S1x4096x128 .bf16) (x2 x3 : Vec Ideal S128x128 .f32) (p : Fin 128) (j : Fin 64) :
    out0_4 x0 x1 x2 x3 (ix2 p j) = k0_pay4 x0 x1 x2 x3 (ix2 p (⟨j.val, by omega⟩ : Fin 128)) := by
  unfold out0_4
  rw [View.canon_unit_zero hz2, View.ld_unit_zero (S := S128x4096) hz2, View.ld_unit_zero (S := S1x4096x128) hz3, View.ld_unit_zero (S := S128x128) hz2, View.ld_unit_zero (S := S128x128) hz2]
  generalize hT : k0_pay4 x0 x1 x2 x3 = T
  unfold k0_pay5
  rw [hT]
  pointwise
theorem out5_apply (x0 : Vec Ideal S128x4096 .bf16) (x1 : Vec Ideal S1x4096x128 .bf16) (x2 x3 : Vec Ideal S128x128 .f32) (p : Fin 128) (j : Fin 64) :
    out0_5 x0 x1 x2 x3 (ix2 p j) = k0_pay4 x0 x1 x2 x3 (ix2 p (⟨j.val, by omega⟩ : Fin 128)) := by
  unfold out0_5
  rw [View.canon_unit_zero hz2, View.ld_unit_zero (S := S128x4096) hz2, View.ld_unit_zero (S := S1x4096x128) hz3, View.ld_unit_zero (S := S128x128) hz2, View.ld_unit_zero (S := S128x128) hz2]
  generalize k0_pay4 x0 x1 x2 x3 = T
  pointwise [k0_pay1]
theorem out6_apply (x0 : Vec Ideal S128x4096 .bf16) (x1 : Vec Ideal S1x4096x128 .bf16) (x2 x3 : Vec Ideal S128x128 .f32) (p : Fin 128) (j : Fin 32) :
    out0_6 x0 x1 x2 x3 (ix2 p j) = k0_pay3 x0 x1 (ix2 p (⟨64 + j.val, by omega⟩ : Fin 128)) := by
  unfold out0_6
  rw [View.canon_unit_zero hz2, View.ld_unit_zero (S := S128x4096) hz2, View.ld_unit_zero (S := S1x4096x128) hz3]
  generalize k0_pay3 x0 x1 = T
  pointwise [k0_pay2]

/-! ### The reference -/

/-- A table of the angles, along the sequences. -/
def spread1 (a : FVec Ideal Reference12Ideal.S1x32 .f32) : FVec Ideal Reference12Ideal.S128x1x1x32 .f32 :=
  broadcastInDim Reference12Ideal.S128x1x1x32 ![0, 1, 2, 3] Reference12Ideal.Gen.bcast_S1x1x1x32_S128x1x1x32_0_1_2_3
    (broadcastInDim Reference12Ideal.S1x1x1x32 ![1, 2, 3] Reference12Ideal.Gen.bcast_S1x1x32_S1x1x1x32_1_2_3
      (broadcastInDim Reference12Ideal.S1x1x32 ![0, 2] Reference12Ideal.Gen.bcast_S1x32_S1x1x32_0_2 a))

/-- One half of the one head. -/
def half (o : ℕ) (ho : Reference12Ideal.S128x1x1x64.Slices ![0, 0, 0, o] Reference12Ideal.S128x1x1x32) (p : FVec Ideal Reference12Ideal.S128x1x64 .f32) : FVec Ideal Reference12Ideal.S128x1x1x32 .f32 :=
  extractStridedSlice Reference12Ideal.S128x1x1x32 ![0, 0, 0, o] (broadcastInDim Reference12Ideal.S128x1x1x64 ![0, 1, 3] Reference12Ideal.Gen.bcast_S128x1x64_S128x1x1x64_0_1_3 p) ho

open Reference12Ideal.Gen in
/-- The reference's turned columns, as one head. -/
def ropeR1 (p : FVec Ideal Reference12Ideal.S128x1x64 .f32) : FVec Ideal S128x64 .f32 :=
  shapeCast _ (shapeCast Reference12Ideal.S128x1x64 (concatenate Reference12Ideal.S128x1x1x64 3
    [⟨Reference12Ideal.S128x1x1x32, subf (mulf (half 0 slices_S128x1x1x64_S128x1x1x32_0_0_0_0 p) (spread1 (Host.cos angR))) (mulf (half 32 slices_S128x1x1x64_S128x1x1x32_0_0_0_32 p) (spread1 (Host.sin angR)))⟩,
    ⟨Reference12Ideal.S128x1x1x32, addf (mulf (half 0 slices_S128x1x1x64_S128x1x1x32_0_0_0_0 p) (spread1 (Host.sin angR))) (mulf (half 32 slices_S128x1x1x64_S128x1x1x32_0_0_0_32 p) (spread1 (Host.cos angR)))⟩]
    concatenates_S128x1x1x32_S128x1x1x32_S128x1x1x64_d3) shapeCasts_S128x1x1x64_S128x1x64) shapeCasts_S128x1x64_S128x64

theorem ropeR1_apply (p : FVec Ideal Reference12Ideal.S128x1x64 .f32) (i : Fin 128) (c : Fin 64) :
    ropeR1 p (ix2 i c) = turn (n := 64) rfl (fun i c => p (ix3 i 0 c)) i c := by
  have ec : c.val % 64 = c.val := by omega
  unfold ropeR1 turn cosR sinR
  generalize Host.cos angR = C
  generalize Host.sin angR = S
  pointwise [spread1, half]
  by_cases h : c.val < 32
  · simp only [ec, dif_pos h, Nat.add_comm 32]
  · have e3 : 32 + (c.val - 32) = c.val := by omega
    simp only [ec, dif_neg h, e3]

/-- The index keys: their columns of the projection, turned. -/
def keyR (x : FVec Ideal S128x1x4096 .f32) (w : FVec Ideal S4x4096x20576 .f32) : FVec Ideal S128x64 .f32 :=
  ropeR1 (extractStridedSlice Reference12Ideal.S128x1x64 ![0, 0, 8192] (proj1R x w) Reference12Ideal.Gen.slices_S128x1x20576_S128x1x64_0_0_8192)

/-- The index keys' columns of the projection. -/
def keys (x : FVec Ideal S128x1x4096 .f32) (w : FVec Ideal S4x4096x20576 .f32) (i : Fin 128) (c : Fin 64) : EReal := proj1 x w i ⟨8192 + c.val, by omega⟩

theorem keyR_apply (x : FVec Ideal S128x1x4096 .f32) (w : FVec Ideal S4x4096x20576 .f32) (i : Fin 128) (j : Fin 64) :
    keyR x w (ix2 i j) = turn (n := 64) rfl (keys x w) i j := by
  unfold keyR
  rw [ropeR1_apply]
  refine congrArg (fun P => turn (n := 64) rfl P i j) (funext fun i => funext fun c => ?_)
  unfold keys
  pointwise
  exact proj1R_apply ..

/-- The index weights: their columns of the projection. -/
def weightR (x : FVec Ideal S128x1x4096 .f32) (w : FVec Ideal S4x4096x20576 .f32) : FVec Ideal S128x32 .f32 :=
  shapeCast _ (extractStridedSlice Reference12Ideal.S128x1x32 ![0, 0, 8256] (proj1R x w) Reference12Ideal.Gen.slices_S128x1x20576_S128x1x32_0_0_8256) Reference12Ideal.Gen.shapeCasts_S128x1x32_S128x32

theorem weightR_apply (x : FVec Ideal S128x1x4096 .f32) (w : FVec Ideal S4x4096x20576 .f32) (i : Fin 128) (j : Fin 32) :
    weightR x w (ix2 i j) = proj1 x w i ⟨8256 + j.val, by omega⟩ := by
  pointwise [weightR]
  exact proj1R_apply ..

theorem res52_eq (m : (ℓ : Loc Reference12Ideal.nD Reference12Ideal.τ Reference12Ideal.sig) → Buf (Elt Ideal) ℓ) (c : Dev Reference12Ideal.nD) :
    Reference12Ideal.Value.res_main_v52 m c = keyR (m ((c.tc : Thread Reference12Ideal.nD Reference12Ideal.τ).loc Reference12Ideal.main_arg0)) (m ((c.tc : Thread Reference12Ideal.nD Reference12Ideal.τ).loc Reference12Ideal.main_arg1)) := by
  unfold Reference12Ideal.Value.res_main_v52
  rfl
theorem res53_eq (m : (ℓ : Loc Reference12Ideal.nD Reference12Ideal.τ Reference12Ideal.sig) → Buf (Elt Ideal) ℓ) (c : Dev Reference12Ideal.nD) :
    Reference12Ideal.Value.res_main_v53 m c = truncf .bf16 (keyR (m ((c.tc : Thread Reference12Ideal.nD Reference12Ideal.τ).loc Reference12Ideal.main_arg0)) (m ((c.tc : Thread Reference12Ideal.nD Reference12Ideal.τ).loc Reference12Ideal.main_arg1)))
      Kernel12Ideal.Gen.bitsLt_bf16_f32 := by
  unfold Reference12Ideal.Value.res_main_v53
  rfl

/-! ### The kernel's blocks -/

variable (m : (ℓ : Loc nD τ Kernel12Ideal.sig) → Buf (Elt Ideal) ℓ) (c : Dev nD)

/-- The arguments at launch. -/
abbrev argX : FVec Ideal S128x1x4096 .f32 := m ((c : Thread nD τ).loc main_arg0)
abbrev argW : FVec Ideal S4x4096x20576 .f32 := m ((c : Thread nD τ).loc main_arg1)

theorem V1_eq : V m c main_v1 = truncf .bf16 (shapeCast S128x4096 (argX m c) shapeCasts_S128x1x4096_S128x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

set_option maxHeartbeats 4000000 in
theorem V57_eq : V m c main_v57 = tabC := by
  show StableHlo.after hostOps0 (fun b => m (c, b)) (Proc.devRef .tc main_v57) = _
  unfold hostOps0
  after_results <;> rfl
set_option maxHeartbeats 4000000 in
theorem V62_eq : V m c main_v62 = tabS := by
  show StableHlo.after hostOps0 (fun b => m (c, b)) (Proc.devRef .tc main_v62) = _
  unfold hostOps0
  after_results <;> rfl
/-- The windows' blocks at a point. -/
theorem index0 : ∀ t : Fin cfg0.N, (cfg0.win 0).index t = ![0, 0] := by decide +kernel
theorem index1 : ∀ t : Fin cfg0.N, (cfg0.win 1).index t = ![3, 0, 160] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![0, 0] := by decide +kernel

/-- The rows a point reads. -/
theorem x_eq (t : Fin cfg0.N) (p : Fin 128) (d : Fin 4096) (i : Fin 128) (hi : 0 * 128 + p.val = i.val) : iblk m c 0 t (ix2 p d) = argX m c (ix3 i 0 d) := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![0, 0] : Fin 2 → ℕ) a * (![128, 4096] : Fin 2 → ℕ) a + ((ix2 p d) a : ℕ) :=
      emb_val (cfg0.win 0) t rfl (index0 t) (ix2 p d) a
    exact h.trans (coord2 _ _ p d i d hi (zero_row _ d) a)
  rw [e, V1_eq]
  exact rows_apply _ _ _ i d

/-- The weight's columns a point reads. -/
theorem w_eq (t : Fin cfg0.N) (d : Fin 4096) (j : Fin 128) (k : Fin 20576) (hlt : j.val < 96) (hk : 8192 + j.val = k.val) :
    iblk m c 1 t (ix3 (0 : Fin 1) d j) = argW m c (ix3 (3 : Fin 4) d k) := by
  have e : iblk m c 1 t (ix3 (0 : Fin 1) d j) = V m c main_v7 (ix3 (3 : Fin 4) d (⟨160 * 128 + j.val, by omega⟩ : Fin 20608)) := by
    refine congrArg (V m c main_v7) (funext fun (a : Fin 3) => Fin.ext ?_)
    have h : (((cfg0.win 1).rect t).emb (ix3 (0 : Fin 1) d j) a : ℕ) = (![3, 0, 160] : Fin 3 → ℕ) a * (![1, 4096, 128] : Fin 3 → ℕ) a + ((ix3 (0 : Fin 1) d j) a : ℕ) :=
      emb_val (cfg0.win 1) t rfl (index1 t) (ix3 (0 : Fin 1) d j) a
    exact h.trans (coord3 _ _ _ _ d j (3 : Fin 4) d (⟨160 * 128 + j.val, by omega⟩ : Fin 20608) rfl (zero_row _ d) rfl a)
  rw [e, V7_eq]
  exact last_apply _ _ _ _ _ _ _ 3 d _ k (by show 20480 ≤ 160 * 128 + j.val; omega) (by show 160 * 128 + j.val < 20576; omega) (by show k.val = 8192 + (160 * 128 + j.val - 20480); omega)

/-- The product's entries at a point. -/
theorem dot_eq (t : Fin cfg0.N) (p : Fin 128) (k : Fin 128) (i : Fin 128) (l : Fin 20576) (hi : 0 * 128 + p.val = i.val) (hlt : k.val < 96) (hl : 8192 + k.val = l.val) :
    k0_pay3 (iblk m c 0 t) (iblk m c 1 t) (ix2 p k) = proj1 (argX m c) (argW m c) i l := by
  rw [dot_apply]
  exact Finset.sum_congr rfl fun d _ => congrArg₂ (fun a b : EReal => a * b) (x_eq m c t p d i hi) (w_eq m c t d k l hlt hl)

/-- The tables' rows a point reads. -/
theorem cos_eq (t : Fin cfg0.N) (p : Fin 128) (j : Fin 128) (i : Fin 128) (hi : 0 * 128 + p.val = i.val) : iblk m c 2 t (ix2 p j) = tabC (ix2 i j) := by
  have e : iblk m c 2 t (ix2 p j) = V m c main_v57 (ix2 i j) := by
    refine congrArg (V m c main_v57) (funext fun (a : Fin 2) => Fin.ext ?_)
    have h : (((cfg0.win 2).rect t).emb (ix2 p j) a : ℕ) = (![0, 0] : Fin 2 → ℕ) a * (![128, 128] : Fin 2 → ℕ) a + ((ix2 p j) a : ℕ) :=
      emb_val (cfg0.win 2) t rfl (index2 t) (ix2 p j) a
    exact h.trans (coord2 _ _ p j i j hi (zero_row _ j) a)
  rw [e, V57_eq]
theorem sin_eq (t : Fin cfg0.N) (p : Fin 128) (j : Fin 128) (i : Fin 128) (hi : 0 * 128 + p.val = i.val) : iblk m c 3 t (ix2 p j) = tabS (ix2 i j) := by
  have e : iblk m c 3 t (ix2 p j) = V m c main_v62 (ix2 i j) := by
    refine congrArg (V m c main_v62) (funext fun (a : Fin 2) => Fin.ext ?_)
    have h : (((cfg0.win 3).rect t).emb (ix2 p j) a : ℕ) = (![0, 0] : Fin 2 → ℕ) a * (![128, 128] : Fin 2 → ℕ) a + ((ix2 p j) a : ℕ) :=
      emb_val (cfg0.win 3) t rfl (index3 t) (ix2 p j) a
    exact h.trans (coord2 _ _ p j i j hi (zero_row _ j) a)
  rw [e, V62_eq]

/-- The grid's points. -/
theorem N_eq : cfg0.N = 1 := by
  show grid0.N = 1
  decide

/-- What a point leaves is the reference's block. -/
theorem turned_apply (t : Fin cfg0.N) (p : Fin 128) (j : Fin 64) (i : Fin 128) (hi : 0 * 128 + p.val = i.val) :
    k0_pay4 (iblk m c 0 t) (iblk m c 1 t) (iblk m c 2 t) (iblk m c 3 t) (ix2 p (⟨j.val, by omega⟩ : Fin 128)) = keyR (argX m c) (argW m c) (ix2 i j) := by
  rw [keyR_apply, turned_eq]
  exact heads_turn (n := 64) rfl (keys (argX m c) (argW m c)) _ _ _ p i 0 rfl
    (fun k l hl => dot_eq m c t p k i ⟨8192 + l.val, by omega⟩ hi (by omega) (by show 8192 + k.val = 8192 + l.val; omega))
    (fun k => (cast_apply _ p k).trans (cos_eq m c t p k i hi)) (fun k => (cast_apply _ p k).trans (sin_eq m c t p k i hi)) _ j (Nat.zero_add _)
theorem weight_apply (t : Fin cfg0.N) (p : Fin 128) (j : Fin 32) (i : Fin 128) (hi : 0 * 128 + p.val = i.val) :
    k0_pay3 (iblk m c 0 t) (iblk m c 1 t) (ix2 p (⟨64 + j.val, by omega⟩ : Fin 128)) = weightR (argX m c) (argW m c) (ix2 i j) := by
  rw [weightR_apply]
  exact dot_eq m c t p _ i ⟨8256 + j.val, by omega⟩ hi (by show 64 + j.val < 96; omega) (by show 8192 + (64 + j.val) = 8256 + j.val; omega)

/-- THE RESULTS: each array the kernel leaves is the reference's. -/
theorem arr4_eq : (dats m 0 c).arrAt 4 cfg0.N = keyR (argX m c) (argW m c) := by
  have hN := N_eq
  refine (dats m 0 c).arrAt_eq_of_emb 4 _ (fun t hf y => ?_) (fun i => ?_)
  · have htl : t.val < 1 := Nat.lt_of_lt_of_eq t.isLt hN
    have hy0 : (y (0 : Fin 2)).val < 128 := (y (0 : Fin 2)).isLt
    have hy1 : (y (1 : Fin 2)).val < 64 := (y (1 : Fin 2)).isLt
    refine (cast_eq _ _).trans ((congrFun (after0_4 m c t) _).trans ?_)
    have ey : (cfg0.win 4).xinj (cfg0.grid.coords t) y = ix2 (⟨(y (0 : Fin 2)).val, hy0⟩ : Fin 128) (⟨(y (1 : Fin 2)).val, hy1⟩ : Fin 64) := funext fun (a : Fin 2) => by
      match a with
      | 0 => rfl
      | 1 => rfl
    refine (congrArg (out0_4 (iblk m c 0 t) (iblk m c 1 t) (iblk m c 2 t) (iblk m c 3 t)) ey).trans ((out4_apply _ _ _ _ _ _).trans
      ((turned_apply m c t _ _ ⟨0 * 128 + (y (0 : Fin 2)).val, by omega⟩ rfl).trans ?_))
    refine congrArg (keyR (argX m c) (argW m c)) (funext fun (a : Fin 2) => Fin.ext ?_)
    have h : (((cfg0.win 4).rect t).emb y a : ℕ) = (![0, 0] : Fin 2 → ℕ) a * (![128, 64] : Fin 2 → ℕ) a + (y a : ℕ) := emb_val (cfg0.win 4) t rfl (index4 t) y a
    refine Eq.trans ?_ h.symm
    match a with
    | 0 => rfl
    | 1 => exact (Nat.zero_add _).symm
  · have hi0 : (i (0 : Fin 2)).val < 128 := (i (0 : Fin 2)).isLt
    have hi1 : (i (1 : Fin 2)).val < 64 := (i (1 : Fin 2)).isLt
    have ht : 0 < cfg0.N := by omega
    refine ⟨⟨_, ht⟩, flush0_4 _, ?_⟩
    refine (Window.emb_mem_blk_iff (cfg0.win 4) ⟨_, ht⟩ i).2 fun (a : Fin 2) => ?_
    rw [index4]
    match a with
    | 0 =>
      show 0 * 128 ≤ (i (0 : Fin 2)).val ∧ (i (0 : Fin 2)).val < 0 * 128 + 128
      omega
    | 1 =>
      show 0 * 64 ≤ (i (1 : Fin 2)).val ∧ (i (1 : Fin 2)).val < 0 * 64 + 64
      omega

theorem arr5_eq : (dats m 0 c).arrAt 5 cfg0.N = truncf .bf16 (keyR (argX m c) (argW m c)) bitsLt_bf16_f32 := by
  have hN := N_eq
  refine (dats m 0 c).arrAt_eq_of_emb 5 _ (fun t hf y => ?_) (fun i => ?_)
  · have htl : t.val < 1 := Nat.lt_of_lt_of_eq t.isLt hN
    have hy0 : (y (0 : Fin 2)).val < 128 := (y (0 : Fin 2)).isLt
    have hy1 : (y (1 : Fin 2)).val < 64 := (y (1 : Fin 2)).isLt
    refine (cast_eq _ _).trans ((congrFun (after0_5 m c t) _).trans ?_)
    have ey : (cfg0.win 5).xinj (cfg0.grid.coords t) y = ix2 (⟨(y (0 : Fin 2)).val, hy0⟩ : Fin 128) (⟨(y (1 : Fin 2)).val, hy1⟩ : Fin 64) := funext fun (a : Fin 2) => by
      match a with
      | 0 => rfl
      | 1 => rfl
    refine (congrArg (out0_5 (iblk m c 0 t) (iblk m c 1 t) (iblk m c 2 t) (iblk m c 3 t)) ey).trans ((out5_apply _ _ _ _ _ _).trans
      ((turned_apply m c t _ _ ⟨0 * 128 + (y (0 : Fin 2)).val, by omega⟩ rfl).trans ?_))
    refine congrArg (keyR (argX m c) (argW m c)) (funext fun (a : Fin 2) => Fin.ext ?_)
    have h : (((cfg0.win 5).rect t).emb y a : ℕ) = (![0, 0] : Fin 2 → ℕ) a * (![128, 64] : Fin 2 → ℕ) a + (y a : ℕ) := emb_val (cfg0.win 5) t rfl (index5 t) y a
    refine Eq.trans ?_ h.symm
    match a with
    | 0 => rfl
    | 1 => exact (Nat.zero_add _).symm
  · have hi0 : (i (0 : Fin 2)).val < 128 := (i (0 : Fin 2)).isLt
    have hi1 : (i (1 : Fin 2)).val < 64 := (i (1 : Fin 2)).isLt
    have ht : 0 < cfg0.N := by omega
    refine ⟨⟨_, ht⟩, flush0_5 _, ?_⟩
    refine (Window.emb_mem_blk_iff (cfg0.win 5) ⟨_, ht⟩ i).2 fun (a : Fin 2) => ?_
    rw [index5]
    match a with
    | 0 =>
      show 0 * 128 ≤ (i (0 : Fin 2)).val ∧ (i (0 : Fin 2)).val < 0 * 128 + 128
      omega
    | 1 =>
      show 0 * 64 ≤ (i (1 : Fin 2)).val ∧ (i (1 : Fin 2)).val < 0 * 64 + 64
      omega

theorem arr6_eq : (dats m 0 c).arrAt 6 cfg0.N = weightR (argX m c) (argW m c) := by
  have hN := N_eq
  refine (dats m 0 c).arrAt_eq_of_emb 6 _ (fun t hf y => ?_) (fun i => ?_)
  · have htl : t.val < 1 := Nat.lt_of_lt_of_eq t.isLt hN
    have hy0 : (y (0 : Fin 2)).val < 128 := (y (0 : Fin 2)).isLt
    have hy1 : (y (1 : Fin 2)).val < 32 := (y (1 : Fin 2)).isLt
    refine (cast_eq _ _).trans ((congrFun (after0_6 m c t) _).trans ?_)
    have ey : (cfg0.win 6).xinj (cfg0.grid.coords t) y = ix2 (⟨(y (0 : Fin 2)).val, hy0⟩ : Fin 128) (⟨(y (1 : Fin 2)).val, hy1⟩ : Fin 32) := funext fun (a : Fin 2) => by
      match a with
      | 0 => rfl
      | 1 => rfl
    refine (congrArg (out0_6 (iblk m c 0 t) (iblk m c 1 t) (iblk m c 2 t) (iblk m c 3 t)) ey).trans ((out6_apply _ _ _ _ _ _).trans
      ((weight_apply m c t _ _ ⟨0 * 128 + (y (0 : Fin 2)).val, by omega⟩ rfl).trans ?_))
    refine congrArg (weightR (argX m c) (argW m c)) (funext fun (a : Fin 2) => Fin.ext ?_)
    have h : (((cfg0.win 6).rect t).emb y a : ℕ) = (![0, 0] : Fin 2 → ℕ) a * (![128, 32] : Fin 2 → ℕ) a + (y a : ℕ) := emb_val (cfg0.win 6) t rfl (index6 t) y a
    refine Eq.trans ?_ h.symm
    match a with
    | 0 => rfl
    | 1 => exact (Nat.zero_add _).symm
  · have hi0 : (i (0 : Fin 2)).val < 128 := (i (0 : Fin 2)).isLt
    have hi1 : (i (1 : Fin 2)).val < 32 := (i (1 : Fin 2)).isLt
    have ht : 0 < cfg0.N := by omega
    refine ⟨⟨_, ht⟩, flush0_6 _, ?_⟩
    refine (Window.emb_mem_blk_iff (cfg0.win 6) ⟨_, ht⟩ i).2 fun (a : Fin 2) => ?_
    rw [index6]
    match a with
    | 0 =>
      show 0 * 128 ≤ (i (0 : Fin 2)).val ∧ (i (0 : Fin 2)).val < 0 * 128 + 128
      omega
    | 1 =>
      show 0 * 32 ≤ (i (1 : Fin 2)).val ∧ (i (1 : Fin 2)).val < 0 * 32 + 32
      omega

end Cert.Proof.IkwNew
end
-- ==== Proof.Rope.lean ====
/-
  The rotary embedding on heads of 128 lanes: the kernel multiplies a head by one table and the head turned by 64 lanes
  by another; the reference cuts the head in two and turns each pair. One formula at every entry.
-/
module

public import proofs.«01_k».proof.Kernel6Ideal
public import proofs.«01_k».proof.Proof.Gen.Kernel6Ideal
public import proofs.«01_k».proof.Proof.Gen.Reference6Ideal.Run
public import Idealize.ShloMosaic.Lib.Pointwise

@[expose] public section

set_option maxRecDepth 100000

noncomputable section

namespace Cert.Proof.Rope

open Idealize.ShloMosaic Idealize.ShloMosaic.TcCoe
open Cert.Kernel6Ideal

/-- The pairs' frequencies. -/
def freq : FVec Ideal S64 .f32 :=
  Host.powf (broadcastInDim S64 ![] Gen.bcast_S_S64 (constant (F := Ideal) S_ .f32 0x461C4000#32 : FVec Ideal S_ .f32))
    (Host.divf (Host.negf (addf (broadcastInDim S64 ![] Gen.bcast_S_S64 (constant (F := Ideal) S_ .f32 0x00000000#32 : FVec Ideal S_ .f32))
      (mulf (broadcastInDim S64 ![] Gen.bcast_S_S64 (constant (F := Ideal) S_ .f32 0x40000000#32 : FVec Ideal S_ .f32)) (sitofp .f32 (iotaInDim S64 32 0)))))
      (broadcastInDim S64 ![] Gen.bcast_S_S64 (constant (F := Ideal) S_ .f32 0x43000000#32 : FVec Ideal S_ .f32)))

open Reference6Ideal in
/-- The reference's angles: the position times the pair's frequency. -/
def angR : FVec Ideal S2048x64 .f32 :=
  mulf (broadcastInDim S2048x64 ![0, 1] Gen.bcast_S2048x1_S2048x64_0_1 (broadcastInDim S2048x1 ![0] Gen.bcast_S2048_S2048x1_0 (sitofp .f32 (iotaInDim Reference6Ideal.S2048 32 0))))
    (broadcastInDim S2048x64 ![0, 1] Gen.bcast_S1x64_S2048x64_0_1 (broadcastInDim Reference6Ideal.S1x64 ![1] Reference6Ideal.Gen.bcast_S64_S1x64_1 freq))

/-- The kernel's angles: a row's position is its number in its sequence. -/
def angK : FVec Ideal S8192x64 .f32 :=
  mulf (broadcastInDim S8192x64 ![0, 1] Gen.bcast_S8192x1_S8192x64_0_1 (broadcastInDim S8192x1 ![0] Gen.bcast_S8192_S8192x1_0
      (sitofp .f32 (shapeCast S8192 (broadcastInDim S4x2048 ![0, 1] Gen.bcast_S1x2048_S4x2048_0_1 (shapeCast S1x2048 (iotaInDim S2048 32 0) Gen.shapeCasts_S2048_S1x2048))
        Gen.shapeCasts_S4x2048_S8192))))
    (broadcastInDim S8192x64 ![0, 1] Gen.bcast_S1x64_S8192x64_0_1 (broadcastInDim S1x64 ![1] Gen.bcast_S64_S1x64_1 freq))

theorem angK_apply (i : Fin 8192) (j : Fin 64) : angK (ix2 i j) = angR (ix2 (⟨i.val % 2048, by omega⟩ : Fin 2048) j) := by
  pointwise [angK, angR]

/-- The cosine and the sine of the angle at a position, of a pair. -/
def cosR (s : Fin 2048) (j : Fin 64) : EReal := Host.cos angR (ix2 s j)
def sinR (s : Fin 2048) (j : Fin 64) : EReal := Host.sin angR (ix2 s j)

/-- The kernel's tables. -/
def tabC : FVec Ideal S8192x128 .f32 :=
  shapeCast S8192x128 (broadcastInDim S1x8192x1x128 ![0, 1, 2, 3] Gen.bcast_S1x8192x1x128_S1x8192x1x128_0_1_2_3
    (shapeCast S1x8192x1x128 (concatenate S8192x128 1 [⟨S8192x64, Host.cos angK⟩, ⟨S8192x64, Host.cos angK⟩] Gen.concatenates_S8192x64_S8192x64_S8192x128_d1)
      Gen.shapeCasts_S8192x128_S1x8192x1x128)) Gen.shapeCasts_S1x8192x1x128_S8192x128
def tabS : FVec Ideal S8192x128 .f32 :=
  shapeCast S8192x128 (broadcastInDim S1x8192x1x128 ![0, 1, 2, 3] Gen.bcast_S1x8192x1x128_S1x8192x1x128_0_1_2_3
    (shapeCast S1x8192x1x128 (concatenate S8192x128 1 [⟨S8192x64, Host.negf (Host.sin angK)⟩, ⟨S8192x64, Host.sin angK⟩] Gen.concatenates_S8192x64_S8192x64_S8192x128_d1)
      Gen.shapeCasts_S8192x128_S1x8192x1x128)) Gen.shapeCasts_S1x8192x1x128_S8192x128

theorem cosK_apply (i : Fin 8192) (j : Fin 64) : Host.cos angK (ix2 i j) = cosR ⟨i.val % 2048, by omega⟩ j :=
  congrArg (FloatOps.hostUnary (F := Ideal) (φ := .f32) .cos) (angK_apply i j)
theorem sinK_apply (i : Fin 8192) (j : Fin 64) : Host.sin angK (ix2 i j) = sinR ⟨i.val % 2048, by omega⟩ j :=
  congrArg (FloatOps.hostUnary (F := Ideal) (φ := .f32) .sin) (angK_apply i j)

theorem tabC_low (i : Fin 8192) (j : Fin 128) (hj : j.val < 64) : tabC (ix2 i j) = cosR ⟨i.val % 2048, by omega⟩ ⟨j.val, hj⟩ := by
  rw [← cosK_apply]
  generalize hA : Host.cos angK = A
  unfold tabC
  rw [hA]
  pointwise
  rw [dif_pos hj]
theorem tabC_high (i : Fin 8192) (j : Fin 128) (hj : ¬ j.val < 64) : tabC (ix2 i j) = cosR ⟨i.val % 2048, by omega⟩ ⟨j.val - 64, by omega⟩ := by
  rw [← cosK_apply]
  generalize hA : Host.cos angK = A
  unfold tabC
  rw [hA]
  pointwise
  rw [dif_neg hj]
theorem tabS_low (i : Fin 8192) (j : Fin 128) (hj : j.val < 64) : tabS (ix2 i j) = -sinR ⟨i.val % 2048, by omega⟩ ⟨j.val, hj⟩ := by
  rw [← sinK_apply]
  generalize hA : Host.sin angK = A
  unfold tabS
  rw [hA]
  pointwise
  rw [dif_pos hj]
theorem tabS_high (i : Fin 8192) (j : Fin 128) (hj : ¬ j.val < 64) : tabS (ix2 i j) = sinR ⟨i.val % 2048, by omega⟩ ⟨j.val - 64, by omega⟩ := by
  rw [← sinK_apply]
  generalize hA : Host.sin angK = A
  unfold tabS
  rw [hA]
  pointwise
  rw [dif_neg hj]

/-- A turned entry, of a projection's entries: the low half of a head, and the high half. -/
def turn (P : Fin 8192 → Fin 2048 → EReal) (i : Fin 8192) (c : Fin 2048) : EReal :=
  if h : c.val % 128 < 64 then P i c * cosR ⟨i.val % 2048, by omega⟩ ⟨c.val % 128, h⟩ - P i ⟨c.val + 64, by omega⟩ * sinR ⟨i.val % 2048, by omega⟩ ⟨c.val % 128, h⟩
  else P i ⟨c.val - 64, by omega⟩ * sinR ⟨i.val % 2048, by omega⟩ ⟨c.val % 128 - 64, by omega⟩ + P i c * cosR ⟨i.val % 2048, by omega⟩ ⟨c.val % 128 - 64, by omega⟩

/-- A table of the angles, along the sequences and the heads. -/
def spread (a : FVec Ideal Reference6Ideal.S2048x64 .f32) : FVec Ideal Reference6Ideal.S4x2048x16x64 .f32 :=
  broadcastInDim Reference6Ideal.S4x2048x16x64 ![0, 1, 2, 3] Reference6Ideal.Gen.bcast_S1x2048x1x64_S4x2048x16x64_0_1_2_3
    (broadcastInDim Reference6Ideal.S1x2048x1x64 ![1, 2, 3] Reference6Ideal.Gen.bcast_S2048x1x64_S1x2048x1x64_1_2_3
      (broadcastInDim Reference6Ideal.S2048x1x64 ![0, 2] Reference6Ideal.Gen.bcast_S2048x64_S2048x1x64_0_2 a))

open Reference6Ideal Reference6Ideal.Gen in
/-- The reference's turned projection, of a projection's 16 heads. -/
def ropeR (p : FVec Ideal Reference6Ideal.S4x2048x2048 .f32) : FVec Ideal Kernel6Ideal.S8192x2048 .f32 :=
  shapeCast _ (concatenate S4x2048x16x128 3
    [⟨S4x2048x16x64, subf (mulf (extractStridedSlice S4x2048x16x64 ![0, 0, 0, 0] (shapeCast _ p shapeCasts_S4x2048x2048_S4x2048x16x128) slices_S4x2048x16x128_S4x2048x16x64_0_0_0_0) (spread (Host.cos angR)))
      (mulf (extractStridedSlice S4x2048x16x64 ![0, 0, 0, 64] (shapeCast _ p shapeCasts_S4x2048x2048_S4x2048x16x128) slices_S4x2048x16x128_S4x2048x16x64_0_0_0_64) (spread (Host.sin angR)))⟩,
    ⟨S4x2048x16x64, addf (mulf (extractStridedSlice S4x2048x16x64 ![0, 0, 0, 0] (shapeCast _ p shapeCasts_S4x2048x2048_S4x2048x16x128) slices_S4x2048x16x128_S4x2048x16x64_0_0_0_0) (spread (Host.sin angR)))
      (mulf (extractStridedSlice S4x2048x16x64 ![0, 0, 0, 64] (shapeCast _ p shapeCasts_S4x2048x2048_S4x2048x16x128) slices_S4x2048x16x128_S4x2048x16x64_0_0_0_64) (spread (Host.cos angR)))⟩]
    concatenates_S4x2048x16x64_S4x2048x16x64_S4x2048x16x128_d3) shapeCasts_S4x2048x16x128_S8192x2048

theorem ropeR_apply (p : FVec Ideal Reference6Ideal.S4x2048x2048 .f32) (i : Fin 8192) (c : Fin 2048) :
    ropeR p (ix2 i c) = turn (fun i c => p (ix3 (⟨i.val / 2048, by omega⟩ : Fin 4) (⟨i.val % 2048, by omega⟩ : Fin 2048) c)) i c := by
  unfold ropeR turn cosR sinR
  generalize Host.cos angR = C
  generalize Host.sin angR = S
  pointwise [spread]
  have e1 : c.val / 128 * 128 + (64 + c.val % 128) = c.val + 64 := by omega
  by_cases h : c.val % 128 < 64
  · simp only [dif_pos h, e1]
  · have e2 : c.val / 128 * 128 + (c.val % 128 - 64) = c.val - 64 := by omega
    have e3 : c.val / 128 * 128 + (64 + (c.val % 128 - 64)) = c.val := by omega
    simp only [dif_neg h, e2, e3]

/-- A head of the kernel's product, turned: the head times one table plus the head turned by 64 lanes times the other. -/
def head (o : ℕ) (ho : S1024x512.Slices ![0, o] S1024x128) (a : FVec Ideal S1024x512 .f32) (u v : FVec Ideal S1024x128 .f32) : FVec Ideal S1024x128 .f32 :=
  addf (mulf (extractStridedSlice S1024x128 ![0, o] a ho) u) (mulf (dynamicRotate 1 64#32 none (extractStridedSlice S1024x128 ![0, o] a ho) Gen.rotates_S1024x128_d1) v)

theorem head_apply (o : ℕ) (ho : S1024x512.Slices ![0, o] S1024x128) (a : FVec Ideal S1024x512 .f32) (u v : FVec Ideal S1024x128 .f32) (p : Fin 1024) (j : Fin 128)
    (k k' : Fin 512) (hk : k.val = o + j.val) (hk' : k'.val = o + (j.val + 128 - 64) % 128) :
    head o ho a u v (ix2 p j) = a (ix2 p k) * u (ix2 p j) + a (ix2 p k') * v (ix2 p j) := by
  obtain ⟨n, hn⟩ := k
  obtain ⟨n', hn'⟩ := k'
  obtain rfl : n = _ := hk
  obtain rfl : n' = _ := hk'
  pointwise [head]

/-- A head of a block whose entries are a projection's, with the tables' rows, is the projection's turned. -/
theorem head_turn (P : Fin 8192 → Fin 2048 → EReal) (o : ℕ) (ho : S1024x512.Slices ![0, o] S1024x128) (hle : o ≤ 384) (hd : o % 128 = 0) (a : FVec Ideal S1024x512 .f32)
    (u v : FVec Ideal S1024x128 .f32) (p : Fin 1024) (i : Fin 8192) (b : ℕ) (hb : b < 4)
    (ha : ∀ (k : Fin 512) (c : Fin 2048), b * 512 + k.val = c.val → a (ix2 p k) = P i c) (hu : ∀ j : Fin 128, u (ix2 p j) = tabC (ix2 i j)) (hv : ∀ j : Fin 128, v (ix2 p j) = tabS (ix2 i j))
    (j : Fin 128) (c : Fin 2048) (hc : b * 512 + (o + j.val) = c.val) : head o ho a u v (ix2 p j) = turn P i c := by
  have hj := j.isLt
  rw [head_apply o ho a u v p j ⟨o + j.val, by omega⟩ ⟨o + (j.val + 128 - 64) % 128, by omega⟩ rfl rfl, hu, hv, ha _ c hc]
  have ej : c.val % 128 = j.val := by omega
  unfold turn
  by_cases h : j.val < 64
  · rw [dif_pos (by omega), ha _ ⟨c.val + 64, by omega⟩ (by show b * 512 + (o + (j.val + 128 - 64) % 128) = c.val + 64; omega), tabC_low _ _ h, tabS_low _ _ h, mul_neg, ← sub_eq_add_neg]
    simp only [ej]
  · rw [dif_neg (by omega), ha _ ⟨c.val - 64, by omega⟩ (by show b * 512 + (o + (j.val + 128 - 64) % 128) = c.val - 64; omega), tabC_high _ _ h, tabS_high _ _ h, add_comm]
    simp only [ej]

/-- A block of a function of rows and columns, its rows numbered by `r` and its columns from `b * 512` on. -/
def blockG (T : Fin 8192 → Fin 2048 → EReal) (r : Fin 1024 → Fin 8192) (b : ℕ) (hb : b < 4) (y : S1024x512.Idx) : EReal :=
  T (r ⟨(y (0 : Fin 2)).val, (y (0 : Fin 2)).isLt⟩) ⟨b * 512 + (y (1 : Fin 2)).val, by have h : (y (1 : Fin 2)).val < 512 := (y (1 : Fin 2)).isLt; omega⟩

/-- A store of 128 columns of the block, from the `o`-th on, is the block's part under it. -/
theorem piece_eq (T : Fin 8192 → Fin 2048 → EReal) (o : ℕ) (hle : o ≤ 384) (f : FVec Ideal S1024x128 .f32) (r : Fin 1024 → Fin 8192) (b : ℕ) (hb : b < 4)
    (hf : ∀ (p : Fin 1024) (j : Fin 128) (c : Fin 2048), b * 512 + (o + j.val) = c.val → f (ix2 p j) = T (r p) c)
    (inb : ∀ a, (![0, o] : Fin 2 → ℕ) a + S1024x128.size a ≤ S1024x512.size a) (x : S1024x128.Idx) :
    f x = blockG T r b hb ((Rect.unit (s := S1024x512) ![0, o] S1024x128.size inb).emb x) := by
  have h0 : (x (0 : Fin 2)).val < 1024 := (x (0 : Fin 2)).isLt
  have h1 : (x (1 : Fin 2)).val < 128 := (x (1 : Fin 2)).isLt
  have ex : x = ix2 (⟨_, h0⟩ : Fin 1024) (⟨_, h1⟩ : Fin 128) := funext fun (a : Fin 2) => by
    match a with
    | 0 => rfl
    | 1 => rfl
  refine (congrArg f ex).trans ?_
  refine (hf _ _ ⟨b * 512 + (o + (x (1 : Fin 2)).val), by omega⟩ rfl).trans ?_
  unfold blockG
  have e0 : ((Rect.unit (s := S1024x512) ![0, o] S1024x128.size inb).emb x (0 : Fin 2)).val = (x (0 : Fin 2)).val := by
    show 0 + 1 * (x (0 : Fin 2)).val = _
    omega
  have e1 : ((Rect.unit (s := S1024x512) ![0, o] S1024x128.size inb).emb x (1 : Fin 2)).val = o + (x (1 : Fin 2)).val := by
    show o + 1 * (x (1 : Fin 2)).val = _
    omega
  refine congrArg₂ T (congrArg r (Fin.ext e0.symm)) (Fin.ext ?_)
  show b * 512 + (o + (x (1 : Fin 2)).val) = _
  rw [← e1]

/-- A store of a head, as the block's turned entries. -/
theorem piece_turn (P : Fin 8192 → Fin 2048 → EReal) (o : ℕ) (ho : S1024x512.Slices ![0, o] S1024x128) (hle : o ≤ 384) (hd : o % 128 = 0) (a : FVec Ideal S1024x512 .f32)
    (u v : FVec Ideal S1024x128 .f32) (r : Fin 1024 → Fin 8192) (b : ℕ) (hb : b < 4)
    (ha : ∀ (p : Fin 1024) (k : Fin 512) (c : Fin 2048), b * 512 + k.val = c.val → a (ix2 p k) = P (r p) c)
    (hu : ∀ (p : Fin 1024) (j : Fin 128), u (ix2 p j) = tabC (ix2 (r p) j)) (hv : ∀ (p : Fin 1024) (j : Fin 128), v (ix2 p j) = tabS (ix2 (r p) j))
    (inb : ∀ a, (![0, o] : Fin 2 → ℕ) a + S1024x128.size a ≤ S1024x512.size a) (x : S1024x128.Idx) :
    head o ho a u v x = blockG (turn P) r b hb ((Rect.unit (s := S1024x512) ![0, o] S1024x128.size inb).emb x) :=
  piece_eq (turn P) o hle (head o ho a u v) r b hb (fun p j c hc => head_turn P o ho hle hd a u v p (r p) b hb (ha p) (hu p) (hv p) j c hc) inb x

end Cert.Proof.Rope
end
-- ==== Proof.Narrow.lean ====
/-
  The rotary embedding on heads of 64 lanes, two to a run of 128: the kernel's lanes below the middle of their head take
  from 32 lanes on, the others from 32 lanes back; the reference cuts each head in two and turns the pairs.
-/
module

public import proofs.«01_k».proof.Kernel9Ideal
public import proofs.«01_k».proof.Proof.Gen.Kernel9Ideal
public import proofs.«01_k».proof.Proof.Gen.Reference9Ideal.Run
public import proofs.«01_k».proof.Proof.Rope
public import Idealize.ShloMosaic.Lib.Pointwise

@[expose] public section

set_option maxRecDepth 100000

noncomputable section

namespace Cert.Proof.Narrow

open Idealize.ShloMosaic Idealize.ShloMosaic.TcCoe
open Cert.Kernel9Ideal

/-- The pairs' frequencies. -/
def freq : FVec Ideal S32 .f32 :=
  Host.powf (broadcastInDim S32 ![] Gen.bcast_S_S32 (constant (F := Ideal) S_ .f32 0x461C4000#32 : FVec Ideal S_ .f32))
    (Host.divf (Host.negf (addf (broadcastInDim S32 ![] Gen.bcast_S_S32 (constant (F := Ideal) S_ .f32 0x00000000#32 : FVec Ideal S_ .f32))
      (mulf (broadcastInDim S32 ![] Gen.bcast_S_S32 (constant (F := Ideal) S_ .f32 0x40000000#32 : FVec Ideal S_ .f32)) (sitofp .f32 (iotaInDim S32 32 0)))))
      (broadcastInDim S32 ![] Gen.bcast_S_S32 (constant (F := Ideal) S_ .f32 0x42800000#32 : FVec Ideal S_ .f32)))

open Reference9Ideal in
/-- The reference's angles: the position times the pair's frequency. -/
def angR : FVec Ideal S2048x32 .f32 :=
  mulf (broadcastInDim S2048x32 ![0, 1] Gen.bcast_S2048x1_S2048x32_0_1 (broadcastInDim S2048x1 ![0] Gen.bcast_S2048_S2048x1_0 (sitofp .f32 (iotaInDim Reference9Ideal.S2048 32 0))))
    (broadcastInDim S2048x32 ![0, 1] Gen.bcast_S1x32_S2048x32_0_1 (broadcastInDim Reference9Ideal.S1x32 ![1] Reference9Ideal.Gen.bcast_S32_S1x32_1 freq))

/-- The kernel's angles: a row's position is its number in its sequence. -/
def angK : FVec Ideal S8192x32 .f32 :=
  mulf (broadcastInDim S8192x32 ![0, 1] Gen.bcast_S8192x1_S8192x32_0_1 (broadcastInDim S8192x1 ![0] Gen.bcast_S8192_S8192x1_0
      (sitofp .f32 (shapeCast S8192 (broadcastInDim S4x2048 ![0, 1] Gen.bcast_S1x2048_S4x2048_0_1 (shapeCast S1x2048 (iotaInDim S2048 32 0) Gen.shapeCasts_S2048_S1x2048))
        Gen.shapeCasts_S4x2048_S8192))))
    (broadcastInDim S8192x32 ![0, 1] Gen.bcast_S1x32_S8192x32_0_1 (broadcastInDim S1x32 ![1] Gen.bcast_S32_S1x32_1 freq))

theorem angK_apply (i : Fin 8192) (j : Fin 32) : angK (ix2 i j) = angR (ix2 (⟨i.val % 2048, by omega⟩ : Fin 2048) j) := by
  pointwise [angK, angR]

/-- The cosine and the sine of the angle at a position, of a pair. -/
def cosR (s : Fin 2048) (j : Fin 32) : EReal := Host.cos angR (ix2 s j)
def sinR (s : Fin 2048) (j : Fin 32) : EReal := Host.sin angR (ix2 s j)

/-- The kernel's tables: each head's twice along the 128 lanes. -/
def tabC : FVec Ideal S8192x128 .f32 :=
  shapeCast S8192x128 (broadcastInDim S1x8192x2x64 ![0, 1, 2, 3] Gen.bcast_S1x8192x1x64_S1x8192x2x64_0_1_2_3
    (shapeCast S1x8192x1x64 (concatenate S8192x64 1 [⟨S8192x32, Host.cos angK⟩, ⟨S8192x32, Host.cos angK⟩] Gen.concatenates_S8192x32_S8192x32_S8192x64_d1)
      Gen.shapeCasts_S8192x64_S1x8192x1x64)) Gen.shapeCasts_S1x8192x2x64_S8192x128
def tabS : FVec Ideal S8192x128 .f32 :=
  shapeCast S8192x128 (broadcastInDim S1x8192x2x64 ![0, 1, 2, 3] Gen.bcast_S1x8192x1x64_S1x8192x2x64_0_1_2_3
    (shapeCast S1x8192x1x64 (concatenate S8192x64 1 [⟨S8192x32, Host.negf (Host.sin angK)⟩, ⟨S8192x32, Host.sin angK⟩] Gen.concatenates_S8192x32_S8192x32_S8192x64_d1)
      Gen.shapeCasts_S8192x64_S1x8192x1x64)) Gen.shapeCasts_S1x8192x2x64_S8192x128

theorem cosK_apply (i : Fin 8192) (j : Fin 32) : Host.cos angK (ix2 i j) = cosR ⟨i.val % 2048, by omega⟩ j :=
  congrArg (FloatOps.hostUnary (F := Ideal) (φ := .f32) .cos) (angK_apply i j)
theorem sinK_apply (i : Fin 8192) (j : Fin 32) : Host.sin angK (ix2 i j) = sinR ⟨i.val % 2048, by omega⟩ j :=
  congrArg (FloatOps.hostUnary (F := Ideal) (φ := .f32) .sin) (angK_apply i j)

theorem tabC_low (i : Fin 8192) (j : Fin 128) (hj : j.val % 64 < 32) : tabC (ix2 i j) = cosR ⟨i.val % 2048, by omega⟩ ⟨j.val % 64, by omega⟩ := by
  rw [← cosK_apply]
  generalize hA : Host.cos angK = A
  unfold tabC
  rw [hA]
  pointwise
  rw [dif_pos hj]
theorem tabC_high (i : Fin 8192) (j : Fin 128) (hj : ¬ j.val % 64 < 32) : tabC (ix2 i j) = cosR ⟨i.val % 2048, by omega⟩ ⟨j.val % 64 - 32, by omega⟩ := by
  rw [← cosK_apply]
  generalize hA : Host.cos angK = A
  unfold tabC
  rw [hA]
  pointwise
  rw [dif_neg hj]
theorem tabS_low (i : Fin 8192) (j : Fin 128) (hj : j.val % 64 < 32) : tabS (ix2 i j) = -sinR ⟨i.val % 2048, by omega⟩ ⟨j.val % 64, by omega⟩ := by
  rw [← sinK_apply]
  generalize hA : Host.sin angK = A
  unfold tabS
  rw [hA]
  pointwise
  rw [dif_pos hj]
theorem tabS_high (i : Fin 8192) (j : Fin 128) (hj : ¬ j.val % 64 < 32) : tabS (ix2 i j) = sinR ⟨i.val % 2048, by omega⟩ ⟨j.val % 64 - 32, by omega⟩ := by
  rw [← sinK_apply]
  generalize hA : Host.sin angK = A
  unfold tabS
  rw [hA]
  pointwise
  rw [dif_neg hj]

/-- A turned entry, of the entries of a row of heads: the low half of a head, and the high half. -/
def turn {n : ℕ} (hn : n % 64 = 0) (P : Fin 8192 → Fin n → EReal) (i : Fin 8192) (c : Fin n) : EReal :=
  if h : c.val % 64 < 32 then P i c * cosR ⟨i.val % 2048, by omega⟩ ⟨c.val % 64, h⟩ - P i ⟨c.val + 32, by omega⟩ * sinR ⟨i.val % 2048, by omega⟩ ⟨c.val % 64, h⟩
  else P i ⟨c.val - 32, by omega⟩ * sinR ⟨i.val % 2048, by omega⟩ ⟨c.val % 64 - 32, by omega⟩ + P i c * cosR ⟨i.val % 2048, by omega⟩ ⟨c.val % 64 - 32, by omega⟩

/-- A table of the angles, along the sequences and the heads. -/
def spread (a : FVec Ideal Reference9Ideal.S2048x32 .f32) : FVec Ideal Reference9Ideal.S4x2048x32x32 .f32 :=
  broadcastInDim Reference9Ideal.S4x2048x32x32 ![0, 1, 2, 3] Reference9Ideal.Gen.bcast_S1x2048x1x32_S4x2048x32x32_0_1_2_3
    (broadcastInDim Reference9Ideal.S1x2048x1x32 ![1, 2, 3] Reference9Ideal.Gen.bcast_S2048x1x32_S1x2048x1x32_1_2_3
      (broadcastInDim Reference9Ideal.S2048x1x32 ![0, 2] Reference9Ideal.Gen.bcast_S2048x32_S2048x1x32_0_2 a))

open Reference9Ideal Reference9Ideal.Gen in
/-- The reference's turned projection, of a projection's 32 heads. -/
def ropeR (p : FVec Ideal Reference9Ideal.S4x2048x2048 .f32) : FVec Ideal Kernel9Ideal.S8192x2048 .f32 :=
  shapeCast _ (concatenate S4x2048x32x64 3
    [⟨S4x2048x32x32, subf (mulf (extractStridedSlice S4x2048x32x32 ![0, 0, 0, 0] (shapeCast _ p shapeCasts_S4x2048x2048_S4x2048x32x64) slices_S4x2048x32x64_S4x2048x32x32_0_0_0_0) (spread (Host.cos angR)))
      (mulf (extractStridedSlice S4x2048x32x32 ![0, 0, 0, 32] (shapeCast _ p shapeCasts_S4x2048x2048_S4x2048x32x64) slices_S4x2048x32x64_S4x2048x32x32_0_0_0_32) (spread (Host.sin angR)))⟩,
    ⟨S4x2048x32x32, addf (mulf (extractStridedSlice S4x2048x32x32 ![0, 0, 0, 0] (shapeCast _ p shapeCasts_S4x2048x2048_S4x2048x32x64) slices_S4x2048x32x64_S4x2048x32x32_0_0_0_0) (spread (Host.sin angR)))
      (mulf (extractStridedSlice S4x2048x32x32 ![0, 0, 0, 32] (shapeCast _ p shapeCasts_S4x2048x2048_S4x2048x32x64) slices_S4x2048x32x64_S4x2048x32x32_0_0_0_32) (spread (Host.cos angR)))⟩]
    concatenates_S4x2048x32x32_S4x2048x32x32_S4x2048x32x64_d3) shapeCasts_S4x2048x32x64_S8192x2048

theorem ropeR_apply (p : FVec Ideal Reference9Ideal.S4x2048x2048 .f32) (i : Fin 8192) (c : Fin 2048) :
    ropeR p (ix2 i c) = turn (n := 2048) rfl (fun i c => p (ix3 (⟨i.val / 2048, by omega⟩ : Fin 4) (⟨i.val % 2048, by omega⟩ : Fin 2048) c)) i c := by
  unfold ropeR turn cosR sinR
  generalize Host.cos angR = C
  generalize Host.sin angR = S
  pointwise [spread]
  have e1 : c.val / 64 * 64 + (32 + c.val % 64) = c.val + 32 := by omega
  by_cases h : c.val % 64 < 32
  · simp only [dif_pos h, e1]
  · have e2 : c.val / 64 * 64 + (c.val % 64 - 32) = c.val - 32 := by omega
    have e3 : c.val / 64 * 64 + (32 + (c.val % 64 - 32)) = c.val := by omega
    simp only [dif_neg h, e2, e3]

/-- The number of a lane within its head. -/
def lane : IVec S1024x128 32 := remsi (iota .tc S1024x128 32 [1] Gen.iota_S1024x128_d1_w32) (broadcast S1024x128 (Scalar.select (Scalar.cmpi .eq 64#32 0#32) 1#32 64#32))

/-- Which lanes lie below the middle of their head. -/
def below : IVec S1024x128 1 :=
  cmpi .slt (select (andi (xori (cmpi .slt lane (broadcast S1024x128 0#32))
      (broadcastTo S1024x128 (broadcast S1024x128 (Scalar.cmpi .slt (Scalar.select (Scalar.cmpi .eq 64#32 0#32) 1#32 64#32) 0#32)) Gen.broadcasts_S1024x128_S1024x128))
      (cmpi .ne lane (broadcast S1024x128 0#32)))
    (addi lane (broadcast S1024x128 (Scalar.select (Scalar.cmpi .eq 64#32 0#32) 1#32 64#32))) lane) (broadcast S1024x128 32#32)

theorem below_apply (p : Fin 1024) (j : Fin 128) : below (ix2 p j) = if j.val % 64 < 32 then 1#1 else 0#1 := by
  pointwise [below, lane]
  revert j
  decide +kernel

/-- A run of two heads, turned. -/
def heads (a u v : FVec Ideal S1024x128 .f32) : FVec Ideal S1024x128 .f32 :=
  addf (mulf a u) (mulf (select below (dynamicRotate 1 96#32 none a Gen.rotates_S1024x128_d1) (dynamicRotate 1 32#32 none a Gen.rotates_S1024x128_d1)) v)

/-- A lane of it: its own entry times one table plus its partner's times the other. -/
theorem heads_apply (a u v : FVec Ideal S1024x128 .f32) (p : Fin 1024) (j k : Fin 128) (hk : k.val = if j.val % 64 < 32 then j.val + 32 else j.val - 32) :
    heads a u v (ix2 p j) = a (ix2 p j) * u (ix2 p j) + a (ix2 p k) * v (ix2 p j) := by
  pointwise [heads]
  rw [below_apply]
  refine congrArg (fun e : EReal => a (ix2 p j) * u (ix2 p j) + e * v (ix2 p j)) ?_
  by_cases h : j.val % 64 < 32
  · rw [if_pos h] at hk ⊢
    exact congrArg (fun k : Fin 128 => a (ix2 p k)) (Fin.ext (show (j.val + 128 - 96) % 128 = k.val by omega))
  · rw [if_neg h] at hk ⊢
    exact congrArg (fun k : Fin 128 => a (ix2 p k)) (Fin.ext (show (j.val + 128 - 32) % 128 = k.val by omega))

/-- A run whose entries are a projection's, with the tables' rows, is the projection's turned. -/
theorem heads_turn {n : ℕ} (hn : n % 64 = 0) (P : Fin 8192 → Fin n → EReal) (a u v : FVec Ideal S1024x128 .f32) (p : Fin 1024) (i : Fin 8192) (b : ℕ) (hb : b % 64 = 0)
    (ha : ∀ (k : Fin 128) (c : Fin n), b + k.val = c.val → a (ix2 p k) = P i c) (hu : ∀ j : Fin 128, u (ix2 p j) = tabC (ix2 i j)) (hv : ∀ j : Fin 128, v (ix2 p j) = tabS (ix2 i j))
    (j : Fin 128) (c : Fin n) (hc : b + j.val = c.val) : heads a u v (ix2 p j) = turn hn P i c := by
  have hj := j.isLt
  have hcn := c.isLt
  have ej : c.val % 64 = j.val % 64 := by omega
  unfold turn
  by_cases h : j.val % 64 < 32
  · rw [heads_apply a u v p j ⟨j.val + 32, by omega⟩ (by rw [if_pos h]), hu, hv, ha _ c hc]
    rw [dif_pos (by omega), ha _ ⟨c.val + 32, by omega⟩ (by show b + (j.val + 32) = c.val + 32; omega), tabC_low _ _ h, tabS_low _ _ h, mul_neg, ← sub_eq_add_neg]
    simp only [ej]
  · rw [heads_apply a u v p j ⟨j.val - 32, by omega⟩ (by rw [if_neg h]), hu, hv, ha _ c hc]
    rw [dif_neg (by omega), ha _ ⟨c.val - 32, by omega⟩ (by show b + (j.val - 32) = c.val - 32; omega), tabC_high _ _ h, tabS_high _ _ h, add_comm]
    simp only [ej]

/-- A store of two heads, as the block's turned entries. -/
theorem piece_turn (P : Fin 8192 → Fin 2048 → EReal) (o : ℕ) (ho : S1024x512.Slices ![0, o] S1024x128) (hle : o ≤ 384) (hd : o % 128 = 0) (a : FVec Ideal S1024x512 .f32)
    (u v : FVec Ideal S1024x128 .f32) (r : Fin 1024 → Fin 8192) (b : ℕ) (hb : b < 4)
    (ha : ∀ (p : Fin 1024) (k : Fin 512) (c : Fin 2048), b * 512 + k.val = c.val → a (ix2 p k) = P (r p) c)
    (hu : ∀ (p : Fin 1024) (j : Fin 128), u (ix2 p j) = tabC (ix2 (r p) j)) (hv : ∀ (p : Fin 1024) (j : Fin 128), v (ix2 p j) = tabS (ix2 (r p) j))
    (inb : ∀ a, (![0, o] : Fin 2 → ℕ) a + S1024x128.size a ≤ S1024x512.size a) (x : S1024x128.Idx) :
    heads (extractStridedSlice S1024x128 ![0, o] a ho) u v x = Rope.blockG (turn rfl P) r b hb ((Rect.unit (s := S1024x512) ![0, o] S1024x128.size inb).emb x) := by
  refine Rope.piece_eq (turn rfl P) o hle (heads (extractStridedSlice S1024x128 ![0, o] a ho) u v) r b hb (fun p j c hc => ?_) inb x
  refine heads_turn rfl P _ u v p (r p) (b * 512 + o) (by omega) (fun k c hc => ?_) (hu p) (hv p) j c (by omega)
  have hk := k.isLt
  have e : extractStridedSlice S1024x128 ![0, o] a ho (ix2 p k) = a (ix2 p (⟨o + k.val, by omega⟩ : Fin 512)) := by
    pointwise
  exact e.trans (ha p _ c (by show b * 512 + (o + k.val) = c.val; omega))
end Cert.Proof.Narrow
end
-- ==== Proof.IkwValue.lean ====
/-
  The index keys and the index weights over the extended reals: one block of 128 columns of the projection, its first 64
  turned as one head (the index keys, as they are and narrowed), the next 32 as they are (the weights).
-/
module

public import proofs.«01_k».proof.Proof.Gen.Kernel7Ideal.Value
public import proofs.«01_k».proof.Proof.Gen.Reference7Ideal.Run
public import proofs.«01_k».proof.Proof.Blocks
public import proofs.«01_k».proof.Proof.Wide
public import proofs.«01_k».proof.Proof.Narrow
public import Idealize.ShloMosaic.Lib.Pipeline.ValueKit
public import Idealize.ShloMosaic.Lib.Pointwise

@[expose] public section

set_option maxRecDepth 100000

noncomputable section

namespace Cert.Proof.IkwValue

open Idealize.ShloMosaic Idealize.ShloMosaic.TcCoe
open Idealize.ShloMosaic.Pipeline (Dat Cfg Window)
open Cert.Kernel7Ideal Cert.Kernel7Ideal.Gen Blocks Wide Narrow

/-- The block's product, at an index. -/
theorem dot_apply (a : Vec Ideal S1024x4096 .bf16) (u : Vec Ideal S1x4096x128 .bf16) (p : Fin 1024) (j : Fin 128) :
    k0_pay3 a u (ix2 p j) = ∑ d : Fin 4096, a (ix2 p d) * u (ix3 0 d j) := by
  pointwise [k0_pay3]

/-- The product turned, its two tables as the windows hold them. -/
theorem turned_eq (x0 : Vec Ideal S1024x4096 .bf16) (x1 : Vec Ideal S1x4096x128 .bf16) (x2 x3 : Vec Ideal S1024x128 .f32) :
    k0_pay4 x0 x1 x2 x3 = heads (k0_pay3 x0 x1) (shapeCast S1024x128 x2 shapeCasts_S1024x128_S1024x128) (shapeCast S1024x128 x3 shapeCasts_S1024x128_S1024x128) := rfl
theorem cast_apply (u : Vec Ideal S1024x128 .f32) (p : Fin 1024) (j : Fin 128) : shapeCast S1024x128 u shapeCasts_S1024x128_S1024x128 (ix2 p j) = u (ix2 p j) := by
  pointwise

/-- What a point leaves in the results' staging buffers, at an index. -/
theorem out4_apply (x0 : Vec Ideal S1024x4096 .bf16) (x1 : Vec Ideal S1x4096x128 .bf16) (x2 x3 : Vec Ideal S1024x128 .f32) (p : Fin 1024) (j : Fin 64) :
    out0_4 x0 x1 x2 x3 (ix2 p j) = k0_pay4 x0 x1 x2 x3 (ix2 p (⟨j.val, by omega⟩ : Fin 128)) := by
  unfold out0_4
  rw [View.canon_unit_zero hz2, View.ld_unit_zero (S := S1024x4096) hz2, View.ld_unit_zero (S := S1x4096x128) hz3, View.ld_unit_zero (S := S1024x128) hz2, View.ld_unit_zero (S := S1024x128) hz2]
  generalize hT : k0_pay4 x0 x1 x2 x3 = T
  unfold k0_pay5
  rw [hT]
  pointwise
theorem out5_apply (x0 : Vec Ideal S1024x4096 .bf16) (x1 : Vec Ideal S1x4096x128 .bf16) (x2 x3 : Vec Ideal S1024x128 .f32) (p : Fin 1024) (j : Fin 64) :
    out0_5 x0 x1 x2 x3 (ix2 p j) = k0_pay4 x0 x1 x2 x3 (ix2 p (⟨j.val, by omega⟩ : Fin 128)) := by
  unfold out0_5
  rw [View.canon_unit_zero hz2, View.ld_unit_zero (S := S1024x4096) hz2, View.ld_unit_zero (S := S1x4096x128) hz3, View.ld_unit_zero (S := S1024x128) hz2, View.ld_unit_zero (S := S1024x128) hz2]
  generalize k0_pay4 x0 x1 x2 x3 = T
  pointwise [k0_pay1]
theorem out6_apply (x0 : Vec Ideal S1024x4096 .bf16) (x1 : Vec Ideal S1x4096x128 .bf16) (x2 x3 : Vec Ideal S1024x128 .f32) (p : Fin 1024) (j : Fin 32) :
    out0_6 x0 x1 x2 x3 (ix2 p j) = k0_pay3 x0 x1 (ix2 p (⟨64 + j.val, by omega⟩ : Fin 128)) := by
  unfold out0_6
  rw [View.canon_unit_zero hz2, View.ld_unit_zero (S := S1024x4096) hz2, View.ld_unit_zero (S := S1x4096x128) hz3]
  generalize k0_pay3 x0 x1 = T
  pointwise [k0_pay2]

/-! ### The reference -/

/-- A table of the angles, along the sequences. -/
def spread1 (a : FVec Ideal Reference7Ideal.S2048x32 .f32) : FVec Ideal Reference7Ideal.S4x2048x1x32 .f32 :=
  broadcastInDim Reference7Ideal.S4x2048x1x32 ![0, 1, 2, 3] Reference7Ideal.Gen.bcast_S1x2048x1x32_S4x2048x1x32_0_1_2_3
    (broadcastInDim Reference7Ideal.S1x2048x1x32 ![1, 2, 3] Reference7Ideal.Gen.bcast_S2048x1x32_S1x2048x1x32_1_2_3
      (broadcastInDim Reference7Ideal.S2048x1x32 ![0, 2] Reference7Ideal.Gen.bcast_S2048x32_S2048x1x32_0_2 a))

/-- One half of the one head. -/
def half (o : ℕ) (ho : Reference7Ideal.S4x2048x1x64.Slices ![0, 0, 0, o] Reference7Ideal.S4x2048x1x32) (p : FVec Ideal Reference7Ideal.S4x2048x64 .f32) : FVec Ideal Reference7Ideal.S4x2048x1x32 .f32 :=
  extractStridedSlice Reference7Ideal.S4x2048x1x32 ![0, 0, 0, o] (broadcastInDim Reference7Ideal.S4x2048x1x64 ![0, 1, 3] Reference7Ideal.Gen.bcast_S4x2048x64_S4x2048x1x64_0_1_3 p) ho

open Reference7Ideal.Gen in
/-- The reference's turned columns, as one head. -/
def ropeR1 (p : FVec Ideal Reference7Ideal.S4x2048x64 .f32) : FVec Ideal S8192x64 .f32 :=
  shapeCast _ (shapeCast Reference7Ideal.S4x2048x64 (concatenate Reference7Ideal.S4x2048x1x64 3
    [⟨Reference7Ideal.S4x2048x1x32, subf (mulf (half 0 slices_S4x2048x1x64_S4x2048x1x32_0_0_0_0 p) (spread1 (Host.cos angR))) (mulf (half 32 slices_S4x2048x1x64_S4x2048x1x32_0_0_0_32 p) (spread1 (Host.sin angR)))⟩,
    ⟨Reference7Ideal.S4x2048x1x32, addf (mulf (half 0 slices_S4x2048x1x64_S4x2048x1x32_0_0_0_0 p) (spread1 (Host.sin angR))) (mulf (half 32 slices_S4x2048x1x64_S4x2048x1x32_0_0_0_32 p) (spread1 (Host.cos angR)))⟩]
    concatenates_S4x2048x1x32_S4x2048x1x32_S4x2048x1x64_d3) shapeCasts_S4x2048x1x64_S4x2048x64) shapeCasts_S4x2048x64_S8192x64

theorem ropeR1_apply (p : FVec Ideal Reference7Ideal.S4x2048x64 .f32) (i : Fin 8192) (c : Fin 64) :
    ropeR1 p (ix2 i c) = turn (n := 64) rfl (fun i c => p (ix3 (⟨i.val / 2048, by omega⟩ : Fin 4) (⟨i.val % 2048, by omega⟩ : Fin 2048) c)) i c := by
  have ec : c.val % 64 = c.val := by omega
  unfold ropeR1 turn cosR sinR
  generalize Host.cos angR = C
  generalize Host.sin angR = S
  pointwise [spread1, half]
  by_cases h : c.val < 32
  · simp only [ec, dif_pos h, Nat.add_comm 32]
  · have e3 : 32 + (c.val - 32) = c.val := by omega
    simp only [ec, dif_neg h, e3]

/-- The index keys: their columns of the projection, turned. -/
def keyR (x : FVec Ideal S4x2048x4096 .f32) (w : FVec Ideal S4x4096x20576 .f32) : FVec Ideal S8192x64 .f32 :=
  ropeR1 (extractStridedSlice Reference7Ideal.S4x2048x64 ![0, 0, 8192] (projR x w) Reference7Ideal.Gen.slices_S4x2048x20576_S4x2048x64_0_0_8192)

/-- The index keys' columns of the projection. -/
def keys (x : FVec Ideal S4x2048x4096 .f32) (w : FVec Ideal S4x4096x20576 .f32) (i : Fin 8192) (c : Fin 64) : EReal := proj x w i ⟨8192 + c.val, by omega⟩

theorem keyR_apply (x : FVec Ideal S4x2048x4096 .f32) (w : FVec Ideal S4x4096x20576 .f32) (i : Fin 8192) (j : Fin 64) :
    keyR x w (ix2 i j) = turn (n := 64) rfl (keys x w) i j := by
  unfold keyR
  rw [ropeR1_apply]
  refine congrArg (fun P => turn (n := 64) rfl P i j) (funext fun i => funext fun c => ?_)
  unfold keys
  pointwise
  exact projR_apply ..

/-- The index weights: their columns of the projection. -/
def weightR (x : FVec Ideal S4x2048x4096 .f32) (w : FVec Ideal S4x4096x20576 .f32) : FVec Ideal S8192x32 .f32 :=
  shapeCast _ (extractStridedSlice Reference7Ideal.S4x2048x32 ![0, 0, 8256] (projR x w) Reference7Ideal.Gen.slices_S4x2048x20576_S4x2048x32_0_0_8256) Reference7Ideal.Gen.shapeCasts_S4x2048x32_S8192x32

theorem weightR_apply (x : FVec Ideal S4x2048x4096 .f32) (w : FVec Ideal S4x4096x20576 .f32) (i : Fin 8192) (j : Fin 32) :
    weightR x w (ix2 i j) = proj x w i ⟨8256 + j.val, by omega⟩ := by
  pointwise [weightR]
  exact projR_apply ..

theorem res51_eq (m : (ℓ : Loc Reference7Ideal.nD Reference7Ideal.τ Reference7Ideal.sig) → Buf (Elt Ideal) ℓ) (c : Dev Reference7Ideal.nD) :
    Reference7Ideal.Value.res_main_v51 m c = keyR (m ((c.tc : Thread Reference7Ideal.nD Reference7Ideal.τ).loc Reference7Ideal.main_arg0)) (m ((c.tc : Thread Reference7Ideal.nD Reference7Ideal.τ).loc Reference7Ideal.main_arg1)) := by
  unfold Reference7Ideal.Value.res_main_v51
  rfl
theorem res52_eq (m : (ℓ : Loc Reference7Ideal.nD Reference7Ideal.τ Reference7Ideal.sig) → Buf (Elt Ideal) ℓ) (c : Dev Reference7Ideal.nD) :
    Reference7Ideal.Value.res_main_v52 m c = truncf .bf16 (keyR (m ((c.tc : Thread Reference7Ideal.nD Reference7Ideal.τ).loc Reference7Ideal.main_arg0)) (m ((c.tc : Thread Reference7Ideal.nD Reference7Ideal.τ).loc Reference7Ideal.main_arg1)))
      Kernel7Ideal.Gen.bitsLt_bf16_f32 := by
  unfold Reference7Ideal.Value.res_main_v52
  rfl

/-! ### The kernel's blocks -/

variable (m : (ℓ : Loc nD τ Kernel7Ideal.sig) → Buf (Elt Ideal) ℓ) (c : Dev nD)

/-- The arguments at launch. -/
abbrev argX : FVec Ideal S4x2048x4096 .f32 := m ((c : Thread nD τ).loc main_arg0)
abbrev argW : FVec Ideal S4x4096x20576 .f32 := m ((c : Thread nD τ).loc main_arg1)

theorem V1_eq : V m c main_v1 = truncf .bf16 (shapeCast S8192x4096 (argX m c) shapeCasts_S4x2048x4096_S8192x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

set_option maxHeartbeats 4000000 in
theorem V60_eq : V m c main_v60 = tabC := by
  show StableHlo.after hostOps0 (fun b => m (c, b)) (Proc.devRef .tc main_v60) = _
  unfold hostOps0
  after_results <;> rfl
set_option maxHeartbeats 4000000 in
theorem V65_eq : V m c main_v65 = tabS := by
  show StableHlo.after hostOps0 (fun b => m (c, b)) (Proc.devRef .tc main_v65) = _
  unfold hostOps0
  after_results <;> rfl
/-- The windows' blocks at a point. -/
theorem index0 : ∀ t : Fin cfg0.N, (cfg0.win 0).index t = ![t.val, 0] := by decide +kernel
theorem index1 : ∀ t : Fin cfg0.N, (cfg0.win 1).index t = ![3, 0, 160] := by decide +kernel
theorem index2 : ∀ t : Fin cfg0.N, (cfg0.win 2).index t = ![t.val, 0] := by decide +kernel
theorem index3 : ∀ t : Fin cfg0.N, (cfg0.win 3).index t = ![t.val, 0] := by decide +kernel
theorem index4 : ∀ t : Fin cfg0.N, (cfg0.win 4).index t = ![t.val, 0] := by decide +kernel
theorem index5 : ∀ t : Fin cfg0.N, (cfg0.win 5).index t = ![t.val, 0] := by decide +kernel
theorem index6 : ∀ t : Fin cfg0.N, (cfg0.win 6).index t = ![t.val, 0] := by decide +kernel

/-- The rows a point reads. -/
theorem x_eq (t : Fin cfg0.N) (p : Fin 1024) (d : Fin 4096) (i : Fin 8192) (hi : t.val * 1024 + p.val = i.val) : iblk m c 0 t (ix2 p d) = row (argX m c) i d := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![t.val, 0] : Fin 2 → ℕ) a * (![1024, 4096] : Fin 2 → ℕ) a + ((ix2 p d) a : ℕ) :=
      emb_val (cfg0.win 0) t rfl (index0 t) (ix2 p d) a
    exact h.trans (coord2 _ _ p d i d hi (zero_row _ d) a)
  rw [e, V1_eq]
  exact flat_apply _ _ _ i d

/-- The weight's columns a point reads. -/
theorem w_eq (t : Fin cfg0.N) (d : Fin 4096) (j : Fin 128) (k : Fin 20576) (hlt : j.val < 96) (hk : 8192 + j.val = k.val) :
    iblk m c 1 t (ix3 (0 : Fin 1) d j) = argW m c (ix3 (3 : Fin 4) d k) := by
  have e : iblk m c 1 t (ix3 (0 : Fin 1) d j) = V m c main_v7 (ix3 (3 : Fin 4) d (⟨160 * 128 + j.val, by omega⟩ : Fin 20608)) := by
    refine congrArg (V m c main_v7) (funext fun (a : Fin 3) => Fin.ext ?_)
    have h : (((cfg0.win 1).rect t).emb (ix3 (0 : Fin 1) d j) a : ℕ) = (![3, 0, 160] : Fin 3 → ℕ) a * (![1, 4096, 128] : Fin 3 → ℕ) a + ((ix3 (0 : Fin 1) d j) a : ℕ) :=
      emb_val (cfg0.win 1) t rfl (index1 t) (ix3 (0 : Fin 1) d j) a
    exact h.trans (coord3 _ _ _ _ d j (3 : Fin 4) d (⟨160 * 128 + j.val, by omega⟩ : Fin 20608) rfl (zero_row _ d) rfl a)
  rw [e, V7_eq]
  exact last_apply _ _ _ _ _ _ _ 3 d _ k (by show 20480 ≤ 160 * 128 + j.val; omega) (by show 160 * 128 + j.val < 20576; omega) (by show k.val = 8192 + (160 * 128 + j.val - 20480); omega)

/-- The product's entries at a point. -/
theorem dot_eq (t : Fin cfg0.N) (p : Fin 1024) (k : Fin 128) (i : Fin 8192) (l : Fin 20576) (hi : t.val * 1024 + p.val = i.val) (hlt : k.val < 96) (hl : 8192 + k.val = l.val) :
    k0_pay3 (iblk m c 0 t) (iblk m c 1 t) (ix2 p k) = proj (argX m c) (argW m c) i l := by
  rw [dot_apply]
  exact Finset.sum_congr rfl fun d _ => congrArg₂ (fun a b : EReal => a * b) (x_eq m c t p d i hi) (w_eq m c t d k l hlt hl)

/-- The tables' rows a point reads. -/
theorem cos_eq (t : Fin cfg0.N) (p : Fin 1024) (j : Fin 128) (i : Fin 8192) (hi : t.val * 1024 + p.val = i.val) : iblk m c 2 t (ix2 p j) = tabC (ix2 i j) := by
  have e : iblk m c 2 t (ix2 p j) = V m c main_v60 (ix2 i j) := by
    refine congrArg (V m c main_v60) (funext fun (a : Fin 2) => Fin.ext ?_)
    have h : (((cfg0.win 2).rect t).emb (ix2 p j) a : ℕ) = (![t.val, 0] : Fin 2 → ℕ) a * (![1024, 128] : Fin 2 → ℕ) a + ((ix2 p j) a : ℕ) :=
      emb_val (cfg0.win 2) t rfl (index2 t) (ix2 p j) a
    exact h.trans (coord2 _ _ p j i j hi (zero_row _ j) a)
  rw [e, V60_eq]
theorem sin_eq (t : Fin cfg0.N) (p : Fin 1024) (j : Fin 128) (i : Fin 8192) (hi : t.val * 1024 + p.val = i.val) : iblk m c 3 t (ix2 p j) = tabS (ix2 i j) := by
  have e : iblk m c 3 t (ix2 p j) = V m c main_v65 (ix2 i j) := by
    refine congrArg (V m c main_v65) (funext fun (a : Fin 2) => Fin.ext ?_)
    have h : (((cfg0.win 3).rect t).emb (ix2 p j) a : ℕ) = (![t.val, 0] : Fin 2 → ℕ) a * (![1024, 128] : Fin 2 → ℕ) a + ((ix2 p j) a : ℕ) :=
      emb_val (cfg0.win 3) t rfl (index3 t) (ix2 p j) a
    exact h.trans (coord2 _ _ p j i j hi (zero_row _ j) a)
  rw [e, V65_eq]

/-- The grid's points. -/
theorem N_eq : cfg0.N = 8 := by
  show grid0.N = 8
  decide

/-- What a point leaves is the reference's block. -/
theorem turned_apply (t : Fin cfg0.N) (p : Fin 1024) (j : Fin 64) (i : Fin 8192) (hi : t.val * 1024 + p.val = i.val) :
    k0_pay4 (iblk m c 0 t) (iblk m c 1 t) (iblk m c 2 t) (iblk m c 3 t) (ix2 p (⟨j.val, by omega⟩ : Fin 128)) = keyR (argX m c) (argW m c) (ix2 i j) := by
  rw [keyR_apply, turned_eq]
  exact heads_turn (n := 64) rfl (keys (argX m c) (argW m c)) _ _ _ p i 0 rfl
    (fun k l hl => dot_eq m c t p k i ⟨8192 + l.val, by omega⟩ hi (by omega) (by show 8192 + k.val = 8192 + l.val; omega))
    (fun k => (cast_apply _ p k).trans (cos_eq m c t p k i hi)) (fun k => (cast_apply _ p k).trans (sin_eq m c t p k i hi)) _ j (Nat.zero_add _)
theorem weight_apply (t : Fin cfg0.N) (p : Fin 1024) (j : Fin 32) (i : Fin 8192) (hi : t.val * 1024 + p.val = i.val) :
    k0_pay3 (iblk m c 0 t) (iblk m c 1 t) (ix2 p (⟨64 + j.val, by omega⟩ : Fin 128)) = weightR (argX m c) (argW m c) (ix2 i j) := by
  rw [weightR_apply]
  exact dot_eq m c t p _ i ⟨8256 + j.val, by omega⟩ hi (by show 64 + j.val < 96; omega) (by show 8192 + (64 + j.val) = 8256 + j.val; omega)

/-- THE RESULTS: each array the kernel leaves is the reference's. -/
theorem arr4_eq : (dats m 0 c).arrAt 4 cfg0.N = keyR (argX m c) (argW m c) := by
  have hN := N_eq
  refine (dats m 0 c).arrAt_eq_of_emb 4 _ (fun t hf y => ?_) (fun i => ?_)
  · have htl : t.val < 8 := Nat.lt_of_lt_of_eq t.isLt hN
    have hy0 : (y (0 : Fin 2)).val < 1024 := (y (0 : Fin 2)).isLt
    have hy1 : (y (1 : Fin 2)).val < 64 := (y (1 : Fin 2)).isLt
    refine (cast_eq _ _).trans ((congrFun (after0_4 m c t) _).trans ?_)
    have ey : (cfg0.win 4).xinj (cfg0.grid.coords t) y = ix2 (⟨(y (0 : Fin 2)).val, hy0⟩ : Fin 1024) (⟨(y (1 : Fin 2)).val, hy1⟩ : Fin 64) := funext fun (a : Fin 2) => by
      match a with
      | 0 => rfl
      | 1 => rfl
    refine (congrArg (out0_4 (iblk m c 0 t) (iblk m c 1 t) (iblk m c 2 t) (iblk m c 3 t)) ey).trans ((out4_apply _ _ _ _ _ _).trans
      ((turned_apply m c t _ _ ⟨t.val * 1024 + (y (0 : Fin 2)).val, by omega⟩ rfl).trans ?_))
    refine congrArg (keyR (argX m c) (argW m c)) (funext fun (a : Fin 2) => Fin.ext ?_)
    have h : (((cfg0.win 4).rect t).emb y a : ℕ) = (![t.val, 0] : Fin 2 → ℕ) a * (![1024, 64] : Fin 2 → ℕ) a + (y a : ℕ) := emb_val (cfg0.win 4) t rfl (index4 t) y a
    refine Eq.trans ?_ h.symm
    match a with
    | 0 => rfl
    | 1 => exact (Nat.zero_add _).symm
  · have hi0 : (i (0 : Fin 2)).val < 8192 := (i (0 : Fin 2)).isLt
    have hi1 : (i (1 : Fin 2)).val < 64 := (i (1 : Fin 2)).isLt
    have ht : (i (0 : Fin 2)).val / 1024 < cfg0.N := by omega
    refine ⟨⟨_, ht⟩, flush0_4 _, ?_⟩
    refine (Window.emb_mem_blk_iff (cfg0.win 4) ⟨_, ht⟩ i).2 fun (a : Fin 2) => ?_
    rw [index4]
    match a with
    | 0 =>
      show (i (0 : Fin 2)).val / 1024 * 1024 ≤ (i (0 : Fin 2)).val ∧ (i (0 : Fin 2)).val < (i (0 : Fin 2)).val / 1024 * 1024 + 1024
      omega
    | 1 =>
      show 0 * 64 ≤ (i (1 : Fin 2)).val ∧ (i (1 : Fin 2)).val < 0 * 64 + 64
      omega

theorem arr5_eq : (dats m 0 c).arrAt 5 cfg0.N = truncf .bf16 (keyR (argX m c) (argW m c)) bitsLt_bf16_f32 := by
  have hN := N_eq
  refine (dats m 0 c).arrAt_eq_of_emb 5 _ (fun t hf y => ?_) (fun i => ?_)
  · have htl : t.val < 8 := Nat.lt_of_lt_of_eq t.isLt hN
    have hy0 : (y (0 : Fin 2)).val < 1024 := (y (0 : Fin 2)).isLt
    have hy1 : (y (1 : Fin 2)).val < 64 := (y (1 : Fin 2)).isLt
    refine (cast_eq _ _).trans ((congrFun (after0_5 m c t) _).trans ?_)
    have ey : (cfg0.win 5).xinj (cfg0.grid.coords t) y = ix2 (⟨(y (0 : Fin 2)).val, hy0⟩ : Fin 1024) (⟨(y (1 : Fin 2)).val, hy1⟩ : Fin 64) := funext fun (a : Fin 2) => by
      match a with
      | 0 => rfl
      | 1 => rfl
    refine (congrArg (out0_5 (iblk m c 0 t) (iblk m c 1 t) (iblk m c 2 t) (iblk m c 3 t)) ey).trans ((out5_apply _ _ _ _ _ _).trans
      ((turned_apply m c t _ _ ⟨t.val * 1024 + (y (0 : Fin 2)).val, by omega⟩ rfl).trans ?_))
    refine congrArg (keyR (argX m c) (argW m c)) (funext fun (a : Fin 2) => Fin.ext ?_)
    have h : (((cfg0.win 5).rect t).emb y a : ℕ) = (![t.val, 0] : Fin 2 → ℕ) a * (![1024, 64] : Fin 2 → ℕ) a + (y a : ℕ) := emb_val (cfg0.win 5) t rfl (index5 t) y a
    refine Eq.trans ?_ h.symm
    match a with
    | 0 => rfl
    | 1 => exact (Nat.zero_add _).symm
  · have hi0 : (i (0 : Fin 2)).val < 8192 := (i (0 : Fin 2)).isLt
    have hi1 : (i (1 : Fin 2)).val < 64 := (i (1 : Fin 2)).isLt
    have ht : (i (0 : Fin 2)).val / 1024 < cfg0.N := by omega
    refine ⟨⟨_, ht⟩, flush0_5 _, ?_⟩
    refine (Window.emb_mem_blk_iff (cfg0.win 5) ⟨_, ht⟩ i).2 fun (a : Fin 2) => ?_
    rw [index5]
    match a with
    | 0 =>
      show (i (0 : Fin 2)).val / 1024 * 1024 ≤ (i (0 : Fin 2)).val ∧ (i (0 : Fin 2)).val < (i (0 : Fin 2)).val / 1024 * 1024 + 1024
      omega
    | 1 =>
      show 0 * 64 ≤ (i (1 : Fin 2)).val ∧ (i (1 : Fin 2)).val < 0 * 64 + 64
      omega

theorem arr6_eq : (dats m 0 c).arrAt 6 cfg0.N = weightR (argX m c) (argW m c) := by
  have hN := N_eq
  refine (dats m 0 c).arrAt_eq_of_emb 6 _ (fun t hf y => ?_) (fun i => ?_)
  · have htl : t.val < 8 := Nat.lt_of_lt_of_eq t.isLt hN
    have hy0 : (y (0 : Fin 2)).val < 1024 := (y (0 : Fin 2)).isLt
    have hy1 : (y (1 : Fin 2)).val < 32 := (y (1 : Fin 2)).isLt
    refine (cast_eq _ _).trans ((congrFun (after0_6 m c t) _).trans ?_)
    have ey : (cfg0.win 6).xinj (cfg0.grid.coords t) y = ix2 (⟨(y (0 : Fin 2)).val, hy0⟩ : Fin 1024) (⟨(y (1 : Fin 2)).val, hy1⟩ : Fin 32) := funext fun (a : Fin 2) => by
      match a with
      | 0 => rfl
      | 1 => rfl
    refine (congrArg (out0_6 (iblk m c 0 t) (iblk m c 1 t) (iblk m c 2 t) (iblk m c 3 t)) ey).trans ((out6_apply _ _ _ _ _ _).trans
      ((weight_apply m c t _ _ ⟨t.val * 1024 + (y (0 : Fin 2)).val, by omega⟩ rfl).trans ?_))
    refine congrArg (weightR (argX m c) (argW m c)) (funext fun (a : Fin 2) => Fin.ext ?_)
    have h : (((cfg0.win 6).rect t).emb y a : ℕ) = (![t.val, 0] : Fin 2 → ℕ) a * (![1024, 32] : Fin 2 → ℕ) a + (y a : ℕ) := emb_val (cfg0.win 6) t rfl (index6 t) y a
    refine Eq.trans ?_ h.symm
    match a with
    | 0 => rfl
    | 1 => exact (Nat.zero_add _).symm
  · have hi0 : (i (0 : Fin 2)).val < 8192 := (i (0 : Fin 2)).isLt
    have hi1 : (i (1 : Fin 2)).val < 32 := (i (1 : Fin 2)).isLt
    have ht : (i (0 : Fin 2)).val / 1024 < cfg0.N := by omega
    refine ⟨⟨_, ht⟩, flush0_6 _, ?_⟩
    refine (Window.emb_mem_blk_iff (cfg0.win 6) ⟨_, ht⟩ i).2 fun (a : Fin 2) => ?_
    rw [index6]
    match a with
    | 0 =>
      show (i (0 : Fin 2)).val / 1024 * 1024 ≤ (i (0 : Fin 2)).val ∧ (i (0 : Fin 2)).val < (i (0 : Fin 2)).val / 1024 * 1024 + 1024
      omega
    | 1 =>
      show 0 * 32 ≤ (i (1 : Fin 2)).val ∧ (i (1 : Fin 2)).val < 0 * 32 + 32
      omega

end Cert.Proof.IkwValue
end
-- ==== Proof.IqValue.lean ====
/-
  The index queries' projection over the extended reals: the kernel turns each run of two heads of its product by the two tables its host
  code made, the reference turns the heads' pairs, and the two results are one.
-/
module

public import proofs.«01_k».proof.Proof.Gen.Kernel9Ideal.Value
public import proofs.«01_k».proof.Proof.Gen.Reference9Ideal.Run
public import proofs.«01_k».proof.Proof.Blocks
public import proofs.«01_k».proof.Proof.Wide
public import proofs.«01_k».proof.Proof.Narrow
public import Idealize.ShloMosaic.Lib.Pipeline.ValueKit
public import Idealize.ShloMosaic.Lib.Pointwise

@[expose] public section

set_option maxRecDepth 100000

noncomputable section

namespace Cert.Proof.IqValue

open Idealize.ShloMosaic Idealize.ShloMosaic.TcCoe
open Idealize.ShloMosaic.Pipeline (Dat Cfg Window)
open Cert.Kernel9Ideal Cert.Kernel9Ideal.Gen Blocks Wide Narrow

/-- The block's product, at an index. -/
theorem dot_apply (a : Vec Ideal S1024x4096 .bf16) (u : Vec Ideal S1x4096x512 .bf16) (p : Fin 1024) (j : Fin 512) :
    k0_pay1 a u (ix2 p j) = ∑ d : Fin 4096, a (ix2 p d) * u (ix3 0 d j) := by
  pointwise [k0_pay1]

/-- The stores: each a run of two heads of the product, turned. -/
theorem run384 (a : FVec Ideal S1024x512 .f32) (u v : FVec Ideal S1024x128 .f32) :
    k0_pay13 a u v = heads (extractStridedSlice S1024x128 ![0, 384] a slices_S1024x512_o0_384_S1024x128) u v := rfl
theorem run256 (a : FVec Ideal S1024x512 .f32) (u v : FVec Ideal S1024x128 .f32) :
    k0_pay12 v (k0_pay6 a) (k0_pay7 a u) 64#32 k0_pay8 k0_pay9 k0_pay10 k0_pay11 = heads (extractStridedSlice S1024x128 ![0, 256] a slices_S1024x512_o0_256_S1024x128) u v := rfl
theorem run128 (a : FVec Ideal S1024x512 .f32) (u v : FVec Ideal S1024x128 .f32) :
    k0_pay5 a u v = heads (extractStridedSlice S1024x128 ![0, 128] a slices_S1024x512_o0_128_S1024x128) u v := rfl
theorem run0 (x0 : Vec Ideal S1024x4096 .bf16) (x1 : Vec Ideal S1x4096x512 .bf16) (x2 x3 : Vec Ideal S1024x128 .f32) :
    k0_pay4 x0 x1 x2 x3 = heads (extractStridedSlice S1024x128 ![0, 0] (k0_pay1 x0 x1) slices_S1024x512_o0_0_S1024x128) (k0_pay2 x2) (k0_pay3 x3) := rfl

section
variable (c : Dev nD) (i : grid0.Coords) (a2 : Memref Kernel9Ideal.sig .tc .vmem S1024x4096 .bf16) (h2 : a2.IsWhole) (a3 : Memref Kernel9Ideal.sig .tc .vmem S1x4096x512 .bf16) (h3 : a3.IsWhole)
    (a4 : Memref Kernel9Ideal.sig .tc .vmem S1024x128 .f32) (h4 : a4.IsWhole) (a5 : Memref Kernel9Ideal.sig .tc .vmem S1024x128 .f32) (h5 : a5.IsWhole)
    (a6 : Memref Kernel9Ideal.sig .tc .vmem S1024x512 .bf16) (h6 : a6.IsWhole)
    (x0 : Vec Ideal S1024x4096 .bf16) (x1 : Vec Ideal S1x4096x512 .bf16) (x2 x3 : Vec Ideal S1024x128 .f32)
    (P : Fin 8192 → Fin 2048 → EReal) (r : Fin 1024 → Fin 8192) (b : ℕ) (hb : b < 4)
    (ha : ∀ (p : Fin 1024) (k : Fin 512) (c : Fin 2048), b * 512 + k.val = c.val → k0_pay1 x0 x1 (ix2 p k) = P (r p) c)
    (hu : ∀ (p : Fin 1024) (j : Fin 128), k0_pay2 x2 (ix2 p j) = tabC (ix2 (r p) j)) (hv : ∀ (p : Fin 1024) (j : Fin 128), k0_pay3 x3 (ix2 p j) = tabS (ix2 (r p) j))
include ha hu hv

/-- What a point leaves in the result's staging buffer: the block's turned entries. -/
theorem out4_eq (y : S1024x512.Idx) : out0_A_4 c i a2 h2 a3 h3 a4 h4 a5 h5 a6 h6 x0 x1 x2 x3 y = Rope.blockG (turn rfl P) r b hb y := by
  unfold out0_A_4
  rw [View.read_writes_junk_eq_canon]
  refine View.canon_apply_of_pieces (Rope.blockG (turn rfl P) r b hb) _ ?_ y (cover0_A_4 c i a2 h2 a3 h3 a4 h4 a5 h5 a6 h6 x0 x1 x2 x3 y)
  unfold kernelRun0_A
  dsimp only
  sl_unfold_words
  simp only [View.readAt_eq_ld, h2.read_unread, h3.read_unread, h4.read_unread, h5.read_unread, View.ld_unit_zero (S := S1024x4096) hz2, View.ld_unit_zero (S := S1x4096x512) hz3,
    View.ld_unit_zero (S := S1024x128) hz2]
  simp only [List.forall_mem_cons, List.not_mem_nil, false_imp_iff, implies_true, and_true]
  exact ⟨fun x => (congrFun (run384 _ _ _) x).trans (piece_turn P 384 slices_S1024x512_o0_384_S1024x128 (by omega) rfl _ _ _ r b hb ha hu hv _ x),
    fun x => (congrFun (run256 _ _ _) x).trans (piece_turn P 256 slices_S1024x512_o0_256_S1024x128 (by omega) rfl _ _ _ r b hb ha hu hv _ x),
    fun x => (congrFun (run128 _ _ _) x).trans (piece_turn P 128 slices_S1024x512_o0_128_S1024x128 (by omega) rfl _ _ _ r b hb ha hu hv _ x),
    fun x => (congrFun (run0 _ _ _ _) x).trans (piece_turn P 0 slices_S1024x512_o0_0_S1024x128 (by omega) rfl _ _ _ r b hb ha hu hv _ x)⟩
end

/-! ### The reference -/

open Reference9Ideal.Gen in
/-- The index queries: their columns of the projection, turned. -/
def outR (x : FVec Ideal S4x2048x4096 .f32) (w : FVec Ideal S4x4096x20576 .f32) : FVec Ideal S8192x2048 .f32 :=
  ropeR (extractStridedSlice Reference9Ideal.S4x2048x2048 ![0, 0, 6144] (projR x w) slices_S4x2048x20576_S4x2048x2048_0_0_6144)

/-- The index queries' columns of the projection. -/
def queries (x : FVec Ideal S4x2048x4096 .f32) (w : FVec Ideal S4x4096x20576 .f32) (i : Fin 8192) (c : Fin 2048) : EReal := proj x w i ⟨6144 + c.val, by omega⟩

theorem outR_apply (x : FVec Ideal S4x2048x4096 .f32) (w : FVec Ideal S4x4096x20576 .f32) (i : Fin 8192) (j : Fin 2048) :
    outR x w (ix2 i j) = turn rfl (queries x w) i j := by
  unfold outR
  rw [ropeR_apply]
  refine congrArg (fun P => turn rfl P i j) (funext fun i => funext fun c => ?_)
  unfold queries
  pointwise
  exact projR_apply ..

theorem res51_eq (m : (ℓ : Loc Reference9Ideal.nD Reference9Ideal.τ Reference9Ideal.sig) → Buf (Elt Ideal) ℓ) (c : Dev Reference9Ideal.nD) :
    Reference9Ideal.Value.res_main_v51 m c = truncf .bf16 (outR (m ((c.tc : Thread Reference9Ideal.nD Reference9Ideal.τ).loc Reference9Ideal.main_arg0)) (m ((c.tc : Thread Reference9Ideal.nD Reference9Ideal.τ).loc Reference9Ideal.main_arg1))) Kernel9Ideal.Gen.bitsLt_bf16_f32 := by
  unfold Reference9Ideal.Value.res_main_v51
  rfl

/-! ### The kernel's blocks -/

variable (m : (ℓ : Loc nD τ Kernel9Ideal.sig) → Buf (Elt Ideal) ℓ) (c : Dev nD)

/-- The arguments at launch. -/
abbrev argX : FVec Ideal S4x2048x4096 .f32 := m ((c : Thread nD τ).loc main_arg0)
abbrev argW : FVec Ideal S4x4096x20576 .f32 := m ((c : Thread nD τ).loc main_arg1)

theorem V1_eq : V m c main_v1 = truncf .bf16 (shapeCast S8192x4096 (argX m c) shapeCasts_S4x2048x4096_S8192x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

set_option maxHeartbeats 4000000 in
theorem V60_eq : V m c main_v60 = tabC := by
  show StableHlo.after hostOps0 (fun b => m (c, b)) (Proc.devRef .tc main_v60) = _
  unfold hostOps0
  after_results <;> rfl
set_option maxHeartbeats 4000000 in
theorem V65_eq : V m c main_v65 = tabS := by
  show StableHlo.after hostOps0 (fun b => m (c, b)) (Proc.devRef .tc main_v65) = _
  unfold hostOps0
  after_results <;> rfl
/-- The windows' blocks at a point. -/
theorem index0 : ∀ t : Fin cfg0.N, (cfg0.win 0).index t = ![t.val / 4, 0] := by decide +kernel
theorem index1 : ∀ t : Fin cfg0.N, (cfg0.win 1).index t = ![3, 0, 12 + t.val % 4] := by decide +kernel
theorem index2 : ∀ t : Fin cfg0.N, (cfg0.win 2).index t = ![t.val / 4, 0] := by decide +kernel
theorem index3 : ∀ t : Fin cfg0.N, (cfg0.win 3).index t = ![t.val / 4, 0] := by decide +kernel
theorem index4 : ∀ t : Fin cfg0.N, (cfg0.win 4).index t = ![t.val / 4, t.val % 4] := by decide +kernel

/-- The rows a point reads. -/
theorem x_eq (t : Fin cfg0.N) (p : Fin 1024) (d : Fin 4096) (i : Fin 8192) (hi : t.val / 4 * 1024 + p.val = i.val) : iblk m c 0 t (ix2 p d) = row (argX m c) i d := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![t.val / 4, 0] : Fin 2 → ℕ) a * (![1024, 4096] : Fin 2 → ℕ) a + ((ix2 p d) a : ℕ) :=
      emb_val (cfg0.win 0) t rfl (index0 t) (ix2 p d) a
    exact h.trans (coord2 _ _ p d i d hi (zero_row _ d) a)
  rw [e, V1_eq]
  exact flat_apply _ _ _ i d

/-- The weight's columns a point reads. -/
theorem w_eq (t : Fin cfg0.N) (d : Fin 4096) (j : Fin 512) (k : Fin 20576) (hk : 6144 + (t.val % 4 * 512 + j.val) = k.val) :
    X0_1 m c t (ix3 (0 : Fin 1) d j) = argW m c (ix3 (3 : Fin 4) d k) := by
  have hj := j.isLt
  have e : X0_1 m c t (ix3 (0 : Fin 1) d j) = V m c main_v7 (ix3 (3 : Fin 4) d (⟨(12 + t.val % 4) * 512 + j.val, by omega⟩ : Fin 20608)) := by
    refine (dif_pos (moved0_1 t _)).trans (congrArg (V m c main_v7) (funext fun (a : Fin 3) => Fin.ext ?_))
    have h : (((cfg0.win 1).rect t).emb (fun a => ⟨((ix3 (0 : Fin 1) d j) a).val, ((cfg0.win 1).moved_iff _ _).mp (moved0_1 t _) a⟩) a : ℕ)
        = (![3, 0, 12 + t.val % 4] : Fin 3 → ℕ) a * (![1, 4096, 512] : Fin 3 → ℕ) a + ((ix3 (0 : Fin 1) d j) a : ℕ) :=
      emb_val (cfg0.win 1) t rfl (index1 t) _ a
    exact h.trans (coord3 _ _ _ _ d j (3 : Fin 4) d (⟨(12 + t.val % 4) * 512 + j.val, by omega⟩ : Fin 20608) rfl (zero_row _ d) rfl a)
  rw [e, V7_eq]
  exact low_apply _ _ _ _ _ _ _ 3 d _ k (by show (12 + t.val % 4) * 512 + j.val < 8192; omega) (by show k.val = (12 + t.val % 4) * 512 + j.val; omega)

/-- The tables' rows a point reads. -/
theorem cos_eq (t : Fin cfg0.N) (p : Fin 1024) (j : Fin 128) (i : Fin 8192) (hi : t.val / 4 * 1024 + p.val = i.val) : iblk m c 2 t (ix2 p j) = tabC (ix2 i j) := by
  have e : iblk m c 2 t (ix2 p j) = V m c main_v60 (ix2 i j) := by
    refine congrArg (V m c main_v60) (funext fun (a : Fin 2) => Fin.ext ?_)
    have h : (((cfg0.win 2).rect t).emb (ix2 p j) a : ℕ) = (![t.val / 4, 0] : Fin 2 → ℕ) a * (![1024, 128] : Fin 2 → ℕ) a + ((ix2 p j) a : ℕ) :=
      emb_val (cfg0.win 2) t rfl (index2 t) (ix2 p j) a
    exact h.trans (coord2 _ _ p j i j hi (zero_row _ j) a)
  rw [e, V60_eq]
theorem sin_eq (t : Fin cfg0.N) (p : Fin 1024) (j : Fin 128) (i : Fin 8192) (hi : t.val / 4 * 1024 + p.val = i.val) : iblk m c 3 t (ix2 p j) = tabS (ix2 i j) := by
  have e : iblk m c 3 t (ix2 p j) = V m c main_v65 (ix2 i j) := by
    refine congrArg (V m c main_v65) (funext fun (a : Fin 2) => Fin.ext ?_)
    have h : (((cfg0.win 3).rect t).emb (ix2 p j) a : ℕ) = (![t.val / 4, 0] : Fin 2 → ℕ) a * (![1024, 128] : Fin 2 → ℕ) a + ((ix2 p j) a : ℕ) :=
      emb_val (cfg0.win 3) t rfl (index3 t) (ix2 p j) a
    exact h.trans (coord2 _ _ p j i j hi (zero_row _ j) a)
  rw [e, V65_eq]

theorem pay2_apply (u : Vec Ideal S1024x128 .f32) (p : Fin 1024) (j : Fin 128) : k0_pay2 u (ix2 p j) = u (ix2 p j) := by
  pointwise [k0_pay2]
theorem pay3_apply (u : Vec Ideal S1024x128 .f32) (p : Fin 1024) (j : Fin 128) : k0_pay3 u (ix2 p j) = u (ix2 p j) := by
  pointwise [k0_pay3]

/-- The product's entries at a point. -/
theorem dot_eq (t : Fin cfg0.N) (p : Fin 1024) (k : Fin 512) (i : Fin 8192) (l : Fin 2048) (hi : t.val / 4 * 1024 + p.val = i.val) (hl : t.val % 4 * 512 + k.val = l.val) :
    k0_pay1 (iblk m c 0 t) (X0_1 m c t) (ix2 p k) = queries (argX m c) (argW m c) i l := by
  rw [dot_apply]
  exact Finset.sum_congr rfl fun d _ => congrArg₂ (fun a b : EReal => a * b) (x_eq m c t p d i hi)
    (w_eq m c t d k ⟨6144 + l.val, by omega⟩ (by show _ = 6144 + l.val; rw [hl]))

/-- The grid's points. -/
theorem N_eq : cfg0.N = 32 := by
  show grid0.N = 32
  decide

/-- The row of the arrays a point's row is. -/
def rowAt (t : Fin cfg0.N) (p : Fin 1024) : Fin 8192 := ⟨t.val / 4 * 1024 + p.val, by
  have htl : t.val < 32 := Nat.lt_of_lt_of_eq t.isLt N_eq
  omega⟩

/-- What a point leaves is the reference's block. -/
theorem blockG_eq (t : Fin cfg0.N) (hb : t.val % 4 < 4) (p : Fin 1024) (j : Fin 512) (i : Fin 8192) (k : Fin 2048) (hi : t.val / 4 * 1024 + p.val = i.val) (hk : t.val % 4 * 512 + j.val = k.val) :
    Rope.blockG (turn rfl (queries (argX m c) (argW m c))) (rowAt t) (t.val % 4) hb (ix2 p j) = outR (argX m c) (argW m c) (ix2 i k) := by
  rw [outR_apply]
  exact congrArg₂ (turn rfl (queries (argX m c) (argW m c))) (Fin.ext hi) (Fin.ext hk)
theorem point4 (t : Fin cfg0.N) (p : Fin 1024) (j : Fin 512) (i : Fin 8192) (k : Fin 2048) (hi : t.val / 4 * 1024 + p.val = i.val) (hk : t.val % 4 * 512 + j.val = k.val) :
    outsAt0 m c t (ix2 p j) = outR (argX m c) (argW m c) (ix2 i k) := by
  unfold outsAt0
  refine (out4_eq _ _ _ _ _ _ _ _ _ _ _ _ _ _ _ _ (queries (argX m c) (argW m c)) (rowAt t) (t.val % 4) (Nat.mod_lt _ (by decide)) (fun p k l hl => dot_eq m c t p k _ l rfl hl)
    (fun p j => (pay2_apply _ p j).trans (cos_eq m c t p j _ rfl)) (fun p j => (pay3_apply _ p j).trans (sin_eq m c t p j _ rfl)) _).trans (blockG_eq m c t _ p j i k hi hk)
/-- THE RESULT: the array the kernel leaves is the reference's. -/
theorem arr4_eq : (dats m 0 c).arrAt 4 cfg0.N = truncf .bf16 (outR (argX m c) (argW m c)) bitsLt_bf16_f32 := by
  have hN := N_eq
  refine (dats m 0 c).arrAt_eq_of_emb 4 _ (fun t hf y => ?_) (fun i => ?_)
  · have htl : t.val < 32 := Nat.lt_of_lt_of_eq t.isLt hN
    have hy0 : (y (0 : Fin 2)).val < 1024 := (y (0 : Fin 2)).isLt
    have hy1 : (y (1 : Fin 2)).val < 512 := (y (1 : Fin 2)).isLt
    refine (cast_eq _ _).trans ((congrFun (after0_4 m c t) _).trans ?_)
    have ey : (cfg0.win 4).xinj (cfg0.grid.coords t) y = ix2 (⟨(y (0 : Fin 2)).val, hy0⟩ : Fin 1024) (⟨(y (1 : Fin 2)).val, hy1⟩ : Fin 512) := funext fun (a : Fin 2) => by
      match a with
      | 0 => rfl
      | 1 => rfl
    refine (congrArg (outsAt0 m c t) ey).trans ((point4 m c t _ _ ⟨t.val / 4 * 1024 + (y (0 : Fin 2)).val, by omega⟩
      ⟨t.val % 4 * 512 + (y (1 : Fin 2)).val, by omega⟩ rfl rfl).trans ?_)
    refine congrArg (outR (argX m c) (argW m c)) (funext fun (a : Fin 2) => Fin.ext ?_)
    have h : (((cfg0.win 4).rect t).emb y a : ℕ) = (![t.val / 4, t.val % 4] : Fin 2 → ℕ) a * (![1024, 512] : Fin 2 → ℕ) a + (y a : ℕ) := emb_val (cfg0.win 4) t rfl (index4 t) y a
    refine Eq.trans ?_ h.symm
    match a with
    | 0 => rfl
    | 1 => rfl
  · have hi0 : (i (0 : Fin 2)).val < 8192 := (i (0 : Fin 2)).isLt
    have hi1 : (i (1 : Fin 2)).val < 2048 := (i (1 : Fin 2)).isLt
    have ht : 4 * ((i (0 : Fin 2)).val / 1024) + (i (1 : Fin 2)).val / 512 < cfg0.N := by omega
    refine ⟨⟨_, ht⟩, flush0_4 _, ?_⟩
    refine (Window.emb_mem_blk_iff (cfg0.win 4) ⟨_, ht⟩ i).2 fun (a : Fin 2) => ?_
    rw [index4]
    match a with
    | 0 =>
      show (4 * ((i (0 : Fin 2)).val / 1024) + (i (1 : Fin 2)).val / 512) / 4 * 1024 ≤ (i (0 : Fin 2)).val
        ∧ (i (0 : Fin 2)).val < (4 * ((i (0 : Fin 2)).val / 1024) + (i (1 : Fin 2)).val / 512) / 4 * 1024 + 1024
      omega
    | 1 =>
      show (4 * ((i (0 : Fin 2)).val / 1024) + (i (1 : Fin 2)).val / 512) % 4 * 512 ≤ (i (1 : Fin 2)).val
        ∧ (i (1 : Fin 2)).val < (4 * ((i (0 : Fin 2)).val / 1024) + (i (1 : Fin 2)).val / 512) % 4 * 512 + 512
      omega

end Cert.Proof.IqValue
end
-- ==== Proof.StepRope.lean ====
/-
  The rotary embedding on heads of 128 lanes where every row has the one position: the kernel multiplies a head by one
  table and the head turned by 64 lanes by another; the reference cuts the head in two and turns each pair.
-/
module

public import proofs.«01_k».proof.Kernel13Ideal
public import proofs.«01_k».proof.Proof.Gen.Kernel13Ideal
public import proofs.«01_k».proof.Proof.Gen.Reference13Ideal.Run
public import Idealize.ShloMosaic.Lib.Pointwise

@[expose] public section

set_option maxRecDepth 100000

noncomputable section

namespace Cert.Proof.StepRope

open Idealize.ShloMosaic Idealize.ShloMosaic.TcCoe
open Cert.Kernel13Ideal

/-- The pairs' frequencies. -/
def freq : FVec Ideal S64 .f32 :=
  Host.powf (broadcastInDim S64 ![] Gen.bcast_S_S64 (constant (F := Ideal) S_ .f32 0x461C4000#32 : FVec Ideal S_ .f32))
    (Host.divf (Host.negf (addf (broadcastInDim S64 ![] Gen.bcast_S_S64 (constant (F := Ideal) S_ .f32 0x00000000#32 : FVec Ideal S_ .f32))
      (mulf (broadcastInDim S64 ![] Gen.bcast_S_S64 (constant (F := Ideal) S_ .f32 0x40000000#32 : FVec Ideal S_ .f32)) (sitofp .f32 (iotaInDim S64 32 0)))))
      (broadcastInDim S64 ![] Gen.bcast_S_S64 (constant (F := Ideal) S_ .f32 0x43000000#32 : FVec Ideal S_ .f32)))

/-- The reference's angles: the one position times the pair's frequency. -/
def angR : FVec Ideal Reference13Ideal.S1x64 .f32 :=
  mulf (broadcastInDim Reference13Ideal.S1x64 ![0, 1] Reference13Ideal.Gen.bcast_S1x1_S1x64_0_1 (broadcastInDim Reference13Ideal.S1x1 ![0] Reference13Ideal.Gen.bcast_S1_S1x1_0
      (sitofp .f32 (addi (broadcastInDim Reference13Ideal.S1 ![] Reference13Ideal.Gen.bcast_S_S1 (constantI Reference13Ideal.S_ 32 8192#32)) (iotaInDim Reference13Ideal.S1 32 0)))))
    (broadcastInDim Reference13Ideal.S1x64 ![1] Reference13Ideal.Gen.bcast_S64_S1x64_1 freq)

/-- The kernel's angles: every row's position is the one. -/
def angK : FVec Ideal S128x64 .f32 :=
  mulf (broadcastInDim S128x64 ![0, 1] Gen.bcast_S128x1_S128x64_0_1 (broadcastInDim S128x1 ![0] Gen.bcast_S128_S128x1_0
      (sitofp .f32 (broadcastInDim S128 ![] Gen.bcast_S_S128 (constantI S_ 32 8192#32)))))
    (broadcastInDim S128x64 ![0, 1] Gen.bcast_S1x64_S128x64_0_1 (broadcastInDim S1x64 ![1] Gen.bcast_S64_S1x64_1 freq))

theorem angK_apply (i : Fin 128) (j : Fin 64) : angK (ix2 i j) = angR (ix2 (0 : Fin 1) j) := by
  pointwise [angK, angR]
  rfl

/-- The cosine and the sine of the angle at a position, of a pair. -/
def cosR (j : Fin 64) : EReal := Host.cos angR (ix2 (0 : Fin 1) j)
def sinR (j : Fin 64) : EReal := Host.sin angR (ix2 (0 : Fin 1) j)

/-- The kernel's tables. -/
def tabC : FVec Ideal S128x128 .f32 :=
  shapeCast S128x128 (broadcastInDim S1x128x1x128 ![0, 1, 2, 3] Gen.bcast_S1x128x1x128_S1x128x1x128_0_1_2_3
    (shapeCast S1x128x1x128 (concatenate S128x128 1 [⟨S128x64, Host.cos angK⟩, ⟨S128x64, Host.cos angK⟩] Gen.concatenates_S128x64_S128x64_S128x128_d1)
      Gen.shapeCasts_S128x128_S1x128x1x128)) Gen.shapeCasts_S1x128x1x128_S128x128
def tabS : FVec Ideal S128x128 .f32 :=
  shapeCast S128x128 (broadcastInDim S1x128x1x128 ![0, 1, 2, 3] Gen.bcast_S1x128x1x128_S1x128x1x128_0_1_2_3
    (shapeCast S1x128x1x128 (concatenate S128x128 1 [⟨S128x64, Host.negf (Host.sin angK)⟩, ⟨S128x64, Host.sin angK⟩] Gen.concatenates_S128x64_S128x64_S128x128_d1)
      Gen.shapeCasts_S128x128_S1x128x1x128)) Gen.shapeCasts_S1x128x1x128_S128x128

theorem cosK_apply (i : Fin 128) (j : Fin 64) : Host.cos angK (ix2 i j) = cosR j :=
  congrArg (FloatOps.hostUnary (F := Ideal) (φ := .f32) .cos) (angK_apply i j)
theorem sinK_apply (i : Fin 128) (j : Fin 64) : Host.sin angK (ix2 i j) = sinR j :=
  congrArg (FloatOps.hostUnary (F := Ideal) (φ := .f32) .sin) (angK_apply i j)

theorem tabC_low (i : Fin 128) (j : Fin 128) (hj : j.val < 64) : tabC (ix2 i j) = cosR ⟨j.val, hj⟩ := by
  rw [← cosK_apply]
  generalize hA : Host.cos angK = A
  unfold tabC
  rw [hA]
  pointwise
  rw [dif_pos hj]
theorem tabC_high (i : Fin 128) (j : Fin 128) (hj : ¬ j.val < 64) : tabC (ix2 i j) = cosR ⟨j.val - 64, by omega⟩ := by
  rw [← cosK_apply]
  generalize hA : Host.cos angK = A
  unfold tabC
  rw [hA]
  pointwise
  rw [dif_neg hj]
theorem tabS_low (i : Fin 128) (j : Fin 128) (hj : j.val < 64) : tabS (ix2 i j) = -sinR ⟨j.val, hj⟩ := by
  rw [← sinK_apply]
  generalize hA : Host.sin angK = A
  unfold tabS
  rw [hA]
  pointwise
  rw [dif_pos hj]
theorem tabS_high (i : Fin 128) (j : Fin 128) (hj : ¬ j.val < 64) : tabS (ix2 i j) = sinR ⟨j.val - 64, by omega⟩ := by
  rw [← sinK_apply]
  generalize hA : Host.sin angK = A
  unfold tabS
  rw [hA]
  pointwise
  rw [dif_neg hj]

/-- A turned entry, of a projection's entries: the low half of a head, and the high half. -/
def turn (P : Fin 128 → Fin 2048 → EReal) (i : Fin 128) (c : Fin 2048) : EReal :=
  if h : c.val % 128 < 64 then P i c * cosR ⟨c.val % 128, h⟩ - P i ⟨c.val + 64, by omega⟩ * sinR ⟨c.val % 128, h⟩
  else P i ⟨c.val - 64, by omega⟩ * sinR ⟨c.val % 128 - 64, by omega⟩ + P i c * cosR ⟨c.val % 128 - 64, by omega⟩

/-- A table of the angles, along the sequences and the heads. -/
def spread (a : FVec Ideal Reference13Ideal.S1x64 .f32) : FVec Ideal Reference13Ideal.S128x1x16x64 .f32 :=
  broadcastInDim Reference13Ideal.S128x1x16x64 ![0, 1, 2, 3] Reference13Ideal.Gen.bcast_S1x1x1x64_S128x1x16x64_0_1_2_3
    (broadcastInDim Reference13Ideal.S1x1x1x64 ![1, 2, 3] Reference13Ideal.Gen.bcast_S1x1x64_S1x1x1x64_1_2_3
      (broadcastInDim Reference13Ideal.S1x1x64 ![0, 2] Reference13Ideal.Gen.bcast_S1x64_S1x1x64_0_2 a))

open Reference13Ideal Reference13Ideal.Gen in
/-- The reference's turned projection, of a projection's 16 heads. -/
def ropeR (p : FVec Ideal Reference13Ideal.S128x1x2048 .f32) : FVec Ideal Kernel13Ideal.S128x2048 .f32 :=
  shapeCast _ (concatenate S128x1x16x128 3
    [⟨S128x1x16x64, subf (mulf (extractStridedSlice S128x1x16x64 ![0, 0, 0, 0] (shapeCast _ p shapeCasts_S128x1x2048_S128x1x16x128) slices_S128x1x16x128_S128x1x16x64_0_0_0_0) (spread (Host.cos angR)))
      (mulf (extractStridedSlice S128x1x16x64 ![0, 0, 0, 64] (shapeCast _ p shapeCasts_S128x1x2048_S128x1x16x128) slices_S128x1x16x128_S128x1x16x64_0_0_0_64) (spread (Host.sin angR)))⟩,
    ⟨S128x1x16x64, addf (mulf (extractStridedSlice S128x1x16x64 ![0, 0, 0, 0] (shapeCast _ p shapeCasts_S128x1x2048_S128x1x16x128) slices_S128x1x16x128_S128x1x16x64_0_0_0_0) (spread (Host.sin angR)))
      (mulf (extractStridedSlice S128x1x16x64 ![0, 0, 0, 64] (shapeCast _ p shapeCasts_S128x1x2048_S128x1x16x128) slices_S128x1x16x128_S128x1x16x64_0_0_0_64) (spread (Host.cos angR)))⟩]
    concatenates_S128x1x16x64_S128x1x16x64_S128x1x16x128_d3) shapeCasts_S128x1x16x128_S128x2048

theorem ropeR_apply (p : FVec Ideal Reference13Ideal.S128x1x2048 .f32) (i : Fin 128) (c : Fin 2048) :
    ropeR p (ix2 i c) = turn (fun i c => p (ix3 i 0 c)) i c := by
  unfold ropeR turn cosR sinR
  generalize Host.cos angR = C
  generalize Host.sin angR = S
  pointwise [spread]
  have e1 : c.val / 128 * 128 + (64 + c.val % 128) = c.val + 64 := by omega
  by_cases h : c.val % 128 < 64
  · simp only [dif_pos h, e1]
  · have e2 : c.val / 128 * 128 + (c.val % 128 - 64) = c.val - 64 := by omega
    have e3 : c.val / 128 * 128 + (64 + (c.val % 128 - 64)) = c.val := by omega
    simp only [dif_neg h, e2, e3]

/-- A head of the kernel's product, turned: the head times one table plus the head turned by 64 lanes times the other. -/
def head (o : ℕ) (ho : S128x512.Slices ![0, o] S128x128) (a : FVec Ideal S128x512 .f32) (u v : FVec Ideal S128x128 .f32) : FVec Ideal S128x128 .f32 :=
  addf (mulf (extractStridedSlice S128x128 ![0, o] a ho) u) (mulf (dynamicRotate 1 64#32 none (extractStridedSlice S128x128 ![0, o] a ho) Gen.rotates_S128x128_d1) v)

theorem head_apply (o : ℕ) (ho : S128x512.Slices ![0, o] S128x128) (a : FVec Ideal S128x512 .f32) (u v : FVec Ideal S128x128 .f32) (p : Fin 128) (j : Fin 128)
    (k k' : Fin 512) (hk : k.val = o + j.val) (hk' : k'.val = o + (j.val + 128 - 64) % 128) :
    head o ho a u v (ix2 p j) = a (ix2 p k) * u (ix2 p j) + a (ix2 p k') * v (ix2 p j) := by
  obtain ⟨n, hn⟩ := k
  obtain ⟨n', hn'⟩ := k'
  obtain rfl : n = _ := hk
  obtain rfl : n' = _ := hk'
  pointwise [head]

/-- A head of a block whose entries are a projection's, with the tables' rows, is the projection's turned. -/
theorem head_turn (P : Fin 128 → Fin 2048 → EReal) (o : ℕ) (ho : S128x512.Slices ![0, o] S128x128) (hle : o ≤ 384) (hd : o % 128 = 0) (a : FVec Ideal S128x512 .f32)
    (u v : FVec Ideal S128x128 .f32) (p : Fin 128) (i : Fin 128) (b : ℕ) (hb : b < 4)
    (ha : ∀ (k : Fin 512) (c : Fin 2048), b * 512 + k.val = c.val → a (ix2 p k) = P i c) (hu : ∀ j : Fin 128, u (ix2 p j) = tabC (ix2 i j)) (hv : ∀ j : Fin 128, v (ix2 p j) = tabS (ix2 i j))
    (j : Fin 128) (c : Fin 2048) (hc : b * 512 + (o + j.val) = c.val) : head o ho a u v (ix2 p j) = turn P i c := by
  have hj := j.isLt
  rw [head_apply o ho a u v p j ⟨o + j.val, by omega⟩ ⟨o + (j.val + 128 - 64) % 128, by omega⟩ rfl rfl, hu, hv, ha _ c hc]
  have ej : c.val % 128 = j.val := by omega
  unfold turn
  by_cases h : j.val < 64
  · rw [dif_pos (by omega), ha _ ⟨c.val + 64, by omega⟩ (by show b * 512 + (o + (j.val + 128 - 64) % 128) = c.val + 64; omega), tabC_low _ _ h, tabS_low _ _ h, mul_neg, ← sub_eq_add_neg]
    simp only [ej]
  · rw [dif_neg (by omega), ha _ ⟨c.val - 64, by omega⟩ (by show b * 512 + (o + (j.val + 128 - 64) % 128) = c.val - 64; omega), tabC_high _ _ h, tabS_high _ _ h, add_comm]
    simp only [ej]

/-- A block of a function of rows and columns, its rows numbered by `r` and its columns from `b * 512` on. -/
def blockG (T : Fin 128 → Fin 2048 → EReal) (r : Fin 128 → Fin 128) (b : ℕ) (hb : b < 4) (y : S128x512.Idx) : EReal :=
  T (r ⟨(y (0 : Fin 2)).val, (y (0 : Fin 2)).isLt⟩) ⟨b * 512 + (y (1 : Fin 2)).val, by have h : (y (1 : Fin 2)).val < 512 := (y (1 : Fin 2)).isLt; omega⟩

/-- A store of 128 columns of the block, from the `o`-th on, is the block's part under it. -/
theorem piece_eq (T : Fin 128 → Fin 2048 → EReal) (o : ℕ) (hle : o ≤ 384) (f : FVec Ideal S128x128 .f32) (r : Fin 128 → Fin 128) (b : ℕ) (hb : b < 4)
    (hf : ∀ (p : Fin 128) (j : Fin 128) (c : Fin 2048), b * 512 + (o + j.val) = c.val → f (ix2 p j) = T (r p) c)
    (inb : ∀ a, (![0, o] : Fin 2 → ℕ) a + S128x128.size a ≤ S128x512.size a) (x : S128x128.Idx) :
    f x = blockG T r b hb ((Rect.unit (s := S128x512) ![0, o] S128x128.size inb).emb x) := by
  have h0 : (x (0 : Fin 2)).val < 128 := (x (0 : Fin 2)).isLt
  have h1 : (x (1 : Fin 2)).val < 128 := (x (1 : Fin 2)).isLt
  have ex : x = ix2 (⟨_, h0⟩ : Fin 128) (⟨_, h1⟩ : Fin 128) := funext fun (a : Fin 2) => by
    match a with
    | 0 => rfl
    | 1 => rfl
  refine (congrArg f ex).trans ?_
  refine (hf _ _ ⟨b * 512 + (o + (x (1 : Fin 2)).val), by omega⟩ rfl).trans ?_
  unfold blockG
  have e0 : ((Rect.unit (s := S128x512) ![0, o] S128x128.size inb).emb x (0 : Fin 2)).val = (x (0 : Fin 2)).val := by
    show 0 + 1 * (x (0 : Fin 2)).val = _
    omega
  have e1 : ((Rect.unit (s := S128x512) ![0, o] S128x128.size inb).emb x (1 : Fin 2)).val = o + (x (1 : Fin 2)).val := by
    show o + 1 * (x (1 : Fin 2)).val = _
    omega
  refine congrArg₂ T (congrArg r (Fin.ext e0.symm)) (Fin.ext ?_)
  show b * 512 + (o + (x (1 : Fin 2)).val) = _
  rw [← e1]

/-- A store of a head, as the block's turned entries. -/
theorem piece_turn (P : Fin 128 → Fin 2048 → EReal) (o : ℕ) (ho : S128x512.Slices ![0, o] S128x128) (hle : o ≤ 384) (hd : o % 128 = 0) (a : FVec Ideal S128x512 .f32)
    (u v : FVec Ideal S128x128 .f32) (r : Fin 128 → Fin 128) (b : ℕ) (hb : b < 4)
    (ha : ∀ (p : Fin 128) (k : Fin 512) (c : Fin 2048), b * 512 + k.val = c.val → a (ix2 p k) = P (r p) c)
    (hu : ∀ (p : Fin 128) (j : Fin 128), u (ix2 p j) = tabC (ix2 (r p) j)) (hv : ∀ (p : Fin 128) (j : Fin 128), v (ix2 p j) = tabS (ix2 (r p) j))
    (inb : ∀ a, (![0, o] : Fin 2 → ℕ) a + S128x128.size a ≤ S128x512.size a) (x : S128x128.Idx) :
    head o ho a u v x = blockG (turn P) r b hb ((Rect.unit (s := S128x512) ![0, o] S128x128.size inb).emb x) :=
  piece_eq (turn P) o hle (head o ho a u v) r b hb (fun p j c hc => head_turn P o ho hle hd a u v p (r p) b hb (ha p) (hu p) (hv p) j c hc) inb x

end Cert.Proof.StepRope
end
-- ==== Proof.KNew.lean ====
/-
  The keys' projection over the extended reals: the kernel turns each head of its product by the two tables its host
  code made, the reference turns the heads' pairs, and the two results are one.
-/
module

public import proofs.«01_k».proof.Proof.Gen.Kernel13Ideal.Value
public import proofs.«01_k».proof.Proof.Gen.Reference13Ideal.Run
public import proofs.«01_k».proof.Proof.Blocks
public import proofs.«01_k».proof.Proof.Wide
public import proofs.«01_k».proof.Proof.Step
public import proofs.«01_k».proof.Proof.StepRope
public import Idealize.ShloMosaic.Lib.Pipeline.ValueKit
public import Idealize.ShloMosaic.Lib.Pointwise

@[expose] public section

set_option maxRecDepth 100000

noncomputable section

namespace Cert.Proof.KNew

open Idealize.ShloMosaic Idealize.ShloMosaic.TcCoe
open Idealize.ShloMosaic.Pipeline (Dat Cfg Window)
open Cert.Kernel13Ideal Cert.Kernel13Ideal.Gen Blocks Wide Step StepRope

/-- The block's product, at an index. -/
theorem dot_apply (a : Vec Ideal S128x4096 .bf16) (u : Vec Ideal S1x4096x512 .bf16) (p : Fin 128) (j : Fin 512) :
    k0_pay4 a u (ix2 p j) = ∑ d : Fin 4096, a (ix2 p d) * u (ix3 0 d j) := by
  pointwise [k0_pay4]

section
variable (c : Dev nD) (i : grid0.Coords) (a2 : Memref Kernel13Ideal.sig .tc .vmem S128x4096 .bf16) (h2 : a2.IsWhole) (a3 : Memref Kernel13Ideal.sig .tc .vmem S1x4096x512 .bf16) (h3 : a3.IsWhole)
    (a4 : Memref Kernel13Ideal.sig .tc .vmem S128x128 .f32) (h4 : a4.IsWhole) (a5 : Memref Kernel13Ideal.sig .tc .vmem S128x128 .f32) (h5 : a5.IsWhole)
    (a6 : Memref Kernel13Ideal.sig .tc .vmem S128x512 .f32) (h6 : a6.IsWhole) (a7 : Memref Kernel13Ideal.sig .tc .vmem S128x512 .bf16) (h7 : a7.IsWhole)
    (x0 : Vec Ideal S128x4096 .bf16) (x1 : Vec Ideal S1x4096x512 .bf16) (x2 x3 : Vec Ideal S128x128 .f32)
    (P : Fin 128 → Fin 2048 → EReal) (r : Fin 128 → Fin 128) (b : ℕ) (hb : b < 4)
    (ha : ∀ (p : Fin 128) (k : Fin 512) (c : Fin 2048), b * 512 + k.val = c.val → k0_pay4 x0 x1 (ix2 p k) = P (r p) c)
    (hu : ∀ (p : Fin 128) (j : Fin 128), k0_pay5 x2 (ix2 p j) = tabC (ix2 (r p) j)) (hv : ∀ (p : Fin 128) (j : Fin 128), k0_pay6 x3 (ix2 p j) = tabS (ix2 (r p) j))
include ha hu hv

/-- What a point leaves in the results' staging buffers: the block's turned entries. -/
theorem out4_eq (y : S128x512.Idx) : out0_A_4 c i a2 h2 a3 h3 a4 h4 a5 h5 a6 h6 a7 h7 x0 x1 x2 x3 y = blockG (turn P) r b hb y := by
  unfold out0_A_4
  rw [View.read_writes_junk_eq_canon]
  refine View.canon_apply_of_pieces (blockG (turn P) r b hb) _ ?_ y (cover0_A_4 c i a2 h2 a3 h3 a4 h4 a5 h5 a6 h6 a7 h7 x0 x1 x2 x3 y)
  unfold kernelRun0_A
  dsimp only
  sl_unfold_words
  simp only [View.readAt_eq_ld, h2.read_unread, h3.read_unread, h4.read_unread, h5.read_unread, View.ld_unit_zero (S := S128x4096) hz2, View.ld_unit_zero (S := S1x4096x512) hz3,
    View.ld_unit_zero (S := S128x128) hz2]
  simp only [List.forall_mem_cons, List.not_mem_nil, false_imp_iff, implies_true, and_true]
  exact ⟨piece_turn P 384 _ (by omega) rfl _ _ _ r b hb ha hu hv _, piece_turn P 256 _ (by omega) rfl _ _ _ r b hb ha hu hv _,
    piece_turn P 128 _ (by omega) rfl _ _ _ r b hb ha hu hv _, piece_turn P 0 _ (by omega) rfl _ _ _ r b hb ha hu hv _⟩
theorem out5_eq (y : S128x512.Idx) : out0_A_5 c i a2 h2 a3 h3 a4 h4 a5 h5 a6 h6 a7 h7 x0 x1 x2 x3 y = blockG (turn P) r b hb y := by
  unfold out0_A_5
  rw [View.read_writes_junk_eq_canon]
  refine View.canon_apply_of_pieces (blockG (turn P) r b hb) _ ?_ y (cover0_A_5 c i a2 h2 a3 h3 a4 h4 a5 h5 a6 h6 a7 h7 x0 x1 x2 x3 y)
  unfold kernelRun0_A
  dsimp only
  sl_unfold_words
  simp only [View.readAt_eq_ld, h2.read_unread, h3.read_unread, h4.read_unread, h5.read_unread, View.ld_unit_zero (S := S128x4096) hz2, View.ld_unit_zero (S := S1x4096x512) hz3,
    View.ld_unit_zero (S := S128x128) hz2]
  simp only [List.forall_mem_cons, List.not_mem_nil, false_imp_iff, implies_true, and_true]
  exact ⟨piece_turn P 384 _ (by omega) rfl _ _ _ r b hb ha hu hv _, piece_turn P 256 _ (by omega) rfl _ _ _ r b hb ha hu hv _,
    piece_turn P 128 _ (by omega) rfl _ _ _ r b hb ha hu hv _, piece_turn P 0 _ (by omega) rfl _ _ _ r b hb ha hu hv _⟩
end

/-! ### The reference -/

open Reference13Ideal.Gen in
/-- The keys: the keys' columns of the projection, turned. -/
def outR (x : FVec Ideal S128x1x4096 .f32) (w : FVec Ideal S4x4096x20576 .f32) : FVec Ideal S128x2048 .f32 :=
  ropeR (extractStridedSlice Reference13Ideal.S128x1x2048 ![0, 0, 2048] (proj1R x w) slices_S128x1x20576_S128x1x2048_0_0_2048)

/-- The keys' columns of the projection. -/
def keys (x : FVec Ideal S128x1x4096 .f32) (w : FVec Ideal S4x4096x20576 .f32) (i : Fin 128) (c : Fin 2048) : EReal := proj1 x w i ⟨2048 + c.val, by omega⟩

theorem outR_apply (x : FVec Ideal S128x1x4096 .f32) (w : FVec Ideal S4x4096x20576 .f32) (i : Fin 128) (j : Fin 2048) :
    outR x w (ix2 i j) = turn (keys x w) i j := by
  unfold outR
  rw [ropeR_apply]
  refine congrArg (fun P => turn P i j) (funext fun i => funext fun c => ?_)
  unfold keys
  pointwise
  exact proj1R_apply ..

theorem res51_eq (m : (ℓ : Loc Reference13Ideal.nD Reference13Ideal.τ Reference13Ideal.sig) → Buf (Elt Ideal) ℓ) (c : Dev Reference13Ideal.nD) :
    Reference13Ideal.Value.res_main_v51 m c = outR (m ((c.tc : Thread Reference13Ideal.nD Reference13Ideal.τ).loc Reference13Ideal.main_arg0)) (m ((c.tc : Thread Reference13Ideal.nD Reference13Ideal.τ).loc Reference13Ideal.main_arg1)) := by
  unfold Reference13Ideal.Value.res_main_v51
  rfl
theorem res52_eq (m : (ℓ : Loc Reference13Ideal.nD Reference13Ideal.τ Reference13Ideal.sig) → Buf (Elt Ideal) ℓ) (c : Dev Reference13Ideal.nD) :
    Reference13Ideal.Value.res_main_v52 m c = truncf .bf16 (outR (m ((c.tc : Thread Reference13Ideal.nD Reference13Ideal.τ).loc Reference13Ideal.main_arg0)) (m ((c.tc : Thread Reference13Ideal.nD Reference13Ideal.τ).loc Reference13Ideal.main_arg1))) Kernel13Ideal.Gen.bitsLt_bf16_f32 := by
  unfold Reference13Ideal.Value.res_main_v52
  rfl

/-! ### The kernel's blocks -/

variable (m : (ℓ : Loc nD τ Kernel13Ideal.sig) → Buf (Elt Ideal) ℓ) (c : Dev nD)

/-- The arguments at launch. -/
abbrev argX : FVec Ideal S128x1x4096 .f32 := m ((c : Thread nD τ).loc main_arg0)
abbrev argW : FVec Ideal S4x4096x20576 .f32 := m ((c : Thread nD τ).loc main_arg1)

theorem V1_eq : V m c main_v1 = truncf .bf16 (shapeCast S128x4096 (argX m c) shapeCasts_S128x1x4096_S128x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

set_option maxHeartbeats 4000000 in
theorem V30_eq : V m c main_v30 = tabC := by
  show StableHlo.after hostOps0 (fun b => m (c, b)) (Proc.devRef .tc main_v30) = _
  unfold hostOps0
  after_results <;> rfl
set_option maxHeartbeats 4000000 in
theorem V35_eq : V m c main_v35 = tabS := by
  show StableHlo.after hostOps0 (fun b => m (c, b)) (Proc.devRef .tc main_v35) = _
  unfold hostOps0
  after_results <;> rfl
/-- The grid's points. -/
theorem N_eq : cfg0.N = 4 := by
  show grid0.N = 4
  decide

/-- The windows' blocks at a point. -/
theorem index0 : ∀ t : Fin cfg0.N, (cfg0.win 0).index t = ![0, 0] := by decide +kernel
theorem index1 : ∀ t : Fin cfg0.N, (cfg0.win 1).index t = ![3, 0, 4 + t.val] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, t.val] := by decide +kernel
theorem index5 : ∀ t : Fin cfg0.N, (cfg0.win 5).index t = ![0, t.val] := by decide +kernel

/-- The rows a point reads. -/
theorem x_eq (t : Fin cfg0.N) (p : Fin 128) (d : Fin 4096) (i : Fin 128) (hi : 0 * 128 + p.val = i.val) : iblk m c 0 t (ix2 p d) = argX m c (ix3 i 0 d) := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![0, 0] : Fin 2 → ℕ) a * (![128, 4096] : Fin 2 → ℕ) a + ((ix2 p d) a : ℕ) :=
      emb_val (cfg0.win 0) t rfl (index0 t) (ix2 p d) a
    exact h.trans (coord2 _ _ p d i d hi (zero_row _ d) a)
  rw [e, V1_eq]
  exact rows_apply _ _ _ i d

/-- The weight's columns a point reads. -/
theorem w_eq (t : Fin cfg0.N) (d : Fin 4096) (j : Fin 512) (k : Fin 20576) (hk : 2048 + (t.val * 512 + j.val) = k.val) :
    X0_1 m c t (ix3 (0 : Fin 1) d j) = argW m c (ix3 (3 : Fin 4) d k) := by
  have hj := j.isLt
  have htl : t.val < 4 := Nat.lt_of_lt_of_eq t.isLt N_eq
  have e : X0_1 m c t (ix3 (0 : Fin 1) d j) = V m c main_v7 (ix3 (3 : Fin 4) d (⟨(4 + t.val) * 512 + j.val, by omega⟩ : Fin 20608)) := by
    refine (dif_pos (moved0_1 t _)).trans (congrArg (V m c main_v7) (funext fun (a : Fin 3) => Fin.ext ?_))
    have h : (((cfg0.win 1).rect t).emb (fun a => ⟨((ix3 (0 : Fin 1) d j) a).val, ((cfg0.win 1).moved_iff _ _).mp (moved0_1 t _) a⟩) a : ℕ)
        = (![3, 0, 4 + t.val] : Fin 3 → ℕ) a * (![1, 4096, 512] : Fin 3 → ℕ) a + ((ix3 (0 : Fin 1) d j) a : ℕ) :=
      emb_val (cfg0.win 1) t rfl (index1 t) _ a
    exact h.trans (coord3 _ _ _ _ d j (3 : Fin 4) d (⟨(4 + t.val) * 512 + j.val, by omega⟩ : Fin 20608) rfl (zero_row _ d) rfl a)
  rw [e, V7_eq]
  exact low_apply _ _ _ _ _ _ _ 3 d _ k (by show (4 + t.val) * 512 + j.val < 8192; omega) (by show k.val = (4 + t.val) * 512 + j.val; omega)

/-- The tables' rows a point reads. -/
theorem cos_eq (t : Fin cfg0.N) (p : Fin 128) (j : Fin 128) (i : Fin 128) (hi : 0 * 128 + p.val = i.val) : iblk m c 2 t (ix2 p j) = tabC (ix2 i j) := by
  have e : iblk m c 2 t (ix2 p j) = V m c main_v30 (ix2 i j) := by
    refine congrArg (V m c main_v30) (funext fun (a : Fin 2) => Fin.ext ?_)
    have h : (((cfg0.win 2).rect t).emb (ix2 p j) a : ℕ) = (![0, 0] : Fin 2 → ℕ) a * (![128, 128] : Fin 2 → ℕ) a + ((ix2 p j) a : ℕ) :=
      emb_val (cfg0.win 2) t rfl (index2 t) (ix2 p j) a
    exact h.trans (coord2 _ _ p j i j hi (zero_row _ j) a)
  rw [e, V30_eq]
theorem sin_eq (t : Fin cfg0.N) (p : Fin 128) (j : Fin 128) (i : Fin 128) (hi : 0 * 128 + p.val = i.val) : iblk m c 3 t (ix2 p j) = tabS (ix2 i j) := by
  have e : iblk m c 3 t (ix2 p j) = V m c main_v35 (ix2 i j) := by
    refine congrArg (V m c main_v35) (funext fun (a : Fin 2) => Fin.ext ?_)
    have h : (((cfg0.win 3).rect t).emb (ix2 p j) a : ℕ) = (![0, 0] : Fin 2 → ℕ) a * (![128, 128] : Fin 2 → ℕ) a + ((ix2 p j) a : ℕ) :=
      emb_val (cfg0.win 3) t rfl (index3 t) (ix2 p j) a
    exact h.trans (coord2 _ _ p j i j hi (zero_row _ j) a)
  rw [e, V35_eq]

theorem pay5_apply (u : Vec Ideal S128x128 .f32) (p : Fin 128) (j : Fin 128) : k0_pay5 u (ix2 p j) = u (ix2 p j) := by
  pointwise [k0_pay5]
theorem pay6_apply (u : Vec Ideal S128x128 .f32) (p : Fin 128) (j : Fin 128) : k0_pay6 u (ix2 p j) = u (ix2 p j) := by
  pointwise [k0_pay6]

/-- The product's entries at a point. -/
theorem dot_eq (t : Fin cfg0.N) (p : Fin 128) (k : Fin 512) (i : Fin 128) (l : Fin 2048) (hi : 0 * 128 + p.val = i.val) (hl : t.val * 512 + k.val = l.val) :
    k0_pay4 (iblk m c 0 t) (X0_1 m c t) (ix2 p k) = keys (argX m c) (argW m c) i l := by
  rw [dot_apply]
  exact Finset.sum_congr rfl fun d _ => congrArg₂ (fun a b : EReal => a * b) (x_eq m c t p d i hi)
    (w_eq m c t d k ⟨2048 + l.val, by omega⟩ (by show _ = 2048 + l.val; rw [hl]))

/-- The row of the arrays a point's row is. -/
def rowAt (t : Fin cfg0.N) (p : Fin 128) : Fin 128 := ⟨0 * 128 + p.val, by
  have htl : t.val < 4 := Nat.lt_of_lt_of_eq t.isLt N_eq
  omega⟩

/-- What a point leaves is the reference's block. -/
theorem blockG_eq (t : Fin cfg0.N) (hb : t.val < 4) (p : Fin 128) (j : Fin 512) (i : Fin 128) (k : Fin 2048) (hi : 0 * 128 + p.val = i.val) (hk : t.val * 512 + j.val = k.val) :
    blockG (turn (keys (argX m c) (argW m c))) (rowAt t) (t.val) hb (ix2 p j) = outR (argX m c) (argW m c) (ix2 i k) := by
  rw [outR_apply]
  exact congrArg₂ (turn (keys (argX m c) (argW m c))) (Fin.ext hi) (Fin.ext hk)
theorem point4 (t : Fin cfg0.N) (p : Fin 128) (j : Fin 512) (i : Fin 128) (k : Fin 2048) (hi : 0 * 128 + p.val = i.val) (hk : t.val * 512 + j.val = k.val) :
    (outsAt0 m c t).1 (ix2 p j) = outR (argX m c) (argW m c) (ix2 i k) := by
  unfold outsAt0
  dsimp only
  refine (out4_eq _ _ _ _ _ _ _ _ _ _ _ _ _ _ _ _ _ _ (keys (argX m c) (argW m c)) (rowAt t) (t.val) (Nat.lt_of_lt_of_eq t.isLt N_eq) (fun p k l hl => dot_eq m c t p k _ l rfl hl)
    (fun p j => (pay5_apply _ p j).trans (cos_eq m c t p j _ rfl)) (fun p j => (pay6_apply _ p j).trans (sin_eq m c t p j _ rfl)) _).trans (blockG_eq m c t _ p j i k hi hk)
theorem point5 (t : Fin cfg0.N) (p : Fin 128) (j : Fin 512) (i : Fin 128) (k : Fin 2048) (hi : 0 * 128 + p.val = i.val) (hk : t.val * 512 + j.val = k.val) :
    (outsAt0 m c t).2 (ix2 p j) = outR (argX m c) (argW m c) (ix2 i k) := by
  unfold outsAt0
  dsimp only
  refine (out5_eq _ _ _ _ _ _ _ _ _ _ _ _ _ _ _ _ _ _ (keys (argX m c) (argW m c)) (rowAt t) (t.val) (Nat.lt_of_lt_of_eq t.isLt N_eq) (fun p k l hl => dot_eq m c t p k _ l rfl hl)
    (fun p j => (pay5_apply _ p j).trans (cos_eq m c t p j _ rfl)) (fun p j => (pay6_apply _ p j).trans (sin_eq m c t p j _ rfl)) _).trans (blockG_eq m c t _ p j i k hi hk)

/-- THE RESULTS: each array the kernel leaves is the reference's. -/
theorem arr4_eq : (dats m 0 c).arrAt 4 cfg0.N = outR (argX m c) (argW m c) := by
  have hN := N_eq
  refine (dats m 0 c).arrAt_eq_of_emb 4 _ (fun t hf y => ?_) (fun i => ?_)
  · have htl : t.val < 4 := Nat.lt_of_lt_of_eq t.isLt hN
    have hy0 : (y (0 : Fin 2)).val < 128 := (y (0 : Fin 2)).isLt
    have hy1 : (y (1 : Fin 2)).val < 512 := (y (1 : Fin 2)).isLt
    refine (cast_eq _ _).trans ((congrFun (after0_4 m c t) _).trans ?_)
    have ey : (cfg0.win 4).xinj (cfg0.grid.coords t) y = ix2 (⟨(y (0 : Fin 2)).val, hy0⟩ : Fin 128) (⟨(y (1 : Fin 2)).val, hy1⟩ : Fin 512) := funext fun (a : Fin 2) => by
      match a with
      | 0 => rfl
      | 1 => rfl
    refine (congrArg ((outsAt0 m c t).1) ey).trans ((point4 m c t _ _ ⟨0 * 128 + (y (0 : Fin 2)).val, by omega⟩
      ⟨t.val * 512 + (y (1 : Fin 2)).val, by omega⟩ rfl rfl).trans ?_)
    refine congrArg (outR (argX m c) (argW m c)) (funext fun (a : Fin 2) => Fin.ext ?_)
    have h : (((cfg0.win 4).rect t).emb y a : ℕ) = (![0, t.val] : Fin 2 → ℕ) a * (![128, 512] : Fin 2 → ℕ) a + (y a : ℕ) := emb_val (cfg0.win 4) t rfl (index4 t) y a
    refine Eq.trans ?_ h.symm
    match a with
    | 0 => rfl
    | 1 => rfl
  · have hi0 : (i (0 : Fin 2)).val < 128 := (i (0 : Fin 2)).isLt
    have hi1 : (i (1 : Fin 2)).val < 2048 := (i (1 : Fin 2)).isLt
    have ht : (i (1 : Fin 2)).val / 512 < cfg0.N := by omega
    refine ⟨⟨_, ht⟩, flush0_4 _, ?_⟩
    refine (Window.emb_mem_blk_iff (cfg0.win 4) ⟨_, ht⟩ i).2 fun (a : Fin 2) => ?_
    rw [index4]
    match a with
    | 0 =>
      show 0 * 128 ≤ (i (0 : Fin 2)).val
        ∧ (i (0 : Fin 2)).val < 0 * 128 + 128
      omega
    | 1 =>
      show ((i (1 : Fin 2)).val / 512) * 512 ≤ (i (1 : Fin 2)).val
        ∧ (i (1 : Fin 2)).val < ((i (1 : Fin 2)).val / 512) * 512 + 512
      omega

theorem arr5_eq : (dats m 0 c).arrAt 5 cfg0.N = truncf .bf16 (outR (argX m c) (argW m c)) bitsLt_bf16_f32 := by
  have hN := N_eq
  refine (dats m 0 c).arrAt_eq_of_emb 5 _ (fun t hf y => ?_) (fun i => ?_)
  · have htl : t.val < 4 := Nat.lt_of_lt_of_eq t.isLt hN
    have hy0 : (y (0 : Fin 2)).val < 128 := (y (0 : Fin 2)).isLt
    have hy1 : (y (1 : Fin 2)).val < 512 := (y (1 : Fin 2)).isLt
    refine (cast_eq _ _).trans ((congrFun (after0_5 m c t) _).trans ?_)
    have ey : (cfg0.win 5).xinj (cfg0.grid.coords t) y = ix2 (⟨(y (0 : Fin 2)).val, hy0⟩ : Fin 128) (⟨(y (1 : Fin 2)).val, hy1⟩ : Fin 512) := funext fun (a : Fin 2) => by
      match a with
      | 0 => rfl
      | 1 => rfl
    refine (congrArg ((outsAt0 m c t).2) ey).trans ((point5 m c t _ _ ⟨0 * 128 + (y (0 : Fin 2)).val, by omega⟩
      ⟨t.val * 512 + (y (1 : Fin 2)).val, by omega⟩ rfl rfl).trans ?_)
    refine congrArg (outR (argX m c) (argW m c)) (funext fun (a : Fin 2) => Fin.ext ?_)
    have h : (((cfg0.win 5).rect t).emb y a : ℕ) = (![0, t.val] : Fin 2 → ℕ) a * (![128, 512] : Fin 2 → ℕ) a + (y a : ℕ) := emb_val (cfg0.win 5) t rfl (index5 t) y a
    refine Eq.trans ?_ h.symm
    match a with
    | 0 => rfl
    | 1 => rfl
  · have hi0 : (i (0 : Fin 2)).val < 128 := (i (0 : Fin 2)).isLt
    have hi1 : (i (1 : Fin 2)).val < 2048 := (i (1 : Fin 2)).isLt
    have ht : (i (1 : Fin 2)).val / 512 < cfg0.N := by omega
    refine ⟨⟨_, ht⟩, flush0_5 _, ?_⟩
    refine (Window.emb_mem_blk_iff (cfg0.win 5) ⟨_, ht⟩ i).2 fun (a : Fin 2) => ?_
    rw [index5]
    match a with
    | 0 =>
      show 0 * 128 ≤ (i (0 : Fin 2)).val
        ∧ (i (0 : Fin 2)).val < 0 * 128 + 128
      omega
    | 1 =>
      show ((i (1 : Fin 2)).val / 512) * 512 ≤ (i (1 : Fin 2)).val
        ∧ (i (1 : Fin 2)).val < ((i (1 : Fin 2)).val / 512) * 512 + 512
      omega

end Cert.Proof.KNew
end
-- ==== Proof.KValue.lean ====
/-
  The keys' projection over the extended reals: the kernel turns each head of its product by the two tables its host
  code made, the reference turns the heads' pairs, and the two results are one.
-/
module

public import proofs.«01_k».proof.Proof.Gen.Kernel6Ideal.Value
public import proofs.«01_k».proof.Proof.Gen.Reference6Ideal.Run
public import proofs.«01_k».proof.Proof.Blocks
public import proofs.«01_k».proof.Proof.Wide
public import proofs.«01_k».proof.Proof.Rope
public import Idealize.ShloMosaic.Lib.Pipeline.ValueKit
public import Idealize.ShloMosaic.Lib.Pointwise

@[expose] public section

set_option maxRecDepth 100000

noncomputable section

namespace Cert.Proof.KValue

open Idealize.ShloMosaic Idealize.ShloMosaic.TcCoe
open Idealize.ShloMosaic.Pipeline (Dat Cfg Window)
open Cert.Kernel6Ideal Cert.Kernel6Ideal.Gen Blocks Wide Rope

/-- The block's product, at an index. -/
theorem dot_apply (a : Vec Ideal S1024x4096 .bf16) (u : Vec Ideal S1x4096x512 .bf16) (p : Fin 1024) (j : Fin 512) :
    k0_pay4 a u (ix2 p j) = ∑ d : Fin 4096, a (ix2 p d) * u (ix3 0 d j) := by
  pointwise [k0_pay4]

section
variable (c : Dev nD) (i : grid0.Coords) (a2 : Memref Kernel6Ideal.sig .tc .vmem S1024x4096 .bf16) (h2 : a2.IsWhole) (a3 : Memref Kernel6Ideal.sig .tc .vmem S1x4096x512 .bf16) (h3 : a3.IsWhole)
    (a4 : Memref Kernel6Ideal.sig .tc .vmem S1024x128 .f32) (h4 : a4.IsWhole) (a5 : Memref Kernel6Ideal.sig .tc .vmem S1024x128 .f32) (h5 : a5.IsWhole)
    (a6 : Memref Kernel6Ideal.sig .tc .vmem S1024x512 .f32) (h6 : a6.IsWhole) (a7 : Memref Kernel6Ideal.sig .tc .vmem S1024x512 .bf16) (h7 : a7.IsWhole)
    (x0 : Vec Ideal S1024x4096 .bf16) (x1 : Vec Ideal S1x4096x512 .bf16) (x2 x3 : Vec Ideal S1024x128 .f32)
    (P : Fin 8192 → Fin 2048 → EReal) (r : Fin 1024 → Fin 8192) (b : ℕ) (hb : b < 4)
    (ha : ∀ (p : Fin 1024) (k : Fin 512) (c : Fin 2048), b * 512 + k.val = c.val → k0_pay4 x0 x1 (ix2 p k) = P (r p) c)
    (hu : ∀ (p : Fin 1024) (j : Fin 128), k0_pay5 x2 (ix2 p j) = tabC (ix2 (r p) j)) (hv : ∀ (p : Fin 1024) (j : Fin 128), k0_pay6 x3 (ix2 p j) = tabS (ix2 (r p) j))
include ha hu hv

/-- What a point leaves in the results' staging buffers: the block's turned entries. -/
theorem out4_eq (y : S1024x512.Idx) : out0_A_4 c i a2 h2 a3 h3 a4 h4 a5 h5 a6 h6 a7 h7 x0 x1 x2 x3 y = blockG (turn P) r b hb y := by
  unfold out0_A_4
  rw [View.read_writes_junk_eq_canon]
  refine View.canon_apply_of_pieces (blockG (turn P) r b hb) _ ?_ y (cover0_A_4 c i a2 h2 a3 h3 a4 h4 a5 h5 a6 h6 a7 h7 x0 x1 x2 x3 y)
  unfold kernelRun0_A
  dsimp only
  sl_unfold_words
  simp only [View.readAt_eq_ld, h2.read_unread, h3.read_unread, h4.read_unread, h5.read_unread, View.ld_unit_zero (S := S1024x4096) hz2, View.ld_unit_zero (S := S1x4096x512) hz3,
    View.ld_unit_zero (S := S1024x128) hz2]
  simp only [List.forall_mem_cons, List.not_mem_nil, false_imp_iff, implies_true, and_true]
  exact ⟨piece_turn P 384 _ (by omega) rfl _ _ _ r b hb ha hu hv _, piece_turn P 256 _ (by omega) rfl _ _ _ r b hb ha hu hv _,
    piece_turn P 128 _ (by omega) rfl _ _ _ r b hb ha hu hv _, piece_turn P 0 _ (by omega) rfl _ _ _ r b hb ha hu hv _⟩
theorem out5_eq (y : S1024x512.Idx) : out0_A_5 c i a2 h2 a3 h3 a4 h4 a5 h5 a6 h6 a7 h7 x0 x1 x2 x3 y = blockG (turn P) r b hb y := by
  unfold out0_A_5
  rw [View.read_writes_junk_eq_canon]
  refine View.canon_apply_of_pieces (blockG (turn P) r b hb) _ ?_ y (cover0_A_5 c i a2 h2 a3 h3 a4 h4 a5 h5 a6 h6 a7 h7 x0 x1 x2 x3 y)
  unfold kernelRun0_A
  dsimp only
  sl_unfold_words
  simp only [View.readAt_eq_ld, h2.read_unread, h3.read_unread, h4.read_unread, h5.read_unread, View.ld_unit_zero (S := S1024x4096) hz2, View.ld_unit_zero (S := S1x4096x512) hz3,
    View.ld_unit_zero (S := S1024x128) hz2]
  simp only [List.forall_mem_cons, List.not_mem_nil, false_imp_iff, implies_true, and_true]
  exact ⟨piece_turn P 384 _ (by omega) rfl _ _ _ r b hb ha hu hv _, piece_turn P 256 _ (by omega) rfl _ _ _ r b hb ha hu hv _,
    piece_turn P 128 _ (by omega) rfl _ _ _ r b hb ha hu hv _, piece_turn P 0 _ (by omega) rfl _ _ _ r b hb ha hu hv _⟩
end

/-! ### The reference -/

open Reference6Ideal.Gen in
/-- The keys: the keys' columns of the projection, turned. -/
def outR (x : FVec Ideal S4x2048x4096 .f32) (w : FVec Ideal S4x4096x20576 .f32) : FVec Ideal S8192x2048 .f32 :=
  ropeR (extractStridedSlice Reference6Ideal.S4x2048x2048 ![0, 0, 2048] (projR x w) slices_S4x2048x20576_S4x2048x2048_0_0_2048)

/-- The keys' columns of the projection. -/
def keys (x : FVec Ideal S4x2048x4096 .f32) (w : FVec Ideal S4x4096x20576 .f32) (i : Fin 8192) (c : Fin 2048) : EReal := proj x w i ⟨2048 + c.val, by omega⟩

theorem outR_apply (x : FVec Ideal S4x2048x4096 .f32) (w : FVec Ideal S4x4096x20576 .f32) (i : Fin 8192) (j : Fin 2048) :
    outR x w (ix2 i j) = turn (keys x w) i j := by
  unfold outR
  rw [ropeR_apply]
  refine congrArg (fun P => turn P i j) (funext fun i => funext fun c => ?_)
  unfold keys
  pointwise
  exact projR_apply ..

theorem res50_eq (m : (ℓ : Loc Reference6Ideal.nD Reference6Ideal.τ Reference6Ideal.sig) → Buf (Elt Ideal) ℓ) (c : Dev Reference6Ideal.nD) :
    Reference6Ideal.Value.res_main_v50 m c = outR (m ((c.tc : Thread Reference6Ideal.nD Reference6Ideal.τ).loc Reference6Ideal.main_arg0)) (m ((c.tc : Thread Reference6Ideal.nD Reference6Ideal.τ).loc Reference6Ideal.main_arg1)) := by
  unfold Reference6Ideal.Value.res_main_v50
  rfl
theorem res51_eq (m : (ℓ : Loc Reference6Ideal.nD Reference6Ideal.τ Reference6Ideal.sig) → Buf (Elt Ideal) ℓ) (c : Dev Reference6Ideal.nD) :
    Reference6Ideal.Value.res_main_v51 m c = truncf .bf16 (outR (m ((c.tc : Thread Reference6Ideal.nD Reference6Ideal.τ).loc Reference6Ideal.main_arg0)) (m ((c.tc : Thread Reference6Ideal.nD Reference6Ideal.τ).loc Reference6Ideal.main_arg1))) Kernel6Ideal.Gen.bitsLt_bf16_f32 := by
  unfold Reference6Ideal.Value.res_main_v51
  rfl

/-! ### The kernel's blocks -/

variable (m : (ℓ : Loc nD τ Kernel6Ideal.sig) → Buf (Elt Ideal) ℓ) (c : Dev nD)

/-- The arguments at launch. -/
abbrev argX : FVec Ideal S4x2048x4096 .f32 := m ((c : Thread nD τ).loc main_arg0)
abbrev argW : FVec Ideal S4x4096x20576 .f32 := m ((c : Thread nD τ).loc main_arg1)

theorem V1_eq : V m c main_v1 = truncf .bf16 (shapeCast S8192x4096 (argX m c) shapeCasts_S4x2048x4096_S8192x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

set_option maxHeartbeats 4000000 in
theorem V33_eq : V m c main_v33 = tabC := by
  show StableHlo.after hostOps0 (fun b => m (c, b)) (Proc.devRef .tc main_v33) = _
  unfold hostOps0
  after_results <;> rfl
set_option maxHeartbeats 4000000 in
theorem V38_eq : V m c main_v38 = tabS := by
  show StableHlo.after hostOps0 (fun b => m (c, b)) (Proc.devRef .tc main_v38) = _
  unfold hostOps0
  after_results <;> rfl
/-- The windows' blocks at a point. -/
theorem index0 : ∀ t : Fin cfg0.N, (cfg0.win 0).index t = ![t.val / 4, 0] := by decide +kernel
theorem index1 : ∀ t : Fin cfg0.N, (cfg0.win 1).index t = ![3, 0, 4 + t.val % 4] := by decide +kernel
theorem index2 : ∀ t : Fin cfg0.N, (cfg0.win 2).index t = ![t.val / 4, 0] := by decide +kernel
theorem index3 : ∀ t : Fin cfg0.N, (cfg0.win 3).index t = ![t.val / 4, 0] := by decide +kernel
theorem index4 : ∀ t : Fin cfg0.N, (cfg0.win 4).index t = ![t.val / 4, t.val % 4] := by decide +kernel
theorem index5 : ∀ t : Fin cfg0.N, (cfg0.win 5).index t = ![t.val / 4, t.val % 4] := by decide +kernel

/-- The rows a point reads. -/
theorem x_eq (t : Fin cfg0.N) (p : Fin 1024) (d : Fin 4096) (i : Fin 8192) (hi : t.val / 4 * 1024 + p.val = i.val) : iblk m c 0 t (ix2 p d) = row (argX m c) i d := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![t.val / 4, 0] : Fin 2 → ℕ) a * (![1024, 4096] : Fin 2 → ℕ) a + ((ix2 p d) a : ℕ) :=
      emb_val (cfg0.win 0) t rfl (index0 t) (ix2 p d) a
    exact h.trans (coord2 _ _ p d i d hi (zero_row _ d) a)
  rw [e, V1_eq]
  exact flat_apply _ _ _ i d

/-- The weight's columns a point reads. -/
theorem w_eq (t : Fin cfg0.N) (d : Fin 4096) (j : Fin 512) (k : Fin 20576) (hk : 2048 + (t.val % 4 * 512 + j.val) = k.val) :
    X0_1 m c t (ix3 (0 : Fin 1) d j) = argW m c (ix3 (3 : Fin 4) d k) := by
  have hj := j.isLt
  have e : X0_1 m c t (ix3 (0 : Fin 1) d j) = V m c main_v7 (ix3 (3 : Fin 4) d (⟨(4 + t.val % 4) * 512 + j.val, by omega⟩ : Fin 20608)) := by
    refine (dif_pos (moved0_1 t _)).trans (congrArg (V m c main_v7) (funext fun (a : Fin 3) => Fin.ext ?_))
    have h : (((cfg0.win 1).rect t).emb (fun a => ⟨((ix3 (0 : Fin 1) d j) a).val, ((cfg0.win 1).moved_iff _ _).mp (moved0_1 t _) a⟩) a : ℕ)
        = (![3, 0, 4 + t.val % 4] : Fin 3 → ℕ) a * (![1, 4096, 512] : Fin 3 → ℕ) a + ((ix3 (0 : Fin 1) d j) a : ℕ) :=
      emb_val (cfg0.win 1) t rfl (index1 t) _ a
    exact h.trans (coord3 _ _ _ _ d j (3 : Fin 4) d (⟨(4 + t.val % 4) * 512 + j.val, by omega⟩ : Fin 20608) rfl (zero_row _ d) rfl a)
  rw [e, V7_eq]
  exact low_apply _ _ _ _ _ _ _ 3 d _ k (by show (4 + t.val % 4) * 512 + j.val < 8192; omega) (by show k.val = (4 + t.val % 4) * 512 + j.val; omega)

/-- The tables' rows a point reads. -/
theorem cos_eq (t : Fin cfg0.N) (p : Fin 1024) (j : Fin 128) (i : Fin 8192) (hi : t.val / 4 * 1024 + p.val = i.val) : iblk m c 2 t (ix2 p j) = tabC (ix2 i j) := by
  have e : iblk m c 2 t (ix2 p j) = V m c main_v33 (ix2 i j) := by
    refine congrArg (V m c main_v33) (funext fun (a : Fin 2) => Fin.ext ?_)
    have h : (((cfg0.win 2).rect t).emb (ix2 p j) a : ℕ) = (![t.val / 4, 0] : Fin 2 → ℕ) a * (![1024, 128] : Fin 2 → ℕ) a + ((ix2 p j) a : ℕ) :=
      emb_val (cfg0.win 2) t rfl (index2 t) (ix2 p j) a
    exact h.trans (coord2 _ _ p j i j hi (zero_row _ j) a)
  rw [e, V33_eq]
theorem sin_eq (t : Fin cfg0.N) (p : Fin 1024) (j : Fin 128) (i : Fin 8192) (hi : t.val / 4 * 1024 + p.val = i.val) : iblk m c 3 t (ix2 p j) = tabS (ix2 i j) := by
  have e : iblk m c 3 t (ix2 p j) = V m c main_v38 (ix2 i j) := by
    refine congrArg (V m c main_v38) (funext fun (a : Fin 2) => Fin.ext ?_)
    have h : (((cfg0.win 3).rect t).emb (ix2 p j) a : ℕ) = (![t.val / 4, 0] : Fin 2 → ℕ) a * (![1024, 128] : Fin 2 → ℕ) a + ((ix2 p j) a : ℕ) :=
      emb_val (cfg0.win 3) t rfl (index3 t) (ix2 p j) a
    exact h.trans (coord2 _ _ p j i j hi (zero_row _ j) a)
  rw [e, V38_eq]

theorem pay5_apply (u : Vec Ideal S1024x128 .f32) (p : Fin 1024) (j : Fin 128) : k0_pay5 u (ix2 p j) = u (ix2 p j) := by
  pointwise [k0_pay5]
theorem pay6_apply (u : Vec Ideal S1024x128 .f32) (p : Fin 1024) (j : Fin 128) : k0_pay6 u (ix2 p j) = u (ix2 p j) := by
  pointwise [k0_pay6]

/-- The product's entries at a point. -/
theorem dot_eq (t : Fin cfg0.N) (p : Fin 1024) (k : Fin 512) (i : Fin 8192) (l : Fin 2048) (hi : t.val / 4 * 1024 + p.val = i.val) (hl : t.val % 4 * 512 + k.val = l.val) :
    k0_pay4 (iblk m c 0 t) (X0_1 m c t) (ix2 p k) = keys (argX m c) (argW m c) i l := by
  rw [dot_apply]
  exact Finset.sum_congr rfl fun d _ => congrArg₂ (fun a b : EReal => a * b) (x_eq m c t p d i hi)
    (w_eq m c t d k ⟨2048 + l.val, by omega⟩ (by show _ = 2048 + l.val; rw [hl]))

/-- The grid's points. -/
theorem N_eq : cfg0.N = 32 := by
  show grid0.N = 32
  decide

/-- The row of the arrays a point's row is. -/
def rowAt (t : Fin cfg0.N) (p : Fin 1024) : Fin 8192 := ⟨t.val / 4 * 1024 + p.val, by
  have htl : t.val < 32 := Nat.lt_of_lt_of_eq t.isLt N_eq
  omega⟩

/-- What a point leaves is the reference's block. -/
theorem blockG_eq (t : Fin cfg0.N) (hb : t.val % 4 < 4) (p : Fin 1024) (j : Fin 512) (i : Fin 8192) (k : Fin 2048) (hi : t.val / 4 * 1024 + p.val = i.val) (hk : t.val % 4 * 512 + j.val = k.val) :
    blockG (turn (keys (argX m c) (argW m c))) (rowAt t) (t.val % 4) hb (ix2 p j) = outR (argX m c) (argW m c) (ix2 i k) := by
  rw [outR_apply]
  exact congrArg₂ (turn (keys (argX m c) (argW m c))) (Fin.ext hi) (Fin.ext hk)
theorem point4 (t : Fin cfg0.N) (p : Fin 1024) (j : Fin 512) (i : Fin 8192) (k : Fin 2048) (hi : t.val / 4 * 1024 + p.val = i.val) (hk : t.val % 4 * 512 + j.val = k.val) :
    (outsAt0 m c t).1 (ix2 p j) = outR (argX m c) (argW m c) (ix2 i k) := by
  unfold outsAt0
  dsimp only
  refine (out4_eq _ _ _ _ _ _ _ _ _ _ _ _ _ _ _ _ _ _ (keys (argX m c) (argW m c)) (rowAt t) (t.val % 4) (Nat.mod_lt _ (by decide)) (fun p k l hl => dot_eq m c t p k _ l rfl hl)
    (fun p j => (pay5_apply _ p j).trans (cos_eq m c t p j _ rfl)) (fun p j => (pay6_apply _ p j).trans (sin_eq m c t p j _ rfl)) _).trans (blockG_eq m c t _ p j i k hi hk)
theorem point5 (t : Fin cfg0.N) (p : Fin 1024) (j : Fin 512) (i : Fin 8192) (k : Fin 2048) (hi : t.val / 4 * 1024 + p.val = i.val) (hk : t.val % 4 * 512 + j.val = k.val) :
    (outsAt0 m c t).2 (ix2 p j) = outR (argX m c) (argW m c) (ix2 i k) := by
  unfold outsAt0
  dsimp only
  refine (out5_eq _ _ _ _ _ _ _ _ _ _ _ _ _ _ _ _ _ _ (keys (argX m c) (argW m c)) (rowAt t) (t.val % 4) (Nat.mod_lt _ (by decide)) (fun p k l hl => dot_eq m c t p k _ l rfl hl)
    (fun p j => (pay5_apply _ p j).trans (cos_eq m c t p j _ rfl)) (fun p j => (pay6_apply _ p j).trans (sin_eq m c t p j _ rfl)) _).trans (blockG_eq m c t _ p j i k hi hk)

/-- THE RESULTS: each array the kernel leaves is the reference's. -/
theorem arr4_eq : (dats m 0 c).arrAt 4 cfg0.N = outR (argX m c) (argW m c) := by
  have hN := N_eq
  refine (dats m 0 c).arrAt_eq_of_emb 4 _ (fun t hf y => ?_) (fun i => ?_)
  · have htl : t.val < 32 := Nat.lt_of_lt_of_eq t.isLt hN
    have hy0 : (y (0 : Fin 2)).val < 1024 := (y (0 : Fin 2)).isLt
    have hy1 : (y (1 : Fin 2)).val < 512 := (y (1 : Fin 2)).isLt
    refine (cast_eq _ _).trans ((congrFun (after0_4 m c t) _).trans ?_)
    have ey : (cfg0.win 4).xinj (cfg0.grid.coords t) y = ix2 (⟨(y (0 : Fin 2)).val, hy0⟩ : Fin 1024) (⟨(y (1 : Fin 2)).val, hy1⟩ : Fin 512) := funext fun (a : Fin 2) => by
      match a with
      | 0 => rfl
      | 1 => rfl
    refine (congrArg ((outsAt0 m c t).1) ey).trans ((point4 m c t _ _ ⟨t.val / 4 * 1024 + (y (0 : Fin 2)).val, by omega⟩
      ⟨t.val % 4 * 512 + (y (1 : Fin 2)).val, by omega⟩ rfl rfl).trans ?_)
    refine congrArg (outR (argX m c) (argW m c)) (funext fun (a : Fin 2) => Fin.ext ?_)
    have h : (((cfg0.win 4).rect t).emb y a : ℕ) = (![t.val / 4, t.val % 4] : Fin 2 → ℕ) a * (![1024, 512] : Fin 2 → ℕ) a + (y a : ℕ) := emb_val (cfg0.win 4) t rfl (index4 t) y a
    refine Eq.trans ?_ h.symm
    match a with
    | 0 => rfl
    | 1 => rfl
  · have hi0 : (i (0 : Fin 2)).val < 8192 := (i (0 : Fin 2)).isLt
    have hi1 : (i (1 : Fin 2)).val < 2048 := (i (1 : Fin 2)).isLt
    have ht : 4 * ((i (0 : Fin 2)).val / 1024) + (i (1 : Fin 2)).val / 512 < cfg0.N := by omega
    refine ⟨⟨_, ht⟩, flush0_4 _, ?_⟩
    refine (Window.emb_mem_blk_iff (cfg0.win 4) ⟨_, ht⟩ i).2 fun (a : Fin 2) => ?_
    rw [index4]
    match a with
    | 0 =>
      show (4 * ((i (0 : Fin 2)).val / 1024) + (i (1 : Fin 2)).val / 512) / 4 * 1024 ≤ (i (0 : Fin 2)).val
        ∧ (i (0 : Fin 2)).val < (4 * ((i (0 : Fin 2)).val / 1024) + (i (1 : Fin 2)).val / 512) / 4 * 1024 + 1024
      omega
    | 1 =>
      show (4 * ((i (0 : Fin 2)).val / 1024) + (i (1 : Fin 2)).val / 512) % 4 * 512 ≤ (i (1 : Fin 2)).val
        ∧ (i (1 : Fin 2)).val < (4 * ((i (0 : Fin 2)).val / 1024) + (i (1 : Fin 2)).val / 512) % 4 * 512 + 512
      omega

theorem arr5_eq : (dats m 0 c).arrAt 5 cfg0.N = truncf .bf16 (outR (argX m c) (argW m c)) bitsLt_bf16_f32 := by
  have hN := N_eq
  refine (dats m 0 c).arrAt_eq_of_emb 5 _ (fun t hf y => ?_) (fun i => ?_)
  · have htl : t.val < 32 := Nat.lt_of_lt_of_eq t.isLt hN
    have hy0 : (y (0 : Fin 2)).val < 1024 := (y (0 : Fin 2)).isLt
    have hy1 : (y (1 : Fin 2)).val < 512 := (y (1 : Fin 2)).isLt
    refine (cast_eq _ _).trans ((congrFun (after0_5 m c t) _).trans ?_)
    have ey : (cfg0.win 5).xinj (cfg0.grid.coords t) y = ix2 (⟨(y (0 : Fin 2)).val, hy0⟩ : Fin 1024) (⟨(y (1 : Fin 2)).val, hy1⟩ : Fin 512) := funext fun (a : Fin 2) => by
      match a with
      | 0 => rfl
      | 1 => rfl
    refine (congrArg ((outsAt0 m c t).2) ey).trans ((point5 m c t _ _ ⟨t.val / 4 * 1024 + (y (0 : Fin 2)).val, by omega⟩
      ⟨t.val % 4 * 512 + (y (1 : Fin 2)).val, by omega⟩ rfl rfl).trans ?_)
    refine congrArg (outR (argX m c) (argW m c)) (funext fun (a : Fin 2) => Fin.ext ?_)
    have h : (((cfg0.win 5).rect t).emb y a : ℕ) = (![t.val / 4, t.val % 4] : Fin 2 → ℕ) a * (![1024, 512] : Fin 2 → ℕ) a + (y a : ℕ) := emb_val (cfg0.win 5) t rfl (index5 t) y a
    refine Eq.trans ?_ h.symm
    match a with
    | 0 => rfl
    | 1 => rfl
  · have hi0 : (i (0 : Fin 2)).val < 8192 := (i (0 : Fin 2)).isLt
    have hi1 : (i (1 : Fin 2)).val < 2048 := (i (1 : Fin 2)).isLt
    have ht : 4 * ((i (0 : Fin 2)).val / 1024) + (i (1 : Fin 2)).val / 512 < cfg0.N := by omega
    refine ⟨⟨_, ht⟩, flush0_5 _, ?_⟩
    refine (Window.emb_mem_blk_iff (cfg0.win 5) ⟨_, ht⟩ i).2 fun (a : Fin 2) => ?_
    rw [index5]
    match a with
    | 0 =>
      show (4 * ((i (0 : Fin 2)).val / 1024) + (i (1 : Fin 2)).val / 512) / 4 * 1024 ≤ (i (0 : Fin 2)).val
        ∧ (i (0 : Fin 2)).val < (4 * ((i (0 : Fin 2)).val / 1024) + (i (1 : Fin 2)).val / 512) / 4 * 1024 + 1024
      omega
    | 1 =>
      show (4 * ((i (0 : Fin 2)).val / 1024) + (i (1 : Fin 2)).val / 512) % 4 * 512 ≤ (i (1 : Fin 2)).val
        ∧ (i (1 : Fin 2)).val < (4 * ((i (0 : Fin 2)).val / 1024) + (i (1 : Fin 2)).val / 512) % 4 * 512 + 512
      omega

end Cert.Proof.KValue
end
-- ==== Proof.MergeValue.lean ====
/-
  The merge's value over the extended reals: every entry is the two branches' projections, each times the sigmoid of
  its gate's projection, in the kernel's blocks as in the reference's slices.
-/
module

public import proofs.«01_k».proof.Proof.Gen.Kernel5Ideal.Value
public import proofs.«01_k».proof.Proof.Gen.Reference5Ideal.Run
public import proofs.«01_k».proof.Proof.Blocks
public import proofs.«01_k».proof.Proof.Wide
public import Idealize.ShloMosaic.Lib.Pipeline.ValueKit
public import Idealize.ShloMosaic.Lib.Pointwise

@[expose] public section

set_option maxRecDepth 100000

noncomputable section

namespace Cert.Proof.MergeValue

open Idealize.ShloMosaic Idealize.ShloMosaic.TcCoe
open Idealize.ShloMosaic.Pipeline (Dat Cfg Window)
open Cert.Kernel5Ideal Cert.Kernel5Ideal.Gen Blocks Wide

/-- The kernel's point. -/
def pay (x : Vec Ideal S1024x4096 .bf16) (u v : Vec Ideal S1024x2048 .bf16) (ga gb : Vec Ideal S1x4096x256 .bf16) (wa wb : Vec Ideal S1x2048x256 .bf16) : Vec Ideal S1024x256 .bf16 :=
  k0_pay1 (k0_pay2 v wb) (k0_pay3 x ga u wa) (k0_pay4 x gb)

theorem pay_apply (x : Vec Ideal S1024x4096 .bf16) (u v : Vec Ideal S1024x2048 .bf16) (ga gb : Vec Ideal S1x4096x256 .bf16) (wa wb : Vec Ideal S1x2048x256 .bf16)
    (p : Fin 1024) (j : Fin 256) :
    pay x u v ga gb wa wb (ix2 p j)
      = sig (∑ d : Fin 4096, x (ix2 p d) * ga (ix3 0 d j)) * (∑ f : Fin 2048, u (ix2 p f) * wa (ix3 0 f j))
        + sig (∑ d : Fin 4096, x (ix2 p d) * gb (ix3 0 d j)) * (∑ f : Fin 2048, v (ix2 p f) * wb (ix3 0 f j)) := by
  pointwise [pay, k0_pay1, k0_pay2, k0_pay3, k0_pay4]
  simp only [zero_sub]

/-- What a point leaves in the result's staging buffer. -/
theorem out_eq (c : Dev nD) (i : grid0.Coords) (a2 : Memref Kernel5Ideal.sig .tc .vmem S1024x4096 .bf16) (h2 : a2.IsWhole)
    (a3 : Memref Kernel5Ideal.sig .tc .vmem S1024x2048 .bf16) (h3 : a3.IsWhole)
    (a4 : Memref Kernel5Ideal.sig .tc .vmem S1024x2048 .bf16) (h4 : a4.IsWhole)
    (a5 : Memref Kernel5Ideal.sig .tc .vmem S1x4096x256 .bf16) (h5 : a5.IsWhole)
    (a6 : Memref Kernel5Ideal.sig .tc .vmem S1x4096x256 .bf16) (h6 : a6.IsWhole)
    (a7 : Memref Kernel5Ideal.sig .tc .vmem S1x2048x256 .bf16) (h7 : a7.IsWhole)
    (a8 : Memref Kernel5Ideal.sig .tc .vmem S1x2048x256 .bf16) (h8 : a8.IsWhole)
    (a9 : Memref Kernel5Ideal.sig .tc .vmem S1024x256 .bf16) (h9 : a9.IsWhole)
    (x0 : Vec Ideal S1024x4096 .bf16) (x1 x2 : Vec Ideal S1024x2048 .bf16) (x3 x4 : Vec Ideal S1x4096x256 .bf16) (x5 x6 : Vec Ideal S1x2048x256 .bf16) :
    out0_A_7 c i a2 h2 a3 h3 a4 h4 a5 h5 a6 h6 a7 h7 a8 h8 a9 h9 x0 x1 x2 x3 x4 x5 x6 = pay x0 x1 x2 x3 x4 x5 x6 := by
  unfold out0_A_7
  rw [View.read_writes_junk_eq_canon]
  unfold kernelRun0_A
  dsimp only
  sl_unfold_words
  rw [View.canon_unit_zero hz2]
  simp only [View.readAt_eq_ld, h2.read_unread, h3.read_unread, h4.read_unread, h5.read_unread, h6.read_unread, h7.read_unread, h8.read_unread,
    View.ld_unit_zero (S := S1024x4096) hz2, View.ld_unit_zero (S := S1024x2048) hz2, View.ld_unit_zero (S := S1x4096x256) hz3, View.ld_unit_zero (S := S1x2048x256) hz3]
  rfl

/-! ### The reference -/

open Reference5Ideal.Gen in
/-- The gates' columns of the projection. -/
def gateR (x : FVec Ideal S4x2048x4096 .f32) (w : FVec Ideal S4x4096x20576 .f32) : FVec Ideal Reference5Ideal.S8192x8192 .f32 :=
  shapeCast _ (extractStridedSlice Reference5Ideal.S4x2048x8192 ![0, 0, 12384] (projR x w) slices_S4x2048x20576_S4x2048x8192_0_0_12384) shapeCasts_S4x2048x8192_S8192x8192

open Reference5Ideal.Gen in
/-- The sigmoid of a gate. -/
def sigR (g : FVec Ideal S8192x4096 .f32) : FVec Ideal S8192x4096 .f32 :=
  Host.divf (broadcastInDim S8192x4096 ![] bcast_S_S8192x4096 (constant S_ .f32 0x3F800000#32))
    (addf (broadcastInDim S8192x4096 ![] bcast_S_S8192x4096 (constant S_ .f32 0x3F800000#32)) (Host.exp (Host.negf g)))

open Reference5Ideal.Gen in
/-- A branch's projection. -/
def branchR (u : FVec Ideal S8192x2048 .f32) (w : FVec Ideal S4x2048x4096 .f32) : FVec Ideal S8192x4096 .f32 :=
  Host.dotGeneral Reference5Ideal.dot_S8192x2048_S2048x4096_S8192x4096_1_0_0_1_n_n none u
    (shapeCast Reference5Ideal.S2048x4096 (extractStridedSlice Reference5Ideal.S1x2048x4096 ![3, 0, 0] w slices_S4x2048x4096_S1x2048x4096_3_0_0) shapeCasts_S1x2048x4096_S2048x4096)

open Reference5Ideal.Gen in
/-- The merged branches. -/
def outR (x : FVec Ideal S4x2048x4096 .f32) (u v : FVec Ideal S8192x2048 .f32) (w : FVec Ideal S4x4096x20576 .f32) (wa wb : FVec Ideal S4x2048x4096 .f32) : FVec Ideal S8192x4096 .bf16 :=
  truncf .bf16 (addf (mulf (sigR (extractStridedSlice S8192x4096 ![0, 0] (gateR x w) slices_S8192x8192_S8192x4096_0_0)) (branchR u wa))
    (mulf (sigR (extractStridedSlice S8192x4096 ![0, 4096] (gateR x w) slices_S8192x8192_S8192x4096_0_4096)) (branchR v wb))) Reference5Ideal.Gen.bitsLt_bf16_f32

theorem gateR_apply (x : FVec Ideal S4x2048x4096 .f32) (w : FVec Ideal S4x4096x20576 .f32) (i : Fin 8192) (j : Fin 8192) :
    gateR x w (ix2 i j) = proj x w i ⟨12384 + j.val, by omega⟩ := by
  pointwise [gateR]
  exact projR_apply ..

theorem branchR_apply (u : FVec Ideal S8192x2048 .f32) (w : FVec Ideal S4x2048x4096 .f32) (i : Fin 8192) (j : Fin 4096) :
    branchR u w (ix2 i j) = ∑ f : Fin 2048, u (ix2 i f) * w (ix3 3 f j) := by
  pointwise [branchR]

theorem outR_apply (x : FVec Ideal S4x2048x4096 .f32) (u v : FVec Ideal S8192x2048 .f32) (w : FVec Ideal S4x4096x20576 .f32) (wa wb : FVec Ideal S4x2048x4096 .f32)
    (i : Fin 8192) (j : Fin 4096) :
    outR x u v w wa wb (ix2 i j)
      = sig (proj x w i ⟨12384 + j.val, by omega⟩) * (∑ f : Fin 2048, u (ix2 i f) * wa (ix3 3 f j))
        + sig (proj x w i ⟨12384 + (4096 + j.val), by omega⟩) * (∑ f : Fin 2048, v (ix2 i f) * wb (ix3 3 f j)) := by
  pointwise [outR, sigR]
  simp only [gateR_apply, branchR_apply]

/-! ### The kernel's blocks -/

variable (m : (ℓ : Loc nD τ Kernel5Ideal.sig) → Buf (Elt Ideal) ℓ) (c : Dev nD)

/-- The arguments at launch. -/
abbrev argX : FVec Ideal S4x2048x4096 .f32 := m ((c : Thread nD τ).loc main_arg0)
abbrev argU : FVec Ideal S8192x2048 .f32 := m ((c : Thread nD τ).loc main_arg1)
abbrev argV : FVec Ideal S8192x2048 .f32 := m ((c : Thread nD τ).loc main_arg2)
abbrev argW : FVec Ideal S4x4096x20576 .f32 := m ((c : Thread nD τ).loc main_arg3)
abbrev argA : FVec Ideal S4x2048x4096 .f32 := m ((c : Thread nD τ).loc main_arg4)
abbrev argB : FVec Ideal S4x2048x4096 .f32 := m ((c : Thread nD τ).loc main_arg5)

theorem V1_eq : V m c main_v1 = truncf .bf16 (shapeCast S8192x4096 (argX m c) shapeCasts_S4x2048x4096_S8192x4096) bitsLt_bf16_f32 := by
  show StableHlo.after hostOps0 (fun b => m (c, b)) (Proc.devRef .tc main_v1) = _
  unfold hostOps0
  after_results <;> rfl

theorem V9_eq : V m c main_v9 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v9) = _
  unfold hostOps0
  after_results <;> rfl

theorem V2_eq : V m c main_v2 = truncf .bf16 (argU m c) bitsLt_bf16_f32 := by
  show StableHlo.after hostOps0 (fun b => m (c, b)) (Proc.devRef .tc main_v2) = _
  unfold hostOps0
  after_results <;> rfl

theorem V3_eq : V m c main_v3 = truncf .bf16 (argV m c) bitsLt_bf16_f32 := by
  show StableHlo.after hostOps0 (fun b => m (c, b)) (Proc.devRef .tc main_v3) = _
  unfold hostOps0
  after_results <;> rfl

theorem V10_eq : V m c main_v10 = truncf .bf16 (argA m c) bitsLt_bf16_f32 := by
  show StableHlo.after hostOps0 (fun b => m (c, b)) (Proc.devRef .tc main_v10) = _
  unfold hostOps0
  after_results <;> rfl

theorem V11_eq : V m c main_v11 = truncf .bf16 (argB m c) bitsLt_bf16_f32 := by
  show StableHlo.after hostOps0 (fun b => m (c, b)) (Proc.devRef .tc main_v11) = _
  unfold hostOps0
  after_results <;> rfl

/-- The windows' blocks at a point. -/
theorem index0 : ∀ t : Fin cfg0.N, (cfg0.win 0).index t = ![t.val / 16, 0] := by decide +kernel
theorem index1 : ∀ t : Fin cfg0.N, (cfg0.win 1).index t = ![t.val / 16, 0] := by decide +kernel
theorem index2 : ∀ t : Fin cfg0.N, (cfg0.win 2).index t = ![t.val / 16, 0] := by decide +kernel
theorem index3 : ∀ t : Fin cfg0.N, (cfg0.win 3).index t = ![3, 0, 48 + t.val % 16] := by decide +kernel
theorem index4 : ∀ t : Fin cfg0.N, (cfg0.win 4).index t = ![3, 0, 64 + t.val % 16] := by decide +kernel
theorem index5 : ∀ t : Fin cfg0.N, (cfg0.win 5).index t = ![3, 0, t.val % 16] := by decide +kernel
theorem index6 : ∀ t : Fin cfg0.N, (cfg0.win 6).index t = ![3, 0, t.val % 16] := by decide +kernel
theorem index7 : ∀ t : Fin cfg0.N, (cfg0.win 7).index t = ![t.val / 16, t.val % 16] := by decide +kernel

/-- The rows a point reads, of the input and of the two branches. -/
theorem x_eq (t : Fin cfg0.N) (p : Fin 1024) (d : Fin 4096) (i : Fin 8192) (hi : t.val / 16 * 1024 + p.val = i.val) : iblk m c 0 t (ix2 p d) = row (argX m c) i d := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![t.val / 16, 0] : Fin 2 → ℕ) a * (![1024, 4096] : Fin 2 → ℕ) a + ((ix2 p d) a : ℕ) :=
      emb_val (cfg0.win 0) t rfl (index0 t) (ix2 p d) a
    exact h.trans (coord2 _ _ p d i d hi (zero_row _ d) a)
  rw [e, V1_eq]
  exact flat_apply _ _ _ i d
theorem u_eq (t : Fin cfg0.N) (p : Fin 1024) (f : Fin 2048) (i : Fin 8192) (hi : t.val / 16 * 1024 + p.val = i.val) : iblk m c 1 t (ix2 p f) = argU m c (ix2 i f) := by
  have e : iblk m c 1 t (ix2 p f) = V m c main_v2 (ix2 i f) := by
    refine congrArg (V m c main_v2) (funext fun (a : Fin 2) => Fin.ext ?_)
    have h : (((cfg0.win 1).rect t).emb (ix2 p f) a : ℕ) = (![t.val / 16, 0] : Fin 2 → ℕ) a * (![1024, 2048] : Fin 2 → ℕ) a + ((ix2 p f) a : ℕ) :=
      emb_val (cfg0.win 1) t rfl (index1 t) (ix2 p f) a
    exact h.trans (coord2 _ _ p f i f hi (zero_row _ f) a)
  rw [e, V2_eq]
  rfl
theorem v_eq (t : Fin cfg0.N) (p : Fin 1024) (f : Fin 2048) (i : Fin 8192) (hi : t.val / 16 * 1024 + p.val = i.val) : iblk m c 2 t (ix2 p f) = argV m c (ix2 i f) := by
  have e : iblk m c 2 t (ix2 p f) = V m c main_v3 (ix2 i f) := by
    refine congrArg (V m c main_v3) (funext fun (a : Fin 2) => Fin.ext ?_)
    have h : (((cfg0.win 2).rect t).emb (ix2 p f) a : ℕ) = (![t.val / 16, 0] : Fin 2 → ℕ) a * (![1024, 2048] : Fin 2 → ℕ) a + ((ix2 p f) a : ℕ) :=
      emb_val (cfg0.win 2) t rfl (index2 t) (ix2 p f) a
    exact h.trans (coord2 _ _ p f i f hi (zero_row _ f) a)
  rw [e, V3_eq]
  rfl

/-- The weights' columns a point reads, of the two gates and of the two branches. -/
theorem ga_eq (t : Fin cfg0.N) (d : Fin 4096) (j : Fin 256) (k : Fin 20576) (hk : 12384 + (t.val % 16 * 256 + j.val) = k.val) :
    X0_3 m c t (ix3 (0 : Fin 1) d j) = argW m c (ix3 (3 : Fin 4) d k) := by
  have hj := j.isLt
  have e : X0_3 m c t (ix3 (0 : Fin 1) d j) = V m c main_v9 (ix3 (3 : Fin 4) d (⟨(48 + t.val % 16) * 256 + j.val, by omega⟩ : Fin 20608)) := by
    refine (dif_pos (moved0_3 t _)).trans (congrArg (V m c main_v9) (funext fun (a : Fin 3) => Fin.ext ?_))
    have h : (((cfg0.win 3).rect t).emb (fun a => ⟨((ix3 (0 : Fin 1) d j) a).val, ((cfg0.win 3).moved_iff _ _).mp (moved0_3 t _) a⟩) a : ℕ)
        = (![3, 0, 48 + t.val % 16] : Fin 3 → ℕ) a * (![1, 4096, 256] : Fin 3 → ℕ) a + ((ix3 (0 : Fin 1) d j) a : ℕ) :=
      emb_val (cfg0.win 3) t rfl (index3 t) _ a
    exact h.trans (coord3 _ _ _ _ d j (3 : Fin 4) d (⟨(48 + t.val % 16) * 256 + j.val, by omega⟩ : Fin 20608) rfl (zero_row _ d) rfl a)
  rw [e, V9_eq]
  exact high_apply _ _ _ _ _ _ _ 3 d _ k (by show 8192 ≤ (48 + t.val % 16) * 256 + j.val; omega) (by show (48 + t.val % 16) * 256 + j.val < 20480; omega)
    (by show k.val = (48 + t.val % 16) * 256 + j.val + 96; omega)
theorem gb_eq (t : Fin cfg0.N) (d : Fin 4096) (j : Fin 256) (k : Fin 20576) (hk : 12384 + (4096 + (t.val % 16 * 256 + j.val)) = k.val) :
    X0_4 m c t (ix3 (0 : Fin 1) d j) = argW m c (ix3 (3 : Fin 4) d k) := by
  have hj := j.isLt
  have e : X0_4 m c t (ix3 (0 : Fin 1) d j) = V m c main_v9 (ix3 (3 : Fin 4) d (⟨(64 + t.val % 16) * 256 + j.val, by omega⟩ : Fin 20608)) := by
    refine (dif_pos (moved0_4 t _)).trans (congrArg (V m c main_v9) (funext fun (a : Fin 3) => Fin.ext ?_))
    have h : (((cfg0.win 4).rect t).emb (fun a => ⟨((ix3 (0 : Fin 1) d j) a).val, ((cfg0.win 4).moved_iff _ _).mp (moved0_4 t _) a⟩) a : ℕ)
        = (![3, 0, 64 + t.val % 16] : Fin 3 → ℕ) a * (![1, 4096, 256] : Fin 3 → ℕ) a + ((ix3 (0 : Fin 1) d j) a : ℕ) :=
      emb_val (cfg0.win 4) t rfl (index4 t) _ a
    exact h.trans (coord3 _ _ _ _ d j (3 : Fin 4) d (⟨(64 + t.val % 16) * 256 + j.val, by omega⟩ : Fin 20608) rfl (zero_row _ d) rfl a)
  rw [e, V9_eq]
  exact high_apply _ _ _ _ _ _ _ 3 d _ k (by show 8192 ≤ (64 + t.val % 16) * 256 + j.val; omega) (by show (64 + t.val % 16) * 256 + j.val < 20480; omega)
    (by show k.val = (64 + t.val % 16) * 256 + j.val + 96; omega)
theorem wa_eq (t : Fin cfg0.N) (f : Fin 2048) (j : Fin 256) (k : Fin 4096) (hk : t.val % 16 * 256 + j.val = k.val) :
    iblk m c 5 t (ix3 (0 : Fin 1) f j) = argA m c (ix3 (3 : Fin 4) f k) := by
  have e : iblk m c 5 t (ix3 (0 : Fin 1) f j) = V m c main_v10 (ix3 (3 : Fin 4) f k) := by
    refine congrArg (V m c main_v10) (funext fun (a : Fin 3) => Fin.ext ?_)
    have h : (((cfg0.win 5).rect t).emb (ix3 (0 : Fin 1) f j) a : ℕ) = (![3, 0, t.val % 16] : Fin 3 → ℕ) a * (![1, 2048, 256] : Fin 3 → ℕ) a + ((ix3 (0 : Fin 1) f j) a : ℕ) :=
      emb_val (cfg0.win 5) t rfl (index5 t) (ix3 (0 : Fin 1) f j) a
    exact h.trans (coord3 _ _ _ _ f j (3 : Fin 4) f k rfl (zero_row _ f) hk a)
  rw [e, V10_eq]
  rfl
theorem wb_eq (t : Fin cfg0.N) (f : Fin 2048) (j : Fin 256) (k : Fin 4096) (hk : t.val % 16 * 256 + j.val = k.val) :
    iblk m c 6 t (ix3 (0 : Fin 1) f j) = argB m c (ix3 (3 : Fin 4) f k) := by
  have e : iblk m c 6 t (ix3 (0 : Fin 1) f j) = V m c main_v11 (ix3 (3 : Fin 4) f k) := by
    refine congrArg (V m c main_v11) (funext fun (a : Fin 3) => Fin.ext ?_)
    have h : (((cfg0.win 6).rect t).emb (ix3 (0 : Fin 1) f j) a : ℕ) = (![3, 0, t.val % 16] : Fin 3 → ℕ) a * (![1, 2048, 256] : Fin 3 → ℕ) a + ((ix3 (0 : Fin 1) f j) a : ℕ) :=
      emb_val (cfg0.win 6) t rfl (index6 t) (ix3 (0 : Fin 1) f j) a
    exact h.trans (coord3 _ _ _ _ f j (3 : Fin 4) f k rfl (zero_row _ f) hk a)
  rw [e, V11_eq]
  rfl

/-- What a point leaves is the reference's block. -/
theorem point_apply (t : Fin cfg0.N) (p : Fin 1024) (j : Fin 256) (i : Fin 8192) (k : Fin 4096) (hi : t.val / 16 * 1024 + p.val = i.val) (hk : t.val % 16 * 256 + j.val = k.val) :
    outsAt0 m c t (ix2 p j) = outR (argX m c) (argU m c) (argV m c) (argW m c) (argA m c) (argB m c) (ix2 i k) := by
  unfold outsAt0
  rw [out_eq, pay_apply, outR_apply]
  unfold proj
  refine congrArg₂ (fun a b : EReal => a + b)
    (congrArg₂ (fun a b : EReal => sig a * b) (Finset.sum_congr rfl fun d _ => ?_) (Finset.sum_congr rfl fun f _ => ?_))
    (congrArg₂ (fun a b : EReal => sig a * b) (Finset.sum_congr rfl fun d _ => ?_) (Finset.sum_congr rfl fun f _ => ?_))
  · rw [x_eq m c t p d i hi, ga_eq m c t d j ⟨12384 + k.val, by omega⟩ (by show _ = 12384 + k.val; rw [hk])]
  · rw [u_eq m c t p f i hi, wa_eq m c t f j k hk]
  · rw [x_eq m c t p d i hi, gb_eq m c t d j ⟨12384 + (4096 + k.val), by omega⟩ (by show _ = 12384 + (4096 + k.val); rw [hk])]
  · rw [v_eq m c t p f i hi, wb_eq m c t f j k hk]

/-- The grid's points. -/
theorem N_eq : cfg0.N = 128 := by
  show grid0.N = 128
  decide

/-- THE RESULT: the array the kernel leaves is the reference's. -/
theorem arr_eq : (dats m 0 c).arrAt 7 cfg0.N = outR (argX m c) (argU m c) (argV m c) (argW m c) (argA m c) (argB m c) := by
  have hN := N_eq
  refine (dats m 0 c).arrAt_eq_of_emb 7 _ (fun t hf y => ?_) (fun i => ?_)
  · have htl : t.val < 128 := Nat.lt_of_lt_of_eq t.isLt hN
    have hy0 : (y (0 : Fin 2)).val < 1024 := (y (0 : Fin 2)).isLt
    have hy1 : (y (1 : Fin 2)).val < 256 := (y (1 : Fin 2)).isLt
    refine (cast_eq _ _).trans ((congrFun (after0_7 m c t) _).trans ?_)
    have ey : (cfg0.win 7).xinj (cfg0.grid.coords t) y = ix2 (⟨(y (0 : Fin 2)).val, hy0⟩ : Fin 1024) (⟨(y (1 : Fin 2)).val, hy1⟩ : Fin 256) := funext fun (a : Fin 2) => by
      match a with
      | 0 => rfl
      | 1 => rfl
    refine (congrArg (outsAt0 m c t) ey).trans ((point_apply m c t _ _ ⟨t.val / 16 * 1024 + (y (0 : Fin 2)).val, by omega⟩
      ⟨t.val % 16 * 256 + (y (1 : Fin 2)).val, by omega⟩ rfl rfl).trans ?_)
    refine congrArg (outR (argX m c) (argU m c) (argV m c) (argW m c) (argA m c) (argB m c)) (funext fun (a : Fin 2) => Fin.ext ?_)
    have h : (((cfg0.win 7).rect t).emb y a : ℕ) = (![t.val / 16, t.val % 16] : Fin 2 → ℕ) a * (![1024, 256] : Fin 2 → ℕ) a + (y a : ℕ) := emb_val (cfg0.win 7) t rfl (index7 t) y a
    refine Eq.trans ?_ h.symm
    match a with
    | 0 => rfl
    | 1 => rfl
  · have hi0 : (i (0 : Fin 2)).val < 8192 := (i (0 : Fin 2)).isLt
    have hi1 : (i (1 : Fin 2)).val < 4096 := (i (1 : Fin 2)).isLt
    have ht : 16 * ((i (0 : Fin 2)).val / 1024) + (i (1 : Fin 2)).val / 256 < cfg0.N := by omega
    refine ⟨⟨_, ht⟩, flush0_7 _, ?_⟩
    refine (Window.emb_mem_blk_iff (cfg0.win 7) ⟨_, ht⟩ i).2 fun (a : Fin 2) => ?_
    rw [index7]
    match a with
    | 0 =>
      show (16 * ((i (0 : Fin 2)).val / 1024) + (i (1 : Fin 2)).val / 256) / 16 * 1024 ≤ (i (0 : Fin 2)).val
        ∧ (i (0 : Fin 2)).val < (16 * ((i (0 : Fin 2)).val / 1024) + (i (1 : Fin 2)).val / 256) / 16 * 1024 + 1024
      omega
    | 1 =>
      show (16 * ((i (0 : Fin 2)).val / 1024) + (i (1 : Fin 2)).val / 256) % 16 * 256 ≤ (i (1 : Fin 2)).val
        ∧ (i (1 : Fin 2)).val < (16 * ((i (0 : Fin 2)).val / 1024) + (i (1 : Fin 2)).val / 256) % 16 * 256 + 256
      omega

end Cert.Proof.MergeValue
end
-- ==== Proof.QValue.lean ====
/-
  The queries' projection over the extended reals: the kernel turns each head of its product by the two tables its host
  code made, the reference turns the heads' pairs, and the two results are one.
-/
module

public import proofs.«01_k».proof.Proof.Gen.Kernel8Ideal.Value
public import proofs.«01_k».proof.Proof.Gen.Reference8Ideal.Run
public import proofs.«01_k».proof.Proof.Blocks
public import proofs.«01_k».proof.Proof.Wide
public import proofs.«01_k».proof.Proof.Rope
public import Idealize.ShloMosaic.Lib.Pipeline.ValueKit
public import Idealize.ShloMosaic.Lib.Pointwise

@[expose] public section

set_option maxRecDepth 100000

noncomputable section

namespace Cert.Proof.QValue

open Idealize.ShloMosaic Idealize.ShloMosaic.TcCoe
open Idealize.ShloMosaic.Pipeline (Dat Cfg Window)
open Cert.Kernel8Ideal Cert.Kernel8Ideal.Gen Blocks Wide Rope

/-- The block's product, at an index. -/
theorem dot_apply (a : Vec Ideal S1024x4096 .bf16) (u : Vec Ideal S1x4096x512 .bf16) (p : Fin 1024) (j : Fin 512) :
    k0_pay2 a u (ix2 p j) = ∑ d : Fin 4096, a (ix2 p d) * u (ix3 0 d j) := by
  pointwise [k0_pay2]

section
variable (c : Dev nD) (i : grid0.Coords) (a2 : Memref Kernel8Ideal.sig .tc .vmem S1024x4096 .bf16) (h2 : a2.IsWhole) (a3 : Memref Kernel8Ideal.sig .tc .vmem S1x4096x512 .bf16) (h3 : a3.IsWhole)
    (a4 : Memref Kernel8Ideal.sig .tc .vmem S1024x128 .f32) (h4 : a4.IsWhole) (a5 : Memref Kernel8Ideal.sig .tc .vmem S1024x128 .f32) (h5 : a5.IsWhole)
    (a6 : Memref Kernel8Ideal.sig .tc .vmem S1024x512 .bf16) (h6 : a6.IsWhole)
    (x0 : Vec Ideal S1024x4096 .bf16) (x1 : Vec Ideal S1x4096x512 .bf16) (x2 x3 : Vec Ideal S1024x128 .f32)
    (P : Fin 8192 → Fin 2048 → EReal) (r : Fin 1024 → Fin 8192) (b : ℕ) (hb : b < 4)
    (ha : ∀ (p : Fin 1024) (k : Fin 512) (c : Fin 2048), b * 512 + k.val = c.val → k0_pay2 x0 x1 (ix2 p k) = P (r p) c)
    (hu : ∀ (p : Fin 1024) (j : Fin 128), k0_pay3 x2 (ix2 p j) = tabC (ix2 (r p) j)) (hv : ∀ (p : Fin 1024) (j : Fin 128), k0_pay4 x3 (ix2 p j) = tabS (ix2 (r p) j))
include ha hu hv

/-- What a point leaves in the result's staging buffer: the block's turned entries. -/
theorem out4_eq (y : S1024x512.Idx) : out0_A_4 c i a2 h2 a3 h3 a4 h4 a5 h5 a6 h6 x0 x1 x2 x3 y = blockG (turn P) r b hb y := by
  unfold out0_A_4
  rw [View.read_writes_junk_eq_canon]
  refine View.canon_apply_of_pieces (blockG (turn P) r b hb) _ ?_ y (cover0_A_4 c i a2 h2 a3 h3 a4 h4 a5 h5 a6 h6 x0 x1 x2 x3 y)
  unfold kernelRun0_A
  dsimp only
  sl_unfold_words
  simp only [View.readAt_eq_ld, h2.read_unread, h3.read_unread, h4.read_unread, h5.read_unread, View.ld_unit_zero (S := S1024x4096) hz2, View.ld_unit_zero (S := S1x4096x512) hz3,
    View.ld_unit_zero (S := S1024x128) hz2]
  simp only [List.forall_mem_cons, List.not_mem_nil, false_imp_iff, implies_true, and_true]
  exact ⟨piece_turn P 384 _ (by omega) rfl _ _ _ r b hb ha hu hv _, piece_turn P 256 _ (by omega) rfl _ _ _ r b hb ha hu hv _,
    piece_turn P 128 _ (by omega) rfl _ _ _ r b hb ha hu hv _, piece_turn P 0 _ (by omega) rfl _ _ _ r b hb ha hu hv _⟩
end

/-! ### The reference -/

open Reference8Ideal.Gen in
/-- The queries: their columns of the projection, turned. -/
def outR (x : FVec Ideal S4x2048x4096 .f32) (w : FVec Ideal S4x4096x20576 .f32) : FVec Ideal S8192x2048 .f32 :=
  ropeR (extractStridedSlice Reference8Ideal.S4x2048x2048 ![0, 0, 0] (projR x w) slices_S4x2048x20576_S4x2048x2048_0_0_0)

/-- The queries' columns of the projection. -/
def queries (x : FVec Ideal S4x2048x4096 .f32) (w : FVec Ideal S4x4096x20576 .f32) (i : Fin 8192) (c : Fin 2048) : EReal := proj x w i ⟨c.val, by omega⟩

theorem outR_apply (x : FVec Ideal S4x2048x4096 .f32) (w : FVec Ideal S4x4096x20576 .f32) (i : Fin 8192) (j : Fin 2048) :
    outR x w (ix2 i j) = turn (queries x w) i j := by
  unfold outR
  rw [ropeR_apply]
  refine congrArg (fun P => turn P i j) (funext fun i => funext fun c => ?_)
  unfold queries
  pointwise
  exact projR_apply ..

theorem res51_eq (m : (ℓ : Loc Reference8Ideal.nD Reference8Ideal.τ Reference8Ideal.sig) → Buf (Elt Ideal) ℓ) (c : Dev Reference8Ideal.nD) :
    Reference8Ideal.Value.res_main_v51 m c = truncf .bf16 (outR (m ((c.tc : Thread Reference8Ideal.nD Reference8Ideal.τ).loc Reference8Ideal.main_arg0)) (m ((c.tc : Thread Reference8Ideal.nD Reference8Ideal.τ).loc Reference8Ideal.main_arg1))) Kernel8Ideal.Gen.bitsLt_bf16_f32 := by
  unfold Reference8Ideal.Value.res_main_v51
  rfl

/-! ### The kernel's blocks -/

variable (m : (ℓ : Loc nD τ Kernel8Ideal.sig) → Buf (Elt Ideal) ℓ) (c : Dev nD)

/-- The arguments at launch. -/
abbrev argX : FVec Ideal S4x2048x4096 .f32 := m ((c : Thread nD τ).loc main_arg0)
abbrev argW : FVec Ideal S4x4096x20576 .f32 := m ((c : Thread nD τ).loc main_arg1)

theorem V1_eq : V m c main_v1 = truncf .bf16 (shapeCast S8192x4096 (argX m c) shapeCasts_S4x2048x4096_S8192x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

set_option maxHeartbeats 4000000 in
theorem V33_eq : V m c main_v33 = tabC := by
  show StableHlo.after hostOps0 (fun b => m (c, b)) (Proc.devRef .tc main_v33) = _
  unfold hostOps0
  after_results <;> rfl
set_option maxHeartbeats 4000000 in
theorem V38_eq : V m c main_v38 = tabS := by
  show StableHlo.after hostOps0 (fun b => m (c, b)) (Proc.devRef .tc main_v38) = _
  unfold hostOps0
  after_results <;> rfl
/-- The windows' blocks at a point. -/
theorem index0 : ∀ t : Fin cfg0.N, (cfg0.win 0).index t = ![t.val / 4, 0] := by decide +kernel
theorem index1 : ∀ t : Fin cfg0.N, (cfg0.win 1).index t = ![3, 0, t.val % 4] := by decide +kernel
theorem index2 : ∀ t : Fin cfg0.N, (cfg0.win 2).index t = ![t.val / 4, 0] := by decide +kernel
theorem index3 : ∀ t : Fin cfg0.N, (cfg0.win 3).index t = ![t.val / 4, 0] := by decide +kernel
theorem index4 : ∀ t : Fin cfg0.N, (cfg0.win 4).index t = ![t.val / 4, t.val % 4] := by decide +kernel

/-- The rows a point reads. -/
theorem x_eq (t : Fin cfg0.N) (p : Fin 1024) (d : Fin 4096) (i : Fin 8192) (hi : t.val / 4 * 1024 + p.val = i.val) : iblk m c 0 t (ix2 p d) = row (argX m c) i d := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![t.val / 4, 0] : Fin 2 → ℕ) a * (![1024, 4096] : Fin 2 → ℕ) a + ((ix2 p d) a : ℕ) :=
      emb_val (cfg0.win 0) t rfl (index0 t) (ix2 p d) a
    exact h.trans (coord2 _ _ p d i d hi (zero_row _ d) a)
  rw [e, V1_eq]
  exact flat_apply _ _ _ i d

/-- The weight's columns a point reads. -/
theorem w_eq (t : Fin cfg0.N) (d : Fin 4096) (j : Fin 512) (k : Fin 20576) (hk : t.val % 4 * 512 + j.val = k.val) :
    X0_1 m c t (ix3 (0 : Fin 1) d j) = argW m c (ix3 (3 : Fin 4) d k) := by
  have hj := j.isLt
  have e : X0_1 m c t (ix3 (0 : Fin 1) d j) = V m c main_v7 (ix3 (3 : Fin 4) d (⟨t.val % 4 * 512 + j.val, by omega⟩ : Fin 20608)) := by
    refine (dif_pos (moved0_1 t _)).trans (congrArg (V m c main_v7) (funext fun (a : Fin 3) => Fin.ext ?_))
    have h : (((cfg0.win 1).rect t).emb (fun a => ⟨((ix3 (0 : Fin 1) d j) a).val, ((cfg0.win 1).moved_iff _ _).mp (moved0_1 t _) a⟩) a : ℕ)
        = (![3, 0, t.val % 4] : Fin 3 → ℕ) a * (![1, 4096, 512] : Fin 3 → ℕ) a + ((ix3 (0 : Fin 1) d j) a : ℕ) :=
      emb_val (cfg0.win 1) t rfl (index1 t) _ a
    exact h.trans (coord3 _ _ _ _ d j (3 : Fin 4) d (⟨t.val % 4 * 512 + j.val, by omega⟩ : Fin 20608) rfl (zero_row _ d) rfl a)
  rw [e, V7_eq]
  exact low_apply _ _ _ _ _ _ _ 3 d _ k (by show t.val % 4 * 512 + j.val < 8192; omega) (by show k.val = t.val % 4 * 512 + j.val; omega)

/-- The tables' rows a point reads. -/
theorem cos_eq (t : Fin cfg0.N) (p : Fin 1024) (j : Fin 128) (i : Fin 8192) (hi : t.val / 4 * 1024 + p.val = i.val) : iblk m c 2 t (ix2 p j) = tabC (ix2 i j) := by
  have e : iblk m c 2 t (ix2 p j) = V m c main_v33 (ix2 i j) := by
    refine congrArg (V m c main_v33) (funext fun (a : Fin 2) => Fin.ext ?_)
    have h : (((cfg0.win 2).rect t).emb (ix2 p j) a : ℕ) = (![t.val / 4, 0] : Fin 2 → ℕ) a * (![1024, 128] : Fin 2 → ℕ) a + ((ix2 p j) a : ℕ) :=
      emb_val (cfg0.win 2) t rfl (index2 t) (ix2 p j) a
    exact h.trans (coord2 _ _ p j i j hi (zero_row _ j) a)
  rw [e, V33_eq]
theorem sin_eq (t : Fin cfg0.N) (p : Fin 1024) (j : Fin 128) (i : Fin 8192) (hi : t.val / 4 * 1024 + p.val = i.val) : iblk m c 3 t (ix2 p j) = tabS (ix2 i j) := by
  have e : iblk m c 3 t (ix2 p j) = V m c main_v38 (ix2 i j) := by
    refine congrArg (V m c main_v38) (funext fun (a : Fin 2) => Fin.ext ?_)
    have h : (((cfg0.win 3).rect t).emb (ix2 p j) a : ℕ) = (![t.val / 4, 0] : Fin 2 → ℕ) a * (![1024, 128] : Fin 2 → ℕ) a + ((ix2 p j) a : ℕ) :=
      emb_val (cfg0.win 3) t rfl (index3 t) (ix2 p j) a
    exact h.trans (coord2 _ _ p j i j hi (zero_row _ j) a)
  rw [e, V38_eq]

theorem pay3_apply (u : Vec Ideal S1024x128 .f32) (p : Fin 1024) (j : Fin 128) : k0_pay3 u (ix2 p j) = u (ix2 p j) := by
  pointwise [k0_pay3]
theorem pay4_apply (u : Vec Ideal S1024x128 .f32) (p : Fin 1024) (j : Fin 128) : k0_pay4 u (ix2 p j) = u (ix2 p j) := by
  pointwise [k0_pay4]

/-- The product's entries at a point. -/
theorem dot_eq (t : Fin cfg0.N) (p : Fin 1024) (k : Fin 512) (i : Fin 8192) (l : Fin 2048) (hi : t.val / 4 * 1024 + p.val = i.val) (hl : t.val % 4 * 512 + k.val = l.val) :
    k0_pay2 (iblk m c 0 t) (X0_1 m c t) (ix2 p k) = queries (argX m c) (argW m c) i l := by
  rw [dot_apply]
  exact Finset.sum_congr rfl fun d _ => congrArg₂ (fun a b : EReal => a * b) (x_eq m c t p d i hi)
    (w_eq m c t d k ⟨l.val, by omega⟩ hl)

/-- The grid's points. -/
theorem N_eq : cfg0.N = 32 := by
  show grid0.N = 32
  decide

/-- The row of the arrays a point's row is. -/
def rowAt (t : Fin cfg0.N) (p : Fin 1024) : Fin 8192 := ⟨t.val / 4 * 1024 + p.val, by
  have htl : t.val < 32 := Nat.lt_of_lt_of_eq t.isLt N_eq
  omega⟩

/-- What a point leaves is the reference's block. -/
theorem blockG_eq (t : Fin cfg0.N) (hb : t.val % 4 < 4) (p : Fin 1024) (j : Fin 512) (i : Fin 8192) (k : Fin 2048) (hi : t.val / 4 * 1024 + p.val = i.val) (hk : t.val % 4 * 512 + j.val = k.val) :
    blockG (turn (queries (argX m c) (argW m c))) (rowAt t) (t.val % 4) hb (ix2 p j) = outR (argX m c) (argW m c) (ix2 i k) := by
  rw [outR_apply]
  exact congrArg₂ (turn (queries (argX m c) (argW m c))) (Fin.ext hi) (Fin.ext hk)
theorem point4 (t : Fin cfg0.N) (p : Fin 1024) (j : Fin 512) (i : Fin 8192) (k : Fin 2048) (hi : t.val / 4 * 1024 + p.val = i.val) (hk : t.val % 4 * 512 + j.val = k.val) :
    outsAt0 m c t (ix2 p j) = outR (argX m c) (argW m c) (ix2 i k) := by
  unfold outsAt0
  refine (out4_eq _ _ _ _ _ _ _ _ _ _ _ _ _ _ _ _ (queries (argX m c) (argW m c)) (rowAt t) (t.val % 4) (Nat.mod_lt _ (by decide)) (fun p k l hl => dot_eq m c t p k _ l rfl hl)
    (fun p j => (pay3_apply _ p j).trans (cos_eq m c t p j _ rfl)) (fun p j => (pay4_apply _ p j).trans (sin_eq m c t p j _ rfl)) _).trans (blockG_eq m c t _ p j i k hi hk)
/-- THE RESULT: the array the kernel leaves is the reference's. -/
theorem arr4_eq : (dats m 0 c).arrAt 4 cfg0.N = truncf .bf16 (outR (argX m c) (argW m c)) bitsLt_bf16_f32 := by
  have hN := N_eq
  refine (dats m 0 c).arrAt_eq_of_emb 4 _ (fun t hf y => ?_) (fun i => ?_)
  · have htl : t.val < 32 := Nat.lt_of_lt_of_eq t.isLt hN
    have hy0 : (y (0 : Fin 2)).val < 1024 := (y (0 : Fin 2)).isLt
    have hy1 : (y (1 : Fin 2)).val < 512 := (y (1 : Fin 2)).isLt
    refine (cast_eq _ _).trans ((congrFun (after0_4 m c t) _).trans ?_)
    have ey : (cfg0.win 4).xinj (cfg0.grid.coords t) y = ix2 (⟨(y (0 : Fin 2)).val, hy0⟩ : Fin 1024) (⟨(y (1 : Fin 2)).val, hy1⟩ : Fin 512) := funext fun (a : Fin 2) => by
      match a with
      | 0 => rfl
      | 1 => rfl
    refine (congrArg (outsAt0 m c t) ey).trans ((point4 m c t _ _ ⟨t.val / 4 * 1024 + (y (0 : Fin 2)).val, by omega⟩
      ⟨t.val % 4 * 512 + (y (1 : Fin 2)).val, by omega⟩ rfl rfl).trans ?_)
    refine congrArg (outR (argX m c) (argW m c)) (funext fun (a : Fin 2) => Fin.ext ?_)
    have h : (((cfg0.win 4).rect t).emb y a : ℕ) = (![t.val / 4, t.val % 4] : Fin 2 → ℕ) a * (![1024, 512] : Fin 2 → ℕ) a + (y a : ℕ) := emb_val (cfg0.win 4) t rfl (index4 t) y a
    refine Eq.trans ?_ h.symm
    match a with
    | 0 => rfl
    | 1 => rfl
  · have hi0 : (i (0 : Fin 2)).val < 8192 := (i (0 : Fin 2)).isLt
    have hi1 : (i (1 : Fin 2)).val < 2048 := (i (1 : Fin 2)).isLt
    have ht : 4 * ((i (0 : Fin 2)).val / 1024) + (i (1 : Fin 2)).val / 512 < cfg0.N := by omega
    refine ⟨⟨_, ht⟩, flush0_4 _, ?_⟩
    refine (Window.emb_mem_blk_iff (cfg0.win 4) ⟨_, ht⟩ i).2 fun (a : Fin 2) => ?_
    rw [index4]
    match a with
    | 0 =>
      show (4 * ((i (0 : Fin 2)).val / 1024) + (i (1 : Fin 2)).val / 512) / 4 * 1024 ≤ (i (0 : Fin 2)).val
        ∧ (i (0 : Fin 2)).val < (4 * ((i (0 : Fin 2)).val / 1024) + (i (1 : Fin 2)).val / 512) / 4 * 1024 + 1024
      omega
    | 1 =>
      show (4 * ((i (0 : Fin 2)).val / 1024) + (i (1 : Fin 2)).val / 512) % 4 * 512 ≤ (i (1 : Fin 2)).val
        ∧ (i (1 : Fin 2)).val < (4 * ((i (0 : Fin 2)).val / 1024) + (i (1 : Fin 2)).val / 512) % 4 * 512 + 512
      omega

end Cert.Proof.QValue
end
-- ==== Proof.VNew.lean ====
/-
  The values' projection over the extended reals: every entry is a sum of products, in the kernel's blocks as in the
  reference's slice, and the two results are one.
-/
module

public import proofs.«01_k».proof.Proof.Gen.Kernel10Ideal.Value
public import proofs.«01_k».proof.Proof.Gen.Reference10Ideal.Run
public import proofs.«01_k».proof.Proof.Blocks
public import proofs.«01_k».proof.Proof.Wide
public import proofs.«01_k».proof.Proof.Step
public import Idealize.ShloMosaic.Lib.Pipeline.ValueKit
public import Idealize.ShloMosaic.Lib.Pointwise

@[expose] public section

set_option maxRecDepth 100000

noncomputable section

namespace Cert.Proof.VNew

open Idealize.ShloMosaic Idealize.ShloMosaic.TcCoe
open Idealize.ShloMosaic.Pipeline (Dat Cfg Window)
open Cert.Kernel10Ideal Cert.Kernel10Ideal.Gen Blocks Wide Step

/-- The kernel's two stores, at an index. -/
theorem pay1_apply (a : Vec Ideal S128x4096 .bf16) (u : Vec Ideal S1x4096x512 .bf16) (p : Fin 128) (j : Fin 512) :
    k0_pay1 a u (ix2 p j) = ∑ d : Fin 4096, a (ix2 p d) * u (ix3 0 d j) := by
  pointwise [k0_pay1]
theorem pay2_apply (a : Vec Ideal S128x4096 .bf16) (u : Vec Ideal S1x4096x512 .bf16) (p : Fin 128) (j : Fin 512) :
    k0_pay2 a u (ix2 p j) = k0_pay1 a u (ix2 p j) := by
  pointwise [k0_pay2]

section
variable (c : Dev nD) (i : grid0.Coords) (a2 : Memref Kernel10Ideal.sig .tc .vmem S128x4096 .bf16) (h2 : a2.IsWhole) (a3 : Memref Kernel10Ideal.sig .tc .vmem S1x4096x512 .bf16) (h3 : a3.IsWhole)
    (a4 : Memref Kernel10Ideal.sig .tc .vmem S128x512 .f32) (h4 : a4.IsWhole) (a5 : Memref Kernel10Ideal.sig .tc .vmem S128x512 .bf16) (h5 : a5.IsWhole)
    (x0 : Vec Ideal S128x4096 .bf16) (x1 : Vec Ideal S1x4096x512 .bf16)

/-- What a point leaves in the results' staging buffers. -/
theorem out2_eq : out0_A_2 c i a2 h2 a3 h3 a4 h4 a5 h5 x0 x1 = k0_pay1 x0 x1 := by
  unfold out0_A_2
  rw [View.read_writes_junk_eq_canon]
  unfold kernelRun0_A
  dsimp only
  rw [View.canon_unit_zero hz2]
  simp only [View.readAt_eq_ld, h2.read_unread, h3.read_unread, View.ld_unit_zero (S := S128x4096) hz2, View.ld_unit_zero (S := S1x4096x512) hz3]
theorem out3_eq : out0_A_3 c i a2 h2 a3 h3 a4 h4 a5 h5 x0 x1 = k0_pay2 x0 x1 := by
  unfold out0_A_3
  rw [View.read_writes_junk_eq_canon]
  unfold kernelRun0_A
  dsimp only
  sl_unfold_words
  rw [View.canon_unit_zero hz2]
  simp only [View.readAt_eq_ld, h2.read_unread, h3.read_unread, View.ld_unit_zero (S := S128x4096) hz2, View.ld_unit_zero (S := S1x4096x512) hz3]
end

/-! ### The reference -/

open Reference10Ideal.Gen in
/-- The values' columns of the projection. -/
def outR (x : FVec Ideal S128x1x4096 .f32) (w : FVec Ideal S4x4096x20576 .f32) : FVec Ideal S128x2048 .f32 :=
  shapeCast _ (extractStridedSlice Reference10Ideal.S128x1x2048 ![0, 0, 4096] (proj1R x w) slices_S128x1x20576_S128x1x2048_0_0_4096) shapeCasts_S128x1x2048_S128x2048

theorem outR_apply (x : FVec Ideal S128x1x4096 .f32) (w : FVec Ideal S4x4096x20576 .f32) (i : Fin 128) (j : Fin 2048) :
    outR x w (ix2 i j) = proj1 x w i ⟨4096 + j.val, by omega⟩ := by
  pointwise [outR]
  exact proj1R_apply ..

/-! ### The kernel's blocks -/

variable (m : (ℓ : Loc nD τ Kernel10Ideal.sig) → Buf (Elt Ideal) ℓ) (c : Dev nD)

/-- The arguments at launch. -/
abbrev argX : FVec Ideal S128x1x4096 .f32 := m ((c : Thread nD τ).loc main_arg0)
abbrev argW : FVec Ideal S4x4096x20576 .f32 := m ((c : Thread nD τ).loc main_arg1)

theorem V1_eq : V m c main_v1 = truncf .bf16 (shapeCast S128x4096 (argX m c) shapeCasts_S128x1x4096_S128x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

/-- The grid's points. -/
theorem N_eq : cfg0.N = 4 := by
  show grid0.N = 4
  decide

/-- The windows' blocks at a point. -/
theorem index0 : ∀ t : Fin cfg0.N, (cfg0.win 0).index t = ![0, 0] := by decide +kernel
theorem index1 : ∀ t : Fin cfg0.N, (cfg0.win 1).index t = ![3, 0, 8 + t.val] := by decide +kernel
theorem index2 : ∀ t : Fin cfg0.N, (cfg0.win 2).index t = ![0, t.val] := by decide +kernel
theorem index3 : ∀ t : Fin cfg0.N, (cfg0.win 3).index t = ![0, t.val] := by decide +kernel

/-- The rows a point reads. -/
theorem x_eq (t : Fin cfg0.N) (p : Fin 128) (d : Fin 4096) (i : Fin 128) (hi : 0 * 128 + p.val = i.val) : iblk m c 0 t (ix2 p d) = argX m c (ix3 i 0 d) := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![0, 0] : Fin 2 → ℕ) a * (![128, 4096] : Fin 2 → ℕ) a + ((ix2 p d) a : ℕ) :=
      emb_val (cfg0.win 0) t rfl (index0 t) (ix2 p d) a
    exact h.trans (coord2 _ _ p d i d hi (zero_row _ d) a)
  rw [e, V1_eq]
  exact rows_apply _ _ _ i d

/-- The weight's columns a point reads. -/
theorem w_eq (t : Fin cfg0.N) (d : Fin 4096) (j : Fin 512) (k : Fin 20576) (hk : 4096 + (t.val * 512 + j.val) = k.val) :
    X0_1 m c t (ix3 (0 : Fin 1) d j) = argW m c (ix3 (3 : Fin 4) d k) := by
  have hj := j.isLt
  have htl : t.val < 4 := Nat.lt_of_lt_of_eq t.isLt N_eq
  have e : X0_1 m c t (ix3 (0 : Fin 1) d j) = V m c main_v7 (ix3 (3 : Fin 4) d (⟨(8 + t.val) * 512 + j.val, by omega⟩ : Fin 20608)) := by
    refine (dif_pos (moved0_1 t _)).trans (congrArg (V m c main_v7) (funext fun (a : Fin 3) => Fin.ext ?_))
    have h : (((cfg0.win 1).rect t).emb (fun a => ⟨((ix3 (0 : Fin 1) d j) a).val, ((cfg0.win 1).moved_iff _ _).mp (moved0_1 t _) a⟩) a : ℕ)
        = (![3, 0, 8 + t.val] : Fin 3 → ℕ) a * (![1, 4096, 512] : Fin 3 → ℕ) a + ((ix3 (0 : Fin 1) d j) a : ℕ) :=
      emb_val (cfg0.win 1) t rfl (index1 t) _ a
    exact h.trans (coord3 _ _ _ _ d j (3 : Fin 4) d (⟨(8 + t.val) * 512 + j.val, by omega⟩ : Fin 20608) rfl (zero_row _ d) rfl a)
  rw [e, V7_eq]
  exact low_apply _ _ _ _ _ _ _ 3 d _ k (by show (8 + t.val) * 512 + j.val < 8192; omega) (by show k.val = (8 + t.val) * 512 + j.val; omega)

/-- What a point leaves is the reference's block. -/
theorem point_apply (t : Fin cfg0.N) (p : Fin 128) (j : Fin 512) (i : Fin 128) (k : Fin 2048) (hi : 0 * 128 + p.val = i.val) (hk : t.val * 512 + j.val = k.val) :
    k0_pay1 (iblk m c 0 t) (X0_1 m c t) (ix2 p j) = outR (argX m c) (argW m c) (ix2 i k) := by
  rw [pay1_apply, outR_apply]
  exact Finset.sum_congr rfl fun d _ => congrArg₂ (fun a b : EReal => a * b) (x_eq m c t p d i hi)
    (w_eq m c t d j ⟨4096 + k.val, by omega⟩ (by show _ = 4096 + k.val; rw [hk]))
theorem point2 (t : Fin cfg0.N) (p : Fin 128) (j : Fin 512) (i : Fin 128) (k : Fin 2048) (hi : 0 * 128 + p.val = i.val) (hk : t.val * 512 + j.val = k.val) :
    (outsAt0 m c t).1 (ix2 p j) = outR (argX m c) (argW m c) (ix2 i k) := by
  unfold outsAt0
  dsimp only
  rw [out2_eq]
  exact point_apply m c t p j i k hi hk
theorem point3 (t : Fin cfg0.N) (p : Fin 128) (j : Fin 512) (i : Fin 128) (k : Fin 2048) (hi : 0 * 128 + p.val = i.val) (hk : t.val * 512 + j.val = k.val) :
    (outsAt0 m c t).2 (ix2 p j) = outR (argX m c) (argW m c) (ix2 i k) := by
  unfold outsAt0
  dsimp only
  rw [out3_eq, pay2_apply]
  exact point_apply m c t p j i k hi hk

/-- THE RESULTS: each array the kernel leaves is the reference's. -/
theorem arr2_eq : (dats m 0 c).arrAt 2 cfg0.N = outR (argX m c) (argW m c) := by
  have hN := N_eq
  refine (dats m 0 c).arrAt_eq_of_emb 2 _ (fun t hf y => ?_) (fun i => ?_)
  · have htl : t.val < 4 := Nat.lt_of_lt_of_eq t.isLt hN
    have hy0 : (y (0 : Fin 2)).val < 128 := (y (0 : Fin 2)).isLt
    have hy1 : (y (1 : Fin 2)).val < 512 := (y (1 : Fin 2)).isLt
    refine (cast_eq _ _).trans ((congrFun (after0_2 m c t) _).trans ?_)
    have ey : (cfg0.win 2).xinj (cfg0.grid.coords t) y = ix2 (⟨(y (0 : Fin 2)).val, hy0⟩ : Fin 128) (⟨(y (1 : Fin 2)).val, hy1⟩ : Fin 512) := funext fun (a : Fin 2) => by
      match a with
      | 0 => rfl
      | 1 => rfl
    refine (congrArg ((outsAt0 m c t).1) ey).trans ((point2 m c t _ _ ⟨0 * 128 + (y (0 : Fin 2)).val, by omega⟩
      ⟨t.val * 512 + (y (1 : Fin 2)).val, by omega⟩ rfl rfl).trans ?_)
    refine congrArg (outR (argX m c) (argW m c)) (funext fun (a : Fin 2) => Fin.ext ?_)
    have h : (((cfg0.win 2).rect t).emb y a : ℕ) = (![0, t.val] : Fin 2 → ℕ) a * (![128, 512] : Fin 2 → ℕ) a + (y a : ℕ) := emb_val (cfg0.win 2) t rfl (index2 t) y a
    refine Eq.trans ?_ h.symm
    match a with
    | 0 => rfl
    | 1 => rfl
  · have hi0 : (i (0 : Fin 2)).val < 128 := (i (0 : Fin 2)).isLt
    have hi1 : (i (1 : Fin 2)).val < 2048 := (i (1 : Fin 2)).isLt
    have ht : (i (1 : Fin 2)).val / 512 < cfg0.N := by omega
    refine ⟨⟨_, ht⟩, flush0_2 _, ?_⟩
    refine (Window.emb_mem_blk_iff (cfg0.win 2) ⟨_, ht⟩ i).2 fun (a : Fin 2) => ?_
    rw [index2]
    match a with
    | 0 =>
      show 0 * 128 ≤ (i (0 : Fin 2)).val
        ∧ (i (0 : Fin 2)).val < 0 * 128 + 128
      omega
    | 1 =>
      show ((i (1 : Fin 2)).val / 512) * 512 ≤ (i (1 : Fin 2)).val
        ∧ (i (1 : Fin 2)).val < ((i (1 : Fin 2)).val / 512) * 512 + 512
      omega

theorem arr3_eq : (dats m 0 c).arrAt 3 cfg0.N = truncf .bf16 (outR (argX m c) (argW m c)) bitsLt_bf16_f32 := by
  have hN := N_eq
  refine (dats m 0 c).arrAt_eq_of_emb 3 _ (fun t hf y => ?_) (fun i => ?_)
  · have htl : t.val < 4 := Nat.lt_of_lt_of_eq t.isLt hN
    have hy0 : (y (0 : Fin 2)).val < 128 := (y (0 : Fin 2)).isLt
    have hy1 : (y (1 : Fin 2)).val < 512 := (y (1 : Fin 2)).isLt
    refine (cast_eq _ _).trans ((congrFun (after0_3 m c t) _).trans ?_)
    have ey : (cfg0.win 3).xinj (cfg0.grid.coords t) y = ix2 (⟨(y (0 : Fin 2)).val, hy0⟩ : Fin 128) (⟨(y (1 : Fin 2)).val, hy1⟩ : Fin 512) := funext fun (a : Fin 2) => by
      match a with
      | 0 => rfl
      | 1 => rfl
    refine (congrArg ((outsAt0 m c t).2) ey).trans ((point3 m c t _ _ ⟨0 * 128 + (y (0 : Fin 2)).val, by omega⟩
      ⟨t.val * 512 + (y (1 : Fin 2)).val, by omega⟩ rfl rfl).trans ?_)
    refine congrArg (outR (argX m c) (argW m c)) (funext fun (a : Fin 2) => Fin.ext ?_)
    have h : (((cfg0.win 3).rect t).emb y a : ℕ) = (![0, t.val] : Fin 2 → ℕ) a * (![128, 512] : Fin 2 → ℕ) a + (y a : ℕ) := emb_val (cfg0.win 3) t rfl (index3 t) y a
    refine Eq.trans ?_ h.symm
    match a with
    | 0 => rfl
    | 1 => rfl
  · have hi0 : (i (0 : Fin 2)).val < 128 := (i (0 : Fin 2)).isLt
    have hi1 : (i (1 : Fin 2)).val < 2048 := (i (1 : Fin 2)).isLt
    have ht : (i (1 : Fin 2)).val / 512 < cfg0.N := by omega
    refine ⟨⟨_, ht⟩, flush0_3 _, ?_⟩
    refine (Window.emb_mem_blk_iff (cfg0.win 3) ⟨_, ht⟩ i).2 fun (a : Fin 2) => ?_
    rw [index3]
    match a with
    | 0 =>
      show 0 * 128 ≤ (i (0 : Fin 2)).val
        ∧ (i (0 : Fin 2)).val < 0 * 128 + 128
      omega
    | 1 =>
      show ((i (1 : Fin 2)).val / 512) * 512 ≤ (i (1 : Fin 2)).val
        ∧ (i (1 : Fin 2)).val < ((i (1 : Fin 2)).val / 512) * 512 + 512
      omega

end Cert.Proof.VNew
end
-- ==== Proof.VValue.lean ====
/-
  The values' projection over the extended reals: every entry is a sum of products, in the kernel's blocks as in the
  reference's slice, and the two results are one.
-/
module

public import proofs.«01_k».proof.Proof.Gen.Kernel3Ideal.Value
public import proofs.«01_k».proof.Proof.Gen.Reference3Ideal.Run
public import proofs.«01_k».proof.Proof.Blocks
public import proofs.«01_k».proof.Proof.Wide
public import Idealize.ShloMosaic.Lib.Pipeline.ValueKit
public import Idealize.ShloMosaic.Lib.Pointwise

@[expose] public section

set_option maxRecDepth 100000

noncomputable section

namespace Cert.Proof.VValue

open Idealize.ShloMosaic Idealize.ShloMosaic.TcCoe
open Idealize.ShloMosaic.Pipeline (Dat Cfg Window)
open Cert.Kernel3Ideal Cert.Kernel3Ideal.Gen Blocks Wide

/-- The kernel's two stores, at an index. -/
theorem pay1_apply (a : Vec Ideal S1024x4096 .bf16) (u : Vec Ideal S1x4096x512 .bf16) (p : Fin 1024) (j : Fin 512) :
    k0_pay1 a u (ix2 p j) = ∑ d : Fin 4096, a (ix2 p d) * u (ix3 0 d j) := by
  pointwise [k0_pay1]
theorem pay2_apply (a : Vec Ideal S1024x4096 .bf16) (u : Vec Ideal S1x4096x512 .bf16) (p : Fin 1024) (j : Fin 512) :
    k0_pay2 a u (ix2 p j) = k0_pay1 a u (ix2 p j) := by
  pointwise [k0_pay2]

section
variable (c : Dev nD) (i : grid0.Coords) (a2 : Memref Kernel3Ideal.sig .tc .vmem S1024x4096 .bf16) (h2 : a2.IsWhole) (a3 : Memref Kernel3Ideal.sig .tc .vmem S1x4096x512 .bf16) (h3 : a3.IsWhole)
    (a4 : Memref Kernel3Ideal.sig .tc .vmem S1024x512 .f32) (h4 : a4.IsWhole) (a5 : Memref Kernel3Ideal.sig .tc .vmem S1024x512 .bf16) (h5 : a5.IsWhole)
    (x0 : Vec Ideal S1024x4096 .bf16) (x1 : Vec Ideal S1x4096x512 .bf16)

/-- What a point leaves in the results' staging buffers. -/
theorem out2_eq : out0_A_2 c i a2 h2 a3 h3 a4 h4 a5 h5 x0 x1 = k0_pay1 x0 x1 := by
  unfold out0_A_2
  rw [View.read_writes_junk_eq_canon]
  unfold kernelRun0_A
  dsimp only
  rw [View.canon_unit_zero hz2]
  simp only [View.readAt_eq_ld, h2.read_unread, h3.read_unread, View.ld_unit_zero (S := S1024x4096) hz2, View.ld_unit_zero (S := S1x4096x512) hz3]
theorem out3_eq : out0_A_3 c i a2 h2 a3 h3 a4 h4 a5 h5 x0 x1 = k0_pay2 x0 x1 := by
  unfold out0_A_3
  rw [View.read_writes_junk_eq_canon]
  unfold kernelRun0_A
  dsimp only
  sl_unfold_words
  rw [View.canon_unit_zero hz2]
  simp only [View.readAt_eq_ld, h2.read_unread, h3.read_unread, View.ld_unit_zero (S := S1024x4096) hz2, View.ld_unit_zero (S := S1x4096x512) hz3]
end

/-! ### The reference -/

open Reference3Ideal.Gen in
/-- The values' columns of the projection. -/
def outR (x : FVec Ideal S4x2048x4096 .f32) (w : FVec Ideal S4x4096x20576 .f32) : FVec Ideal S8192x2048 .f32 :=
  shapeCast _ (extractStridedSlice Reference3Ideal.S4x2048x2048 ![0, 0, 4096] (projR x w) slices_S4x2048x20576_S4x2048x2048_0_0_4096) shapeCasts_S4x2048x2048_S8192x2048

theorem outR_apply (x : FVec Ideal S4x2048x4096 .f32) (w : FVec Ideal S4x4096x20576 .f32) (i : Fin 8192) (j : Fin 2048) :
    outR x w (ix2 i j) = proj x w i ⟨4096 + j.val, by omega⟩ := by
  pointwise [outR]
  exact projR_apply ..

/-! ### The kernel's blocks -/

variable (m : (ℓ : Loc nD τ Kernel3Ideal.sig) → Buf (Elt Ideal) ℓ) (c : Dev nD)

/-- The arguments at launch. -/
abbrev argX : FVec Ideal S4x2048x4096 .f32 := m ((c : Thread nD τ).loc main_arg0)
abbrev argW : FVec Ideal S4x4096x20576 .f32 := m ((c : Thread nD τ).loc main_arg1)

theorem V1_eq : V m c main_v1 = truncf .bf16 (shapeCast S8192x4096 (argX m c) shapeCasts_S4x2048x4096_S8192x4096) bitsLt_bf16_f32 := by
  show StableHlo.after hostOps0 (fun b => m (c, b)) (Proc.devRef .tc main_v1) = _
  unfold hostOps0
  after_results <;> rfl

theorem V7_eq : V m c main_v7 = widen (argW m c) slices_S4x4096x20576_S4x4096x8192_0_0_0 slices_S4x4096x20576_S4x4096x12288_0_0_8288 slices_S4x4096x20576_S4x4096x96_0_0_8192
    (broadcastInDim S4x4096x32 ![] bcast_S_S4x4096x32 (constant (F := Ideal) S_ .f32 0x00000000#32 : Vec Ideal S_ .f32))
    concatenates_S4x4096x8192_S4x4096x12288_S4x4096x96_S4x4096x32_S4x4096x20608_d2 bitsLt_bf16_f32 := by
  show StableHlo.after hostOps0 (fun b => m (c, b)) (Proc.devRef .tc main_v7) = _
  unfold hostOps0
  after_results <;> rfl

/-- The windows' blocks at a point. -/
theorem index0 : ∀ t : Fin cfg0.N, (cfg0.win 0).index t = ![t.val / 4, 0] := by decide +kernel
theorem index1 : ∀ t : Fin cfg0.N, (cfg0.win 1).index t = ![3, 0, 8 + t.val % 4] := by decide +kernel
theorem index2 : ∀ t : Fin cfg0.N, (cfg0.win 2).index t = ![t.val / 4, t.val % 4] := by decide +kernel
theorem index3 : ∀ t : Fin cfg0.N, (cfg0.win 3).index t = ![t.val / 4, t.val % 4] := by decide +kernel

/-- The rows a point reads. -/
theorem x_eq (t : Fin cfg0.N) (p : Fin 1024) (d : Fin 4096) (i : Fin 8192) (hi : t.val / 4 * 1024 + p.val = i.val) : iblk m c 0 t (ix2 p d) = row (argX m c) i d := by
  have e : iblk m c 0 t (ix2 p d) = V m c main_v1 (ix2 i d) := by
    refine congrArg (V m c main_v1) (funext fun (a : Fin 2) => Fin.ext ?_)
    have h : (((cfg0.win 0).rect t).emb (ix2 p d) a : ℕ) = (![t.val / 4, 0] : Fin 2 → ℕ) a * (![1024, 4096] : Fin 2 → ℕ) a + ((ix2 p d) a : ℕ) :=
      emb_val (cfg0.win 0) t rfl (index0 t) (ix2 p d) a
    exact h.trans (coord2 _ _ p d i d hi (zero_row _ d) a)
  rw [e, V1_eq]
  exact flat_apply _ _ _ i d

/-- The weight's columns a point reads. -/
theorem w_eq (t : Fin cfg0.N) (d : Fin 4096) (j : Fin 512) (k : Fin 20576) (hk : 4096 + (t.val % 4 * 512 + j.val) = k.val) :
    X0_1 m c t (ix3 (0 : Fin 1) d j) = argW m c (ix3 (3 : Fin 4) d k) := by
  have hj := j.isLt
  have e : X0_1 m c t (ix3 (0 : Fin 1) d j) = V m c main_v7 (ix3 (3 : Fin 4) d (⟨(8 + t.val % 4) * 512 + j.val, by omega⟩ : Fin 20608)) := by
    refine (dif_pos (moved0_1 t _)).trans (congrArg (V m c main_v7) (funext fun (a : Fin 3) => Fin.ext ?_))
    have h : (((cfg0.win 1).rect t).emb (fun a => ⟨((ix3 (0 : Fin 1) d j) a).val, ((cfg0.win 1).moved_iff _ _).mp (moved0_1 t _) a⟩) a : ℕ)
        = (![3, 0, 8 + t.val % 4] : Fin 3 → ℕ) a * (![1, 4096, 512] : Fin 3 → ℕ) a + ((ix3 (0 : Fin 1) d j) a : ℕ) :=
      emb_val (cfg0.win 1) t rfl (index1 t) _ a
    exact h.trans (coord3 _ _ _ _ d j (3 : Fin 4) d (⟨(8 + t.val % 4) * 512 + j.val, by omega⟩ : Fin 20608) rfl (zero_row _ d) rfl a)
  rw [e, V7_eq]
  exact low_apply _ _ _ _ _ _ _ 3 d _ k (by show (8 + t.val % 4) * 512 + j.val < 8192; omega) (by show k.val = (8 + t.val % 4) * 512 + j.val; omega)

/-- What a point leaves is the reference's block. -/
theorem point_apply (t : Fin cfg0.N) (p : Fin 1024) (j : Fin 512) (i : Fin 8192) (k : Fin 2048) (hi : t.val / 4 * 1024 + p.val = i.val) (hk : t.val % 4 * 512 + j.val = k.val) :
    k0_pay1 (iblk m c 0 t) (X0_1 m c t) (ix2 p j) = outR (argX m c) (argW m c) (ix2 i k) := by
  rw [pay1_apply, outR_apply]
  exact Finset.sum_congr rfl fun d _ => congrArg₂ (fun a b : EReal => a * b) (x_eq m c t p d i hi)
    (w_eq m c t d j ⟨4096 + k.val, by omega⟩ (by show _ = 4096 + k.val; rw [hk]))
theorem point2 (t : Fin cfg0.N) (p : Fin 1024) (j : Fin 512) (i : Fin 8192) (k : Fin 2048) (hi : t.val / 4 * 1024 + p.val = i.val) (hk : t.val % 4 * 512 + j.val = k.val) :
    (outsAt0 m c t).1 (ix2 p j) = outR (argX m c) (argW m c) (ix2 i k) := by
  unfold outsAt0
  dsimp only
  rw [out2_eq]
  exact point_apply m c t p j i k hi hk
theorem point3 (t : Fin cfg0.N) (p : Fin 1024) (j : Fin 512) (i : Fin 8192) (k : Fin 2048) (hi : t.val / 4 * 1024 + p.val = i.val) (hk : t.val % 4 * 512 + j.val = k.val) :
    (outsAt0 m c t).2 (ix2 p j) = outR (argX m c) (argW m c) (ix2 i k) := by
  unfold outsAt0
  dsimp only
  rw [out3_eq, pay2_apply]
  exact point_apply m c t p j i k hi hk

/-- The grid's points. -/
theorem N_eq : cfg0.N = 32 := by
  show grid0.N = 32
  decide

/-- THE RESULTS: each array the kernel leaves is the reference's. -/
theorem arr2_eq : (dats m 0 c).arrAt 2 cfg0.N = outR (argX m c) (argW m c) := by
  have hN := N_eq
  refine (dats m 0 c).arrAt_eq_of_emb 2 _ (fun t hf y => ?_) (fun i => ?_)
  · have htl : t.val < 32 := Nat.lt_of_lt_of_eq t.isLt hN
    have hy0 : (y (0 : Fin 2)).val < 1024 := (y (0 : Fin 2)).isLt
    have hy1 : (y (1 : Fin 2)).val < 512 := (y (1 : Fin 2)).isLt
    refine (cast_eq _ _).trans ((congrFun (after0_2 m c t) _).trans ?_)
    have ey : (cfg0.win 2).xinj (cfg0.grid.coords t) y = ix2 (⟨(y (0 : Fin 2)).val, hy0⟩ : Fin 1024) (⟨(y (1 : Fin 2)).val, hy1⟩ : Fin 512) := funext fun (a : Fin 2) => by
      match a with
      | 0 => rfl
      | 1 => rfl
    refine (congrArg ((outsAt0 m c t).1) ey).trans ((point2 m c t _ _ ⟨t.val / 4 * 1024 + (y (0 : Fin 2)).val, by omega⟩
      ⟨t.val % 4 * 512 + (y (1 : Fin 2)).val, by omega⟩ rfl rfl).trans ?_)
    refine congrArg (outR (argX m c) (argW m c)) (funext fun (a : Fin 2) => Fin.ext ?_)
    have h : (((cfg0.win 2).rect t).emb y a : ℕ) = (![t.val / 4, t.val % 4] : Fin 2 → ℕ) a * (![1024, 512] : Fin 2 → ℕ) a + (y a : ℕ) := emb_val (cfg0.win 2) t rfl (index2 t) y a
    refine Eq.trans ?_ h.symm
    match a with
    | 0 => rfl
    | 1 => rfl
  · have hi0 : (i (0 : Fin 2)).val < 8192 := (i (0 : Fin 2)).isLt
    have hi1 : (i (1 : Fin 2)).val < 2048 := (i (1 : Fin 2)).isLt
    have ht : 4 * ((i (0 : Fin 2)).val / 1024) + (i (1 : Fin 2)).val / 512 < cfg0.N := by omega
    refine ⟨⟨_, ht⟩, flush0_2 _, ?_⟩
    refine (Window.emb_mem_blk_iff (cfg0.win 2) ⟨_, ht⟩ i).2 fun (a : Fin 2) => ?_
    rw [index2]
    match a with
    | 0 =>
      show (4 * ((i (0 : Fin 2)).val / 1024) + (i (1 : Fin 2)).val / 512) / 4 * 1024 ≤ (i (0 : Fin 2)).val
        ∧ (i (0 : Fin 2)).val < (4 * ((i (0 : Fin 2)).val / 1024) + (i (1 : Fin 2)).val / 512) / 4 * 1024 + 1024
      omega
    | 1 =>
      show (4 * ((i (0 : Fin 2)).val / 1024) + (i (1 : Fin 2)).val / 512) % 4 * 512 ≤ (i (1 : Fin 2)).val
        ∧ (i (1 : Fin 2)).val < (4 * ((i (0 : Fin 2)).val / 1024) + (i (1 : Fin 2)).val / 512) % 4 * 512 + 512
      omega

theorem arr3_eq : (dats m 0 c).arrAt 3 cfg0.N = truncf .bf16 (outR (argX m c) (argW m c)) bitsLt_bf16_f32 := by
  have hN := N_eq
  refine (dats m 0 c).arrAt_eq_of_emb 3 _ (fun t hf y => ?_) (fun i => ?_)
  · have htl : t.val < 32 := Nat.lt_of_lt_of_eq t.isLt hN
    have hy0 : (y (0 : Fin 2)).val < 1024 := (y (0 : Fin 2)).isLt
    have hy1 : (y (1 : Fin 2)).val < 512 := (y (1 : Fin 2)).isLt
    refine (cast_eq _ _).trans ((congrFun (after0_3 m c t) _).trans ?_)
    have ey : (cfg0.win 3).xinj (cfg0.grid.coords t) y = ix2 (⟨(y (0 : Fin 2)).val, hy0⟩ : Fin 1024) (⟨(y (1 : Fin 2)).val, hy1⟩ : Fin 512) := funext fun (a : Fin 2) => by
      match a with
      | 0 => rfl
      | 1 => rfl
    refine (congrArg ((outsAt0 m c t).2) ey).trans ((point3 m c t _ _ ⟨t.val / 4 * 1024 + (y (0 : Fin 2)).val, by omega⟩
      ⟨t.val % 4 * 512 + (y (1 : Fin 2)).val, by omega⟩ rfl rfl).trans ?_)
    refine congrArg (outR (argX m c) (argW m c)) (funext fun (a : Fin 2) => Fin.ext ?_)
    have h : (((cfg0.win 3).rect t).emb y a : ℕ) = (![t.val / 4, t.val % 4] : Fin 2 → ℕ) a * (![1024, 512] : Fin 2 → ℕ) a + (y a : ℕ) := emb_val (cfg0.win 3) t rfl (index3 t) y a
    refine Eq.trans ?_ h.symm
    match a with
    | 0 => rfl
    | 1 => rfl
  · have hi0 : (i (0 : Fin 2)).val < 8192 := (i (0 : Fin 2)).isLt
    have hi1 : (i (1 : Fin 2)).val < 2048 := (i (1 : Fin 2)).isLt
    have ht : 4 * ((i (0 : Fin 2)).val / 1024) + (i (1 : Fin 2)).val / 512 < cfg0.N := by omega
    refine ⟨⟨_, ht⟩, flush0_3 _, ?_⟩
    refine (Window.emb_mem_blk_iff (cfg0.win 3) ⟨_, ht⟩ i).2 fun (a : Fin 2) => ?_
    rw [index3]
    match a with
    | 0 =>
      show (4 * ((i (0 : Fin 2)).val / 1024) + (i (1 : Fin 2)).val / 512) / 4 * 1024 ≤ (i (0 : Fin 2)).val
        ∧ (i (0 : Fin 2)).val < (4 * ((i (0 : Fin 2)).val / 1024) + (i (1 : Fin 2)).val / 512) / 4 * 1024 + 1024
      omega
    | 1 =>
      show (4 * ((i (0 : Fin 2)).val / 1024) + (i (1 : Fin 2)).val / 512) % 4 * 512 ≤ (i (1 : Fin 2)).val
        ∧ (i (1 : Fin 2)).val < (4 * ((i (0 : Fin 2)).val / 1024) + (i (1 : Fin 2)).val / 512) % 4 * 512 + 512
      omega

end Cert.Proof.VValue
end
-- ==== Proof.PermLaunch.lean ====
/-
  The launch of the row permutation kernel: the region's invariant before and after the body, the body obligation, and
  the run of @main at any reading `F` of the floats, under the routing of its tables.
-/
module

public import proofs.«01_k».proof.Proof.PermRun
public import Idealize.ShloMosaic.Lib.Pipeline.Regions

@[expose] public section

set_option maxRecDepth 100000

noncomputable section

namespace Cert.Proof.Perm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- The one core. -/
abbrev c₀ : Dev nD := 0

/-- The tables and the source at launch. -/
abbrev gM : S8192.Idx → BitVec 32 := m ((c₀ : Thread nD τ).loc main_arg0)
abbrev rM : S8192.Idx → BitVec 32 := m ((c₀ : Thread nD τ).loc main_arg1)
abbrev nM : S8x128.Idx → BitVec 32 := m ((c₀ : Thread nD τ).loc main_arg2)
abbrev srcM : S9216x4096.Idx → Elt F .f32 := m ((c₀ : Thread nD τ).loc main_arg3)

/-- What the tables must say: row `t` of the result is row `pos t` of the source. -/
abbrev RoutedM (pos : Fin 8192 → Fin 9216) : Prop := Routed (gM m) (rM m) (offs (nM m)) pos

/-- The prefetched tables' admissible contents: as launched. -/
def adm (p : Fin 1) : (pcfgs (F := F) p).Adm := ⟨fun k => m ((c₀ : Thread nD τ).loc (pre0.ref k)), trivial⟩

/-- The tables, held at their launch contents. -/
abbrev tabs (c : Dev nD) : sProp 𝕄 :=
  iprop(((Memref.whole main_arg0 : Memref sig .tc .smem S8192 .i32).view.loc (c : Thread nD τ) ↦{fullShare} gM m)
    ∗ ((Memref.whole main_arg1 : Memref sig .tc .smem S8192 .i32).view.loc (c : Thread nD τ) ↦{fullShare} rM m)
    ∗ ((Memref.whole main_arg2 : Memref sig .tc .smem S8x128 .i32).view.loc (c : Thread nD τ) ↦{fullShare} nM m))

/-- What the region keeps apart: the body's scratch, and its semaphore at zero. -/
abbrev scr (c : Dev nD) : sProp 𝕄 :=
  iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ semVal ((c : Thread nD τ), SemLoc.dma sm) 0)

/-- The invariant before the body, -/
def Φ0 (c : Dev nD) : sProp 𝕄 :=
  iprop(tabs m c ∗ srcAt c fullShare (srcM m) ∗ (∃ d, dstAt c d) ∗ scr (F := F) c)
/-- and after it. -/
def Φ1 (pos : Fin 8192 → Fin 9216) (c : Dev nD) : sProp 𝕄 :=
  iprop(tabs m c ∗ srcAt c qRest (srcM m) ∗ dstAt c (gathered (srcM m) pos) ∗ scr (F := F) c)

/-- The invariant at point `n`. -/
def Φat (pos : Fin 8192 → Fin 9216) (c : Dev nD) : ℕ → sProp 𝕄
  | 0 => Φ0 m c
  | _ + 1 => Φ1 m pos c

/-- The proof data: no window; the invariant. -/
def dats (pos : Fin 8192 → Fin 9216) (p : Fin 1) (c : Dev nD) : Dat τ (Elt F) Unit ℕ (UU nD τ) ℕ (Pipeline.pin (pcfgs (F := F)) (adm m) p) c where
  A w := w.elim0
  after w := w.elim0
  Φ t := Φat m pos c t.val
  q _ := fullShare
  owed _ := 0

theorem body_obligation [∀ e, Nonempty (Elt F e)] (pos : Fin 8192 → Fin 9216) (hR : RoutedM m pos) (c : Dev nD) :
    BodyObligation (dats m pos 0 c) (defs₀ (F := F)) 𝒱₀ () Set.univ := fun t => by
  obtain rfl := fin_N0 t
  rw [show (dats m pos 0 c).Φ t0_0.castSucc = Φ0 m c from rfl, show (dats m pos 0 c).Φ t0_0.succ = Φ1 m pos c from rfl]
  unfold Φ0 Φ1 Dat.owesAt Pipeline.owesWithin
  rw [show (dats m pos 0 c).owed t0_0.castSucc = 0 from rfl, show (dats m pos 0 c).owed t0_0.succ = 0 from rfl]
  have hE : ∀ Ψ : Fin (Pipeline.pin (pcfgs (F := F)) (adm m) 0).W → sProp 𝕄, bigSep Finset.univ Ψ = iprop(emp) := fun Ψ => by
    rw [show (Finset.univ : Finset (Fin (Pipeline.pin (pcfgs (F := F)) (adm m) 0).W)) = ∅ from rfl, BI.bigSep_empty]; rfl
  rw [hE, hE]
  iintro ⟨⟨⟨HG, HR, HN⟩, HS, ⟨%d, HD⟩, ⟨Hs0, ⟨%o, Hs1⟩⟩, Hc⟩, ⟨%W, %hW, HO⟩, -⟩
  have key := body_run c (grid0.coords t0_0) (gM m) (rM m) (nM m) (srcM m) pos hR trivial o d W
  ihave Hrun := key $$ [HG HR HN HS HD Hs1 Hc HO]
  · isplitl [HG]; · iexact HG
    isplitl [HR]; · iexact HR
    isplitl [HN]; · iexact HN
    isplitl [HS]; · iexact HS
    isplitl [HD]; · iexact HD
    isplitl [Hs1]; · iexact Hs1
    isplitl [Hc]; · iexact Hc
    iexact HO
  iapply (wp_wand frame (wpE defs₀ 𝒱₀ (c : Thread nD τ) none) Set.univ) $$ Hrun
  iintro %x ⟨HG, HR, HN, HS, HD, Hs1, Hc, ⟨%W', HO⟩⟩
  isplitr [HO]
  · isplitl [HG HR HN]
    · isplitl [HG]; · iexact HG
      isplitl [HR]; · iexact HR
      iexact HN
    isplitl [HS]; · iexact HS
    isplitl [HD]; · iexact HD
    isplitr [Hc]
    · isplitl [Hs0]; · iexact Hs0
      iexact Hs1
    iexact Hc
  isplitl [HO]
  · iexists W'; isplitr; · ipureintro; exact fun _ _ => Or.inl trivial
    iexact HO
  iempintro

/-- The kernel's own semaphore. -/
abbrev osem : Fin 1 → SemLoc sig := fun _ => .dma sm
/-- It is scoped, and no staging semaphore. -/
theorem ownSemFacts : Pipeline.OwnSemFacts spec0 osem := by decide

/-- The launch element: the pipeline library's; no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

theorem ownSems0_eq (c : Dev nD) :
    (Pipeline.ownSems0 (Ix := Unit) (Name := ℕ) (U := UU nD τ) (Lvl := ℕ) (Val := Elt F) (τ := τ) osem c : sProp 𝕄) = semVal ((c : Thread nD τ), SemLoc.dma sm) 0 :=
  Pipeline.ownSems0_eq_of_list c osem [0] (by decide) (by decide)

abbrev L : GSem nD τ sig → Finset Unit := fun _ => ∅
abbrev lv : GSem nD τ sig → Unit → ℕ := fun _ _ => 0

/-- What the region leaves: the tables as launched, the source still readable as launched, the result gathered. -/
abbrev Tₙ (pos : Fin 8192 → Fin 9216) (c : Dev nD) : sProp 𝕄 :=
  iprop(tabs m c ∗ srcAt c qRest (srcM m) ∗ dstAt c (gathered (srcM m) pos))

/-- The prefetched tables listed. -/
theorem prefHeld_eq (c : Dev nD) :
    (Pipeline.prefHeld pre0 c (fun _ => fullShare) (adm m 0).1 : sProp 𝕄) ⊣⊢ tabs m c :=
  .of_eq (Ring.bigSep_fin3 (fun k : Fin 3 => (((c : Thread nD τ).loc (pre0.ref k)) ↦{fullShare} (adm m 0).1 k : sProp 𝕄)))

set_option backward.isDefEq.respectTransparency.types false in
/-- THE REGION. -/
def reg0 [∀ e, Nonempty (Elt F e)] (pos : Fin 8192 → Fin 9216) (hR : RoutedM m pos) : Pipeline.RegionSeg (pcfgs (F := F)) (adm m) (dats m pos) () defs₀ 𝒱₀ L lv 0 where
  win := (launch0 (F := F)).win.to₀
  block_pos := (launch0 (F := F)).block_pos
  stage_whole := (launch0 (F := F)).stage_whole
  K := Fin 1
  osem := osem
  ho := ownSemFacts
  hbody c := (body_obligation m pos hR c).loose
  hwaits := Pipeline.hwaits_of_owed_zero _ _ _ _ L lv 0 fun _ _ => rfl
  pre c := iprop((unscopedBufs c (fun b => m ((c : Thread nD τ).loc b))) ∗ ∃ W, owes (c : Thread nD τ) (0 : CellTallies nD τ sig Unit) W)
  post c := iprop(Tₙ m pos c ∗ ∃ W, owes (c : Thread nD τ) (0 : CellTallies nD τ sig Unit) W)
  X c := iprop(srcAt c fullShare (srcM m) ∗ (∃ d, dstAt c d) ∗ semVal ((c : Thread nD τ), SemLoc.dma sm) 0)
  Y c := Tₙ m pos c
  Z c := iprop(emp)
  hentry c := by
    obtain rfl : c = c₀ := Subsingleton.elim _ _
    rw [ownSems0_eq]
    have hsplit := (Pipeline.arrays_of_unscopedBufs (pcfgs (F := F)) (adm m) (dats m pos) (launch0 (F := F)).win (launch0 (F := F)).arr_whole c₀
      ((dats m pos 0 c₀).share_full fun _ => rfl) (fun b => m ((c₀ : Thread nD τ).loc b)) (fun w => w.elim0)).trans
      (sep_mono .rfl (Entails.of_eq ((Pipeline.unscopedRest_split preFacts0 c₀ (fun b => m ((c₀ : Thread nD τ).loc b))).trans
        (congrArg (fun X => iprop(_ ∗ X)) (unscopedRestP0_eq c₀ (fun b => m ((c₀ : Thread nD τ).loc b)))))))
    iintro ⟨⟨Hub, HO⟩, Hos, -⟩
    ihave H := hsplit $$ Hub
    icases H with ⟨Ha, Hp, H3, H4⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [H3 H4 Hos]
    · isplitl [H3]
      · unfold srcAt
        rw [show (Memref.whole main_arg3 : Memref sig .tc .hbm S9216x4096 .f32).view.set = Finset.univ from View.set_whole _]
        iexact H3
      isplitl [H4]; · iexists _; iexact H4
      iexact Hos
    iempintro
  hin c := by
    rw [show (dats m pos 0 c).Φ 0 = Φ0 m c from rfl]; unfold Φ0
    iintro ⟨⟨HS, HD, Hc⟩, Hp, Hr⟩
    isplitl [Hp]; · iapply (prefHeld_eq m c).1; iexact Hp
    isplitl [HS]; · iexact HS
    isplitl [HD]; · iexact HD
    isplitl [Hr]
    · iapply (Entails.of_eq (scopedRest0_eq c)); iexact Hr
    iexact Hc
  hout c := by
    rw [ownSems0_eq, show (dats m pos 0 c).Φ (Fin.last _) = Φ1 m pos c from rfl]; unfold Φ1
    iintro ⟨Ht, HS, HD, Hr, Hc⟩
    isplitl [Ht HS HD]
    · isplitl [Ht]; · iexact Ht
      isplitl [HS]; · iexact HS
      iexact HD
    isplitl [Hc]; · iexact Hc
    iapply (Entails.of_eq (scopedRest0_eq c).symm); iexact Hr
  hexit c := by
    iintro ⟨-, HO, HY, -⟩
    imodintro
    isplitr [HO]
    · iexact HY
    · unfold Pipeline.Dat.owesAt Pipeline.owesWithin
      icases HO with ⟨%W, -, HO⟩; iexists W; iexact HO

/-- The physical post: the result gathered, the arguments as launched. -/
def QC (pos : Fin 8192 → Fin 9216) : PUnit × MemSt nD τ sig (Elt F) → Prop := fun r =>
  r.2.mem ((c₀ : Thread nD τ).loc main_v0) = gathered (srcM m) pos
    ∧ r.2.mem ((c₀ : Thread nD τ).loc main_arg0) = gM m ∧ r.2.mem ((c₀ : Thread nD τ).loc main_arg1) = rM m
    ∧ r.2.mem ((c₀ : Thread nD τ).loc main_arg2) = nM m ∧ r.2.mem ((c₀ : Thread nD τ).loc main_arg3) = srcM m

set_option backward.isDefEq.respectTransparency.types false in
/-- THE RUN: from any memory whose counters are zero and whose tables route, every weakly fair execution of @main
    terminates with the gathered result, the arguments as launched and every counter at zero. -/
theorem run_main [∀ e, Nonempty (Elt F e)] (pos : Fin 8192 → Fin 9216) (hR : RoutedM m pos) :
    θ_run defs (onTc (τ := τ) (main (F := F))) (s₀ m ρ) (fun r => QC m pos r ∧ r.2.sem = fun _ => 0) :=
  Pipeline.θ_run_regions_kit_sems (pcfgs (F := F)) (adm m) (dats m pos) () (cellOf_inj (adm m)) EP defs₀ 𝒱₀ L lv m ρ main [.region (reg0 m pos hR)]
    (fun c Q => by rw [main_segs (adm m) (dats m pos) () 𝒱₀ L lv (reg0 m pos hR) c])
    (by simp only [Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop((unscopedBufs c (fun b => m ((c : Thread nD τ).loc b))) ∗ ∃ W, owes (c : Thread nD τ) (0 : CellTallies nD τ sig Unit) W)) (Tₙ := Tₙ m pos)
    (hch := ⟨fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => QC m pos (⟨⟩, s))
    (hfin := fun c s' => by
      obtain rfl : c = c₀ := Subsingleton.elim _ _
      dsimp only [Tₙ]
      iintro ⟨⟨⟨HG, HR, HN⟩, HS, HD⟩, HSI⟩
      icombine HSI HG gives %h0
      icombine HSI HR gives %h1
      icombine HSI HN gives %h2
      icombine HSI HS gives %h3
      icombine HSI HD gives %h4
      imodintro
      isplitr
      · ipureintro
        exact ⟨Buf.eq_of_forall_mem_univ h4, Buf.eq_of_forall_mem_univ h0, Buf.eq_of_forall_mem_univ h1, Buf.eq_of_forall_mem_univ h2,
          Buf.eq_of_forall_mem_univ (fun i _ => h3 i (by rw [View.set_whole]; exact Finset.mem_univ i))⟩
      iexact HSI)
    (hQ := fun _ h hz => ⟨h c₀, funext fun g => hz g (.inr (by revert g; decide))⟩)

end Cert.Proof.Perm
end
-- ==== Proof.PermRef.lean ====
/-
  The run of the row permutation's reference: a straight line of host operations, whose result is row
  `first[group] + rank` of the sorted array, gathered.
-/
module

public import proofs.«01_k».proof.Proof.PermTables
public import proofs.«01_k».proof.Proof.Gen.ReferenceIdeal
public import Idealize.ShloMosaic.Lib.StableHlo.Run
public import Idealize.ShloMosaic.Lib.Routing.OpsOne

@[expose] public section

set_option maxRecDepth 100000

noncomputable section

namespace Cert.Proof.PermRef

open Cert.ReferenceIdeal Cert.ReferenceIdeal.Gen
open Idealize.ShloMosaic Idealize.ShloMosaic.TcCoe Idealize.ShloMosaic.StableHlo Idealize.SL.Sem

variable {F : FTy → Type} [FloatOps F]

/-- @main's operations in order, its two calls' in place. -/
abbrev ops : List (HloOp τ sig (Elt F)) :=
  [ unary main_arg2 main_v0 ((extractStridedSlice S4x1 ![0, 0] · slices_S8x128_S4x1_0_0)),
    reshape main_v0 main_v1 (rfl : (.i32 : EltTy) = .i32) shapeCasts_S4x1_S4,
    nullary main_c (constantI S_ 32 255#32),
    unary main_c main_v2 (broadcastInDim S4 ![] bcast_S_S4),
    binary main_v1 main_v2 main_v3 (addi),
    nullary main_c_0 (constantI S_ 32 256#32),
    unary main_c_0 main_call0_v0 id,
    unary main_call0_v0 main_call0_v1 (broadcastInDim S4 ![] bcast_S_S4),
    binary main_v3 main_call0_v1 main_call0_v2 Host.divsi,
    unary main_v3 main_call0_v3 signi,
    unary main_call0_v0 main_call0_v4 signi,
    unary main_call0_v4 main_call0_v5 (broadcastInDim S4 ![] bcast_S_S4),
    binary main_call0_v3 main_call0_v5 main_call0_v6 (cmpi .ne),
    unary main_call0_v0 main_call0_v7 (broadcastInDim S4 ![] bcast_S_S4),
    binary main_v3 main_call0_v7 main_call0_v8 Host.remsi,
    nullary main_call0_c (constantI S_ 32 0#32),
    unary main_call0_c main_call0_v9 (broadcastInDim S4 ![] bcast_S_S4),
    binary main_call0_v8 main_call0_v9 main_call0_v10 (cmpi .ne),
    binary main_call0_v6 main_call0_v10 main_call0_v11 andi,
    nullary main_call0_c_0 (constantI S_ 32 1#32),
    unary main_call0_c_0 main_call0_v12 (broadcastInDim S4 ![] bcast_S_S4),
    binary main_call0_v2 main_call0_v12 main_call0_v13 subi,
    ternary main_call0_v11 main_call0_v13 main_call0_v2 main_v4 select,
    nullary main_call1_call0_c (constantI S_ 32 0#32),
    unary main_call1_call0_c main_call1_call0_v0 (broadcastInDim S_ ![] bcast_S_S_),
    binary main_v4 main_call1_call0_v0 main_v5 (fun x v => Host.reduceWindow IntOp.addi ![4] ![1] ![3] ![0] x v reduceWindows_S4_S4_w4s1p3_0 h_S_),
    binary main_v5 main_v4 main_v6 (subi),
    nullary main_c_1 (constantI S_ 32 256#32),
    unary main_c_1 main_v7 (broadcastInDim S4 ![] bcast_S_S4),
    binary main_v6 main_v7 main_v8 (muli),
    nullary main_c_2 (constantI S_ 32 0#32),
    unary main_c_2 main_v9 (broadcastInDim S8192 ![] bcast_S_S8192),
    binary main_arg0 main_v9 main_v10 (cmpi .slt),
    nullary main_c_3 (constantI S_ 32 4#32),
    unary main_c_3 main_v11 (broadcastInDim S8192 ![] bcast_S_S8192),
    binary main_arg0 main_v11 main_v12 (addi),
    ternary main_v10 main_v12 main_arg0 main_v13 (select),
    unary main_v13 main_v14 (broadcastInDim S8192x1 ![0] bcast_S8192_S8192x1_0),
    binary main_v8 main_v14 main_v15 ((fun x i => Host.gather gather_S4_S8192x1_S8192_n_0_n_n_0_1_1 x i)),
    binary main_v15 main_arg1 main_v16 (addi),
    nullary main_c_4 (constantI S_ 32 0#32),
    unary main_c_4 main_v17 (broadcastInDim S8192 ![] bcast_S_S8192),
    binary main_v16 main_v17 main_v18 (cmpi .slt),
    nullary main_c_5 (constantI S_ 32 9216#32),
    unary main_c_5 main_v19 (broadcastInDim S8192 ![] bcast_S_S8192),
    binary main_v16 main_v19 main_v20 (addi),
    ternary main_v18 main_v20 main_v16 main_v21 (select),
    unary main_v21 main_v22 (broadcastInDim S8192x1 ![0] bcast_S8192_S8192x1_0),
    binary main_arg3 main_v22 main_v23 ((fun x i => Host.gather gather_S9216x4096_S8192x1_S8192x4096_1_0_n_n_0_1_14096 x i)) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig) := by
  refine ⟨?_, ?_, ?_, ?_⟩ <;> after_results

/-- A constant over the groups, and over the tokens. -/
abbrev k4 (v : BitVec 32) : IVec S4 32 := broadcastInDim S4 ![] bcast_S_S4 (constantI S_ 32 v)
abbrev k8192 (v : BitVec 32) : IVec S8192 32 := broadcastInDim S8192 ![] bcast_S_S8192 (constantI S_ 32 v)

/-- Each group's count plus 255. -/
def padR (n : IVec S8x128 32) : IVec S4 32 :=
  addi (shapeCast S4 (extractStridedSlice S4x1 ![0, 0] n slices_S8x128_S4x1_0_0) shapeCasts_S4x1_S4) (k4 255#32)

/-- The floor division of a vector by 256. -/
def floorR (x : IVec S4 32) : IVec S4 32 :=
  select (andi (cmpi .ne (signi x) (broadcastInDim S4 ![] bcast_S_S4 (signi (constantI S_ 32 256#32))))
    (cmpi .ne (Host.remsi x (k4 256#32)) (k4 0#32))) (subi (Host.divsi x (k4 256#32)) (k4 1#32)) (Host.divsi x (k4 256#32))

/-- Each group's first row, from the groups' tiles. -/
def firstR (q : IVec S4 32) : IVec S4 32 :=
  muli (subi (Host.reduceWindow IntOp.addi ![4] ![1] ![3] ![0] q (broadcastInDim S_ ![] bcast_S_S_ (constantI S_ 32 0#32)) reduceWindows_S4_S4_w4s1p3_0 h_S_) q) (k4 256#32)

/-- The start indices a vector gives, a negative one counted from the end `e`. -/
def startR (x : IVec S8192 32) (e : BitVec 32) : IVec S8192x1 32 :=
  broadcastInDim S8192x1 ![0] bcast_S8192_S8192x1_0 (select (cmpi .slt x (k8192 0#32)) (addi x (k8192 e)) x)

/-- Each token's row. -/
def rowR (g r : IVec S8192 32) (n : IVec S8x128 32) : IVec S8192 32 :=
  addi (Host.gather gather_S4_S8192x1_S8192_n_0_n_n_0_1_1 (firstR (floorR (padR n))) (startR g 4#32)) r

/-- The reference's result. -/
def outR (g r : IVec S8192 32) (n : IVec S8x128 32) (src : FVec F S9216x4096 .f32) : FVec F S8192x4096 .f32 :=
  Host.gather gather_S9216x4096_S8192x1_S8192x4096_1_0_n_n_0_1_14096 src (startR (rowR g r n) 9216#32)

theorem out_eq (V : Valuation τ sig (Elt F)) :
    after ops V (main_v23 : DevRef τ sig) = outR (V (main_arg0 : DevRef τ sig)) (V (main_arg1 : DevRef τ sig)) (V (main_arg2 : DevRef τ sig)) (V (main_arg3 : DevRef τ sig)) := by
  after_results
  rfl

/-- THE REFERENCE'S RUN. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v23)
          = outR (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v23).trans (out_eq _), (h c main_arg0).trans (arg_eq _).1, (h c main_arg1).trans (arg_eq _).2.1,
      (h c main_arg2).trans (arg_eq _).2.2.1, (h c main_arg3).trans (arg_eq _).2.2.2⟩)
    (run_seq scopedRefs_eq scopedSems_eq defs main (fun _ => ops) main_eq (fun _ => ops_sub) m ρ)

open Perm (ix1 cntAt offs Fits posOf Routed gathered)

/-- A group's tiles, as the reference's floor division gives them. -/
theorem floorR_eq (n : IVec S8x128 32) (y : S4.Idx) (j : Fin 8) (hj : (y 0).val = j.val) (hn : (cntAt n j).toNat ≤ 8192) :
    (floorR (padR n) y).toNat = ((cntAt n j).toNat + 255) / 256 := by
  have hx : (padR n y).toNat = (cntAt n j).toNat + 255 := by
    have e : padR n y = cntAt n j + 255#32 := congrArg (· + 255#32) (@Perm.cnt_col n y j hj)
    rw [e, BitVec.toNat_add]
    show (_ + 255) % _ = _
    omega
  generalize padR n = p at hx ⊢
  rw [← hx]
  have hm : (p y).msb = false := by rw [BitVec.msb_eq_false_iff_two_mul_lt]; omega
  have hs : signi p y = 1#32 := by
    show (if p y = 0 then 0 else if (p y).msb then -1 else 1) = _
    rw [if_neg (fun h => by rw [h] at hx; simp at hx), hm]
    rfl
  have hc : IntOp.cmpi .ne (signi p y) (signi (constantI S_ 32 256#32) (fun a => a.elim0)) = 0#1 := by rw [hs]; decide
  have e : floorR p y = Scalar.select (IntOp.andi (IntOp.cmpi .ne (signi p y) (signi (constantI S_ 32 256#32) (fun a => a.elim0)))
      (IntOp.cmpi .ne (IntOp.remsi .host (p y) 256#32) 0#32)) (IntOp.subi (IntOp.divsi .host (p y) 256#32) 1#32) (IntOp.divsi .host (p y) 256#32) := rfl
  rw [e, hc, show IntOp.andi 0#1 (IntOp.cmpi .ne (IntOp.remsi .host (p y) 256#32) 0#32) = 0#1 from BitVec.zero_and]
  exact Perm.div_pos_eq .host _ 256#32 (by omega) (by decide) (by decide)

/-- A group's first row, as the kernel's offsets have it. -/
theorem firstR_eq (n : IVec S8x128 32) (hs : (cntAt n 0).toNat + (cntAt n 1).toNat + (cntAt n 2).toNat + (cntAt n 3).toNat ≤ 8192) (k : Fin 4) :
    firstR (floorR (padR n)) (ix1 k) = offs n (ix1 k) := by
  have q0 := floorR_eq n (ix1 0) 0 rfl (by omega)
  have q1 := floorR_eq n (ix1 1) 1 rfl (by omega)
  have q2 := floorR_eq n (ix1 2) 2 rfl (by omega)
  have q3 := floorR_eq n (ix1 3) 3 rfl (by omega)
  obtain ⟨o0, o1, o2, o3⟩ := Perm.offs_toNat n hs
  generalize floorR (padR n) = q at q0 q1 q2 q3 ⊢
  have e : firstR q (ix1 k) = ((∑ i : Fin 4, if i ≤ k then q (ix1 i) else 0) - q (ix1 k)) * 256#32 :=
    congrArg (fun w => (w - q (ix1 k)) * 256#32) (Routing.cumsum_vec (N := 4) (Nm1 := 3) rfl q _ rfl reduceWindows_S4_S4_w4s1p3_0 h_S_ k)
  rw [e]
  apply BitVec.eq_of_toNat_eq
  rw [Fin.sum_univ_four]
  fin_cases k
  · show ((q (ix1 0) + 0 + 0 + 0 - q (ix1 0)) * 256#32).toNat = (offs n (ix1 0)).toNat
    simp only [BitVec.toNat_mul, BitVec.toNat_sub, BitVec.toNat_add, BitVec.toNat_ofNat, BitVec.ofNat_eq_ofNat]; omega
  · show ((q (ix1 0) + q (ix1 1) + 0 + 0 - q (ix1 1)) * 256#32).toNat = (offs n (ix1 1)).toNat
    simp only [BitVec.toNat_mul, BitVec.toNat_sub, BitVec.toNat_add, BitVec.toNat_ofNat, BitVec.ofNat_eq_ofNat]; omega
  · show ((q (ix1 0) + q (ix1 1) + q (ix1 2) + 0 - q (ix1 2)) * 256#32).toNat = (offs n (ix1 2)).toNat
    simp only [BitVec.toNat_mul, BitVec.toNat_sub, BitVec.toNat_add, BitVec.toNat_ofNat, BitVec.ofNat_eq_ofNat]; omega
  · show ((q (ix1 0) + q (ix1 1) + q (ix1 2) + q (ix1 3) - q (ix1 3)) * 256#32).toNat = (offs n (ix1 3)).toNat
    simp only [BitVec.toNat_mul, BitVec.toNat_sub, BitVec.toNat_add, BitVec.toNat_ofNat, BitVec.ofNat_eq_ofNat]; omega

/-- A word that is not negative does not wrap. -/
theorem wrap_eq (w e : BitVec 32) (hw : w.toNat < 2 ^ 31) : Scalar.select (IntOp.cmpi .slt w 0#32) (w + e) w = w := by
  have hc : IntOp.cmpi .slt w 0#32 = 0#1 := by
    have : w.slt (0#32 : BitVec 32) = false := by
      simp only [BitVec.slt, decide_eq_false_iff_not, BitVec.toInt, BitVec.toNat_ofNat]; omega
    show BitVec.ofBool (w.slt (0#32 : BitVec 32)) = _
    rw [this]; rfl
  rw [hc]
  rfl

/-- The one column's element reads the vector's. -/
theorem col_eq (v : IVec S8192 32) (t : Fin 8192) :
    broadcastInDim S8192x1 ![0] bcast_S8192_S8192x1_0 v (ValueIdx.ix2 t (0 : Fin 1)) = v (ix1 t) := by
  refine congrArg v (funext fun a => ?_)
  match a with
  | ⟨0, _⟩ => rfl

/-- A start index that is not negative is itself. -/
theorem startR_eq (x : IVec S8192 32) (e : BitVec 32) (t : Fin 8192) (hx : (x (ix1 t)).toNat < 2 ^ 31) :
    startR x e (ValueIdx.ix2 t (0 : Fin 1)) = x (ix1 t) :=
  (col_eq _ t).trans (wrap_eq (x (ix1 t)) e hx)

theorem ix1_eq {n : ℕ} (k : Fin n) : (ValueIdx.ix1 k : (⟨1, ![n]⟩ : Shape).Idx) = ix1 k := funext fun a => by
  match a with
  | ⟨0, _⟩ => rfl

/-- A token's row, as the kernel has it. -/
theorem rowR_eq {g r : IVec S8192 32} {n : IVec S8x128 32} (h : Fits g r n) (t : Fin 8192) :
    (rowR g r n (ix1 t)).toNat = (posOf g r n t).val := by
  have hR := Perm.routed_of_fits h
  have hg := h.grp t
  have e : Host.gather gather_S4_S8192x1_S8192_n_0_n_n_0_1_1 (firstR (floorR (padR n))) (startR g 4#32) (ValueIdx.ix1 t)
      = firstR (floorR (padR n)) (ValueIdx.ix1 (⟨(g (ix1 t)).toNat, hg⟩ : Fin 4)) :=
    Routing.gather_take1 gather_S4_S8192x1_S8192_n_0_n_n_0_1_1 rfl rfl rfl rfl _ _ t ⟨(g (ix1 t)).toNat, hg⟩
      ((startR_eq g 4#32 t (by omega)).trans (by rw [BitVec.ofNat_toNat, BitVec.setWidth_eq])) (by decide)
  rw [ix1_eq, ix1_eq, firstR_eq n h.sum] at e
  rw [← hR.row t, ← e]
  rfl

/-- THE REFERENCE'S VALUE: the rows gathered where the kernel's copies take them. -/
theorem outR_eq {g r : IVec S8192 32} {n : IVec S8x128 32} (h : Fits g r n) (src : FVec F S9216x4096 .f32) :
    outR (F := F) g r n src = gathered (F := F) src (posOf g r n) := by
  funext y
  have hy : y = ValueIdx.ix2 (y 0) (y 1) := funext fun a => by
    match a with
    | ⟨0, _⟩ => rfl
    | ⟨1, _⟩ => rfl
  have hp := rowR_eq h (y 0)
  have hl := (posOf g r n (y 0)).isLt
  rw [hy]
  refine (Routing.gather_row gather_S9216x4096_S8192x1_S8192x4096_1_0_n_n_0_1_14096 rfl rfl rfl rfl rfl _ _ (y 0) (y 1) (posOf g r n (y 0))
    ((startR_eq _ 9216#32 (y 0) (by omega)).trans (by rw [← hp, BitVec.ofNat_toNat, BitVec.setWidth_eq])) (by decide)).trans ?_
  refine congrArg src (funext fun a => ?_)
  match a with
  | ⟨0, _⟩ => rfl
  | ⟨1, _⟩ => rfl

end Cert.Proof.PermRef
end
-- ==== Proof.lean ====
/-
  The proof of `Cert.Claim`: the row permutation's run (Proof/PermLaunch.lean) and its reference's (Proof/PermRef.lean), and
  the experts' run (Proof/FfnLaunch.lean) and its reference's (Proof/FfnRef.lean), each proved once over any reading of the
  floats, at the readings the claims name; the experts' values agree by Proof/FfnValue.lean, the projections' by
  Proof/VValue.lean, Proof/GluValue.lean and Proof/MergeValue.lean, and those that are turned by their rows' angles by
  Proof/KValue.lean, Proof/QValue.lean, Proof/IqValue.lean and Proof/IkwValue.lean; the sample step's by Proof/VNew.lean,
  Proof/GluNew.lean, Proof/IkwNew.lean and Proof/KNew.lean.
-/
module

public import proofs.«01_k».proof.Proof.FfnValue
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.GluNew
public import proofs.«01_k».proof.Proof.GluValue
public import proofs.«01_k».proof.Proof.IkwNew
public import proofs.«01_k».proof.Proof.IkwValue
public import proofs.«01_k».proof.Proof.IqValue
public import proofs.«01_k».proof.Proof.KNew
public import proofs.«01_k».proof.Proof.KValue
public import proofs.«01_k».proof.Proof.MergeValue
public import proofs.«01_k».proof.Proof.QValue
public import proofs.«01_k».proof.Proof.VNew
public import proofs.«01_k».proof.Proof.VValue
public import proofs.«01_k».proof.Defs
public import proofs.«01_k».proof.Proof.PermLaunch
public import proofs.«01_k».proof.Proof.PermRef
public import proofs.«01_k».proof.Proof.Gen.Kernel
public import proofs.«01_k».proof.Proof.Gen.Reference
public import proofs.«01_k».proof.Proof.Gen.Kernel2
public import proofs.«01_k».proof.Proof.Gen.Kernel3.Frame
public import proofs.«01_k».proof.Proof.Gen.Kernel4.Frame
public import proofs.«01_k».proof.Proof.Gen.Kernel5.Frame

@[expose] public section

set_option maxRecDepth 100000

noncomputable section

namespace Cert.Proof

open Idealize.ShloMosaic Idealize.ShloMosaic.TcCoe Idealize.SL.Sem

attribute [local instance] Perm.preFacts

/-- The run of the permutation under the precondition on its tables, at any reading of the floats. -/
theorem perm_run {F : FTy → Type} [FloatOps F] [∀ e, Nonempty (Elt F e)] (m : (ℓ : Loc KernelIdeal.nD KernelIdeal.τ KernelIdeal.sig) → Buf (Elt F) ℓ)
    (ρ : Dev KernelIdeal.nD → PrngReg) (h : Perm.Fits (Perm.gM m) (Perm.rM m) (Perm.nM m)) :
    θ_run KernelIdeal.defs (onTc (τ := KernelIdeal.τ) (KernelIdeal.main (F := F))) ⟨m, fun _ => 0, ρ⟩
      (fun r => Perm.QC m (Perm.posOf (Perm.gM m) (Perm.rM m) (Perm.nM m)) r ∧ r.2.sem = fun _ => 0) :=
  Perm.run_main m ρ _ (Perm.routed_of_fits h)

theorem frame_pi : Cert.quiescent_KernelIdeal := fun m ρ h =>
  (θ_run Cert.KernelIdeal.defs _ _).mono
    (fun _ hr => ⟨fun c => by obtain rfl : c = Perm.c₀ := Subsingleton.elim _ _; exact ⟨hr.1.2.1, hr.1.2.2.1, hr.1.2.2.2.1, hr.1.2.2.2.2⟩, hr.2⟩)
    (perm_run (F := Ideal) m ρ (Perm.fits_of_pre _ _ _ _ (h Perm.c₀)))

theorem frame_p : Cert.quiescent_Kernel := fun m ρ h =>
  (θ_run Cert.KernelIdeal.defs _ _).mono
    (fun _ hr => ⟨fun c => by obtain rfl : c = Perm.c₀ := Subsingleton.elim _ _; exact ⟨hr.1.2.1, hr.1.2.2.1, hr.1.2.2.2.1, hr.1.2.2.2.2⟩, hr.2⟩)
    (perm_run (F := Bits) m ρ (Perm.fits_of_pre (F := Bits) _ _ _ _ (h Perm.c₀)))

theorem frame_ri : Cert.quiescent_ReferenceIdeal := fun m ρ _ =>
  (θ_run Cert.ReferenceIdeal.defs _ _).mono (fun r h => ⟨fun c => (h c).2, sem_eq_zero_of_no_sems (by decide) r.2⟩)
    (PermRef.run_main (F := Ideal) m ρ)

theorem frame_r : Cert.quiescent_Reference := fun m ρ _ =>
  (θ_run Cert.ReferenceIdeal.defs _ _).mono (fun r h => ⟨fun c => (h c).2, sem_eq_zero_of_no_sems (by decide) r.2⟩)
    (PermRef.run_main (F := Bits) m ρ)

theorem algebraic : Cert.algebraic_KernelIdeal_ReferenceIdeal := fun m g m' g' h hm =>
  have hf := Perm.fits_of_pre _ _ _ _ (h Perm.c₀)
  ⟨fun _ => Perm.gathered (Perm.srcM m) (Perm.posOf (Perm.gM m) (Perm.rM m) (Perm.nM m)),
    (θ_run Cert.KernelIdeal.defs _ _).mono
      (fun _ hr c => by obtain rfl : c = Perm.c₀ := Subsingleton.elim _ _; exact hr.1) (perm_run (F := Ideal) m g hf),
    (θ_run Cert.ReferenceIdeal.defs _ _).mono
      (fun _ hr c => by
        obtain rfl : c = Perm.c₀ := Subsingleton.elim _ _
        refine ⟨(hr Perm.c₀).1.trans ?_, (hr Perm.c₀).2⟩
        obtain ⟨e0, e1, e2, e3⟩ := hm Perm.c₀
        rw [e0, e1, e2, e3]
        exact PermRef.outR_eq hf _) (PermRef.run_main (F := Ideal) m' g')⟩

theorem bitexact : Cert.bitexact_Kernel_Reference := fun m g m' g' h hm =>
  have hf := Perm.fits_of_pre (F := Bits) _ _ _ _ (h Perm.c₀)
  ⟨fun _ => Perm.gathered (F := Bits) (Perm.srcM (F := Bits) m) (Perm.posOf (Perm.gM (F := Bits) m) (Perm.rM (F := Bits) m) (Perm.nM (F := Bits) m)),
    (θ_run Cert.KernelIdeal.defs _ _).mono
      (fun _ hr c => by obtain rfl : c = Perm.c₀ := Subsingleton.elim _ _; exact hr.1) (perm_run (F := Bits) m g hf),
    (θ_run Cert.ReferenceIdeal.defs _ _).mono
      (fun _ hr c => by
        obtain rfl : c = Perm.c₀ := Subsingleton.elim _ _
        refine ⟨(hr Perm.c₀).1.trans ?_, (hr Perm.c₀).2⟩
        obtain ⟨e0, e1, e2, e3⟩ := hm Perm.c₀
        refine Eq.trans ?_ (PermRef.outR_eq (F := Bits) hf _)
        congr 1) (PermRef.run_main (F := Bits) m' g')⟩

theorem frame_p2i : Cert.quiescent_Kernel2Ideal := fun m ρ _ =>
  (θ_run Cert.Kernel2Ideal.defs _ _).mono
    (fun _ hr => ⟨fun c => by obtain rfl : c = Ffn.c₀ := Subsingleton.elim _ _; exact hr.1.2, hr.2⟩) (Ffn.run_main (F := Ideal) m ρ)

/-- The experts' body table is the same whether the program is printed for the bits or for the reals: label by label. -/
theorem body_eq : (l : Kernel2.Λ₀.Label) → (a : Kernel2.Λ₀.Args l) → Kernel2.defs₀ (F := Bits) .tc l a = Kernel2Ideal.defs₀ (F := Bits) .tc l a
  | 0, (_, _) => rfl
  | ⟨_ + 1, h⟩, _ => absurd h (Nat.not_lt.2 (Nat.le_add_left _ _))

theorem bodies_eq : Kernel2.defs₀ (F := Bits) = Kernel2Ideal.defs₀ := funext fun p => match p with
  | .tc => funext fun l => funext fun a => body_eq l a
  | .scScalar _ => rfl
  | .scVector _ _ => rfl

theorem defs_eq : Kernel2.defs (F := Bits) = Kernel2Ideal.defs := congrArg (Pipeline.defs Kernel2.pcfgs) bodies_eq

theorem frame_p2 : Cert.quiescent_Kernel2 := fun m ρ _ => by
  rw [defs_eq]
  exact (θ_run Cert.Kernel2Ideal.defs _ _).mono
    (fun _ hr => ⟨fun c => by obtain rfl : c = Ffn.c₀ := Subsingleton.elim _ _; exact hr.1.2, hr.2⟩) (Ffn.run_main (F := Bits) m ρ)

theorem frame_r2i : Cert.quiescent_Reference2Ideal := fun m ρ _ =>
  (θ_run Cert.Reference2Ideal.defs _ _).mono (fun r h => ⟨fun c => (h c).2, sem_eq_zero_of_no_sems (by decide) r.2⟩)
    (FfnRef.run_main (F := Ideal) m ρ)

theorem algebraic2 : Cert.algebraic_Kernel2Ideal_Reference2Ideal := fun m g m' g' _ hm =>
  ⟨fun _ => FfnRef.outR (FfnValue.argN m) (FfnValue.argX m) (FfnValue.argGa m) (FfnValue.argWg m) (FfnValue.argWu m) (FfnValue.argWd m)
      (FfnValue.argG m) (FfnValue.argB m),
    (θ_run Cert.Kernel2Ideal.defs _ _).mono
      (fun _ hr c => by
        obtain rfl : c = Ffn.c₀ := Subsingleton.elim _ _
        exact ⟨hr.1.1.trans (FfnValue.arr_eq m), hr.1.2⟩) (Ffn.run_main (F := Ideal) m g),
    (θ_run Cert.Reference2Ideal.defs _ _).mono
      (fun _ hr c => by
        obtain rfl : c = Ffn.c₀ := Subsingleton.elim _ _
        refine ⟨(hr Ffn.c₀).1.trans ?_, (hr Ffn.c₀).2⟩
        obtain ⟨e0, e1, e2, e3, e4, e5, e6, e7⟩ := hm Ffn.c₀
        rw [e0, e1, e2, e3, e4, e5, e6, e7]) (FfnRef.run_main (F := Ideal) m' g')⟩

theorem frame_p3 : Cert.quiescent_Kernel3 := fun m ρ _ => Kernel3.Gen.frame m ρ
theorem frame_p3i : Cert.quiescent_Kernel3Ideal := fun m ρ _ => Kernel3Ideal.Gen.frame m ρ
theorem frame_r3i : Cert.quiescent_Reference3Ideal := fun m ρ _ =>
  (θ_run Cert.Reference3Ideal.defs _ _).mono (fun r h => ⟨fun c => (h c).2.2, sem_eq_zero_of_no_sems (by decide) r.2⟩)
    (Reference3Ideal.Value.run (F := Ideal) m ρ)

theorem frame_p4 : Cert.quiescent_Kernel4 := fun m ρ _ => Kernel4.Gen.frame m ρ
theorem frame_p4i : Cert.quiescent_Kernel4Ideal := fun m ρ _ => Kernel4Ideal.Gen.frame m ρ
theorem frame_r4i : Cert.quiescent_Reference4Ideal := fun m ρ _ =>
  (θ_run Cert.Reference4Ideal.defs _ _).mono (fun r h => ⟨fun c => (h c).2, sem_eq_zero_of_no_sems (by decide) r.2⟩)
    (Reference4Ideal.Value.run (F := Ideal) m ρ)

theorem frame_p5 : Cert.quiescent_Kernel5 := fun m ρ _ => Kernel5.Gen.frame m ρ
theorem frame_p5i : Cert.quiescent_Kernel5Ideal := fun m ρ _ => Kernel5Ideal.Gen.frame m ρ
theorem frame_r5i : Cert.quiescent_Reference5Ideal := fun m ρ _ =>
  (θ_run Cert.Reference5Ideal.defs _ _).mono (fun r h => ⟨fun c => (h c).2, sem_eq_zero_of_no_sems (by decide) r.2⟩)
    (Reference5Ideal.Value.run (F := Ideal) m ρ)

theorem frame_p6 : Cert.quiescent_Kernel6 := fun m ρ _ => Kernel6.Gen.frame m ρ
theorem frame_p6i : Cert.quiescent_Kernel6Ideal := fun m ρ _ => Kernel6Ideal.Gen.frame m ρ
theorem frame_r6i : Cert.quiescent_Reference6Ideal := fun m ρ _ =>
  (θ_run Cert.Reference6Ideal.defs _ _).mono (fun r h => ⟨fun c => (h c).2.2, sem_eq_zero_of_no_sems (by decide) r.2⟩)
    (Reference6Ideal.Value.run (F := Ideal) m ρ)

theorem frame_p7 : Cert.quiescent_Kernel7 := fun m ρ _ => Kernel7.Gen.frame m ρ
theorem frame_p7i : Cert.quiescent_Kernel7Ideal := fun m ρ _ => Kernel7Ideal.Gen.frame m ρ
theorem frame_r7i : Cert.quiescent_Reference7Ideal := fun m ρ _ =>
  (θ_run Cert.Reference7Ideal.defs _ _).mono (fun r h => ⟨fun c => (h c).2.2.2, sem_eq_zero_of_no_sems (by decide) r.2⟩)
    (Reference7Ideal.Value.run (F := Ideal) m ρ)

theorem frame_p8 : Cert.quiescent_Kernel8 := fun m ρ _ => Kernel8.Gen.frame m ρ
theorem frame_p8i : Cert.quiescent_Kernel8Ideal := fun m ρ _ => Kernel8Ideal.Gen.frame m ρ
theorem frame_r8i : Cert.quiescent_Reference8Ideal := fun m ρ _ =>
  (θ_run Cert.Reference8Ideal.defs _ _).mono (fun r h => ⟨fun c => (h c).2, sem_eq_zero_of_no_sems (by decide) r.2⟩)
    (Reference8Ideal.Value.run (F := Ideal) m ρ)

theorem frame_p9 : Cert.quiescent_Kernel9 := fun m ρ _ => Kernel9.Gen.frame m ρ
theorem frame_p9i : Cert.quiescent_Kernel9Ideal := fun m ρ _ => Kernel9Ideal.Gen.frame m ρ
theorem frame_r9i : Cert.quiescent_Reference9Ideal := fun m ρ _ =>
  (θ_run Cert.Reference9Ideal.defs _ _).mono (fun r h => ⟨fun c => (h c).2, sem_eq_zero_of_no_sems (by decide) r.2⟩)
    (Reference9Ideal.Value.run (F := Ideal) m ρ)

theorem frame_p10 : Cert.quiescent_Kernel10 := fun m ρ _ => Kernel10.Gen.frame m ρ
theorem frame_p10i : Cert.quiescent_Kernel10Ideal := fun m ρ _ => Kernel10Ideal.Gen.frame m ρ
theorem frame_r10i : Cert.quiescent_Reference10Ideal := fun m ρ _ =>
  (θ_run Cert.Reference10Ideal.defs _ _).mono (fun r h => ⟨fun c => (h c).2.2, sem_eq_zero_of_no_sems (by decide) r.2⟩)
    (Reference10Ideal.Value.run (F := Ideal) m ρ)

theorem frame_p11 : Cert.quiescent_Kernel11 := fun m ρ _ => Kernel11.Gen.frame m ρ
theorem frame_p11i : Cert.quiescent_Kernel11Ideal := fun m ρ _ => Kernel11Ideal.Gen.frame m ρ
theorem frame_r11i : Cert.quiescent_Reference11Ideal := fun m ρ _ =>
  (θ_run Cert.Reference11Ideal.defs _ _).mono (fun r h => ⟨fun c => (h c).2, sem_eq_zero_of_no_sems (by decide) r.2⟩)
    (Reference11Ideal.Value.run (F := Ideal) m ρ)

theorem frame_p12 : Cert.quiescent_Kernel12 := fun m ρ _ => Kernel12.Gen.frame m ρ
theorem frame_p12i : Cert.quiescent_Kernel12Ideal := fun m ρ _ => Kernel12Ideal.Gen.frame m ρ
theorem frame_r12i : Cert.quiescent_Reference12Ideal := fun m ρ _ =>
  (θ_run Cert.Reference12Ideal.defs _ _).mono (fun r h => ⟨fun c => (h c).2.2.2, sem_eq_zero_of_no_sems (by decide) r.2⟩)
    (Reference12Ideal.Value.run (F := Ideal) m ρ)

theorem frame_p13 : Cert.quiescent_Kernel13 := fun m ρ _ => Kernel13.Gen.frame m ρ
theorem frame_p13i : Cert.quiescent_Kernel13Ideal := fun m ρ _ => Kernel13Ideal.Gen.frame m ρ
theorem frame_r13i : Cert.quiescent_Reference13Ideal := fun m ρ _ =>
  (θ_run Cert.Reference13Ideal.defs _ _).mono (fun r h => ⟨fun c => (h c).2.2, sem_eq_zero_of_no_sems (by decide) r.2⟩)
    (Reference13Ideal.Value.run (F := Ideal) m ρ)

theorem algebraic3 : Cert.algebraic_Kernel3Ideal_Reference3Ideal := fun m g m' g' _ hm =>
  ⟨fun c => VValue.outR (VValue.argX m c) (VValue.argW m c),
    fun c => truncf .bf16 (VValue.outR (VValue.argX m c) (VValue.argW m c)) Kernel3Ideal.Gen.bitsLt_bf16_f32,
    (θ_run Cert.Kernel3Ideal.defs _ _).mono
      (fun _ hr c => ⟨(hr c).1.trans (VValue.arr2_eq m c), (hr c).2.1.trans (VValue.arr3_eq m c), (hr c).2.2⟩) (Kernel3Ideal.Value.run_blocks (F := Ideal) m g),
    (θ_run Cert.Reference3Ideal.defs _ _).mono
      (fun _ hr c => by
        refine ⟨(hr c).1.trans ?_, (hr c).2.1.trans ?_, (hr c).2.2⟩
        all_goals
          rw [(hm c).1, (hm c).2]
          rfl) (Reference3Ideal.Value.run (F := Ideal) m' g')⟩

theorem algebraic4 : Cert.algebraic_Kernel4Ideal_Reference4Ideal := fun m g m' g' _ hm =>
  ⟨fun c => GluValue.outR (GluValue.argX m c) (GluValue.argW m c),
    (θ_run Cert.Kernel4Ideal.defs _ _).mono
      (fun _ hr c => ⟨(hr c).1.trans (GluValue.arr_eq m c), (hr c).2⟩) (Kernel4Ideal.Value.run_blocks (F := Ideal) m g),
    (θ_run Cert.Reference4Ideal.defs _ _).mono
      (fun _ hr c => by
        refine ⟨(hr c).1.trans ?_, (hr c).2⟩
        rw [(hm c).1, (hm c).2]
        rfl) (Reference4Ideal.Value.run (F := Ideal) m' g')⟩

theorem algebraic5 : Cert.algebraic_Kernel5Ideal_Reference5Ideal := fun m g m' g' _ hm =>
  ⟨fun c => MergeValue.outR (MergeValue.argX m c) (MergeValue.argU m c) (MergeValue.argV m c) (MergeValue.argW m c) (MergeValue.argA m c) (MergeValue.argB m c),
    (θ_run Cert.Kernel5Ideal.defs _ _).mono
      (fun _ hr c => ⟨(hr c).1.trans (MergeValue.arr_eq m c), (hr c).2⟩) (Kernel5Ideal.Value.run_blocks (F := Ideal) m g),
    (θ_run Cert.Reference5Ideal.defs _ _).mono
      (fun _ hr c => by
        refine ⟨(hr c).1.trans ?_, (hr c).2⟩
        obtain ⟨e0, e1, e2, e3, e4, e5⟩ := hm c
        rw [e0, e1, e2, e3, e4, e5]
        rfl) (Reference5Ideal.Value.run (F := Ideal) m' g')⟩

theorem algebraic6 : Cert.algebraic_Kernel6Ideal_Reference6Ideal := fun m g m' g' _ hm =>
  ⟨fun c => KValue.outR (KValue.argX m c) (KValue.argW m c),
    fun c => truncf .bf16 (KValue.outR (KValue.argX m c) (KValue.argW m c)) Kernel6Ideal.Gen.bitsLt_bf16_f32,
    (θ_run Cert.Kernel6Ideal.defs _ _).mono
      (fun _ hr c => ⟨(hr c).1.trans (KValue.arr4_eq m c), (hr c).2.1.trans (KValue.arr5_eq m c), (hr c).2.2⟩) (Kernel6Ideal.Value.run_blocks (F := Ideal) m g),
    (θ_run Cert.Reference6Ideal.defs _ _).mono
      (fun _ hr c => by
        refine ⟨(hr c).1.trans ((KValue.res50_eq m' c).trans ?_), (hr c).2.1.trans ((KValue.res51_eq m' c).trans ?_), (hr c).2.2⟩
        all_goals
          rw [(hm c).1, (hm c).2]) (Reference6Ideal.Value.run (F := Ideal) m' g')⟩

theorem algebraic7 : Cert.algebraic_Kernel7Ideal_Reference7Ideal := fun m g m' g' _ hm =>
  ⟨fun c => IkwValue.keyR (IkwValue.argX m c) (IkwValue.argW m c),
    fun c => truncf .bf16 (IkwValue.keyR (IkwValue.argX m c) (IkwValue.argW m c)) Kernel7Ideal.Gen.bitsLt_bf16_f32,
    fun c => IkwValue.weightR (IkwValue.argX m c) (IkwValue.argW m c),
    (θ_run Cert.Kernel7Ideal.defs _ _).mono
      (fun _ hr c => ⟨(hr c).1.trans (IkwValue.arr4_eq m c), (hr c).2.1.trans (IkwValue.arr5_eq m c), (hr c).2.2.1.trans (IkwValue.arr6_eq m c), (hr c).2.2.2⟩)
      (Kernel7Ideal.Value.run_blocks (F := Ideal) m g),
    (θ_run Cert.Reference7Ideal.defs _ _).mono
      (fun _ hr c => by
        refine ⟨(hr c).1.trans ((IkwValue.res51_eq m' c).trans ?_), (hr c).2.1.trans ((IkwValue.res52_eq m' c).trans ?_), (hr c).2.2.1.trans ?_, (hr c).2.2.2⟩
        all_goals rw [(hm c).1, (hm c).2]
        rfl) (Reference7Ideal.Value.run (F := Ideal) m' g')⟩

theorem algebraic8 : Cert.algebraic_Kernel8Ideal_Reference8Ideal := fun m g m' g' _ hm =>
  ⟨fun c => truncf .bf16 (QValue.outR (QValue.argX m c) (QValue.argW m c)) Kernel8Ideal.Gen.bitsLt_bf16_f32,
    (θ_run Cert.Kernel8Ideal.defs _ _).mono
      (fun _ hr c => ⟨(hr c).1.trans (QValue.arr4_eq m c), (hr c).2⟩) (Kernel8Ideal.Value.run_blocks (F := Ideal) m g),
    (θ_run Cert.Reference8Ideal.defs _ _).mono
      (fun _ hr c => by
        refine ⟨(hr c).1.trans ((QValue.res51_eq m' c).trans ?_), (hr c).2⟩
        rw [(hm c).1, (hm c).2]) (Reference8Ideal.Value.run (F := Ideal) m' g')⟩

theorem algebraic9 : Cert.algebraic_Kernel9Ideal_Reference9Ideal := fun m g m' g' _ hm =>
  ⟨fun c => truncf .bf16 (IqValue.outR (IqValue.argX m c) (IqValue.argW m c)) Kernel9Ideal.Gen.bitsLt_bf16_f32,
    (θ_run Cert.Kernel9Ideal.defs _ _).mono
      (fun _ hr c => ⟨(hr c).1.trans (IqValue.arr4_eq m c), (hr c).2⟩) (Kernel9Ideal.Value.run_blocks (F := Ideal) m g),
    (θ_run Cert.Reference9Ideal.defs _ _).mono
      (fun _ hr c => by
        refine ⟨(hr c).1.trans ((IqValue.res51_eq m' c).trans ?_), (hr c).2⟩
        rw [(hm c).1, (hm c).2]) (Reference9Ideal.Value.run (F := Ideal) m' g')⟩

theorem algebraic10 : Cert.algebraic_Kernel10Ideal_Reference10Ideal := fun m g m' g' _ hm =>
  ⟨fun c => VNew.outR (VNew.argX m c) (VNew.argW m c),
    fun c => truncf .bf16 (VNew.outR (VNew.argX m c) (VNew.argW m c)) Kernel10Ideal.Gen.bitsLt_bf16_f32,
    (θ_run Cert.Kernel10Ideal.defs _ _).mono
      (fun _ hr c => ⟨(hr c).1.trans (VNew.arr2_eq m c), (hr c).2.1.trans (VNew.arr3_eq m c), (hr c).2.2⟩) (Kernel10Ideal.Value.run_blocks (F := Ideal) m g),
    (θ_run Cert.Reference10Ideal.defs _ _).mono
      (fun _ hr c => by
        refine ⟨(hr c).1.trans ?_, (hr c).2.1.trans ?_, (hr c).2.2⟩
        all_goals
          rw [(hm c).1, (hm c).2]
          rfl) (Reference10Ideal.Value.run (F := Ideal) m' g')⟩

theorem algebraic11 : Cert.algebraic_Kernel11Ideal_Reference11Ideal := fun m g m' g' _ hm =>
  ⟨fun c => GluNew.outR (GluNew.argX m c) (GluNew.argW m c),
    (θ_run Cert.Kernel11Ideal.defs _ _).mono
      (fun _ hr c => ⟨(hr c).1.trans (GluNew.arr_eq m c), (hr c).2⟩) (Kernel11Ideal.Value.run_blocks (F := Ideal) m g),
    (θ_run Cert.Reference11Ideal.defs _ _).mono
      (fun _ hr c => by
        refine ⟨(hr c).1.trans ?_, (hr c).2⟩
        rw [(hm c).1, (hm c).2]
        rfl) (Reference11Ideal.Value.run (F := Ideal) m' g')⟩

theorem algebraic12 : Cert.algebraic_Kernel12Ideal_Reference12Ideal := fun m g m' g' _ hm =>
  ⟨fun c => IkwNew.keyR (IkwNew.argX m c) (IkwNew.argW m c),
    fun c => truncf .bf16 (IkwNew.keyR (IkwNew.argX m c) (IkwNew.argW m c)) Kernel12Ideal.Gen.bitsLt_bf16_f32,
    fun c => IkwNew.weightR (IkwNew.argX m c) (IkwNew.argW m c),
    (θ_run Cert.Kernel12Ideal.defs _ _).mono
      (fun _ hr c => ⟨(hr c).1.trans (IkwNew.arr4_eq m c), (hr c).2.1.trans (IkwNew.arr5_eq m c), (hr c).2.2.1.trans (IkwNew.arr6_eq m c), (hr c).2.2.2⟩)
      (Kernel12Ideal.Value.run_blocks (F := Ideal) m g),
    (θ_run Cert.Reference12Ideal.defs _ _).mono
      (fun _ hr c => by
        refine ⟨(hr c).1.trans ((IkwNew.res52_eq m' c).trans ?_), (hr c).2.1.trans ((IkwNew.res53_eq m' c).trans ?_), (hr c).2.2.1.trans ?_, (hr c).2.2.2⟩
        all_goals rw [(hm c).1, (hm c).2]
        rfl) (Reference12Ideal.Value.run (F := Ideal) m' g')⟩

theorem algebraic13 : Cert.algebraic_Kernel13Ideal_Reference13Ideal := fun m g m' g' _ hm =>
  ⟨fun c => KNew.outR (KNew.argX m c) (KNew.argW m c),
    fun c => truncf .bf16 (KNew.outR (KNew.argX m c) (KNew.argW m c)) Kernel13Ideal.Gen.bitsLt_bf16_f32,
    (θ_run Cert.Kernel13Ideal.defs _ _).mono
      (fun _ hr c => ⟨(hr c).1.trans (KNew.arr4_eq m c), (hr c).2.1.trans (KNew.arr5_eq m c), (hr c).2.2⟩) (Kernel13Ideal.Value.run_blocks (F := Ideal) m g),
    (θ_run Cert.Reference13Ideal.defs _ _).mono
      (fun _ hr c => by
        refine ⟨(hr c).1.trans ((KNew.res51_eq m' c).trans ?_), (hr c).2.1.trans ((KNew.res52_eq m' c).trans ?_), (hr c).2.2⟩
        all_goals
          rw [(hm c).1, (hm c).2]) (Reference13Ideal.Value.run (F := Ideal) m' g')⟩

theorem claim : Cert.Claim :=
  ⟨Kernel.Gen.facts, KernelIdeal.Gen.facts, ReferenceIdeal.Gen.facts, Reference.Gen.facts,
    Kernel2.Gen.facts, Kernel2Ideal.Gen.facts, Reference2Ideal.Gen.facts, Kernel3.Gen.facts, Kernel3Ideal.Gen.facts, Reference3Ideal.Gen.facts,
    Kernel4.Gen.facts, Kernel4Ideal.Gen.facts, Reference4Ideal.Gen.facts, Kernel5.Gen.facts, Kernel5Ideal.Gen.facts, Reference5Ideal.Gen.facts,
    Kernel6.Gen.facts, Kernel6Ideal.Gen.facts, Reference6Ideal.Gen.facts, Kernel7.Gen.facts, Kernel7Ideal.Gen.facts, Reference7Ideal.Gen.facts,
    Kernel8.Gen.facts, Kernel8Ideal.Gen.facts, Reference8Ideal.Gen.facts, Kernel9.Gen.facts, Kernel9Ideal.Gen.facts, Reference9Ideal.Gen.facts,
    Kernel10.Gen.facts, Kernel10Ideal.Gen.facts, Reference10Ideal.Gen.facts, Kernel11.Gen.facts, Kernel11Ideal.Gen.facts, Reference11Ideal.Gen.facts,
    Kernel12.Gen.facts, Kernel12Ideal.Gen.facts, Reference12Ideal.Gen.facts, Kernel13.Gen.facts, Kernel13Ideal.Gen.facts, Reference13Ideal.Gen.facts, Perm.preFacts,
    frame_p, frame_pi, frame_ri, frame_r, frame_p2, frame_p2i, frame_r2i, frame_p3, frame_p3i, frame_r3i, frame_p4, frame_p4i, frame_r4i,
    frame_p5, frame_p5i, frame_r5i, frame_p6, frame_p6i, frame_r6i, frame_p7, frame_p7i, frame_r7i, frame_p8, frame_p8i, frame_r8i, frame_p9, frame_p9i, frame_r9i,
    frame_p10, frame_p10i, frame_r10i, frame_p11, frame_p11i, frame_r11i, frame_p12, frame_p12i, frame_r12i, frame_p13, frame_p13i, frame_r13i,
    trivial, algebraic, bitexact, trivial, algebraic2, trivial, algebraic3, trivial, algebraic4, trivial, algebraic5,
    trivial, algebraic6, trivial, algebraic7, trivial, algebraic8, trivial, algebraic9,
    trivial, algebraic10, trivial, algebraic11, trivial, algebraic12, trivial, algebraic13⟩

end Cert.Proof
end
